-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))).2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v120_6)) (v1 : (c : Dev Cert.KernelIdeal.nD) → Buf (Elt Ideal) ((c.tc : Thread Cert.KernelIdeal.nD Cert.KernelIdeal.τ).loc Cert.KernelIdeal.main_v120_7)) (v2 : (c : Dev Cert.KernelIdeal.nD) → Buf (Elt Ideal) ((c.tc : Thread Cert.KernelIdeal.nD Cert.KernelIdeal.τ).loc Cert.KernelIdeal.main_v120_8)) (v3 : (c : Dev Cert.KernelIdeal.nD) → Buf (Elt Ideal) ((c.tc : Thread Cert.KernelIdeal.nD Cert.KernelIdeal.τ).loc Cert.KernelIdeal.main_v120_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120_6) = v0 c
          ∧ r.2.mem ((c.tc : Thread Cert.KernelIdeal.nD Cert.KernelIdeal.τ).loc Cert.KernelIdeal.main_v120_7) = v1 c
          ∧ r.2.mem ((c.tc : Thread Cert.KernelIdeal.nD Cert.KernelIdeal.τ).loc Cert.KernelIdeal.main_v120_8) = v2 c
          ∧ r.2.mem ((c.tc : Thread Cert.KernelIdeal.nD Cert.KernelIdeal.τ).loc Cert.KernelIdeal.main_v120_9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v306) = v0 c
          ∧ r.2.mem ((c.tc : Thread Cert.ReferenceIdeal.nD Cert.ReferenceIdeal.τ).loc Cert.ReferenceIdeal.main_v307) = v1 c
          ∧ r.2.mem ((c.tc : Thread Cert.ReferenceIdeal.nD Cert.ReferenceIdeal.τ).loc Cert.ReferenceIdeal.main_v218) = v2 c
          ∧ r.2.mem ((c.tc : Thread Cert.ReferenceIdeal.nD Cert.ReferenceIdeal.τ).loc Cert.ReferenceIdeal.main_v309) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)) (v3 : (c : Dev Cert.Kernel2Ideal.nD) → Buf (Elt Ideal) ((c.tc : Thread Cert.Kernel2Ideal.nD Cert.Kernel2Ideal.τ).loc Cert.Kernel2Ideal.main_v22_3)) (v4 : (c : Dev Cert.Kernel2Ideal.nD) → Buf (Elt Ideal) ((c.tc : Thread Cert.Kernel2Ideal.nD Cert.Kernel2Ideal.τ).loc Cert.Kernel2Ideal.main_v22_4)) (v5 : (c : Dev Cert.Kernel2Ideal.nD) → Buf (Elt Ideal) ((c.tc : Thread Cert.Kernel2Ideal.nD Cert.Kernel2Ideal.τ).loc Cert.Kernel2Ideal.main_v22_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_v22_3) = v3 c
          ∧ r.2.mem ((c.tc : Thread Cert.Kernel2Ideal.nD Cert.Kernel2Ideal.τ).loc Cert.Kernel2Ideal.main_v22_4) = v4 c
          ∧ r.2.mem ((c.tc : Thread Cert.Kernel2Ideal.nD Cert.Kernel2Ideal.τ).loc Cert.Kernel2Ideal.main_v22_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v81) = v1 c
          ∧ r.2.mem ((c.tc : Thread Cert.Reference2Ideal.nD Cert.Reference2Ideal.τ).loc Cert.Reference2Ideal.main_v82) = v2 c
          ∧ r.2.mem ((c.tc : Thread Cert.Reference2Ideal.nD Cert.Reference2Ideal.τ).loc Cert.Reference2Ideal.main_v84) = v3 c
          ∧ r.2.mem ((c.tc : Thread Cert.Reference2Ideal.nD Cert.Reference2Ideal.τ).loc Cert.Reference2Ideal.main_v86) = v4 c
          ∧ r.2.mem ((c.tc : Thread Cert.Reference2Ideal.nD Cert.Reference2Ideal.τ).loc Cert.Reference2Ideal.main_v87) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v32) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v7) = v2 c
          ∧ r.2.mem ((c.tc : Thread Cert.Reference8Ideal.nD Cert.Reference8Ideal.τ).loc Cert.Reference8Ideal.main_v13) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v26) = v1 c
          ∧ r.2.mem ((c.tc : Thread Cert.Reference9Ideal.nD Cert.Reference9Ideal.τ).loc Cert.Reference9Ideal.main_v7) = v2 c
          ∧ r.2.mem ((c.tc : Thread Cert.Reference9Ideal.nD Cert.Reference9Ideal.τ).loc Cert.Reference9Ideal.main_v13) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v26) = v1 c
          ∧ r.2.mem ((c.tc : Thread Cert.Reference10Ideal.nD Cert.Reference10Ideal.τ).loc Cert.Reference10Ideal.main_v7) = v2 c
          ∧ r.2.mem ((c.tc : Thread Cert.Reference10Ideal.nD Cert.Reference10Ideal.τ).loc Cert.Reference10Ideal.main_v13) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v26) = v1 c
          ∧ r.2.mem ((c.tc : Thread Cert.Reference11Ideal.nD Cert.Reference11Ideal.τ).loc Cert.Reference11Ideal.main_v7) = v2 c
          ∧ r.2.mem ((c.tc : Thread Cert.Reference11Ideal.nD Cert.Reference11Ideal.τ).loc Cert.Reference11Ideal.main_v13) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v23) = v0 c
          ∧ r.2.mem ((c.tc : Thread Cert.Reference12Ideal.nD Cert.Reference12Ideal.τ).loc Cert.Reference12Ideal.main_v4) = v1 c
          ∧ r.2.mem ((c.tc : Thread Cert.Reference12Ideal.nD Cert.Reference12Ideal.τ).loc Cert.Reference12Ideal.main_v10) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v50) = v0 c
          ∧ r.2.mem ((c.tc : Thread Cert.Reference14Ideal.nD Cert.Reference14Ideal.τ).loc Cert.Reference14Ideal.main_v51) = v1 c
          ∧ r.2.mem ((c.tc : Thread Cert.Reference14Ideal.nD Cert.Reference14Ideal.τ).loc Cert.Reference14Ideal.main_v52) = v2 c
          ∧ r.2.mem ((c.tc : Thread Cert.Reference14Ideal.nD Cert.Reference14Ideal.τ).loc Cert.Reference14Ideal.main_v53) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite2 : Cert.Pre_finite2.Facts) (hPre_finite14 : Cert.Pre_finite14.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
-- ==== Pre_finite14.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024 .f32) (main_arg2 : FVec F S4096x1024 .f32) : IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_finite2.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x4096 : S_.BroadcastsInDim S1024x4096 (![] : Fin 0 → Fin S1024x4096.rank)

variable [Facts]

def fn {F : FTy → Type} [FloatOps F] (main_arg0 : FVec F S4096x1024 .f32) (main_arg1 : FVec F S1024 .f32) (main_arg2 : FVec F S1024x4096 .f32) (main_arg3 : FVec F S4096x1024 .f32) (main_arg4 : FVec F S4096x1024 .f32) : IVec S4096x1024 1 × IVec S1024 1 × IVec S1024x4096 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Kernel.lean ====
abbrev S4096x1024 : Shape := ⟨2, ![4096, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S31x512 : Shape := ⟨2, ![31, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S4096x512 : Shape := ⟨2, ![4096, 512]⟩
abbrev S31x4096x4096x1 : Shape := ⟨4, ![31, 4096, 4096, 1]⟩
abbrev S31x4096x4096x512 : Shape := ⟨4, ![31, 4096, 4096, 512]⟩
abbrev S31x4096x512 : Shape := ⟨3, ![31, 4096, 512]⟩
abbrev S31x1x512 : Shape := ⟨3, ![31, 1, 512]⟩
abbrev S1x512 : Shape := ⟨2, ![1, 512]⟩
abbrev S1024x4x512 : Shape := ⟨3, ![1024, 4, 512]⟩
abbrev S4x1024x512 : Shape := ⟨3, ![4, 1024, 512]⟩
abbrev S4x256x1024 : Shape := ⟨3, ![4, 256, 1024]⟩
abbrev S32x512 : Shape := ⟨2, ![32, 512]⟩
abbrev S4x128x1 : Shape := ⟨3, ![4, 128, 1]⟩
abbrev S4096x128 : Shape := ⟨2, ![4096, 128]⟩
abbrev S1024x4096 : Shape := ⟨2, ![1024, 4096]⟩
abbrev S256x1024 : Shape := ⟨2, ![256, 1024]⟩
abbrev S256x512 : Shape := ⟨2, ![256, 512]⟩
abbrev S256x2048 : Shape := ⟨2, ![256, 2048]⟩
abbrev S256x128 : Shape := ⟨2, ![256, 128]⟩
abbrev S1024x256 : Shape := ⟨2, ![1024, 256]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S288x512 : Shape := ⟨2, ![288, 512]⟩
abbrev S512x256 : Shape := ⟨2, ![512, 256]⟩
abbrev S1x256x1024 : Shape := ⟨3, ![1, 256, 1024]⟩
abbrev S256x256 : Shape := ⟨2, ![256, 256]⟩
abbrev S128 : Shape := ⟨1, ![128]⟩
abbrev S128x1 : Shape := ⟨2, ![128, 1]⟩
abbrev S1x1024x512 : Shape := ⟨3, ![1, 1024, 512]⟩
abbrev S1024x512 : Shape := ⟨2, ![1024, 512]⟩

abbrev nBuf : Space → Nat
  | .hbm => 178
  | .vmem => 52
  | .smem => 0
  | _ => 0

abbrev hbmTy0_0 (i : Nat) : BufTy := match i % 128 with
  | 0 => ⟨S4096x1024, .f32⟩
  | 1 => ⟨S1024, .f32⟩
  | 2 => ⟨S1024x2048, .f32⟩
  | 3 => ⟨S512, .f32⟩
  | 4 => ⟨S512, .f32⟩
  | 5 => ⟨S4x128x128, .f32⟩
  | 6 => ⟨S4x128, .f32⟩
  | 7 => ⟨S31x512, .f32⟩
  | 8 => ⟨S512, .f32⟩
  | 9 => ⟨S512, .f32⟩
  | 10 => ⟨S512, .f32⟩
  | 11 => ⟨S1024x1024, .f32⟩
  | 12 => ⟨S4096x1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x2048, .f32⟩
  | 30 => ⟨S4096x512, .f32⟩
  | 31 => ⟨S_, .f32⟩
  | 32 => ⟨S4096x512, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S_, .f32⟩
  | 45 => ⟨S4096x512, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S_, .f32⟩
  | 57 => ⟨S4096x512, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S4096x512, .f32⟩
  | 65 => ⟨S4096x512, .f32⟩
  | 66 => ⟨S4096x512, .f32⟩
  | 67 => ⟨S_, .f32⟩
  | 68 => ⟨S4096, .f32⟩
  | 69 => ⟨S4096x1, .f32⟩
  | 70 => ⟨S_, .f32⟩
  | 71 => ⟨S4096x1, .f32⟩
  | 72 => ⟨S4096x1, .f32⟩
  | 73 => ⟨S_, .f32⟩
  | 74 => ⟨S4096x1, .f32⟩
  | 75 => ⟨S4096x1, .f32⟩
  | 76 => ⟨S4096x1, .f32⟩
  | 77 => ⟨S4096x512, .f32⟩
  | 78 => ⟨S4096x512, .f32⟩
  | 79 => ⟨S4096x512, .f32⟩
  | 80 => ⟨S4096x512, .f32⟩
  | 81 => ⟨S4096x512, .f32⟩
  | 82 => ⟨S4096x512, .f32⟩
  | 83 => ⟨S_, .f32⟩
  | 84 => ⟨S4096x512, .f32⟩
  | 85 => ⟨S4096x512, .f32⟩
  | 86 => ⟨S4096x512, .f32⟩
  | 87 => ⟨S_, .f32⟩
  | 88 => ⟨S4096x512, .f32⟩
  | 89 => ⟨S4096x512, .f32⟩
  | 90 => ⟨S4096x512, .f32⟩
  | 91 => ⟨S_, .f32⟩
  | 92 => ⟨S4096x512, .f32⟩
  | 93 => ⟨S4096x512, .f32⟩
  | 94 => ⟨S4096x512, .f32⟩
  | 95 => ⟨S4096x512, .f32⟩
  | 96 => ⟨S4096x512, .f32⟩
  | 97 => ⟨S_, .f32⟩
  | 98 => ⟨S4096x512, .f32⟩
  | 99 => ⟨S4096x512, .f32⟩
  | 100 => ⟨S4096x512, .f32⟩
  | 101 => ⟨S_, .f32⟩
  | 102 => ⟨S4096x512, .f32⟩
  | 103 => ⟨S4096x512, .f32⟩
  | 104 => ⟨S4096x512, .f32⟩
  | 105 => ⟨S_, .f32⟩
  | 106 => ⟨S4096x512, .f32⟩
  | 107 => ⟨S4096x512, .f32⟩
  | 108 => ⟨S4096x512, .f32⟩
  | 109 => ⟨S4096x2048, .f32⟩
  | 110 => ⟨S4096x512, .f32⟩
  | 111 => ⟨S4096x512, .f32⟩
  | 112 => ⟨S4096x512, .f32⟩
  | 113 => ⟨S4096x512, .f32⟩
  | 114 => ⟨S_, .f32⟩
  | 115 => ⟨S4096x512, .f32⟩
  | 116 => ⟨S4096x512, .f32⟩
  | 117 => ⟨S_, .f32⟩
  | 118 => ⟨S4096x512, .f32⟩
  | 119 => ⟨S4096x512, .f32⟩
  | 120 => ⟨S4096x512, .f32⟩
  | 121 => ⟨S31x4096x4096x1, .i32⟩
  | 122 => ⟨S31x4096x4096x1, .i32⟩
  | 123 => ⟨S31x4096x4096x1, .i32⟩
  | 124 => ⟨S_, .i32⟩
  | 125 => ⟨S31x4096x4096x1, .i32⟩
  | 126 => ⟨S31x4096x4096x1, .i32⟩
  | 127 => ⟨S31x4096x4096x1, .i32⟩
  | _ => ⟨S4096x1024, .f32⟩

abbrev hbmTy0_1 (i : Nat) : BufTy := match i % 128 with
  | 0 => ⟨S31x4096x4096x1, .i1⟩
  | 1 => ⟨S_, .f32⟩
  | 2 => ⟨S_, .f32⟩
  | 3 => ⟨S31x4096x4096x512, .i1⟩
  | 4 => ⟨S31x4096x4096x512, .f32⟩
  | 5 => ⟨S31x4096x4096x512, .f32⟩
  | 6 => ⟨S31x4096x4096x512, .f32⟩
  | 7 => ⟨S_, .f32⟩
  | 8 => ⟨S31x4096x512, .f32⟩
  | 9 => ⟨S31x1x512, .f32⟩
  | 10 => ⟨S31x4096x512, .f32⟩
  | 11 => ⟨S31x4096x512, .f32⟩
  | 12 => ⟨S_, .f32⟩
  | 13 => ⟨S4096x512, .f32⟩
  | 14 => ⟨S1x512, .f32⟩
  | 15 => ⟨S4096x512, .f32⟩
  | 16 => ⟨S4096x512, .f32⟩
  | 17 => ⟨S1024x4x512, .f32⟩
  | 18 => ⟨S4x1024x512, .f32⟩
  | 19 => ⟨S4x1024x512, .bf16⟩
  | 20 => ⟨S4x256x1024, .f32⟩
  | 21 => ⟨S4x256x1024, .bf16⟩
  | 22 => ⟨S_, .i32⟩
  | 23 => ⟨S_, .f32⟩
  | 24 => ⟨S32x512, .f32⟩
  | 25 => ⟨S4x128x1, .f32⟩
  | 26 => ⟨S4x128x128, .f32⟩
  | 27 => ⟨S4096x1024, .bf16⟩
  | 28 => ⟨S4096x128, .f32⟩
  | 29 => ⟨S1x1024, .f32⟩
  | 30 => ⟨S1x512, .f32⟩
  | 31 => ⟨S1x512, .f32⟩
  | 32 => ⟨S4x128x128, .f32⟩
  | 33 => ⟨S1x512, .f32⟩
  | 34 => ⟨S1x512, .f32⟩
  | 35 => ⟨S1x512, .f32⟩
  | 36 => ⟨S4096x1024, .f32⟩
  | 37 => ⟨S4096x1024, .bf16⟩
  | 38 => ⟨S4096x2048, .bf16⟩
  | 39 => ⟨S1024x4096, .bf16⟩
  | 40 => ⟨S1024x4096, .bf16⟩
  | 41 => ⟨S1x1024, .f32⟩
  | 42 => ⟨S1x512, .f32⟩
  | 43 => ⟨S1x512, .f32⟩
  | 44 => ⟨S4x128x128, .f32⟩
  | 45 => ⟨S4x128x128, .f32⟩
  | 46 => ⟨S32x512, .f32⟩
  | 47 => ⟨S1x512, .f32⟩
  | 48 => ⟨S1x512, .f32⟩
  | 49 => ⟨S1x512, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S32x512, .f32⟩
  | .local _ .vmem, ⟨9, _⟩ => ⟨S32x512, .f32⟩
  | .local _ .vmem, ⟨10, _⟩ => ⟨S32x512, .f32⟩
  | .local _ .vmem, ⟨11, _⟩ => ⟨S32x512, .f32⟩
  | .local _ .vmem, ⟨12, _⟩ => ⟨S256x512, .f32⟩
  | .local _ .vmem, ⟨13, _⟩ => ⟨S256x512, .f32⟩
  | .local _ .vmem, ⟨14, _⟩ => ⟨S256x2048, .f32⟩
  | .local _ .vmem, ⟨15, _⟩ => ⟨S256x2048, .f32⟩
  | .local _ .vmem, ⟨16, _⟩ => ⟨S256x128, .f32⟩
  | .local _ .vmem, ⟨17, _⟩ => ⟨S256x128, .f32⟩
  | .local _ .vmem, ⟨18, _⟩ => ⟨S1x1024, .f32⟩
  | .local _ .vmem, ⟨19, _⟩ => ⟨S4x1024x512, .bf16⟩
  | .local _ .vmem, ⟨20, _⟩ => ⟨S1x512, .f32⟩
  | .local _ .vmem, ⟨21, _⟩ => ⟨S1x512, .f32⟩
  | .local _ .vmem, ⟨22, _⟩ => ⟨S4x128x128, .f32⟩
  | .local _ .vmem, ⟨23, _⟩ => ⟨S4x128x128, .f32⟩
  | .local _ .vmem, ⟨24, _⟩ => ⟨S4x128x128, .f32⟩
  | .local _ .vmem, ⟨25, _⟩ => ⟨S32x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S4x256x1024, .bf16⟩
  | .local _ .vmem, ⟨30, _⟩ => ⟨S256x1024, .f32⟩
  | .local _ .vmem, ⟨31, _⟩ => ⟨S256x1024, .f32⟩
  | .local _ .vmem, ⟨32, _⟩ => ⟨S256x1024, .bf16⟩
  | .local _ .vmem, ⟨33, _⟩ => ⟨S256x1024, .bf16⟩
  | .local _ .vmem, ⟨34, _⟩ => ⟨S256x2048, .bf16⟩
  | .local _ .vmem, ⟨35, _⟩ => ⟨S256x2048, .bf16⟩
  | .local _ .vmem, ⟨36, _⟩ => ⟨S1024x256, .bf16⟩
  | .local _ .vmem, ⟨37, _⟩ => ⟨S1024x256, .bf16⟩
  | .local _ .vmem, ⟨38, _⟩ => ⟨S1024x256, .bf16⟩
  | .local _ .vmem, ⟨39, _⟩ => ⟨S1024x256, .bf16⟩
  | .local _ .vmem, ⟨40, _⟩ => ⟨S1x1024, .f32⟩
  | .local _ .vmem, ⟨41, _⟩ => ⟨S1x512, .f32⟩
  | .local _ .vmem, ⟨42, _⟩ => ⟨S1x512, .f32⟩
  | .local _ .vmem, ⟨43, _⟩ => ⟨S4x128x128, .f32⟩
  | .local _ .vmem, ⟨44, _⟩ => ⟨S4x128x128, .f32⟩
  | .local _ .vmem, ⟨45, _⟩ => ⟨S32x512, .f32⟩
  | .local _ .vmem, ⟨46, _⟩ => ⟨S1x512, .f32⟩
  | .local _ .vmem, ⟨47, _⟩ => ⟨S1x512, .f32⟩
  | .local _ .vmem, ⟨48, _⟩ => ⟨S1x512, .f32⟩
  | .local _ .vmem, ⟨49, _⟩ => ⟨S32x512, .f32⟩
  | .local _ .vmem, ⟨50, _⟩ => ⟨S256x512, .f32⟩
  | .local _ .vmem, ⟨51, _⟩ => ⟨S256x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_15 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_16 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_17 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_18 : Ref sig .tc := ⟨.hbm, 114, rfl⟩
abbrev main_v82 : Ref sig .tc := ⟨.hbm, 115, rfl⟩
abbrev main_v83 : Ref sig .tc := ⟨.hbm, 116, rfl⟩
abbrev main_cst_19 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_20 : Ref sig .tc := ⟨.hbm, 129, rfl⟩
abbrev main_call0_v0 : Ref sig .tc := ⟨.hbm, 130, rfl⟩
abbrev main_call0_v1 : Ref sig .tc := ⟨.hbm, 131, rfl⟩
abbrev main_call0_v2 : Ref sig .tc := ⟨.hbm, 132, rfl⟩
abbrev main_call0_v3 : Ref sig .tc := ⟨.hbm, 133, rfl⟩
abbrev main_v94 : Ref sig .tc := ⟨.hbm, 134, rfl⟩
abbrev main_cst_21 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_22 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_c_23 : Ref sig .tc := ⟨.hbm, 150, rfl⟩
abbrev main_call1_v0 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120_0 : Ref sig .tc := ⟨.hbm, 164, rfl⟩
abbrev main_v120_1 : Ref sig .tc := ⟨.hbm, 165, rfl⟩
abbrev main_v120_2 : Ref sig .tc := ⟨.hbm, 166, rfl⟩
abbrev main_v120_3 : Ref sig .tc := ⟨.hbm, 167, rfl⟩
abbrev main_v120_4 : Ref sig .tc := ⟨.hbm, 168, rfl⟩
abbrev main_v120_5 : Ref sig .tc := ⟨.hbm, 169, rfl⟩
abbrev main_v120_6 : Ref sig .tc := ⟨.hbm, 170, rfl⟩
abbrev main_v120_7 : Ref sig .tc := ⟨.hbm, 171, rfl⟩
abbrev main_v120_8 : Ref sig .tc := ⟨.hbm, 172, rfl⟩
abbrev main_v120_9 : Ref sig .tc := ⟨.hbm, 173, rfl⟩
abbrev main_v120_10 : Ref sig .tc := ⟨.hbm, 174, rfl⟩
abbrev main_v120_11 : Ref sig .tc := ⟨.hbm, 175, rfl⟩
abbrev main_v120_12 : Ref sig .tc := ⟨.hbm, 176, rfl⟩
abbrev main_v120_13 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg23_1 : Ref sig .tc := ⟨.vmem, 35, rfl⟩
abbrev cc0_stg24_0 : Ref sig .tc := ⟨.vmem, 36, rfl⟩
abbrev cc0_stg24_1 : Ref sig .tc := ⟨.vmem, 37, rfl⟩
abbrev cc0_stg25_0 : Ref sig .tc := ⟨.vmem, 38, rfl⟩
abbrev cc0_stg25_1 : Ref sig .tc := ⟨.vmem, 39, rfl⟩
abbrev cc0_stg26_0 : Ref sig .tc := ⟨.vmem, 40, rfl⟩
abbrev cc0_stg27_0 : Ref sig .tc := ⟨.vmem, 41, rfl⟩
abbrev cc0_stg28_0 : Ref sig .tc := ⟨.vmem, 42, rfl⟩
abbrev cc0_stg29_0 : Ref sig .tc := ⟨.vmem, 43, rfl⟩
abbrev cc0_stg30_0 : Ref sig .tc := ⟨.vmem, 44, rfl⟩
abbrev cc0_stg31_0 : Ref sig .tc := ⟨.vmem, 45, rfl⟩
abbrev cc0_stg32_0 : Ref sig .tc := ⟨.vmem, 46, rfl⟩
abbrev cc0_stg33_0 : Ref sig .tc := ⟨.vmem, 47, rfl⟩
abbrev cc0_stg34_0 : Ref sig .tc := ⟨.vmem, 48, rfl⟩
abbrev cc0_scratch0 : Ref sig .tc := ⟨.vmem, 49, rfl⟩
abbrev cc0_scratch1 : Ref sig .tc := ⟨.vmem, 50, rfl⟩
abbrev cc0_scratch2 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem20_0 : DmaSem sig := 29
abbrev cc0_sem21_0 : DmaSem sig := 30
abbrev cc0_sem21_1 : DmaSem sig := 31
abbrev cc0_sem22_0 : DmaSem sig := 32
abbrev cc0_sem22_1 : DmaSem sig := 33
abbrev cc0_sem23_0 : DmaSem sig := 34
abbrev cc0_sem23_1 : DmaSem sig := 35
abbrev cc0_sem24_0 : DmaSem sig := 36
abbrev cc0_sem24_1 : DmaSem sig := 37
abbrev cc0_sem25_0 : DmaSem sig := 38
abbrev cc0_sem25_1 : DmaSem sig := 39
abbrev cc0_sem26_0 : DmaSem sig := 40
abbrev cc0_sem27_0 : DmaSem sig := 41
abbrev cc0_sem28_0 : DmaSem sig := 42
abbrev cc0_sem29_0 : DmaSem sig := 43
abbrev cc0_sem30_0 : DmaSem sig := 44
abbrev cc0_sem31_0 : DmaSem sig := 45
abbrev cc0_sem32_0 : DmaSem sig := 46
abbrev cc0_sem33_0 : DmaSem sig := 47
abbrev cc0_sem34_0 : DmaSem sig := 48

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c3_i32 : BitVec 32 := 3#32
  let c0_i32_0 : BitVec 32 := 0#32
  ![v3.toNat, c3_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_22 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_23 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_24 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_25 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![c0_i32.toNat, v0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_30 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S4x128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S32x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S4x256x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x2048 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1024x256 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1024x256 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S4x128x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S4x128x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S32x512 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]
-- ==== ReferenceIdeal.lean ====
abbrev S4096x1024 : Shape := ⟨2, ![4096, 1024]⟩
abbrev S1024 : Shape := ⟨1, ![1024]⟩
abbrev S1024x2048 : Shape := ⟨2, ![1024, 2048]⟩
abbrev S512 : Shape := ⟨1, ![512]⟩
abbrev S4x128x128 : Shape := ⟨3, ![4, 128, 128]⟩
abbrev S4x128 : Shape := ⟨2, ![4, 128]⟩
abbrev S31x512 : Shape := ⟨2, ![31, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2048 : Shape := ⟨2, ![4096, 2048]⟩
abbrev S4096x512 : Shape := ⟨2, ![4096, 512]⟩
abbrev S1x512 : Shape := ⟨2, ![1, 512]⟩
abbrev S32x128x4x128 : Shape := ⟨4, ![32, 128, 4, 128]⟩
abbrev S128x128 : Shape := ⟨2, ![128, 128]⟩
abbrev S1x128x128 : Shape := ⟨3, ![1, 128, 128]⟩
abbrev S4x32x128x128 : Shape := ⟨4, ![4, 32, 128, 128]⟩
abbrev S128x4 : Shape := ⟨2, ![128, 4]⟩
abbrev S1x128x4x1 : Shape := ⟨4, ![1, 128, 4, 1]⟩
abbrev S31x4096x4096x1 : Shape := ⟨4, ![31, 4096, 4096, 1]⟩
abbrev S31x4096x4096x512 : Shape := ⟨4, ![31, 4096, 4096, 512]⟩
abbrev S31x4096x512 : Shape := ⟨3, ![31, 4096, 512]⟩
abbrev S31x1x512 : Shape := ⟨3, ![31, 1, 512]⟩
abbrev S4096x4x128 : Shape := ⟨3, ![4096, 4, 128]⟩
abbrev S4096x4 : Shape := ⟨2, ![4096, 4]⟩
abbrev S4096x4x1 : Shape := ⟨3, ![4096, 4, 1]⟩
abbrev S1x4x128 : Shape := ⟨3, ![1, 4, 128]⟩
abbrev S2048x1024 : Shape := ⟨2, ![2048, 1024]⟩
abbrev S4x128x1 : Shape := ⟨3, ![4, 128, 1]⟩

abbrev nBuf : Space → Nat
  | .hbm => 429
  | .vmem => 0
  | .smem => 0
  | _ => 0

abbrev hbmTy0_0 (i : Nat) : BufTy := match i % 128 with
  | 0 => ⟨S4096x1024, .f32⟩
  | 1 => ⟨S1024, .f32⟩
  | 2 => ⟨S1024x2048, .f32⟩
  | 3 => ⟨S512, .f32⟩
  | 4 => ⟨S512, .f32⟩
  | 5 => ⟨S4x128x128, .f32⟩
  | 6 => ⟨S4x128, .f32⟩
  | 7 => ⟨S31x512, .f32⟩
  | 8 => ⟨S512, .f32⟩
  | 9 => ⟨S512, .f32⟩
  | 10 => ⟨S512, .f32⟩
  | 11 => ⟨S1024x1024, .f32⟩
  | 12 => ⟨S4096x1024, .f32⟩
  | 13 => ⟨S4096x1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1024, .f32⟩
  | 29 => ⟨S4096x1024, .f32⟩
  | 30 => ⟨S1x1024, .f32⟩
  | 31 => ⟨S4096x1024, .f32⟩
  | 32 => ⟨S4096x1024, .f32⟩
  | 33 => ⟨S4096x2048, .f32⟩
  | 34 => ⟨S4096x512, .f32⟩
  | 35 => ⟨S4096x512, .f32⟩
  | 36 => ⟨S4096x512, .f32⟩
  | 37 => ⟨S4096x512, .f32⟩
  | 38 => ⟨S_, .f32⟩
  | 39 => ⟨S4096x512, .f32⟩
  | 40 => ⟨S4096x512, .f32⟩
  | 41 => ⟨S4096x512, .f32⟩
  | 42 => ⟨S_, .f32⟩
  | 43 => ⟨S4096x512, .f32⟩
  | 44 => ⟨S4096x512, .f32⟩
  | 45 => ⟨S4096x512, .f32⟩
  | 46 => ⟨S4096x512, .f32⟩
  | 47 => ⟨S4096x512, .f32⟩
  | 48 => ⟨S4096x512, .f32⟩
  | 49 => ⟨S4096x512, .f32⟩
  | 50 => ⟨S_, .f32⟩
  | 51 => ⟨S4096x512, .f32⟩
  | 52 => ⟨S4096x512, .f32⟩
  | 53 => ⟨S4096x512, .f32⟩
  | 54 => ⟨S_, .f32⟩
  | 55 => ⟨S4096x512, .f32⟩
  | 56 => ⟨S4096x512, .f32⟩
  | 57 => ⟨S4096x512, .f32⟩
  | 58 => ⟨S4096x512, .f32⟩
  | 59 => ⟨S4096x512, .f32⟩
  | 60 => ⟨S4096x512, .f32⟩
  | 61 => ⟨S4096x512, .f32⟩
  | 62 => ⟨S_, .f32⟩
  | 63 => ⟨S4096, .f32⟩
  | 64 => ⟨S4096x1, .f32⟩
  | 65 => ⟨S_, .f32⟩
  | 66 => ⟨S4096x1, .f32⟩
  | 67 => ⟨S4096x1, .f32⟩
  | 68 => ⟨S4096x512, .f32⟩
  | 69 => ⟨S4096x512, .f32⟩
  | 70 => ⟨S4096x512, .f32⟩
  | 71 => ⟨S_, .f32⟩
  | 72 => ⟨S4096x512, .f32⟩
  | 73 => ⟨S4096x512, .f32⟩
  | 74 => ⟨S_, .f32⟩
  | 75 => ⟨S4096, .f32⟩
  | 76 => ⟨S4096x1, .f32⟩
  | 77 => ⟨S_, .f32⟩
  | 78 => ⟨S4096x1, .f32⟩
  | 79 => ⟨S4096x1, .f32⟩
  | 80 => ⟨S_, .f32⟩
  | 81 => ⟨S4096x1, .f32⟩
  | 82 => ⟨S4096x1, .f32⟩
  | 83 => ⟨S4096x1, .f32⟩
  | 84 => ⟨S4096x1, .f32⟩
  | 85 => ⟨S_, .f32⟩
  | 86 => ⟨S4096x1, .f32⟩
  | 87 => ⟨S4096x1, .f32⟩
  | 88 => ⟨S4096x512, .f32⟩
  | 89 => ⟨S4096x512, .f32⟩
  | 90 => ⟨S4096x512, .f32⟩
  | 91 => ⟨S4096x512, .f32⟩
  | 92 => ⟨S1x512, .f32⟩
  | 93 => ⟨S4096x512, .f32⟩
  | 94 => ⟨S4096x512, .f32⟩
  | 95 => ⟨S1x512, .f32⟩
  | 96 => ⟨S4096x512, .f32⟩
  | 97 => ⟨S4096x512, .f32⟩
  | 98 => ⟨S32x128x4x128, .f32⟩
  | 99 => ⟨S_, .f32⟩
  | 100 => ⟨S128x128, .f32⟩
  | 101 => ⟨S128x128, .i32⟩
  | 102 => ⟨S_, .i32⟩
  | 103 => ⟨S128x128, .i32⟩
  | 104 => ⟨S128x128, .i32⟩
  | 105 => ⟨S128x128, .i32⟩
  | 106 => ⟨S128x128, .i1⟩
  | 107 => ⟨S_, .f32⟩
  | 108 => ⟨S128x128, .f32⟩
  | 109 => ⟨S128x128, .f32⟩
  | 110 => ⟨S1x128x128, .f32⟩
  | 111 => ⟨S4x128x128, .f32⟩
  | 112 => ⟨S4x128x128, .f32⟩
  | 113 => ⟨S4x32x128x128, .f32⟩
  | 114 => ⟨S32x128x4x128, .f32⟩
  | 115 => ⟨S128x4, .f32⟩
  | 116 => ⟨S1x128x4x1, .f32⟩
  | 117 => ⟨S32x128x4x128, .f32⟩
  | 118 => ⟨S32x128x4x128, .f32⟩
  | 119 => ⟨S4096x512, .f32⟩
  | 120 => ⟨S4096x512, .f32⟩
  | 121 => ⟨S4096x512, .f32⟩
  | 122 => ⟨S4096x512, .f32⟩
  | 123 => ⟨S_, .f32⟩
  | 124 => ⟨S4096x512, .f32⟩
  | 125 => ⟨S4096x512, .f32⟩
  | 126 => ⟨S_, .f32⟩
  | 127 => ⟨S4096x512, .f32⟩
  | _ => ⟨S4096x1024, .f32⟩

abbrev hbmTy0_1 (i : Nat) : BufTy := match i % 128 with
  | 0 => ⟨S4096x512, .f32⟩
  | 1 => ⟨S_, .f32⟩
  | 2 => ⟨S4096x512, .f32⟩
  | 3 => ⟨S4096x512, .f32⟩
  | 4 => ⟨S4096x512, .f32⟩
  | 5 => ⟨S4096x512, .f32⟩
  | 6 => ⟨S31x4096x4096x1, .i32⟩
  | 7 => ⟨S31x4096x4096x1, .i32⟩
  | 8 => ⟨S31x4096x4096x1, .i32⟩
  | 9 => ⟨S_, .i32⟩
  | 10 => ⟨S31x4096x4096x1, .i32⟩
  | 11 => ⟨S31x4096x4096x1, .i32⟩
  | 12 => ⟨S31x4096x4096x1, .i32⟩
  | 13 => ⟨S31x4096x4096x1, .i1⟩
  | 14 => ⟨S_, .f32⟩
  | 15 => ⟨S_, .f32⟩
  | 16 => ⟨S31x4096x4096x512, .i1⟩
  | 17 => ⟨S31x4096x4096x512, .f32⟩
  | 18 => ⟨S31x4096x4096x512, .f32⟩
  | 19 => ⟨S31x4096x4096x512, .f32⟩
  | 20 => ⟨S_, .f32⟩
  | 21 => ⟨S31x4096x4096x512, .f32⟩
  | 22 => ⟨S_, .f32⟩
  | 23 => ⟨S31x4096x512, .f32⟩
  | 24 => ⟨S31x1x512, .f32⟩
  | 25 => ⟨S31x4096x512, .f32⟩
  | 26 => ⟨S31x4096x512, .f32⟩
  | 27 => ⟨S_, .f32⟩
  | 28 => ⟨S4096x512, .f32⟩
  | 29 => ⟨S1x512, .f32⟩
  | 30 => ⟨S4096x512, .f32⟩
  | 31 => ⟨S4096x512, .f32⟩
  | 32 => ⟨S4096x4x128, .f32⟩
  | 33 => ⟨S4x128, .f32⟩
  | 34 => ⟨S4x128, .f32⟩
  | 35 => ⟨S_, .f32⟩
  | 36 => ⟨S4096x4, .f32⟩
  | 37 => ⟨S4096x4x1, .f32⟩
  | 38 => ⟨S_, .f32⟩
  | 39 => ⟨S4096x4x1, .f32⟩
  | 40 => ⟨S4096x4x1, .f32⟩
  | 41 => ⟨S4096x4x128, .f32⟩
  | 42 => ⟨S4096x4x128, .f32⟩
  | 43 => ⟨S4096x4x128, .f32⟩
  | 44 => ⟨S_, .f32⟩
  | 45 => ⟨S4096x4x128, .f32⟩
  | 46 => ⟨S4096x4x128, .f32⟩
  | 47 => ⟨S_, .f32⟩
  | 48 => ⟨S4096x4, .f32⟩
  | 49 => ⟨S4096x4x1, .f32⟩
  | 50 => ⟨S_, .f32⟩
  | 51 => ⟨S4096x4x1, .f32⟩
  | 52 => ⟨S4096x4x1, .f32⟩
  | 53 => ⟨S_, .f32⟩
  | 54 => ⟨S4096x4x1, .f32⟩
  | 55 => ⟨S4096x4x1, .f32⟩
  | 56 => ⟨S4096x4x1, .f32⟩
  | 57 => ⟨S4096x4x1, .f32⟩
  | 58 => ⟨S_, .f32⟩
  | 59 => ⟨S4096x4x1, .f32⟩
  | 60 => ⟨S4096x4x1, .f32⟩
  | 61 => ⟨S4096x4x128, .f32⟩
  | 62 => ⟨S4096x4x128, .f32⟩
  | 63 => ⟨S4096x4x128, .f32⟩
  | 64 => ⟨S4096x4x128, .f32⟩
  | 65 => ⟨S1x4x128, .f32⟩
  | 66 => ⟨S4096x4x128, .f32⟩
  | 67 => ⟨S4096x4x128, .f32⟩
  | 68 => ⟨S1x4x128, .f32⟩
  | 69 => ⟨S4096x4x128, .f32⟩
  | 70 => ⟨S4096x4x128, .f32⟩
  | 71 => ⟨S4096x4x128, .f32⟩
  | 72 => ⟨S4096x4x128, .f32⟩
  | 73 => ⟨S_, .f32⟩
  | 74 => ⟨S4096x4x128, .f32⟩
  | 75 => ⟨S4096x4x128, .f32⟩
  | 76 => ⟨S_, .f32⟩
  | 77 => ⟨S4096x4x128, .f32⟩
  | 78 => ⟨S4096x4x128, .f32⟩
  | 79 => ⟨S_, .f32⟩
  | 80 => ⟨S4096x4x128, .f32⟩
  | 81 => ⟨S4096x4x128, .f32⟩
  | 82 => ⟨S4096x4x128, .f32⟩
  | 83 => ⟨S4096x4x128, .f32⟩
  | 84 => ⟨S4096x512, .f32⟩
  | 85 => ⟨S4096x1024, .f32⟩
  | 86 => ⟨S4096x1024, .f32⟩
  | 87 => ⟨S4096x1024, .f32⟩
  | 88 => ⟨S4096x1024, .f32⟩
  | 89 => ⟨S1024x1024, .f32⟩
  | 90 => ⟨S1024x1024, .f32⟩
  | 91 => ⟨S4096x1024, .f32⟩
  | 92 => ⟨S4096x512, .f32⟩
  | 93 => ⟨S4096x512, .f32⟩
  | 94 => ⟨S4096x4x128, .f32⟩
  | 95 => ⟨S4096x4x128, .f32⟩
  | 96 => ⟨S4096x4x128, .f32⟩
  | 97 => ⟨S4096x4x128, .f32⟩
  | 98 => ⟨S4096x4x128, .f32⟩
  | 99 => ⟨S_, .f32⟩
  | 100 => ⟨S4x128, .f32⟩
  | 101 => ⟨S1x4x128, .f32⟩
  | 102 => ⟨S_, .f32⟩
  | 103 => ⟨S4x128, .f32⟩
  | 104 => ⟨S4096x4x128, .f32⟩
  | 105 => ⟨S_, .f32⟩
  | 106 => ⟨S4x128, .f32⟩
  | 107 => ⟨S1x4x128, .f32⟩
  | 108 => ⟨S4096x4x128, .f32⟩
  | 109 => ⟨S4096x4x128, .f32⟩
  | 110 => ⟨S_, .f32⟩
  | 111 => ⟨S4x128, .f32⟩
  | 112 => ⟨S4096x4x128, .f32⟩
  | 113 => ⟨S_, .f32⟩
  | 114 => ⟨S4096x4, .f32⟩
  | 115 => ⟨S4096x4x1, .f32⟩
  | 116 => ⟨S4096x4x128, .f32⟩
  | 117 => ⟨S4096x4x128, .f32⟩
  | 118 => ⟨S4096x4x128, .f32⟩
  | 119 => ⟨S_, .f32⟩
  | 120 => ⟨S4096x4, .f32⟩
  | 121 => ⟨S4096x4x1, .f32⟩
  | 122 => ⟨S4096x4x1, .f32⟩
  | 123 => ⟨S_, .f32⟩
  | 124 => ⟨S4096x4x1, .f32⟩
  | 125 => ⟨S4096x4x1, .f32⟩
  | 126 => ⟨S_, .f32⟩
  | 127 => ⟨S4096x4, .f32⟩
  | _ => ⟨S4096x1024, .f32⟩

abbrev hbmTy0_2 (i : Nat) : BufTy := match i % 128 with
  | 0 => ⟨S4096x4x128, .f32⟩
  | 1 => ⟨S4096x4x128, .f32⟩
  | 2 => ⟨S4096x4x128, .f32⟩
  | 3 => ⟨S_, .f32⟩
  | 4 => ⟨S4096x4, .f32⟩
  | 5 => ⟨S4096x4x1, .f32⟩
  | 6 => ⟨S4096x4x128, .f32⟩
  | 7 => ⟨S4096x4x1, .f32⟩
  | 8 => ⟨S_, .f32⟩
  | 9 => ⟨S4096x4x1, .f32⟩
  | 10 => ⟨S4096x4x1, .f32⟩
  | 11 => ⟨S_, .f32⟩
  | 12 => ⟨S4096x4, .f32⟩
  | 13 => ⟨S4096x4x128, .f32⟩
  | 14 => ⟨S4096x4x128, .f32⟩
  | 15 => ⟨S512, .f32⟩
  | 16 => ⟨S512, .f32⟩
  | 17 => ⟨S4096x512, .f32⟩
  | 18 => ⟨S_, .f32⟩
  | 19 => ⟨S512, .f32⟩
  | 20 => ⟨S1x512, .f32⟩
  | 21 => ⟨S_, .f32⟩
  | 22 => ⟨S512, .f32⟩
  | 23 => ⟨S31x4096x512, .f32⟩
  | 24 => ⟨S31x4096x512, .f32⟩
  | 25 => ⟨S_, .f32⟩
  | 26 => ⟨S31x512, .f32⟩
  | 27 => ⟨S31x1x512, .f32⟩
  | 28 => ⟨S31x4096x512, .f32⟩
  | 29 => ⟨S31x4096x512, .f32⟩
  | 30 => ⟨S_, .f32⟩
  | 31 => ⟨S31x512, .f32⟩
  | 32 => ⟨S31x4096x4096x512, .f32⟩
  | 33 => ⟨S_, .f32⟩
  | 34 => ⟨S31x4096x4096x512, .f32⟩
  | 35 => ⟨S31x4096x4096x512, .f32⟩
  | 36 => ⟨S_, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S32x128x4x128, .f32⟩
  | 44 => ⟨S_, .f32⟩
  | 45 => ⟨S128x4, .f32⟩
  | 46 => ⟨S1x128x4x1, .f32⟩
  | 47 => ⟨S_, .f32⟩
  | 48 => ⟨S128x4, .f32⟩
  | 49 => ⟨S4x128, .f32⟩
  | 50 => ⟨S4x32x128x128, .f32⟩
  | 51 => ⟨S4x128x128, .f32⟩
  | 52 => ⟨S4x32x128x128, .f32⟩
  | 53 => ⟨S32x128x4x128, .f32⟩
  | 54 => ⟨S4x128x128, .f32⟩
  | 55 => ⟨S4x128x128, .f32⟩
  | 56 => ⟨S4096x512, .f32⟩
  | 57 => ⟨S_, .f32⟩
  | 58 => ⟨S512, .f32⟩
  | 59 => ⟨S1x512, .f32⟩
  | 60 => ⟨S_, .f32⟩
  | 61 => ⟨S512, .f32⟩
  | 62 => ⟨S4096x512, .f32⟩
  | 63 => ⟨S_, .f32⟩
  | 64 => ⟨S512, .f32⟩
  | 65 => ⟨S1x512, .f32⟩
  | 66 => ⟨S4096x512, .f32⟩
  | 67 => ⟨S4096x512, .f32⟩
  | 68 => ⟨S_, .f32⟩
  | 69 => ⟨S512, .f32⟩
  | 70 => ⟨S4096x512, .f32⟩
  | 71 => ⟨S_, .f32⟩
  | 72 => ⟨S4096, .f32⟩
  | 73 => ⟨S4096x1, .f32⟩
  | 74 => ⟨S4096x512, .f32⟩
  | 75 => ⟨S4096x512, .f32⟩
  | 76 => ⟨S4096x512, .f32⟩
  | 77 => ⟨S_, .f32⟩
  | 78 => ⟨S4096, .f32⟩
  | 79 => ⟨S4096x1, .f32⟩
  | 80 => ⟨S4096x1, .f32⟩
  | 81 => ⟨S_, .f32⟩
  | 82 => ⟨S4096x1, .f32⟩
  | 83 => ⟨S4096x1, .f32⟩
  | 84 => ⟨S_, .f32⟩
  | 85 => ⟨S4096, .f32⟩
  | 86 => ⟨S4096x512, .f32⟩
  | 87 => ⟨S4096x512, .f32⟩
  | 88 => ⟨S4096x512, .f32⟩
  | 89 => ⟨S_, .f32⟩
  | 90 => ⟨S4096, .f32⟩
  | 91 => ⟨S4096x1, .f32⟩
  | 92 => ⟨S4096x512, .f32⟩
  | 93 => ⟨S4096x1, .f32⟩
  | 94 => ⟨S_, .f32⟩
  | 95 => ⟨S4096x1, .f32⟩
  | 96 => ⟨S4096x1, .f32⟩
  | 97 => ⟨S_, .f32⟩
  | 98 => ⟨S4096, .f32⟩
  | 99 => ⟨S4096x512, .f32⟩
  | 100 => ⟨S4096x512, .f32⟩
  | 101 => ⟨S4096x512, .f32⟩
  | 102 => ⟨S4096x512, .f32⟩
  | 103 => ⟨S_, .f32⟩
  | 104 => ⟨S4096x512, .f32⟩
  | 105 => ⟨S4096x512, .f32⟩
  | 106 => ⟨S4096x512, .f32⟩
  | 107 => ⟨S_, .f32⟩
  | 108 => ⟨S4096x512, .f32⟩
  | 109 => ⟨S4096x512, .f32⟩
  | 110 => ⟨S4096x512, .f32⟩
  | 111 => ⟨S_, .f32⟩
  | 112 => ⟨S4096x512, .f32⟩
  | 113 => ⟨S4096x512, .f32⟩
  | 114 => ⟨S4096x512, .f32⟩
  | 115 => ⟨S4096x512, .f32⟩
  | 116 => ⟨S4096x512, .f32⟩
  | 117 => ⟨S_, .f32⟩
  | 118 => ⟨S4096x512, .f32⟩
  | 119 => ⟨S4096x512, .f32⟩
  | 120 => ⟨S4096x512, .f32⟩
  | 121 => ⟨S_, .f32⟩
  | 122 => ⟨S4096x512, .f32⟩
  | 123 => ⟨S4096x512, .f32⟩
  | 124 => ⟨S4096x512, .f32⟩
  | 125 => ⟨S_, .f32⟩
  | 126 => ⟨S4096x512, .f32⟩
  | 127 => ⟨S4096x512, .f32⟩
  | _ => ⟨S4096x1024, .f32⟩

abbrev hbmTy0_3 (i : Nat) : BufTy := match i % 128 with
  | 0 => ⟨S4096x512, .f32⟩
  | 1 => ⟨S_, .f32⟩
  | 2 => ⟨S4096x2048, .f32⟩
  | 3 => ⟨S_, .f32⟩
  | 4 => ⟨S4096x2048, .f32⟩
  | 5 => ⟨S4096x2048, .f32⟩
  | 6 => ⟨S_, .f32⟩
  | 7 => ⟨S4096x2048, .f32⟩
  | 8 => ⟨S4096x2048, .f32⟩
  | 9 => ⟨S_, .f32⟩
  | 10 => ⟨S4096x2048, .f32⟩
  | 11 => ⟨S4096x2048, .f32⟩
  | 12 => ⟨S2048x1024, .f32⟩
  | 13 => ⟨S1024x2048, .f32⟩
  | 14 => ⟨S4096x1024, .f32⟩
  | 15 => ⟨S4096x1024, .f32⟩
  | 16 => ⟨S_, .f32⟩
  | 17 => ⟨S1024, .f32⟩
  | 18 => ⟨S1x1024, .f32⟩
  | 19 => ⟨S4096x1024, .f32⟩
  | 20 => ⟨S4096x1024, .f32⟩
  | 21 => ⟨S_, .f32⟩
  | 22 => ⟨S1024, .f32⟩
  | 23 => ⟨S4096x1024, .f32⟩
  | 24 => ⟨S_, .f32⟩
  | 25 => ⟨S4096, .f32⟩
  | 26 => ⟨S4096x1, .f32⟩
  | 27 => ⟨S4096x1024, .f32⟩
  | 28 => ⟨S4096x1024, .f32⟩
  | 29 => ⟨S4096x1024, .f32⟩
  | 30 => ⟨S4096x1, .f32⟩
  | 31 => ⟨S_, .f32⟩
  | 32 => ⟨S4096x1, .f32⟩
  | 33 => ⟨S4096x1, .f32⟩
  | 34 => ⟨S_, .f32⟩
  | 35 => ⟨S4096, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S1x512, .f32⟩
  | 42 => ⟨S1x512, .f32⟩
  | 43 => ⟨S4x128x1, .f32⟩
  | 44 => ⟨S4x128x128, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_6 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_call0_v0 : Ref sig .tc := ⟨.hbm, 101, rfl⟩
abbrev main_call0_c : Ref sig .tc := ⟨.hbm, 102, rfl⟩
abbrev main_call0_v1 : Ref sig .tc := ⟨.hbm, 103, rfl⟩
abbrev main_call0_v2 : Ref sig .tc := ⟨.hbm, 104, rfl⟩
abbrev main_call0_v3 : Ref sig .tc := ⟨.hbm, 105, rfl⟩
abbrev main_call0_v4 : Ref sig .tc := ⟨.hbm, 106, rfl⟩
abbrev main_call0_cst : Ref sig .tc := ⟨.hbm, 107, rfl⟩
abbrev main_call0_v5 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_15 : Ref sig .tc := ⟨.hbm, 123, rfl⟩
abbrev main_v86 : Ref sig .tc := ⟨.hbm, 124, rfl⟩
abbrev main_v87 : Ref sig .tc := ⟨.hbm, 125, rfl⟩
abbrev main_cst_16 : Ref sig .tc := ⟨.hbm, 126, rfl⟩
abbrev main_v88 : Ref sig .tc := ⟨.hbm, 127, rfl⟩
abbrev main_v89 : Ref sig .tc := ⟨.hbm, 128, rfl⟩
abbrev main_cst_17 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_cst_18 : Ref sig .tc := ⟨.hbm, 142, rfl⟩
abbrev main_call1_v0 : Ref sig .tc := ⟨.hbm, 143, rfl⟩
abbrev main_v101_1 : Ref sig .tc := ⟨.hbm, 144, rfl⟩
abbrev main_call1_v2 : Ref sig .tc := ⟨.hbm, 145, rfl⟩
abbrev main_call1_v3 : Ref sig .tc := ⟨.hbm, 146, rfl⟩
abbrev main_v101_0 : Ref sig .tc := ⟨.hbm, 147, rfl⟩
abbrev main_call1_cst : Ref sig .tc := ⟨.hbm, 148, rfl⟩
abbrev main_v101_2 : Ref sig .tc := ⟨.hbm, 149, rfl⟩
abbrev main_cst_19 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_20 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_cst_21 : Ref sig .tc := ⟨.hbm, 163, rfl⟩
abbrev main_v113 : Ref sig .tc := ⟨.hbm, 164, rfl⟩
abbrev main_v114 : Ref sig .tc := ⟨.hbm, 165, rfl⟩
abbrev main_cst_22 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_23 : Ref sig .tc := ⟨.hbm, 172, rfl⟩
abbrev main_v120 : Ref sig .tc := ⟨.hbm, 173, rfl⟩
abbrev main_v121 : Ref sig .tc := ⟨.hbm, 174, rfl⟩
abbrev main_cst_24 : Ref sig .tc := ⟨.hbm, 175, rfl⟩
abbrev main_v122 : Ref sig .tc := ⟨.hbm, 176, rfl⟩
abbrev main_v123 : Ref sig .tc := ⟨.hbm, 177, rfl⟩
abbrev main_cst_25 : Ref sig .tc := ⟨.hbm, 178, rfl⟩
abbrev main_v124 : Ref sig .tc := ⟨.hbm, 179, rfl⟩
abbrev main_v125 : Ref sig .tc := ⟨.hbm, 180, rfl⟩
abbrev main_cst_26 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_27 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_call2_v0 : Ref sig .tc := ⟨.hbm, 199, rfl⟩
abbrev main_call2_v1 : Ref sig .tc := ⟨.hbm, 200, rfl⟩
abbrev main_call2_cst : Ref sig .tc := ⟨.hbm, 201, rfl⟩
abbrev main_call2_v2 : Ref sig .tc := ⟨.hbm, 202, rfl⟩
abbrev main_call2_v3 : Ref sig .tc := ⟨.hbm, 203, rfl⟩
abbrev main_call2_cst_0 : Ref sig .tc := ⟨.hbm, 204, rfl⟩
abbrev main_call2_v4 : Ref sig .tc := ⟨.hbm, 205, rfl⟩
abbrev main_v142_2 : Ref sig .tc := ⟨.hbm, 206, rfl⟩
abbrev main_call2_cst_1 : Ref sig .tc := ⟨.hbm, 207, rfl⟩
abbrev main_call2_v6 : Ref sig .tc := ⟨.hbm, 208, rfl⟩
abbrev main_call2_v7 : Ref sig .tc := ⟨.hbm, 209, rfl⟩
abbrev main_v142_1 : Ref sig .tc := ⟨.hbm, 210, rfl⟩
abbrev main_v142_0 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_v151 : Ref sig .tc := ⟨.hbm, 220, rfl⟩
abbrev main_v152 : Ref sig .tc := ⟨.hbm, 221, rfl⟩
abbrev main_v153 : Ref sig .tc := ⟨.hbm, 222, rfl⟩
abbrev main_call3_v0 : Ref sig .tc := ⟨.hbm, 223, rfl⟩
abbrev main_call3_v1 : Ref sig .tc := ⟨.hbm, 224, rfl⟩
abbrev main_call3_v2 : Ref sig .tc := ⟨.hbm, 225, rfl⟩
abbrev main_v154 : Ref sig .tc := ⟨.hbm, 226, rfl⟩
abbrev main_cst_28 : Ref sig .tc := ⟨.hbm, 227, rfl⟩
abbrev main_v155 : Ref sig .tc := ⟨.hbm, 228, rfl⟩
abbrev main_v156 : Ref sig .tc := ⟨.hbm, 229, rfl⟩
abbrev main_cst_29 : Ref sig .tc := ⟨.hbm, 230, rfl⟩
abbrev main_v157 : Ref sig .tc := ⟨.hbm, 231, rfl⟩
abbrev main_v158 : Ref sig .tc := ⟨.hbm, 232, rfl⟩
abbrev main_cst_30 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_cst_31 : Ref sig .tc := ⟨.hbm, 238, rfl⟩
abbrev main_v163 : Ref sig .tc := ⟨.hbm, 239, rfl⟩
abbrev main_v164 : Ref sig .tc := ⟨.hbm, 240, rfl⟩
abbrev main_cst_32 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_cst_33 : Ref sig .tc := ⟨.hbm, 247, rfl⟩
abbrev main_v170 : Ref sig .tc := ⟨.hbm, 248, rfl⟩
abbrev main_v171 : Ref sig .tc := ⟨.hbm, 249, rfl⟩
abbrev main_v172 : Ref sig .tc := ⟨.hbm, 250, rfl⟩
abbrev main_cst_34 : Ref sig .tc := ⟨.hbm, 251, rfl⟩
abbrev main_v173 : Ref sig .tc := ⟨.hbm, 252, rfl⟩
abbrev main_v174 : Ref sig .tc := ⟨.hbm, 253, rfl⟩
abbrev main_cst_35 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_cst_36 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_v182 : Ref sig .tc := ⟨.hbm, 263, rfl⟩
abbrev main_cst_37 : Ref sig .tc := ⟨.hbm, 264, rfl⟩
abbrev main_v183 : Ref sig .tc := ⟨.hbm, 265, rfl⟩
abbrev main_v184 : Ref sig .tc := ⟨.hbm, 266, rfl⟩
abbrev main_cst_38 : Ref sig .tc := ⟨.hbm, 267, rfl⟩
abbrev main_v185 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_v190 : Ref sig .tc := ⟨.hbm, 273, rfl⟩
abbrev main_cst_39 : Ref sig .tc := ⟨.hbm, 274, rfl⟩
abbrev main_v191 : Ref sig .tc := ⟨.hbm, 275, rfl⟩
abbrev main_v192 : Ref sig .tc := ⟨.hbm, 276, rfl⟩
abbrev main_cst_40 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_cst_41 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_cst_42 : Ref sig .tc := ⟨.hbm, 286, rfl⟩
abbrev main_v200 : Ref sig .tc := ⟨.hbm, 287, rfl⟩
abbrev main_v201 : Ref sig .tc := ⟨.hbm, 288, rfl⟩
abbrev main_call4_cst : Ref sig .tc := ⟨.hbm, 289, rfl⟩
abbrev main_call4_v0 : Ref sig .tc := ⟨.hbm, 290, rfl⟩
abbrev main_call4_v1 : Ref sig .tc := ⟨.hbm, 291, rfl⟩
abbrev main_call4_cst_0 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_v205 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_cst_43 : Ref sig .tc := ⟨.hbm, 300, rfl⟩
abbrev main_v209 : Ref sig .tc := ⟨.hbm, 301, rfl⟩
abbrev main_v210 : Ref sig .tc := ⟨.hbm, 302, rfl⟩
abbrev main_cst_44 : Ref sig .tc := ⟨.hbm, 303, rfl⟩
abbrev main_v211 : Ref sig .tc := ⟨.hbm, 304, rfl⟩
abbrev main_v212 : Ref sig .tc := ⟨.hbm, 305, rfl⟩
abbrev main_v213 : Ref sig .tc := ⟨.hbm, 306, rfl⟩
abbrev main_v214 : Ref sig .tc := ⟨.hbm, 307, rfl⟩
abbrev main_v215 : Ref sig .tc := ⟨.hbm, 308, rfl⟩
abbrev main_v216 : Ref sig .tc := ⟨.hbm, 309, rfl⟩
abbrev main_v217 : Ref sig .tc := ⟨.hbm, 310, rfl⟩
abbrev main_v218 : Ref sig .tc := ⟨.hbm, 311, rfl⟩
abbrev main_v219 : Ref sig .tc := ⟨.hbm, 312, rfl⟩
abbrev main_cst_45 : Ref sig .tc := ⟨.hbm, 313, rfl⟩
abbrev main_v220 : Ref sig .tc := ⟨.hbm, 314, rfl⟩
abbrev main_v221 : Ref sig .tc := ⟨.hbm, 315, rfl⟩
abbrev main_cst_46 : Ref sig .tc := ⟨.hbm, 316, rfl⟩
abbrev main_v222 : Ref sig .tc := ⟨.hbm, 317, rfl⟩
abbrev main_v223 : Ref sig .tc := ⟨.hbm, 318, rfl⟩
abbrev main_cst_47 : Ref sig .tc := ⟨.hbm, 319, rfl⟩
abbrev main_v224 : Ref sig .tc := ⟨.hbm, 320, rfl⟩
abbrev main_v225 : Ref sig .tc := ⟨.hbm, 321, rfl⟩
abbrev main_v226 : Ref sig .tc := ⟨.hbm, 322, rfl⟩
abbrev main_v227 : Ref sig .tc := ⟨.hbm, 323, rfl⟩
abbrev main_cst_48 : Ref sig .tc := ⟨.hbm, 324, rfl⟩
abbrev main_v228 : Ref sig .tc := ⟨.hbm, 325, rfl⟩
abbrev main_v229 : Ref sig .tc := ⟨.hbm, 326, rfl⟩
abbrev main_cst_49 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_v234 : Ref sig .tc := ⟨.hbm, 332, rfl⟩
abbrev main_cst_50 : Ref sig .tc := ⟨.hbm, 333, rfl⟩
abbrev main_v235 : Ref sig .tc := ⟨.hbm, 334, rfl⟩
abbrev main_v236 : Ref sig .tc := ⟨.hbm, 335, rfl⟩
abbrev main_v237 : Ref sig .tc := ⟨.hbm, 336, rfl⟩
abbrev main_cst_51 : Ref sig .tc := ⟨.hbm, 337, rfl⟩
abbrev main_v238 : Ref sig .tc := ⟨.hbm, 338, rfl⟩
abbrev main_v239 : Ref sig .tc := ⟨.hbm, 339, rfl⟩
abbrev main_cst_52 : Ref sig .tc := ⟨.hbm, 340, rfl⟩
abbrev main_v240 : Ref sig .tc := ⟨.hbm, 341, rfl⟩
abbrev main_v241 : Ref sig .tc := ⟨.hbm, 342, rfl⟩
abbrev main_v242 : Ref sig .tc := ⟨.hbm, 343, rfl⟩
abbrev main_v243 : Ref sig .tc := ⟨.hbm, 344, rfl⟩
abbrev main_cst_53 : Ref sig .tc := ⟨.hbm, 345, rfl⟩
abbrev main_v244 : Ref sig .tc := ⟨.hbm, 346, rfl⟩
abbrev main_v245 : Ref sig .tc := ⟨.hbm, 347, rfl⟩
abbrev main_v246 : Ref sig .tc := ⟨.hbm, 348, rfl⟩
abbrev main_v247 : Ref sig .tc := ⟨.hbm, 349, rfl⟩
abbrev main_cst_54 : Ref sig .tc := ⟨.hbm, 350, rfl⟩
abbrev main_v248 : Ref sig .tc := ⟨.hbm, 351, rfl⟩
abbrev main_v249 : Ref sig .tc := ⟨.hbm, 352, rfl⟩
abbrev main_cst_55 : Ref sig .tc := ⟨.hbm, 353, rfl⟩
abbrev main_v250 : Ref sig .tc := ⟨.hbm, 354, rfl⟩
abbrev main_v251 : Ref sig .tc := ⟨.hbm, 355, rfl⟩
abbrev main_v252 : Ref sig .tc := ⟨.hbm, 356, rfl⟩
abbrev main_v253 : Ref sig .tc := ⟨.hbm, 357, rfl⟩
abbrev main_v254 : Ref sig .tc := ⟨.hbm, 358, rfl⟩
abbrev main_cst_56 : Ref sig .tc := ⟨.hbm, 359, rfl⟩
abbrev main_v255 : Ref sig .tc := ⟨.hbm, 360, rfl⟩
abbrev main_v256 : Ref sig .tc := ⟨.hbm, 361, rfl⟩
abbrev main_v257 : Ref sig .tc := ⟨.hbm, 362, rfl⟩
abbrev main_cst_57 : Ref sig .tc := ⟨.hbm, 363, rfl⟩
abbrev main_v258 : Ref sig .tc := ⟨.hbm, 364, rfl⟩
abbrev main_v259 : Ref sig .tc := ⟨.hbm, 365, rfl⟩
abbrev main_v260 : Ref sig .tc := ⟨.hbm, 366, rfl⟩
abbrev main_cst_58 : Ref sig .tc := ⟨.hbm, 367, rfl⟩
abbrev main_v261 : Ref sig .tc := ⟨.hbm, 368, rfl⟩
abbrev main_v262 : Ref sig .tc := ⟨.hbm, 369, rfl⟩
abbrev main_v263 : Ref sig .tc := ⟨.hbm, 370, rfl⟩
abbrev main_v264 : Ref sig .tc := ⟨.hbm, 371, rfl⟩
abbrev main_v265 : Ref sig .tc := ⟨.hbm, 372, rfl⟩
abbrev main_cst_59 : Ref sig .tc := ⟨.hbm, 373, rfl⟩
abbrev main_v266 : Ref sig .tc := ⟨.hbm, 374, rfl⟩
abbrev main_v267 : Ref sig .tc := ⟨.hbm, 375, rfl⟩
abbrev main_v268 : Ref sig .tc := ⟨.hbm, 376, rfl⟩
abbrev main_cst_60 : Ref sig .tc := ⟨.hbm, 377, rfl⟩
abbrev main_v269 : Ref sig .tc := ⟨.hbm, 378, rfl⟩
abbrev main_v270 : Ref sig .tc := ⟨.hbm, 379, rfl⟩
abbrev main_v271 : Ref sig .tc := ⟨.hbm, 380, rfl⟩
abbrev main_cst_61 : Ref sig .tc := ⟨.hbm, 381, rfl⟩
abbrev main_v272 : Ref sig .tc := ⟨.hbm, 382, rfl⟩
abbrev main_v273 : Ref sig .tc := ⟨.hbm, 383, rfl⟩
abbrev main_v274 : Ref sig .tc := ⟨.hbm, 384, rfl⟩
abbrev main_cst_62 : Ref sig .tc := ⟨.hbm, 385, rfl⟩
abbrev main_v275 : Ref sig .tc := ⟨.hbm, 386, rfl⟩
abbrev main_cst_63 : Ref sig .tc := ⟨.hbm, 387, rfl⟩
abbrev main_v276 : Ref sig .tc := ⟨.hbm, 388, rfl⟩
abbrev main_v277 : Ref sig .tc := ⟨.hbm, 389, rfl⟩
abbrev main_cst_64 : Ref sig .tc := ⟨.hbm, 390, rfl⟩
abbrev main_v278 : Ref sig .tc := ⟨.hbm, 391, rfl⟩
abbrev main_v279 : Ref sig .tc := ⟨.hbm, 392, rfl⟩
abbrev main_cst_65 : Ref sig .tc := ⟨.hbm, 393, rfl⟩
abbrev main_v280 : Ref sig .tc := ⟨.hbm, 394, rfl⟩
abbrev main_v281 : Ref sig .tc := ⟨.hbm, 395, rfl⟩
abbrev main_v282 : Ref sig .tc := ⟨.hbm, 396, rfl⟩
abbrev main_v283 : Ref sig .tc := ⟨.hbm, 397, rfl⟩
abbrev main_v284 : Ref sig .tc := ⟨.hbm, 398, rfl⟩
abbrev main_v285 : Ref sig .tc := ⟨.hbm, 399, rfl⟩
abbrev main_cst_66 : Ref sig .tc := ⟨.hbm, 400, rfl⟩
abbrev main_v286 : Ref sig .tc := ⟨.hbm, 401, rfl⟩
abbrev main_v287 : Ref sig .tc := ⟨.hbm, 402, rfl⟩
abbrev main_v288 : Ref sig .tc := ⟨.hbm, 403, rfl⟩
abbrev main_v289 : Ref sig .tc := ⟨.hbm, 404, rfl⟩
abbrev main_cst_67 : Ref sig .tc := ⟨.hbm, 405, rfl⟩
abbrev main_v290 : Ref sig .tc := ⟨.hbm, 406, rfl⟩
abbrev main_v291 : Ref sig .tc := ⟨.hbm, 407, rfl⟩
abbrev main_cst_68 : Ref sig .tc := ⟨.hbm, 408, rfl⟩
abbrev main_v292 : Ref sig .tc := ⟨.hbm, 409, rfl⟩
abbrev main_v293 : Ref sig .tc := ⟨.hbm, 410, rfl⟩
abbrev main_v294 : Ref sig .tc := ⟨.hbm, 411, rfl⟩
abbrev main_v295 : Ref sig .tc := ⟨.hbm, 412, rfl⟩
abbrev main_v296 : Ref sig .tc := ⟨.hbm, 413, rfl⟩
abbrev main_v297 : Ref sig .tc := ⟨.hbm, 414, rfl⟩
abbrev main_cst_69 : Ref sig .tc := ⟨.hbm, 415, rfl⟩
abbrev main_v298 : Ref sig .tc := ⟨.hbm, 416, rfl⟩
abbrev main_v299 : Ref sig .tc := ⟨.hbm, 417, rfl⟩
abbrev main_cst_70 : Ref sig .tc := ⟨.hbm, 418, rfl⟩
abbrev main_v300 : Ref sig .tc := ⟨.hbm, 419, rfl⟩
abbrev main_v301 : Ref sig .tc := ⟨.hbm, 420, rfl⟩
abbrev main_v302 : Ref sig .tc := ⟨.hbm, 421, rfl⟩
abbrev main_v303 : Ref sig .tc := ⟨.hbm, 422, rfl⟩
abbrev main_v304 : Ref sig .tc := ⟨.hbm, 423, rfl⟩
abbrev main_v305 : Ref sig .tc := ⟨.hbm, 424, rfl⟩
abbrev main_v306 : Ref sig .tc := ⟨.hbm, 425, rfl⟩
abbrev main_v307 : Ref sig .tc := ⟨.hbm, 426, rfl⟩
abbrev main_v308 : Ref sig .tc := ⟨.hbm, 427, rfl⟩
abbrev main_v309 : Ref sig .tc := ⟨.hbm, 428, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x512 : Shape := ⟨2, ![1024, 512]⟩
abbrev S512 : Shape := ⟨1, ![512]⟩
abbrev S512x1 : Shape := ⟨2, ![512, 1]⟩
abbrev S1024x1024 : Shape := ⟨2, ![1024, 1024]⟩

abbrev nBuf : Space → Nat
  | .hbm => 36
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x4096, .f32⟩
  | .hbm, ⟨22, _⟩ => ⟨S4096x4096, .bf16⟩
  | .hbm, ⟨23, _⟩ => ⟨S1024x4x1024, .f32⟩
  | .hbm, ⟨24, _⟩ => ⟨S4x1024x1024, .f32⟩
  | .hbm, ⟨25, _⟩ => ⟨S4x1024x1024, .bf16⟩
  | .hbm, ⟨26, _⟩ => ⟨S4x1024x1024, .f32⟩
  | .hbm, ⟨27, _⟩ => ⟨S4x1024x1024, .bf16⟩
  | .hbm, ⟨28, _⟩ => ⟨S4096x1024, .bf16⟩
  | .hbm, ⟨29, _⟩ => ⟨S1x1024, .f32⟩
  | .hbm, ⟨30, _⟩ => ⟨S4096x1024, .f32⟩
  | .hbm, ⟨31, _⟩ => ⟨S4096x1024, .bf16⟩
  | .hbm, ⟨32, _⟩ => ⟨S4096x4096, .bf16⟩
  | .hbm, ⟨33, _⟩ => ⟨S4096x4096, .bf16⟩
  | .hbm, ⟨34, _⟩ => ⟨S1024x4096, .bf16⟩
  | .hbm, ⟨35, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x1024x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1x1024, .f32⟩
  | .local _ .vmem, ⟨24, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev main_v22_4 : Ref sig .tc := ⟨.hbm, 34, rfl⟩
abbrev main_v22_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_24 : BitVec 32 := 0#32
  let v37 : BitVec 1 := Scalar.cmpi .ne v36 c0_i32_24
  v37

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference2Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 119
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .i1⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x4096, .f32⟩
  | .hbm, ⟨42, _⟩ => ⟨S4096x4096, .f32⟩
  | .hbm, ⟨43, _⟩ => ⟨S_, .f32⟩
  | .hbm, ⟨44, _⟩ => ⟨S4096x4096, .f32⟩
  | .hbm, ⟨45, _⟩ => ⟨S4096x4096, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S1x1024, .f32⟩
  | .hbm, ⟨87, _⟩ => ⟨S4096x1024, .f32⟩
  | .hbm, ⟨88, _⟩ => ⟨S4096x1024, .f32⟩
  | .hbm, ⟨89, _⟩ => ⟨S4096x4096, .f32⟩
  | .hbm, ⟨90, _⟩ => ⟨S_, .f32⟩
  | .hbm, ⟨91, _⟩ => ⟨S4096x4096, .f32⟩
  | .hbm, ⟨92, _⟩ => ⟨S4096x4096, .f32⟩
  | .hbm, ⟨93, _⟩ => ⟨S_, .f32⟩
  | .hbm, ⟨94, _⟩ => ⟨S4096x4096, .f32⟩
  | .hbm, ⟨95, _⟩ => ⟨S4096x4096, .i1⟩
  | .hbm, ⟨96, _⟩ => ⟨S_, .f32⟩
  | .hbm, ⟨97, _⟩ => ⟨S4096x4096, .f32⟩
  | .hbm, ⟨98, _⟩ => ⟨S4096x4096, .f32⟩
  | .hbm, ⟨99, _⟩ => ⟨S_, .f32⟩
  | .hbm, ⟨100, _⟩ => ⟨S4096x4096, .f32⟩
  | .hbm, ⟨101, _⟩ => ⟨S4096x4096, .f32⟩
  | .hbm, ⟨102, _⟩ => ⟨S4096x1024, .f32⟩
  | .hbm, ⟨103, _⟩ => ⟨S4096x4096, .f32⟩
  | .hbm, ⟨104, _⟩ => ⟨S4096x4096, .f32⟩
  | .hbm, ⟨105, _⟩ => ⟨S_, .f32⟩
  | .hbm, ⟨106, _⟩ => ⟨S4096x4096, .f32⟩
  | .hbm, ⟨107, _⟩ => ⟨S4096x4096, .f32⟩
  | .hbm, ⟨108, _⟩ => ⟨S_, .f32⟩
  | .hbm, ⟨109, _⟩ => ⟨S4096x4096, .f32⟩
  | .hbm, ⟨110, _⟩ => ⟨S4096x4096, .f32⟩
  | .hbm, ⟨111, _⟩ => ⟨S4096x4096, .f32⟩
  | .hbm, ⟨112, _⟩ => ⟨S4096x1024, .bf16⟩
  | .hbm, ⟨113, _⟩ => ⟨S4096x4096, .bf16⟩
  | .hbm, ⟨114, _⟩ => ⟨S4096x4096, .f32⟩
  | .hbm, ⟨115, _⟩ => ⟨S4096x4096, .bf16⟩
  | .hbm, ⟨116, _⟩ => ⟨S1024x4096, .f32⟩
  | .hbm, ⟨117, _⟩ => ⟨S1024x4096, .bf16⟩
  | .hbm, ⟨118, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_call2_cst : Ref sig .tc := ⟨.hbm, 108, rfl⟩
abbrev main_call2_v0 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]
-- ==== Kernel3.lean ====
abbrev S4096x1024 : Shape := ⟨2, ![4096, 1024]⟩
abbrev S1024 : Shape := ⟨1, ![1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S1x1024 : Shape := ⟨2, ![1, 1024]⟩
abbrev S4096x4096 : Shape := ⟨2, ![4096, 4096]⟩
abbrev S1024x1024 : Shape := ⟨2, ![1024, 1024]⟩
abbrev S1x1024x1024 : Shape := ⟨3, ![1, 1024, 1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S4x1024x1024, .f32⟩
  | .hbm, ⟨8, _⟩ => ⟨S4x1024x1024, .bf16⟩
  | .hbm, ⟨9, _⟩ => ⟨S1x1024, .f32⟩
  | .hbm, ⟨10, _⟩ => ⟨S4096x1024, .f32⟩
  | .hbm, ⟨11, _⟩ => ⟨S4096x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4096x1024 : Shape := ⟨2, ![4096, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4096 : Shape := ⟨2, ![4096, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x4096, .f32⟩
  | .hbm, ⟨44, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S4x1024x1024 : Shape := ⟨3, ![4, 1024, 1024]⟩
abbrev S512x4096 : Shape := ⟨2, ![512, 4096]⟩
abbrev S1x512x1024 : Shape := ⟨3, ![1, 512, 1024]⟩
abbrev S512x1024 : Shape := ⟨2, ![512, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .f32⟩
  | .hbm, ⟨3, _⟩ => ⟨S4096x4096, .bf16⟩
  | .hbm, ⟨4, _⟩ => ⟨S4096x1024, .bf16⟩
  | .hbm, ⟨5, _⟩ => ⟨S4x1024x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S1x512x1024, .bf16⟩
  | .local _ .vmem, ⟨4, _⟩ => ⟨S1x512x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4x1024x1024, .f32⟩
  | .hbm, ⟨8, _⟩ => ⟨S4x1024x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x1024 : Shape := ⟨2, ![4096, 1024]⟩
abbrev S4096x4096 : Shape := ⟨2, ![4096, 4096]⟩
abbrev S1024x4096 : Shape := ⟨2, ![1024, 4096]⟩
abbrev S4x1024x1024 : Shape := ⟨3, ![4, 1024, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S1024x4096, .f32⟩
  | .hbm, ⟨3, _⟩ => ⟨S1024x4096, .bf16⟩
  | .hbm, ⟨4, _⟩ => ⟨S4096x4096, .bf16⟩
  | .hbm, ⟨5, _⟩ => ⟨S4x1024x1024, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S1024x4096 : Shape := ⟨2, ![1024, 4096]⟩
abbrev S4x256x1024 : Shape := ⟨3, ![4, 256, 1024]⟩
abbrev S256x4096 : Shape := ⟨2, ![256, 4096]⟩
abbrev S1x256x1024 : Shape := ⟨3, ![1, 256, 1024]⟩
abbrev S256x1024 : Shape := ⟨2, ![256, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .f32⟩
  | .hbm, ⟨3, _⟩ => ⟨S1024x4096, .bf16⟩
  | .hbm, ⟨4, _⟩ => ⟨S4096x1024, .bf16⟩
  | .hbm, ⟨5, _⟩ => ⟨S4x256x1024, .bf16⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S1x256x1024, .bf16⟩
  | .local _ .vmem, ⟨4, _⟩ => ⟨S1x256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x1024 : Shape := ⟨2, ![4096, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S4x256x1024, .f32⟩
  | .hbm, ⟨8, _⟩ => ⟨S4x256x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x1024 : Shape := ⟨2, ![4096, 1024]⟩
abbrev S4096x2048 : Shape := ⟨2, ![4096, 2048]⟩
abbrev S1024x4096 : Shape := ⟨2, ![1024, 4096]⟩
abbrev S4x1024x512 : Shape := ⟨3, ![4, 1024, 512]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x4096, .f32⟩
  | .hbm, ⟨3, _⟩ => ⟨S1024x4096, .bf16⟩
  | .hbm, ⟨4, _⟩ => ⟨S4096x2048, .bf16⟩
  | .hbm, ⟨5, _⟩ => ⟨S4x1024x512, .bf16⟩
  | .local _ .vmem, ⟨0, _⟩ => ⟨S1024x4096, .bf16⟩
  | .local _ .vmem, ⟨1, _⟩ => ⟨S4096x512, .bf16⟩
  | .local _ .vmem, ⟨2, _⟩ => ⟨S4096x512, .bf16⟩
  | .local _ .vmem, ⟨3, _⟩ => ⟨S1x1024x512, .bf16⟩
  | .local _ .vmem, ⟨4, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S2x1024x512 : Shape := ⟨3, ![2, 1024, 512]⟩
abbrev S1024x512 : Shape := ⟨2, ![1024, 512]⟩
abbrev S1x512x512 : Shape := ⟨3, ![1, 512, 512]⟩
abbrev S512x512 : Shape := ⟨2, ![512, 512]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x512, .f32⟩
  | .hbm, ⟨1, _⟩ => ⟨S1024x512, .f32⟩
  | .hbm, ⟨2, _⟩ => ⟨S1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .local _ .vmem, ⟨0, _⟩ => ⟨S1x512x512, .f32⟩
  | .local _ .vmem, ⟨1, _⟩ => ⟨S1x512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | _, _ => ⟨S2x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.muli c1_i32_0 arg0
  let v3 : BitVec 32 := Scalar.addi v1 v2
  let c0_i32 : BitVec 32 := 0#32
  let c0_i32_1 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S2x1024x512 : Shape := ⟨3, ![2, 1024, 512]⟩
abbrev S1024x512 : Shape := ⟨2, ![1024, 512]⟩
abbrev S1x1024x512 : Shape := ⟨3, ![1, 1024, 512]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S1024x512, .f32⟩
  | .hbm, ⟨2, _⟩ => ⟨S1024x512, .f32⟩
  | .hbm, ⟨3, _⟩ => ⟨S2x1024x512, .f32⟩
  | .hbm, ⟨4, _⟩ => ⟨S2x1024x512, .f32⟩
  | .hbm, ⟨5, _⟩ => ⟨S1x1024x512, .f32⟩
  | .hbm, ⟨6, _⟩ => ⟨S1x1024x512, .f32⟩
  | .hbm, ⟨7, _⟩ => ⟨S2x1024x512, .f32⟩
  | .hbm, ⟨8, _⟩ => ⟨S_, .f32⟩
  | .hbm, ⟨9, _⟩ => ⟨S2x1024x512, .f32⟩
  | .hbm, ⟨10, _⟩ => ⟨S2x1024x512, .f32⟩
  | .hbm, ⟨11, _⟩ => ⟨S_, .f32⟩
  | .hbm, ⟨12, _⟩ => ⟨S2x1024x512, .f32⟩
  | .hbm, ⟨13, _⟩ => ⟨S2x1024x512, .f32⟩
  | .hbm, ⟨14, _⟩ => ⟨S2x1024x512, .f32⟩
  | .hbm, ⟨15, _⟩ => ⟨S_, .f32⟩
  | .hbm, ⟨16, _⟩ => ⟨S2x1024x512, .f32⟩
  | .hbm, ⟨17, _⟩ => ⟨S2x1024x512, .f32⟩
  | .hbm, ⟨18, _⟩ => ⟨S2x1024x512, .f32⟩
  | .hbm, ⟨19, _⟩ => ⟨S_, .f32⟩
  | .hbm, ⟨20, _⟩ => ⟨S2x1024x512, .f32⟩
  | .hbm, ⟨21, _⟩ => ⟨S2x1024x512, .f32⟩
  | .hbm, ⟨22, _⟩ => ⟨S2x1024x512, .f32⟩
  | .hbm, ⟨23, _⟩ => ⟨S_, .f32⟩
  | .hbm, ⟨24, _⟩ => ⟨S2x1024x512, .f32⟩
  | .hbm, ⟨25, _⟩ => ⟨S2x1024x512, .f32⟩
  | .hbm, ⟨26, _⟩ => ⟨S_, .f32⟩
  | .hbm, ⟨27, _⟩ => ⟨S2x1024x512, .f32⟩
  | .hbm, ⟨28, _⟩ => ⟨S2x1024x512, .f32⟩
  | .hbm, ⟨29, _⟩ => ⟨S2x1024x512, .f32⟩
  | .hbm, ⟨30, _⟩ => ⟨S_, .f32⟩
  | .hbm, ⟨31, _⟩ => ⟨S2x1024x512, .f32⟩
  | .hbm, ⟨32, _⟩ => ⟨S2x1024x512, .f32⟩
  | .hbm, ⟨33, _⟩ => ⟨S2x1024x512, .f32⟩
  | .hbm, ⟨34, _⟩ => ⟨S_, .f32⟩
  | .hbm, ⟨35, _⟩ => ⟨S2x1024x512, .f32⟩
  | .hbm, ⟨36, _⟩ => ⟨S2x1024x512, .f32⟩
  | .hbm, ⟨37, _⟩ => ⟨S2x1024x512, .f32⟩
  | .hbm, ⟨38, _⟩ => ⟨S_, .f32⟩
  | .hbm, ⟨39, _⟩ => ⟨S2x1024x512, .f32⟩
  | .hbm, ⟨40, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel9.lean ====
abbrev S2x256x1024 : Shape := ⟨3, ![2, 256, 1024]⟩
abbrev S256x1024 : Shape := ⟨2, ![256, 1024]⟩
abbrev S1x256x1024 : Shape := ⟨3, ![1, 256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let v2 : BitVec 32 := Scalar.muli c0_i32 arg0
  let v3 : BitVec 32 := Scalar.addi v1 v2
  let c0_i32_0 : BitVec 32 := 0#32
  let c0_i32_1 : BitVec 32 := 0#32
  ![v3.toNat, c0_i32_0.toNat]

def cc0_transform_2 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference9Ideal.lean ====
abbrev S2x256x1024 : Shape := ⟨3, ![2, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S256x1024, .f32⟩
  | .hbm, ⟨2, _⟩ => ⟨S256x1024, .f32⟩
  | .hbm, ⟨3, _⟩ => ⟨S2x256x1024, .f32⟩
  | .hbm, ⟨4, _⟩ => ⟨S2x256x1024, .f32⟩
  | .hbm, ⟨5, _⟩ => ⟨S1x256x1024, .f32⟩
  | .hbm, ⟨6, _⟩ => ⟨S1x256x1024, .f32⟩
  | .hbm, ⟨7, _⟩ => ⟨S2x256x1024, .f32⟩
  | .hbm, ⟨8, _⟩ => ⟨S_, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S2x256x1024, .f32⟩
  | .hbm, ⟨23, _⟩ => ⟨S_, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | .hbm, ⟨37, _⟩ => ⟨S2x256x1024, .f32⟩
  | .hbm, ⟨38, _⟩ => ⟨S_, .f32⟩
  | .hbm, ⟨39, _⟩ => ⟨S2x256x1024, .f32⟩
  | .hbm, ⟨40, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel10.lean ====
abbrev S2x1024x1024 : Shape := ⟨3, ![2, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c3_i32 : BitVec 32 := 3#32
  let v2 : BitVec 32 := Scalar.muli c3_i32 arg0
  let v3 : BitVec 32 := Scalar.addi v1 v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S2x1024x1024 : Shape := ⟨3, ![2, 1024, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S2x1024x1024, .f32⟩
  | .hbm, ⟨4, _⟩ => ⟨S2x1024x1024, .f32⟩
  | .hbm, ⟨5, _⟩ => ⟨S1x1024x1024, .f32⟩
  | .hbm, ⟨6, _⟩ => ⟨S1x1024x1024, .f32⟩
  | .hbm, ⟨7, _⟩ => ⟨S2x1024x1024, .f32⟩
  | .hbm, ⟨8, _⟩ => ⟨S_, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S2x1024x1024, .f32⟩
  | .hbm, ⟨23, _⟩ => ⟨S_, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | .hbm, ⟨37, _⟩ => ⟨S2x1024x1024, .f32⟩
  | .hbm, ⟨38, _⟩ => ⟨S_, .f32⟩
  | .hbm, ⟨39, _⟩ => ⟨S2x1024x1024, .f32⟩
  | .hbm, ⟨40, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel11.lean ====
abbrev S2x1024x1024 : Shape := ⟨3, ![2, 1024, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 9
  | .vmem => 18
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x1024x1024, .f32⟩
  | .hbm, ⟨7, _⟩ => ⟨S2x1024x1024, .f32⟩
  | .hbm, ⟨8, _⟩ => ⟨S2x1024x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c3_i32 : BitVec 32 := 3#32
  let v2 : BitVec 32 := Scalar.muli c3_i32 arg0
  let v3 : BitVec 32 := Scalar.addi v1 v2
  let c0_i32 : BitVec 32 := 0#32
  let c0_i32_0 : BitVec 32 := 0#32
  ![v3.toNat, c0_i32.toNat]

def cc0_transform_2 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S2x1024x1024 : Shape := ⟨3, ![2, 1024, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S1024x1024, .f32⟩
  | .hbm, ⟨2, _⟩ => ⟨S1024x1024, .f32⟩
  | .hbm, ⟨3, _⟩ => ⟨S2x1024x1024, .f32⟩
  | .hbm, ⟨4, _⟩ => ⟨S2x1024x1024, .f32⟩
  | .hbm, ⟨5, _⟩ => ⟨S1x1024x1024, .f32⟩
  | .hbm, ⟨6, _⟩ => ⟨S1x1024x1024, .f32⟩
  | .hbm, ⟨7, _⟩ => ⟨S2x1024x1024, .f32⟩
  | .hbm, ⟨8, _⟩ => ⟨S_, .f32⟩
  | .hbm, ⟨9, _⟩ => ⟨S2x1024x1024, .f32⟩
  | .hbm, ⟨10, _⟩ => ⟨S2x1024x1024, .f32⟩
  | .hbm, ⟨11, _⟩ => ⟨S_, .f32⟩
  | .hbm, ⟨12, _⟩ => ⟨S2x1024x1024, .f32⟩
  | .hbm, ⟨13, _⟩ => ⟨S2x1024x1024, .f32⟩
  | .hbm, ⟨14, _⟩ => ⟨S2x1024x1024, .f32⟩
  | .hbm, ⟨15, _⟩ => ⟨S_, .f32⟩
  | .hbm, ⟨16, _⟩ => ⟨S2x1024x1024, .f32⟩
  | .hbm, ⟨17, _⟩ => ⟨S2x1024x1024, .f32⟩
  | .hbm, ⟨18, _⟩ => ⟨S2x1024x1024, .f32⟩
  | .hbm, ⟨19, _⟩ => ⟨S_, .f32⟩
  | .hbm, ⟨20, _⟩ => ⟨S2x1024x1024, .f32⟩
  | .hbm, ⟨21, _⟩ => ⟨S2x1024x1024, .f32⟩
  | .hbm, ⟨22, _⟩ => ⟨S2x1024x1024, .f32⟩
  | .hbm, ⟨23, _⟩ => ⟨S_, .f32⟩
  | .hbm, ⟨24, _⟩ => ⟨S2x1024x1024, .f32⟩
  | .hbm, ⟨25, _⟩ => ⟨S2x1024x1024, .f32⟩
  | .hbm, ⟨26, _⟩ => ⟨S_, .f32⟩
  | .hbm, ⟨27, _⟩ => ⟨S2x1024x1024, .f32⟩
  | .hbm, ⟨28, _⟩ => ⟨S2x1024x1024, .f32⟩
  | .hbm, ⟨29, _⟩ => ⟨S2x1024x1024, .f32⟩
  | .hbm, ⟨30, _⟩ => ⟨S_, .f32⟩
  | .hbm, ⟨31, _⟩ => ⟨S2x1024x1024, .f32⟩
  | .hbm, ⟨32, _⟩ => ⟨S2x1024x1024, .f32⟩
  | .hbm, ⟨33, _⟩ => ⟨S2x1024x1024, .f32⟩
  | .hbm, ⟨34, _⟩ => ⟨S_, .f32⟩
  | .hbm, ⟨35, _⟩ => ⟨S2x1024x1024, .f32⟩
  | .hbm, ⟨36, _⟩ => ⟨S2x1024x1024, .f32⟩
  | .hbm, ⟨37, _⟩ => ⟨S2x1024x1024, .f32⟩
  | .hbm, ⟨38, _⟩ => ⟨S_, .f32⟩
  | .hbm, ⟨39, _⟩ => ⟨S2x1024x1024, .f32⟩
  | .hbm, ⟨40, _⟩ => ⟨S2x1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel12.lean ====
abbrev S1112x128 : Shape := ⟨2, ![1112, 128]⟩

abbrev nBuf : Space → Nat
  | .hbm => 7
  | .vmem => 7
  | .smem => 0
  | _ => 0

abbrev bufTy : (tb : Table) → Fin (tcTables nBuf tb) → BufTy
  | .hbm, ⟨0, _⟩ => ⟨S1112x128, .f32⟩
  | .hbm, ⟨1, _⟩ => ⟨S1112x128, .f32⟩
  | .hbm, ⟨2, _⟩ => ⟨S1112x128, .f32⟩
  | .hbm, ⟨3, _⟩ => ⟨S1112x128, .f32⟩
  | .hbm, ⟨4, _⟩ => ⟨S1112x128, .f32⟩
  | .hbm, ⟨5, _⟩ => ⟨S1112x128, .f32⟩
  | .hbm, ⟨6, _⟩ => ⟨S1112x128, .f32⟩
  | .local _ .vmem, ⟨0, _⟩ => ⟨S1112x128, .f32⟩
  | .local _ .vmem, ⟨1, _⟩ => ⟨S1112x128, .f32⟩
  | .local _ .vmem, ⟨2, _⟩ => ⟨S1112x128, .f32⟩
  | .local _ .vmem, ⟨3, _⟩ => ⟨S1112x128, .f32⟩
  | .local _ .vmem, ⟨4, _⟩ => ⟨S1112x128, .f32⟩
  | .local _ .vmem, ⟨5, _⟩ => ⟨S1112x128, .f32⟩
  | .local _ .vmem, ⟨6, _⟩ => ⟨S1112x128, .f32⟩
  | _, _ => ⟨S1112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1112x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1112x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1112x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1112x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1112x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1112x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference12Ideal.lean ====
abbrev S1112x128 : Shape := ⟨2, ![1112, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1112x128, .f32⟩
  | .hbm, ⟨1, _⟩ => ⟨S1112x128, .f32⟩
  | .hbm, ⟨2, _⟩ => ⟨S1112x128, .f32⟩
  | .hbm, ⟨3, _⟩ => ⟨S1112x128, .f32⟩
  | .hbm, ⟨4, _⟩ => ⟨S_, .f32⟩
  | .hbm, ⟨5, _⟩ => ⟨S1112x128, .f32⟩
  | .hbm, ⟨6, _⟩ => ⟨S1112x128, .f32⟩
  | .hbm, ⟨7, _⟩ => ⟨S_, .f32⟩
  | .hbm, ⟨8, _⟩ => ⟨S1112x128, .f32⟩
  | .hbm, ⟨9, _⟩ => ⟨S1112x128, .f32⟩
  | .hbm, ⟨10, _⟩ => ⟨S1112x128, .f32⟩
  | .hbm, ⟨11, _⟩ => ⟨S_, .f32⟩
  | .hbm, ⟨12, _⟩ => ⟨S1112x128, .f32⟩
  | .hbm, ⟨13, _⟩ => ⟨S1112x128, .f32⟩
  | .hbm, ⟨14, _⟩ => ⟨S1112x128, .f32⟩
  | .hbm, ⟨15, _⟩ => ⟨S_, .f32⟩
  | .hbm, ⟨16, _⟩ => ⟨S1112x128, .f32⟩
  | .hbm, ⟨17, _⟩ => ⟨S1112x128, .f32⟩
  | .hbm, ⟨18, _⟩ => ⟨S1112x128, .f32⟩
  | .hbm, ⟨19, _⟩ => ⟨S_, .f32⟩
  | .hbm, ⟨20, _⟩ => ⟨S1112x128, .f32⟩
  | .hbm, ⟨21, _⟩ => ⟨S1112x128, .f32⟩
  | .hbm, ⟨22, _⟩ => ⟨S_, .f32⟩
  | .hbm, ⟨23, _⟩ => ⟨S1112x128, .f32⟩
  | .hbm, ⟨24, _⟩ => ⟨S1112x128, .f32⟩
  | .hbm, ⟨25, _⟩ => ⟨S1112x128, .f32⟩
  | .hbm, ⟨26, _⟩ => ⟨S_, .f32⟩
  | .hbm, ⟨27, _⟩ => ⟨S1112x128, .f32⟩
  | .hbm, ⟨28, _⟩ => ⟨S1112x128, .f32⟩
  | .hbm, ⟨29, _⟩ => ⟨S1112x128, .f32⟩
  | .hbm, ⟨30, _⟩ => ⟨S_, .f32⟩
  | .hbm, ⟨31, _⟩ => ⟨S1112x128, .f32⟩
  | .hbm, ⟨32, _⟩ => ⟨S1112x128, .f32⟩
  | .hbm, ⟨33, _⟩ => ⟨S1112x128, .f32⟩
  | .hbm, ⟨34, _⟩ => ⟨S_, .f32⟩
  | .hbm, ⟨35, _⟩ => ⟨S1112x128, .f32⟩
  | .hbm, ⟨36, _⟩ => ⟨S1112x128, .f32⟩
  | _, _ => ⟨S1112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel13.lean ====
abbrev S62x128 : Shape := ⟨2, ![62, 128]⟩

abbrev nBuf : Space → Nat
  | .hbm => 7
  | .vmem => 7
  | .smem => 0
  | _ => 0

abbrev bufTy : (tb : Table) → Fin (tcTables nBuf tb) → BufTy
  | .hbm, ⟨0, _⟩ => ⟨S62x128, .f32⟩
  | .hbm, ⟨1, _⟩ => ⟨S62x128, .f32⟩
  | .hbm, ⟨2, _⟩ => ⟨S62x128, .f32⟩
  | .hbm, ⟨3, _⟩ => ⟨S62x128, .f32⟩
  | .hbm, ⟨4, _⟩ => ⟨S62x128, .f32⟩
  | .hbm, ⟨5, _⟩ => ⟨S62x128, .f32⟩
  | .hbm, ⟨6, _⟩ => ⟨S62x128, .f32⟩
  | .local _ .vmem, ⟨0, _⟩ => ⟨S62x128, .f32⟩
  | .local _ .vmem, ⟨1, _⟩ => ⟨S62x128, .f32⟩
  | .local _ .vmem, ⟨2, _⟩ => ⟨S62x128, .f32⟩
  | .local _ .vmem, ⟨3, _⟩ => ⟨S62x128, .f32⟩
  | .local _ .vmem, ⟨4, _⟩ => ⟨S62x128, .f32⟩
  | .local _ .vmem, ⟨5, _⟩ => ⟨S62x128, .f32⟩
  | .local _ .vmem, ⟨6, _⟩ => ⟨S62x128, .f32⟩
  | _, _ => ⟨S62x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S62x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S62x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S62x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S62x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S62x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S62x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S62x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference13Ideal.lean ====
abbrev S62x128 : Shape := ⟨2, ![62, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S62x128, .f32⟩
  | .hbm, ⟨1, _⟩ => ⟨S62x128, .f32⟩
  | .hbm, ⟨2, _⟩ => ⟨S62x128, .f32⟩
  | .hbm, ⟨3, _⟩ => ⟨S62x128, .f32⟩
  | .hbm, ⟨4, _⟩ => ⟨S_, .f32⟩
  | .hbm, ⟨5, _⟩ => ⟨S62x128, .f32⟩
  | .hbm, ⟨6, _⟩ => ⟨S62x128, .f32⟩
  | .hbm, ⟨7, _⟩ => ⟨S_, .f32⟩
  | .hbm, ⟨8, _⟩ => ⟨S62x128, .f32⟩
  | .hbm, ⟨9, _⟩ => ⟨S62x128, .f32⟩
  | .hbm, ⟨10, _⟩ => ⟨S62x128, .f32⟩
  | .hbm, ⟨11, _⟩ => ⟨S_, .f32⟩
  | .hbm, ⟨12, _⟩ => ⟨S62x128, .f32⟩
  | .hbm, ⟨13, _⟩ => ⟨S62x128, .f32⟩
  | .hbm, ⟨14, _⟩ => ⟨S62x128, .f32⟩
  | .hbm, ⟨15, _⟩ => ⟨S_, .f32⟩
  | .hbm, ⟨16, _⟩ => ⟨S62x128, .f32⟩
  | .hbm, ⟨17, _⟩ => ⟨S62x128, .f32⟩
  | .hbm, ⟨18, _⟩ => ⟨S62x128, .f32⟩
  | .hbm, ⟨19, _⟩ => ⟨S_, .f32⟩
  | .hbm, ⟨20, _⟩ => ⟨S62x128, .f32⟩
  | .hbm, ⟨21, _⟩ => ⟨S62x128, .f32⟩
  | .hbm, ⟨22, _⟩ => ⟨S_, .f32⟩
  | .hbm, ⟨23, _⟩ => ⟨S62x128, .f32⟩
  | .hbm, ⟨24, _⟩ => ⟨S62x128, .f32⟩
  | .hbm, ⟨25, _⟩ => ⟨S62x128, .f32⟩
  | .hbm, ⟨26, _⟩ => ⟨S_, .f32⟩
  | .hbm, ⟨27, _⟩ => ⟨S62x128, .f32⟩
  | .hbm, ⟨28, _⟩ => ⟨S62x128, .f32⟩
  | .hbm, ⟨29, _⟩ => ⟨S62x128, .f32⟩
  | .hbm, ⟨30, _⟩ => ⟨S_, .f32⟩
  | .hbm, ⟨31, _⟩ => ⟨S62x128, .f32⟩
  | .hbm, ⟨32, _⟩ => ⟨S62x128, .f32⟩
  | .hbm, ⟨33, _⟩ => ⟨S62x128, .f32⟩
  | .hbm, ⟨34, _⟩ => ⟨S_, .f32⟩
  | .hbm, ⟨35, _⟩ => ⟨S62x128, .f32⟩
  | .hbm, ⟨36, _⟩ => ⟨S62x128, .f32⟩
  | _, _ => ⟨S62x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S4096x1024 : Shape := ⟨2, ![4096, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .hbm, ⟨6, _⟩ => ⟨S1x1, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S1x1, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .bf16⟩
  | .hbm, ⟨72, _⟩ => ⟨S1x1, .f32⟩
  | .hbm, ⟨73, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Proof.Mix.SameA.lean ====
/- Backward mixer call: parts 1 to 5 of the body, one text in the program and in its ideal reading. -/
module

public import proofs.«01_k».proof.Proof.Gen.Kernel
public import proofs.«01_k».proof.Proof.Gen.KernelIdeal

@[expose] public section

set_option maxRecDepth 100000

namespace Cert.Proof1

open Idealize.ShloMosaic Idealize.SL.Sem

variable {F : FTy → Type} [FloatOps F]

set_option maxHeartbeats 4000000 in
theorem part1_same : Cert.Kernel.k0_part1 (F := F) = Cert.KernelIdeal.k0_part1 (F := F) := rfl

set_option maxHeartbeats 4000000 in
theorem part2_same : Cert.Kernel.k0_part2 (F := F) = Cert.KernelIdeal.k0_part2 (F := F) := by
  unfold Cert.Kernel.k0_part2
  simp only [part1_same]
  rfl

set_option maxHeartbeats 4000000 in
theorem part3_same : Cert.Kernel.k0_part3 (F := F) = Cert.KernelIdeal.k0_part3 (F := F) := rfl

set_option maxHeartbeats 4000000 in
theorem part4_same : Cert.Kernel.k0_part4 (F := F) = Cert.KernelIdeal.k0_part4 (F := F) := rfl

set_option maxHeartbeats 4000000 in
theorem part5_same : Cert.Kernel.k0_part5 (F := F) = Cert.KernelIdeal.k0_part5 (F := F) := rfl

end Cert.Proof1
-- ==== Proof.Mix.SameB.lean ====
/- Backward mixer call: parts 6 to 10 of the body, one text in the program and in its ideal reading. -/
module

public import proofs.«01_k».proof.Proof.Gen.Kernel
public import proofs.«01_k».proof.Proof.Gen.KernelIdeal

@[expose] public section

set_option maxRecDepth 100000

namespace Cert.Proof1

open Idealize.ShloMosaic Idealize.SL.Sem

variable {F : FTy → Type} [FloatOps F]

set_option maxHeartbeats 4000000 in
theorem part6_same : Cert.Kernel.k0_part6 (F := F) = Cert.KernelIdeal.k0_part6 (F := F) := rfl

set_option maxHeartbeats 4000000 in
theorem part7_same : Cert.Kernel.k0_part7 (F := F) = Cert.KernelIdeal.k0_part7 (F := F) := rfl

set_option maxHeartbeats 4000000 in
theorem part8_same : Cert.Kernel.k0_part8 (F := F) = Cert.KernelIdeal.k0_part8 (F := F) := rfl

set_option maxHeartbeats 4000000 in
theorem part9_same : Cert.Kernel.k0_part9 (F := F) = Cert.KernelIdeal.k0_part9 (F := F) := rfl

set_option maxHeartbeats 4000000 in
theorem part10_same : Cert.Kernel.k0_part10 (F := F) = Cert.KernelIdeal.k0_part10 (F := F) := rfl

end Cert.Proof1
-- ==== Proof.Mix.SameC.lean ====
/- Backward mixer call: parts 11 to 15 of the body, one text in the program and in its ideal reading. -/
module

public import proofs.«01_k».proof.Proof.Gen.Kernel
public import proofs.«01_k».proof.Proof.Gen.KernelIdeal

@[expose] public section

set_option maxRecDepth 100000

namespace Cert.Proof1

open Idealize.ShloMosaic Idealize.SL.Sem

variable {F : FTy → Type} [FloatOps F]

set_option maxHeartbeats 4000000 in
theorem part11_same : Cert.Kernel.k0_part11 (F := F) = Cert.KernelIdeal.k0_part11 (F := F) := rfl

set_option maxHeartbeats 4000000 in
theorem part12_same : Cert.Kernel.k0_part12 (F := F) = Cert.KernelIdeal.k0_part12 (F := F) := rfl

set_option maxHeartbeats 4000000 in
theorem part13_same : Cert.Kernel.k0_part13 (F := F) = Cert.KernelIdeal.k0_part13 (F := F) := rfl

set_option maxHeartbeats 4000000 in
theorem part14_same : Cert.Kernel.k0_part14 (F := F) = Cert.KernelIdeal.k0_part14 (F := F) := rfl

set_option maxHeartbeats 4000000 in
theorem part15_same : Cert.Kernel.k0_part15 (F := F) = Cert.KernelIdeal.k0_part15 (F := F) := rfl

end Cert.Proof1
-- ==== Proof.Mix.SameD.lean ====
/- Backward mixer call: parts 16 to 20 of the body, one text in the program and in its ideal reading. -/
module

public import proofs.«01_k».proof.Proof.Gen.Kernel
public import proofs.«01_k».proof.Proof.Gen.KernelIdeal

@[expose] public section

set_option maxRecDepth 100000

namespace Cert.Proof1

open Idealize.ShloMosaic Idealize.SL.Sem

variable {F : FTy → Type} [FloatOps F]

set_option maxHeartbeats 4000000 in
theorem part16_same : Cert.Kernel.k0_part16 (F := F) = Cert.KernelIdeal.k0_part16 (F := F) := rfl

set_option maxHeartbeats 4000000 in
theorem part17_same : Cert.Kernel.k0_part17 (F := F) = Cert.KernelIdeal.k0_part17 (F := F) := rfl

set_option maxHeartbeats 4000000 in
theorem part18_same : Cert.Kernel.k0_part18 (F := F) = Cert.KernelIdeal.k0_part18 (F := F) := rfl

set_option maxHeartbeats 4000000 in
theorem part19_same : Cert.Kernel.k0_part19 (F := F) = Cert.KernelIdeal.k0_part19 (F := F) := rfl

set_option maxHeartbeats 4000000 in
theorem part20_same : Cert.Kernel.k0_part20 (F := F) = Cert.KernelIdeal.k0_part20 (F := F) := rfl

end Cert.Proof1
-- ==== Proof.Mix.SameE.lean ====
/- Backward mixer call: parts 21 to 25 of the body, one text in the program and in its ideal reading. -/
module

public import proofs.«01_k».proof.Proof.Gen.Kernel
public import proofs.«01_k».proof.Proof.Gen.KernelIdeal

@[expose] public section

set_option maxRecDepth 100000

namespace Cert.Proof1

open Idealize.ShloMosaic Idealize.SL.Sem

variable {F : FTy → Type} [FloatOps F]

set_option maxHeartbeats 4000000 in
theorem part21_same : Cert.Kernel.k0_part21 (F := F) = Cert.KernelIdeal.k0_part21 (F := F) := rfl

set_option maxHeartbeats 4000000 in
theorem part22_same : Cert.Kernel.k0_part22 (F := F) = Cert.KernelIdeal.k0_part22 (F := F) := rfl

set_option maxHeartbeats 4000000 in
theorem part23_same : Cert.Kernel.k0_part23 (F := F) = Cert.KernelIdeal.k0_part23 (F := F) := rfl

set_option maxHeartbeats 4000000 in
theorem part24_same : Cert.Kernel.k0_part24 (F := F) = Cert.KernelIdeal.k0_part24 (F := F) := rfl

set_option maxHeartbeats 4000000 in
theorem part25_same : Cert.Kernel.k0_part25 (F := F) = Cert.KernelIdeal.k0_part25 (F := F) := rfl

end Cert.Proof1
-- ==== Proof.Mix.SameF.lean ====
/- Backward mixer call: parts 26 to 30 of the body, one text in the program and in its ideal reading. -/
module

public import proofs.«01_k».proof.Proof.Gen.Kernel
public import proofs.«01_k».proof.Proof.Gen.KernelIdeal

@[expose] public section

set_option maxRecDepth 100000

namespace Cert.Proof1

open Idealize.ShloMosaic Idealize.SL.Sem

variable {F : FTy → Type} [FloatOps F]

set_option maxHeartbeats 4000000 in
theorem part26_same : Cert.Kernel.k0_part26 (F := F) = Cert.KernelIdeal.k0_part26 (F := F) := rfl

set_option maxHeartbeats 4000000 in
theorem part27_same : Cert.Kernel.k0_part27 (F := F) = Cert.KernelIdeal.k0_part27 (F := F) := rfl

set_option maxHeartbeats 4000000 in
theorem part28_same : Cert.Kernel.k0_part28 (F := F) = Cert.KernelIdeal.k0_part28 (F := F) := rfl

set_option maxHeartbeats 4000000 in
theorem part29_same : Cert.Kernel.k0_part29 (F := F) = Cert.KernelIdeal.k0_part29 (F := F) := rfl

set_option maxHeartbeats 4000000 in
theorem part30_same : Cert.Kernel.k0_part30 (F := F) = Cert.KernelIdeal.k0_part30 (F := F) := rfl

end Cert.Proof1
-- ==== Proof.Mix.SameG.lean ====
/- Backward mixer call: the host part, one text in the program and in its ideal reading. -/
module

public import proofs.«01_k».proof.Proof.Gen.Kernel
public import proofs.«01_k».proof.Proof.Gen.KernelIdeal

@[expose] public section

set_option maxRecDepth 100000

namespace Cert.Proof1

open Idealize.ShloMosaic Idealize.SL.Sem

variable {F : FTy → Type} [FloatOps F]

set_option maxHeartbeats 4000000 in
theorem main_same : Cert.Kernel.main (F := F) = Cert.KernelIdeal.main (F := F) := rfl

end Cert.Proof1
-- ==== Proof.Mix.Same.lean ====
/- Backward mixer call: the program, one text in the program and in its ideal reading. -/
module

public import proofs.«01_k».proof.Proof.Gen.Kernel
public import proofs.«01_k».proof.Proof.Gen.KernelIdeal
public import proofs.«01_k».proof.Proof.Mix.SameA
public import proofs.«01_k».proof.Proof.Mix.SameB
public import proofs.«01_k».proof.Proof.Mix.SameC
public import proofs.«01_k».proof.Proof.Mix.SameD
public import proofs.«01_k».proof.Proof.Mix.SameE
public import proofs.«01_k».proof.Proof.Mix.SameF
public import proofs.«01_k».proof.Proof.Mix.SameG

@[expose] public section

set_option maxRecDepth 100000

namespace Cert.Proof1

open Idealize.ShloMosaic Idealize.SL.Sem

variable {F : FTy → Type} [FloatOps F]

set_option maxHeartbeats 4000000 in
theorem body_same : Cert.Kernel.cc0_mix_bwd_l0 (F := F) = Cert.KernelIdeal.cc0_mix_bwd_l0 (F := F) := by
  unfold Cert.Kernel.cc0_mix_bwd_l0
  simp only [part2_same, part3_same, part4_same, part5_same, part6_same, part7_same, part8_same, part9_same, part10_same, part11_same, part12_same, part13_same, part14_same, part15_same, part16_same, part17_same, part18_same, part19_same, part20_same, part21_same, part22_same, part23_same, part24_same, part25_same, part26_same, part27_same, part28_same, part29_same, part30_same]
  rfl

set_option maxHeartbeats 4000000 in
theorem defs₀_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rw [body_same]; rfl
  | ⟨_ + 1, h⟩, _ => exact absurd h (Nat.not_lt.2 (Nat.le_add_left _ _))

set_option maxHeartbeats 4000000 in
theorem defs_same : Cert.Kernel.defs (F := F) = Cert.KernelIdeal.defs (F := F) :=
  congrArg (Pipeline.defs Cert.Kernel.pcfgs) defs₀_same

end Cert.Proof1
-- ==== Proof.Mix.RunA.lean ====
/- One run of the backward mixer body at the first grid point, which resets the accumulators and the carried rows. -/
module

public import proofs.«01_k».proof.Proof.Gen.KernelIdeal.Frame.Runs

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 6000000 in
/-- The body at the first grid point, which resets the accumulators and the carried rows: the pieces that its stores leave in each output buffer and in the carried scratch,
    together with the proof that the body runs from the input blocks to a state that holds them. -/
noncomputable def kernelRun0_A (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S256x512 .f32) (harg7 : arg7.IsWhole) (arg8 : Memref sig .tc .vmem S256x2048 .f32) (harg8 : arg8.IsWhole) (arg9 : Memref sig .tc .vmem S256x128 .f32) (harg9 : arg9.IsWhole) (arg10 : Memref sig .tc .vmem S1x1024 .f32) (harg10 : arg10.IsWhole) (arg11 : Memref sig .tc .vmem S4x1024x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (arg17 : Memref sig .tc .vmem S32x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S4x256x1024 .bf16) (harg21 : arg21.IsWhole) (arg22 : Memref sig .tc .vmem S256x1024 .f32) (harg22 : arg22.IsWhole) (arg23 : Memref sig .tc .vmem S256x1024 .bf16) (harg23 : arg23.IsWhole) (arg24 : Memref sig .tc .vmem S256x2048 .bf16) (harg24 : arg24.IsWhole) (arg25 : Memref sig .tc .vmem S1024x256 .bf16) (harg25 : arg25.IsWhole) (arg26 : Memref sig .tc .vmem S1024x256 .bf16) (harg26 : arg26.IsWhole) (arg27 : Memref sig .tc .vmem S1x1024 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S4x128x128 .f32) (harg30 : arg30.IsWhole) (arg31 : Memref sig .tc .vmem S4x128x128 .f32) (harg31 : arg31.IsWhole) (arg32 : Memref sig .tc .vmem S32x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S32x512 .f32) (harg36 : arg36.IsWhole) (arg37 : Memref sig .tc .vmem S256x512 .f32) (harg37 : arg37.IsWhole) (arg38 : Memref sig .tc .vmem S256x512 .f32) (harg38 : arg38.IsWhole) (hc0 : cond0_0 i)
    (x0 : Vec F S256x1024 .f32) (x1 : Vec F S256x1024 .bf16) (x2 : Vec F S256x1024 .f32) (x3 : Vec F S256x1024 .f32) (x4 : Vec F S32x512 .f32) (x5 : Vec F S32x512 .f32) (x6 : Vec F S256x512 .f32) (x7 : Vec F S256x2048 .f32) (x8 : Vec F S256x128 .f32) (x9 : Vec F S1x1024 .f32) (x10 : Vec F S4x1024x512 .bf16) (x11 : Vec F S1x512 .f32) (x12 : Vec F S1x512 .f32) (x13 : Vec F S4x128x128 .f32) (x14 : Vec F S4x128x128 .f32) (x15 : Vec F S4x128x128 .f32) (x16 : Vec F S32x512 .f32) (x17 : Vec F S1x512 .f32) (x18 : Vec F S1x512 .f32) (x19 : Vec F S1x512 .f32) (x20 : Vec F S4x256x1024 .bf16) :
    Σ' (L21 : List (View.Piece (Elt F) S256x1024 .f32)), Σ' (L22 : List (View.Piece (Elt F) S256x1024 .bf16)), Σ' (L23 : List (View.Piece (Elt F) S256x2048 .bf16)), Σ' (L24 : List (View.Piece (Elt F) S1024x256 .bf16)), Σ' (L25 : List (View.Piece (Elt F) S1024x256 .bf16)), Σ' (L26 : List (View.Piece (Elt F) S1x1024 .f32)), Σ' (L27 : List (View.Piece (Elt F) S1x512 .f32)), Σ' (L28 : List (View.Piece (Elt F) S1x512 .f32)), Σ' (L29 : List (View.Piece (Elt F) S4x128x128 .f32)), Σ' (L30 : List (View.Piece (Elt F) S4x128x128 .f32)), Σ' (L31 : List (View.Piece (Elt F) S32x512 .f32)), Σ' (L32 : List (View.Piece (Elt F) S1x512 .f32)), Σ' (L33 : List (View.Piece (Elt F) S1x512 .f32)), Σ' (L34 : List (View.Piece (Elt F) S1x512 .f32)), Σ' (LS0 : List (View.Piece (Elt F) S32x512 .f32)), Σ' (LT1 : List (View.Piece (Elt F) S256x512 .f32)), { LT2 : List (View.Piece (Elt F) S256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f L30) ∗ (∃ f, arg32.view.loc (c : Thread nD τ) ↦[arg32.view.set]{fullShare} arg32.view.writes (Elt F) f L31) ∗ (∃ f, arg33.view.loc (c : Thread nD τ) ↦[arg33.view.set]{fullShare} arg33.view.writes (Elt F) f L32) ∗ (∃ f, arg34.view.loc (c : Thread nD τ) ↦[arg34.view.set]{fullShare} arg34.view.writes (Elt F) f L33) ∗ (∃ f, arg35.view.loc (c : Thread nD τ) ↦[arg35.view.set]{fullShare} arg35.view.writes (Elt F) f L34) ∗ (∃ f, arg36.view.loc (c : Thread nD τ) ↦[arg36.view.set]{fullShare} arg36.view.writes (Elt F) f LS0) ∗ (∃ f, arg37.view.loc (c : Thread nD τ) ↦[arg37.view.set]{fullShare} arg37.view.writes (Elt F) f LT1) ∗ (∃ f, arg38.view.loc (c : Thread nD τ) ↦[arg38.view.set]{fullShare} arg38.view.writes (Elt F) f LT2)) -∗ K ⟨⟩))
          ⊢ wp frame (wpE (defs₀ (F := F)) Variants.none c none) E (cc0_mix_bwd_l0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K } := by
  refine ⟨?_, ?_, ?_, ?_, ?_, ?_, ?_, ?_, ?_, ?_, ?_, ?_, ?_, ?_, ?_, ?_, ?_, fun E K => ?run⟩
  case run =>
    simp only [cc0_mix_bwd_l0_eq_skeleton]; unfold cc0_mix_bwd_l0_skel
    simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [HS0]; · iexists _; iexact HS0
    isplitl [HS1]; · iexists _; iexact HS1
    iexists _; iexact HS2

end Cert.KernelIdeal.Mix

end
-- ==== Proof.Mix.RunB.lean ====
/- One run of the backward mixer body at a later grid point, which adds to the accumulators and reads the rows carried from the tile below. -/
module

public import proofs.«01_k».proof.Proof.Mix.RunA

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 6000000 in
/-- The body at a later grid point, which adds to the accumulators and reads the rows carried from the tile below: the pieces that its stores leave in each output buffer and in the carried scratch,
    together with the proof that the body runs from the input blocks to a state that holds them. -/
noncomputable def kernelRun0_B (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S256x512 .f32) (harg7 : arg7.IsWhole) (arg8 : Memref sig .tc .vmem S256x2048 .f32) (harg8 : arg8.IsWhole) (arg9 : Memref sig .tc .vmem S256x128 .f32) (harg9 : arg9.IsWhole) (arg10 : Memref sig .tc .vmem S1x1024 .f32) (harg10 : arg10.IsWhole) (arg11 : Memref sig .tc .vmem S4x1024x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (arg17 : Memref sig .tc .vmem S32x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S4x256x1024 .bf16) (harg21 : arg21.IsWhole) (arg22 : Memref sig .tc .vmem S256x1024 .f32) (harg22 : arg22.IsWhole) (arg23 : Memref sig .tc .vmem S256x1024 .bf16) (harg23 : arg23.IsWhole) (arg24 : Memref sig .tc .vmem S256x2048 .bf16) (harg24 : arg24.IsWhole) (arg25 : Memref sig .tc .vmem S1024x256 .bf16) (harg25 : arg25.IsWhole) (arg26 : Memref sig .tc .vmem S1024x256 .bf16) (harg26 : arg26.IsWhole) (arg27 : Memref sig .tc .vmem S1x1024 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S4x128x128 .f32) (harg30 : arg30.IsWhole) (arg31 : Memref sig .tc .vmem S4x128x128 .f32) (harg31 : arg31.IsWhole) (arg32 : Memref sig .tc .vmem S32x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S32x512 .f32) (harg36 : arg36.IsWhole) (arg37 : Memref sig .tc .vmem S256x512 .f32) (harg37 : arg37.IsWhole) (arg38 : Memref sig .tc .vmem S256x512 .f32) (harg38 : arg38.IsWhole) (hc0 : ¬cond0_0 i)
    (x0 : Vec F S256x1024 .f32) (x1 : Vec F S256x1024 .bf16) (x2 : Vec F S256x1024 .f32) (x3 : Vec F S256x1024 .f32) (x4 : Vec F S32x512 .f32) (x5 : Vec F S32x512 .f32) (x6 : Vec F S256x512 .f32) (x7 : Vec F S256x2048 .f32) (x8 : Vec F S256x128 .f32) (x9 : Vec F S1x1024 .f32) (x10 : Vec F S4x1024x512 .bf16) (x11 : Vec F S1x512 .f32) (x12 : Vec F S1x512 .f32) (x13 : Vec F S4x128x128 .f32) (x14 : Vec F S4x128x128 .f32) (x15 : Vec F S4x128x128 .f32) (x16 : Vec F S32x512 .f32) (x17 : Vec F S1x512 .f32) (x18 : Vec F S1x512 .f32) (x19 : Vec F S1x512 .f32) (x20 : Vec F S4x256x1024 .bf16) (xo26 : Vec F S1x1024 .f32) (xo27 : Vec F S1x512 .f32) (xo28 : Vec F S1x512 .f32) (xo29 : Vec F S4x128x128 .f32) (xo30 : Vec F S4x128x128 .f32) (xo31 : Vec F S32x512 .f32) (xo32 : Vec F S1x512 .f32) (xo33 : Vec F S1x512 .f32) (xo34 : Vec F S1x512 .f32) (xs0 : Vec F S32x512 .f32) :
    Σ' (L21 : List (View.Piece (Elt F) S256x1024 .f32)), Σ' (L22 : List (View.Piece (Elt F) S256x1024 .bf16)), Σ' (L23 : List (View.Piece (Elt F) S256x2048 .bf16)), Σ' (L24 : List (View.Piece (Elt F) S1024x256 .bf16)), Σ' (L25 : List (View.Piece (Elt F) S1024x256 .bf16)), Σ' (L26 : List (View.Piece (Elt F) S1x1024 .f32)), Σ' (L27 : List (View.Piece (Elt F) S1x512 .f32)), Σ' (L28 : List (View.Piece (Elt F) S1x512 .f32)), Σ' (L29 : List (View.Piece (Elt F) S4x128x128 .f32)), Σ' (L30 : List (View.Piece (Elt F) S4x128x128 .f32)), Σ' (L31 : List (View.Piece (Elt F) S32x512 .f32)), Σ' (L32 : List (View.Piece (Elt F) S1x512 .f32)), Σ' (L33 : List (View.Piece (Elt F) S1x512 .f32)), Σ' (L34 : List (View.Piece (Elt F) S1x512 .f32)), Σ' (LS0 : List (View.Piece (Elt F) S32x512 .f32)), Σ' (LT1 : List (View.Piece (Elt F) S256x512 .f32)), { LT2 : List (View.Piece (Elt F) S256x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ owns (c : Thread nD τ) arg27 fullShare xo26 ∗ owns (c : Thread nD τ) arg28 fullShare xo27 ∗ owns (c : Thread nD τ) arg29 fullShare xo28 ∗ owns (c : Thread nD τ) arg30 fullShare xo29 ∗ owns (c : Thread nD τ) arg31 fullShare xo30 ∗ owns (c : Thread nD τ) arg32 fullShare xo31 ∗ owns (c : Thread nD τ) arg33 fullShare xo32 ∗ owns (c : Thread nD τ) arg34 fullShare xo33 ∗ owns (c : Thread nD τ) arg35 fullShare xo34 ∗ owns (c : Thread nD τ) arg36 fullShare xs0 ∗ (∃ d, owns (c : Thread nD τ) arg37 fullShare d) ∗ (∃ d, owns (c : Thread nD τ) arg38 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f L30) ∗ (arg32.view.loc (c : Thread nD τ) ↦[arg32.view.set]{fullShare} arg32.view.writes (Elt F) (harg32.unread xo31) L31) ∗ (∃ f, arg33.view.loc (c : Thread nD τ) ↦[arg33.view.set]{fullShare} arg33.view.writes (Elt F) f L32) ∗ (∃ f, arg34.view.loc (c : Thread nD τ) ↦[arg34.view.set]{fullShare} arg34.view.writes (Elt F) f L33) ∗ (∃ f, arg35.view.loc (c : Thread nD τ) ↦[arg35.view.set]{fullShare} arg35.view.writes (Elt F) f L34) ∗ (∃ f, arg36.view.loc (c : Thread nD τ) ↦[arg36.view.set]{fullShare} arg36.view.writes (Elt F) f LS0) ∗ (∃ f, arg37.view.loc (c : Thread nD τ) ↦[arg37.view.set]{fullShare} arg37.view.writes (Elt F) f LT1) ∗ (∃ f, arg38.view.loc (c : Thread nD τ) ↦[arg38.view.set]{fullShare} arg38.view.writes (Elt F) f LT2)) -∗ K ⟨⟩))
          ⊢ wp frame (wpE (defs₀ (F := F)) Variants.none c none) E (cc0_mix_bwd_l0 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38) K } := by
  refine ⟨?_, ?_, ?_, ?_, ?_, ?_, ?_, ?_, ?_, ?_, ?_, ?_, ?_, ?_, ?_, ?_, ?_, fun E K => ?run⟩
  case run =>
    simp only [cc0_mix_bwd_l0_eq_skeleton]; unfold cc0_mix_bwd_l0_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg27.eq_unread hf26; obtain rfl := harg28.eq_unread hf27; obtain rfl := harg29.eq_unread hf28; obtain rfl := harg30.eq_unread hf29; obtain rfl := harg31.eq_unread hf30; obtain rfl := harg32.eq_unread hf31; obtain rfl := harg33.eq_unread hf32; obtain rfl := harg34.eq_unread hf33; obtain rfl := harg35.eq_unread hf34; obtain rfl := harg36.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexact H31
    isplitl [H32]; · iexists _; iexact H32
    isplitl [H33]; · iexists _; iexact H33
    isplitl [H34]; · iexists _; iexact H34
    isplitl [HS0]; · iexists _; iexact HS0
    isplitl [HS1]; · iexists _; iexact HS1
    iexists _; iexact HS2

end Cert.KernelIdeal.Mix

end
-- ==== Proof.Mix.OutsA.lean ====
/- What the first grid point leaves in each output buffer: its stores cover the buffer, and their pieces are read back. -/
module

public import proofs.«01_k».proof.Proof.Mix.RunB

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S256x512 .f32) (harg7 : arg7.IsWhole) (arg8 : Memref sig .tc .vmem S256x2048 .f32) (harg8 : arg8.IsWhole) (arg9 : Memref sig .tc .vmem S256x128 .f32) (harg9 : arg9.IsWhole) (arg10 : Memref sig .tc .vmem S1x1024 .f32) (harg10 : arg10.IsWhole) (arg11 : Memref sig .tc .vmem S4x1024x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (arg17 : Memref sig .tc .vmem S32x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S4x256x1024 .bf16) (harg21 : arg21.IsWhole) (arg22 : Memref sig .tc .vmem S256x1024 .f32) (harg22 : arg22.IsWhole) (arg23 : Memref sig .tc .vmem S256x1024 .bf16) (harg23 : arg23.IsWhole) (arg24 : Memref sig .tc .vmem S256x2048 .bf16) (harg24 : arg24.IsWhole) (arg25 : Memref sig .tc .vmem S1024x256 .bf16) (harg25 : arg25.IsWhole) (arg26 : Memref sig .tc .vmem S1024x256 .bf16) (harg26 : arg26.IsWhole) (arg27 : Memref sig .tc .vmem S1x1024 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S4x128x128 .f32) (harg30 : arg30.IsWhole) (arg31 : Memref sig .tc .vmem S4x128x128 .f32) (harg31 : arg31.IsWhole) (arg32 : Memref sig .tc .vmem S32x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S32x512 .f32) (harg36 : arg36.IsWhole) (arg37 : Memref sig .tc .vmem S256x512 .f32) (harg37 : arg37.IsWhole) (arg38 : Memref sig .tc .vmem S256x512 .f32) (harg38 : arg38.IsWhole) (hc0 : cond0_0 i)
    (x0 : Vec F S256x1024 .f32) (x1 : Vec F S256x1024 .bf16) (x2 : Vec F S256x1024 .f32) (x3 : Vec F S256x1024 .f32) (x4 : Vec F S32x512 .f32) (x5 : Vec F S32x512 .f32) (x6 : Vec F S256x512 .f32) (x7 : Vec F S256x2048 .f32) (x8 : Vec F S256x128 .f32) (x9 : Vec F S1x1024 .f32) (x10 : Vec F S4x1024x512 .bf16) (x11 : Vec F S1x512 .f32) (x12 : Vec F S1x512 .f32) (x13 : Vec F S4x128x128 .f32) (x14 : Vec F S4x128x128 .f32) (x15 : Vec F S4x128x128 .f32) (x16 : Vec F S32x512 .f32) (x17 : Vec F S1x512 .f32) (x18 : Vec F S1x512 .f32) (x19 : Vec F S1x512 .f32) (x20 : Vec F S4x256x1024 .bf16)

/-- The stores of case A cover this output buffer. -/
theorem cover0_A_21 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).1 S256x1024.size (by sl_kernel_rfl) y

/-- What case A leaves in output 21's staging buffer: its pieces read back over junk. -/
def out0_A_21 : Vec F S256x1024 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).1)

/-- The stores of case A cover this output buffer. -/
theorem cover0_A_22 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.1 S256x1024.size (by sl_kernel_rfl) y

/-- What case A leaves in output 22's staging buffer: its pieces read back over junk. -/
def out0_A_22 : Vec F S256x1024 .bf16 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.1)

/-- The stores of case A cover this output buffer. -/
theorem cover0_A_23 (y : S256x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.1 S256x512.size (by sl_kernel_rfl) y

/-- What case A leaves in output 23's staging buffer: its pieces read back over junk. -/
def out0_A_23 : Vec F S256x2048 .bf16 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.1)

/-- The stores of case A cover this output buffer. -/
theorem cover0_A_24 (y : S1024x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.1 S1024x256.size (by sl_kernel_rfl) y

/-- What case A leaves in output 24's staging buffer: its pieces read back over junk. -/
def out0_A_24 : Vec F S1024x256 .bf16 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.1)

/-- The stores of case A cover this output buffer. -/
theorem cover0_A_25 (y : S1024x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.1 S512x256.size (by sl_kernel_rfl) y

/-- What case A leaves in output 25's staging buffer: its pieces read back over junk. -/
def out0_A_25 : Vec F S1024x256 .bf16 :=
  VO0_25.read (Elt F) (VO0_25.writes (Elt F) VO0_25.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.1)

/-- The stores of case A cover this output buffer. -/
theorem cover0_A_26 (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.1 S1x1024.size (by sl_kernel_rfl) y

/-- What case A leaves in output 26's staging buffer: its pieces read back over junk. -/
def out0_A_26 : Vec F S1x1024 .f32 :=
  VO0_26.read (Elt F) (VO0_26.writes (Elt F) VO0_26.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.1)

/-- The stores of case A cover this output buffer. -/
theorem cover0_A_27 (y : S1x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.1 S1x512.size (by sl_kernel_rfl) y

/-- What case A leaves in output 27's staging buffer: its pieces read back over junk. -/
def out0_A_27 : Vec F S1x512 .f32 :=
  VO0_27.read (Elt F) (VO0_27.writes (Elt F) VO0_27.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.1)

/-- The stores of case A cover this output buffer. -/
theorem cover0_A_28 (y : S1x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.1 S1x512.size (by sl_kernel_rfl) y

/-- What case A leaves in output 28's staging buffer: its pieces read back over junk. -/
def out0_A_28 : Vec F S1x512 .f32 :=
  VO0_28.read (Elt F) (VO0_28.writes (Elt F) VO0_28.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.1)

/-- The stores of case A cover this output buffer. -/
theorem cover0_A_29 (y : S4x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.1 ![1, 128, 128] (by sl_kernel_rfl) y

/-- What case A leaves in output 29's staging buffer: its pieces read back over junk. -/
def out0_A_29 : Vec F S4x128x128 .f32 :=
  VO0_29.read (Elt F) (VO0_29.writes (Elt F) VO0_29.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.1)

/-- The stores of case A cover this output buffer. -/
theorem cover0_A_30 (y : S4x128x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.1 ![1, 128, 128] (by sl_kernel_rfl) y

/-- What case A leaves in output 30's staging buffer: its pieces read back over junk. -/
def out0_A_30 : Vec F S4x128x128 .f32 :=
  VO0_30.read (Elt F) (VO0_30.writes (Elt F) VO0_30.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.1)

/-- The stores of case A cover this output buffer. -/
theorem cover0_A_31 (y : S32x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.2.1 ![1, 512] (by sl_kernel_rfl) y

/-- What case A leaves in output 31's staging buffer: its pieces read back over junk. -/
def out0_A_31 : Vec F S32x512 .f32 :=
  VO0_31.read (Elt F) (VO0_31.writes (Elt F) VO0_31.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.2.1)

/-- The stores of case A cover this output buffer. -/
theorem cover0_A_32 (y : S1x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.2.2.1 S1x512.size (by sl_kernel_rfl) y

/-- What case A leaves in output 32's staging buffer: its pieces read back over junk. -/
def out0_A_32 : Vec F S1x512 .f32 :=
  VO0_32.read (Elt F) (VO0_32.writes (Elt F) VO0_32.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.2.2.1)

/-- The stores of case A cover this output buffer. -/
theorem cover0_A_33 (y : S1x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.2.2.2.1 S1x512.size (by sl_kernel_rfl) y

/-- What case A leaves in output 33's staging buffer: its pieces read back over junk. -/
def out0_A_33 : Vec F S1x512 .f32 :=
  VO0_33.read (Elt F) (VO0_33.writes (Elt F) VO0_33.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.2.2.2.1)

/-- The stores of case A cover this output buffer. -/
theorem cover0_A_34 (y : S1x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.2.2.2.2.1 S1x512.size (by sl_kernel_rfl) y

/-- What case A leaves in output 34's staging buffer: its pieces read back over junk. -/
def out0_A_34 : Vec F S1x512 .f32 :=
  VO0_34.read (Elt F) (VO0_34.writes (Elt F) VO0_34.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.2.2.2.2.1)

/-- The stores of case A cover this scratch buffer. -/
theorem scover0_A_0 (y : S32x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.2.2.2.2.2.1 S32x512.size (by sl_kernel_rfl) y

/-- What case A leaves in scratch `arg36`: its pieces read back over junk. -/
def sout0_A_0 : Vec F S32x512 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20).2.2.2.2.2.2.2.2.2.2.2.2.2.2.1)

/-- What case A leaves in the output buffers, in window order, and in the carried scratch. -/
def tupA : Vec F S256x1024 .f32 × Vec F S256x1024 .bf16 × Vec F S256x2048 .bf16 × Vec F S1024x256 .bf16 × Vec F S1024x256 .bf16 × Vec F S1x1024 .f32 × Vec F S1x512 .f32 × Vec F S1x512 .f32 × Vec F S4x128x128 .f32 × Vec F S4x128x128 .f32 × Vec F S32x512 .f32 × Vec F S1x512 .f32 × Vec F S1x512 .f32 × Vec F S1x512 .f32 × Vec F S32x512 .f32 :=
  (out0_A_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20,
   out0_A_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20,
   out0_A_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20,
   out0_A_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20,
   out0_A_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20,
   out0_A_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20,
   out0_A_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20,
   out0_A_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20,
   out0_A_29 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20,
   out0_A_30 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20,
   out0_A_31 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20,
   out0_A_32 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20,
   out0_A_33 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20,
   out0_A_34 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20,
   sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20)

end

end Cert.KernelIdeal.Mix

end
-- ==== Proof.Mix.OutsB.lean ====
/- What a later grid point leaves in each output buffer: its stores cover the buffer, and their pieces are read back. -/
module

public import proofs.«01_k».proof.Proof.Mix.RunB

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section

variable (c : Dev nD) (i : grid0.Coords) (arg1 : Memref sig .tc .vmem S256x1024 .f32) (harg1 : arg1.IsWhole) (arg2 : Memref sig .tc .vmem S256x1024 .bf16) (harg2 : arg2.IsWhole) (arg3 : Memref sig .tc .vmem S256x1024 .f32) (harg3 : arg3.IsWhole) (arg4 : Memref sig .tc .vmem S256x1024 .f32) (harg4 : arg4.IsWhole) (arg5 : Memref sig .tc .vmem S32x512 .f32) (harg5 : arg5.IsWhole) (arg6 : Memref sig .tc .vmem S32x512 .f32) (harg6 : arg6.IsWhole) (arg7 : Memref sig .tc .vmem S256x512 .f32) (harg7 : arg7.IsWhole) (arg8 : Memref sig .tc .vmem S256x2048 .f32) (harg8 : arg8.IsWhole) (arg9 : Memref sig .tc .vmem S256x128 .f32) (harg9 : arg9.IsWhole) (arg10 : Memref sig .tc .vmem S1x1024 .f32) (harg10 : arg10.IsWhole) (arg11 : Memref sig .tc .vmem S4x1024x512 .bf16) (harg11 : arg11.IsWhole) (arg12 : Memref sig .tc .vmem S1x512 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S4x128x128 .f32) (harg15 : arg15.IsWhole) (arg16 : Memref sig .tc .vmem S4x128x128 .f32) (harg16 : arg16.IsWhole) (arg17 : Memref sig .tc .vmem S32x512 .f32) (harg17 : arg17.IsWhole) (arg18 : Memref sig .tc .vmem S1x512 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S4x256x1024 .bf16) (harg21 : arg21.IsWhole) (arg22 : Memref sig .tc .vmem S256x1024 .f32) (harg22 : arg22.IsWhole) (arg23 : Memref sig .tc .vmem S256x1024 .bf16) (harg23 : arg23.IsWhole) (arg24 : Memref sig .tc .vmem S256x2048 .bf16) (harg24 : arg24.IsWhole) (arg25 : Memref sig .tc .vmem S1024x256 .bf16) (harg25 : arg25.IsWhole) (arg26 : Memref sig .tc .vmem S1024x256 .bf16) (harg26 : arg26.IsWhole) (arg27 : Memref sig .tc .vmem S1x1024 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S4x128x128 .f32) (harg30 : arg30.IsWhole) (arg31 : Memref sig .tc .vmem S4x128x128 .f32) (harg31 : arg31.IsWhole) (arg32 : Memref sig .tc .vmem S32x512 .f32) (harg32 : arg32.IsWhole) (arg33 : Memref sig .tc .vmem S1x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S32x512 .f32) (harg36 : arg36.IsWhole) (arg37 : Memref sig .tc .vmem S256x512 .f32) (harg37 : arg37.IsWhole) (arg38 : Memref sig .tc .vmem S256x512 .f32) (harg38 : arg38.IsWhole) (hc0 : ¬cond0_0 i)
    (x0 : Vec F S256x1024 .f32) (x1 : Vec F S256x1024 .bf16) (x2 : Vec F S256x1024 .f32) (x3 : Vec F S256x1024 .f32) (x4 : Vec F S32x512 .f32) (x5 : Vec F S32x512 .f32) (x6 : Vec F S256x512 .f32) (x7 : Vec F S256x2048 .f32) (x8 : Vec F S256x128 .f32) (x9 : Vec F S1x1024 .f32) (x10 : Vec F S4x1024x512 .bf16) (x11 : Vec F S1x512 .f32) (x12 : Vec F S1x512 .f32) (x13 : Vec F S4x128x128 .f32) (x14 : Vec F S4x128x128 .f32) (x15 : Vec F S4x128x128 .f32) (x16 : Vec F S32x512 .f32) (x17 : Vec F S1x512 .f32) (x18 : Vec F S1x512 .f32) (x19 : Vec F S1x512 .f32) (x20 : Vec F S4x256x1024 .bf16) (xo26 : Vec F S1x1024 .f32) (xo27 : Vec F S1x512 .f32) (xo28 : Vec F S1x512 .f32) (xo29 : Vec F S4x128x128 .f32) (xo30 : Vec F S4x128x128 .f32) (xo31 : Vec F S32x512 .f32) (xo32 : Vec F S1x512 .f32) (xo33 : Vec F S1x512 .f32) (xo34 : Vec F S1x512 .f32) (xs0 : Vec F S32x512 .f32)

/-- The stores of case B cover this output buffer. -/
theorem cover0_B_21 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).1 S256x1024.size (by sl_kernel_rfl) y

/-- What case B leaves in output 21's staging buffer: its pieces read back over junk. -/
def out0_B_21 : Vec F S256x1024 .f32 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).1)

/-- The stores of case B cover this output buffer. -/
theorem cover0_B_22 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.1 S256x1024.size (by sl_kernel_rfl) y

/-- What case B leaves in output 22's staging buffer: its pieces read back over junk. -/
def out0_B_22 : Vec F S256x1024 .bf16 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.1)

/-- The stores of case B cover this output buffer. -/
theorem cover0_B_23 (y : S256x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.1 S256x512.size (by sl_kernel_rfl) y

/-- What case B leaves in output 23's staging buffer: its pieces read back over junk. -/
def out0_B_23 : Vec F S256x2048 .bf16 :=
  VO0_23.read (Elt F) (VO0_23.writes (Elt F) VO0_23.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.1)

/-- The stores of case B cover this output buffer. -/
theorem cover0_B_24 (y : S1024x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.1 S1024x256.size (by sl_kernel_rfl) y

/-- What case B leaves in output 24's staging buffer: its pieces read back over junk. -/
def out0_B_24 : Vec F S1024x256 .bf16 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.1)

/-- The stores of case B cover this output buffer. -/
theorem cover0_B_25 (y : S1024x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.1 S512x256.size (by sl_kernel_rfl) y

/-- What case B leaves in output 25's staging buffer: its pieces read back over junk. -/
def out0_B_25 : Vec F S1024x256 .bf16 :=
  VO0_25.read (Elt F) (VO0_25.writes (Elt F) VO0_25.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.1)

/-- The stores of case B cover this output buffer. -/
theorem cover0_B_26 (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.1 S1x1024.size (by sl_kernel_rfl) y

/-- What case B leaves in output 26's staging buffer: its pieces read back over junk. -/
def out0_B_26 : Vec F S1x1024 .f32 :=
  VO0_26.read (Elt F) (VO0_26.writes (Elt F) VO0_26.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.1)

/-- The stores of case B cover this output buffer. -/
theorem cover0_B_27 (y : S1x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.1 S1x512.size (by sl_kernel_rfl) y

/-- What case B leaves in output 27's staging buffer: its pieces read back over junk. -/
def out0_B_27 : Vec F S1x512 .f32 :=
  VO0_27.read (Elt F) (VO0_27.writes (Elt F) VO0_27.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.1)

/-- The stores of case B cover this output buffer. -/
theorem cover0_B_28 (y : S1x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.1 S1x512.size (by sl_kernel_rfl) y

/-- What case B leaves in output 28's staging buffer: its pieces read back over junk. -/
def out0_B_28 : Vec F S1x512 .f32 :=
  VO0_28.read (Elt F) (VO0_28.writes (Elt F) VO0_28.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.1)

/-- The stores of case B cover this output buffer. -/
theorem cover0_B_29 (y : S4x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.1 S1x128x128.size (by sl_kernel_rfl) y

/-- What case B leaves in output 29's staging buffer: its pieces read back over junk. -/
def out0_B_29 : Vec F S4x128x128 .f32 :=
  VO0_29.read (Elt F) (VO0_29.writes (Elt F) VO0_29.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.1)

/-- The stores of case B cover this output buffer. -/
theorem cover0_B_30 (y : S4x128x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.1 S1x128x128.size (by sl_kernel_rfl) y

/-- What case B leaves in output 30's staging buffer: its pieces read back over junk. -/
def out0_B_30 : Vec F S4x128x128 .f32 :=
  VO0_30.read (Elt F) (VO0_30.writes (Elt F) VO0_30.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.1)

/-- What case B leaves in output 31's staging buffer: its stores read back over what the point before left there (they do not cover the block). -/
def out0_B_31 : Vec F S32x512 .f32 :=
  arg32.view.read (Elt F) (arg32.view.writes (Elt F) (harg32.unread xo31) (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.2.1)

/-- The stores of case B cover this output buffer. -/
theorem cover0_B_32 (y : S1x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.2.2.1 S1x512.size (by sl_kernel_rfl) y

/-- What case B leaves in output 32's staging buffer: its pieces read back over junk. -/
def out0_B_32 : Vec F S1x512 .f32 :=
  VO0_32.read (Elt F) (VO0_32.writes (Elt F) VO0_32.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.2.2.1)

/-- The stores of case B cover this output buffer. -/
theorem cover0_B_33 (y : S1x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.2.2.2.1 S1x512.size (by sl_kernel_rfl) y

/-- What case B leaves in output 33's staging buffer: its pieces read back over junk. -/
def out0_B_33 : Vec F S1x512 .f32 :=
  VO0_33.read (Elt F) (VO0_33.writes (Elt F) VO0_33.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.2.2.2.1)

/-- The stores of case B cover this output buffer. -/
theorem cover0_B_34 (y : S1x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.2.2.2.2.1 S1x512.size (by sl_kernel_rfl) y

/-- What case B leaves in output 34's staging buffer: its pieces read back over junk. -/
def out0_B_34 : Vec F S1x512 .f32 :=
  VO0_34.read (Elt F) (VO0_34.writes (Elt F) VO0_34.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.2.2.2.2.1)

/-- The stores of case B cover this scratch buffer. -/
theorem scover0_B_0 (y : S32x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.2.2.2.2.2.1 S32x512.size (by sl_kernel_rfl) y

/-- What case B leaves in scratch `arg36`: its pieces read back over junk. -/
def sout0_B_0 : Vec F S32x512 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0).2.2.2.2.2.2.2.2.2.2.2.2.2.2.1)

/-- What case B leaves in the output buffers, in window order, and in the carried scratch. -/
def tupB : Vec F S256x1024 .f32 × Vec F S256x1024 .bf16 × Vec F S256x2048 .bf16 × Vec F S1024x256 .bf16 × Vec F S1024x256 .bf16 × Vec F S1x1024 .f32 × Vec F S1x512 .f32 × Vec F S1x512 .f32 × Vec F S4x128x128 .f32 × Vec F S4x128x128 .f32 × Vec F S32x512 .f32 × Vec F S1x512 .f32 × Vec F S1x512 .f32 × Vec F S1x512 .f32 × Vec F S32x512 .f32 :=
  (out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0,
   out0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0,
   out0_B_23 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0,
   out0_B_24 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0,
   out0_B_25 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0,
   out0_B_26 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0,
   out0_B_27 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0,
   out0_B_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0,
   out0_B_29 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0,
   out0_B_30 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0,
   out0_B_31 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0,
   out0_B_32 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0,
   out0_B_33 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0,
   out0_B_34 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0,
   sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 hc0 x0 x1 x2 x3 x4 x5 x6 x7 x8 x9 x10 x11 x12 x13 x14 x15 x16 x17 x18 x19 x20 xo26 xo27 xo28 xo29 xo30 xo31 xo32 xo33 xo34 xs0)

end

end Cert.KernelIdeal.Mix

end
-- ==== Proof.Mix.Dat.lean ====
/- The proof data of the backward mixer: what every buffer holds after each grid point. -/
module

public import proofs.«01_k».proof.Proof.Mix.OutsA
public import proofs.«01_k».proof.Proof.Mix.OutsB

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .f32 × Vec F S256x1024 .bf16 × Vec F S256x2048 .bf16 × Vec F S1024x256 .bf16 × Vec F S1024x256 .bf16 × Vec F S1x1024 .f32 × Vec F S1x512 .f32 × Vec F S1x512 .f32 × Vec F S4x128x128 .f32 × Vec F S4x128x128 .f32 × Vec F S32x512 .f32 × Vec F S1x512 .f32 × Vec F S1x512 .f32 × Vec F S1x512 .f32 × Vec F S32x512 .f32
  | 0, hn => tupA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) (ms0_29 ⟨0, hn⟩) (hs0_29 ⟨0, hn⟩) (ms0_30 ⟨0, hn⟩) (hs0_30 ⟨0, hn⟩) (ms0_31 ⟨0, hn⟩) (hs0_31 ⟨0, hn⟩) (ms0_32 ⟨0, hn⟩) (hs0_32 ⟨0, hn⟩) (ms0_33 ⟨0, hn⟩) (hs0_33 ⟨0, hn⟩) (ms0_34 ⟨0, hn⟩) (hs0_34 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩)
  | n + 1, hn =>
    if h0 : (n + 1) % 16 = 0 then
      tupA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) (ms0_30 ⟨n + 1, hn⟩) (hs0_30 ⟨n + 1, hn⟩) (ms0_31 ⟨n + 1, hn⟩) (hs0_31 ⟨n + 1, hn⟩) (ms0_32 ⟨n + 1, hn⟩) (hs0_32 ⟨n + 1, hn⟩) (ms0_33 ⟨n + 1, hn⟩) (hs0_33 ⟨n + 1, hn⟩) (ms0_34 ⟨n + 1, hn⟩) (hs0_34 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩)
    else
      tupB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) (ms0_30 ⟨n + 1, hn⟩) (hs0_30 ⟨n + 1, hn⟩) (ms0_31 ⟨n + 1, hn⟩) (hs0_31 ⟨n + 1, hn⟩) (ms0_32 ⟨n + 1, hn⟩) (hs0_32 ⟨n + 1, hn⟩) (ms0_33 ⟨n + 1, hn⟩) (hs0_33 ⟨n + 1, hn⟩) (ms0_34 ⟨n + 1, hn⟩) (hs0_34 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2.1 (outsAt0 c n (Nat.lt_of_succ_lt hn)).2.2.2.2.2.2.2.2.2.2.2.1 (outsAt0 c n (Nat.lt_of_succ_lt hn)).2.2.2.2.2.2.2.2.2.2.2.2.1 (outsAt0 c n (Nat.lt_of_succ_lt hn)).2.2.2.2.2.2.2.2.2.2.2.2.2.1 (outsAt0 c n (Nat.lt_of_succ_lt hn)).2.2.2.2.2.2.2.2.2.2.2.2.2.2

/-- `outsAt0` at a point of case A: that case's contents. -/
theorem outsAt0_A (c : Dev nD) (t : Fin cfg0.N) (h0 : t.val % 16 = 0) :
    outsAt0 m c t.val t.isLt = tupA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 16 = 0) :
    outsAt0 m c t.val t.isLt = tupB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2.1 (outsAt0 m c (t.val - 1) (Nat.lt_of_le_of_lt (Nat.sub_le _ _) t.isLt)).2.2.2.2.2.2.2.2.2.2.1 (outsAt0 m c (t.val - 1) (Nat.lt_of_le_of_lt (Nat.sub_le _ _) t.isLt)).2.2.2.2.2.2.2.2.2.2.2.1 (outsAt0 m c (t.val - 1) (Nat.lt_of_le_of_lt (Nat.sub_le _ _) t.isLt)).2.2.2.2.2.2.2.2.2.2.2.2.1 (outsAt0 m c (t.val - 1) (Nat.lt_of_le_of_lt (Nat.sub_le _ _) t.isLt)).2.2.2.2.2.2.2.2.2.2.2.2.2.1 (outsAt0 m c (t.val - 1) (Nat.lt_of_le_of_lt (Nat.sub_le _ _) t.isLt)).2.2.2.2.2.2.2.2.2.2.2.2.2.2 := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.2.2.2.2.2) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.2.2.2.2.2.2.2.2) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.2.2.2.2) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (outsAt0 m c t.val t.isLt).1
    | ⟨22, _⟩ => (outsAt0 m c t.val t.isLt).2.1
    | ⟨23, _⟩ => (outsAt0 m c t.val t.isLt).2.2.1
    | ⟨24, _⟩ => (outsAt0 m c t.val t.isLt).2.2.2.1
    | ⟨25, _⟩ => (outsAt0 m c t.val t.isLt).2.2.2.2.1
    | ⟨26, _⟩ => (outsAt0 m c t.val t.isLt).2.2.2.2.2.1
    | ⟨27, _⟩ => (outsAt0 m c t.val t.isLt).2.2.2.2.2.2.1
    | ⟨28, _⟩ => (outsAt0 m c t.val t.isLt).2.2.2.2.2.2.2.1
    | ⟨29, _⟩ => (outsAt0 m c t.val t.isLt).2.2.2.2.2.2.2.2.1
    | ⟨30, _⟩ => (outsAt0 m c t.val t.isLt).2.2.2.2.2.2.2.2.2.1
    | ⟨31, _⟩ => (outsAt0 m c t.val t.isLt).2.2.2.2.2.2.2.2.2.2.1
    | ⟨32, _⟩ => (outsAt0 m c t.val t.isLt).2.2.2.2.2.2.2.2.2.2.2.1
    | ⟨33, _⟩ => (outsAt0 m c t.val t.isLt).2.2.2.2.2.2.2.2.2.2.2.2.1
    | ⟨34, _⟩ => (outsAt0 m c t.val t.isLt).2.2.2.2.2.2.2.2.2.2.2.2.2.1
    | ⟨_ + 35, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = (outsAt0 m c t.val t.isLt).1 := by dsimp only [dats]
theorem after0_22 (c : Dev nD) (t : Fin cfg0.N) : (dats m 0 c).after 22 t = (outsAt0 m c t.val t.isLt).2.1 := by dsimp only [dats]
theorem after0_23 (c : Dev nD) (t : Fin cfg0.N) : (dats m 0 c).after 23 t = (outsAt0 m c t.val t.isLt).2.2.1 := by dsimp only [dats]
theorem after0_24 (c : Dev nD) (t : Fin cfg0.N) : (dats m 0 c).after 24 t = (outsAt0 m c t.val t.isLt).2.2.2.1 := by dsimp only [dats]
theorem after0_25 (c : Dev nD) (t : Fin cfg0.N) : (dats m 0 c).after 25 t = (outsAt0 m c t.val t.isLt).2.2.2.2.1 := by dsimp only [dats]
theorem after0_26 (c : Dev nD) (t : Fin cfg0.N) : (dats m 0 c).after 26 t = (outsAt0 m c t.val t.isLt).2.2.2.2.2.1 := by dsimp only [dats]
theorem after0_27 (c : Dev nD) (t : Fin cfg0.N) : (dats m 0 c).after 27 t = (outsAt0 m c t.val t.isLt).2.2.2.2.2.2.1 := by dsimp only [dats]
theorem after0_28 (c : Dev nD) (t : Fin cfg0.N) : (dats m 0 c).after 28 t = (outsAt0 m c t.val t.isLt).2.2.2.2.2.2.2.1 := by dsimp only [dats]
theorem after0_29 (c : Dev nD) (t : Fin cfg0.N) : (dats m 0 c).after 29 t = (outsAt0 m c t.val t.isLt).2.2.2.2.2.2.2.2.1 := by dsimp only [dats]
theorem after0_30 (c : Dev nD) (t : Fin cfg0.N) : (dats m 0 c).after 30 t = (outsAt0 m c t.val t.isLt).2.2.2.2.2.2.2.2.2.1 := by dsimp only [dats]
theorem after0_31 (c : Dev nD) (t : Fin cfg0.N) : (dats m 0 c).after 31 t = (outsAt0 m c t.val t.isLt).2.2.2.2.2.2.2.2.2.2.1 := by dsimp only [dats]
theorem after0_32 (c : Dev nD) (t : Fin cfg0.N) : (dats m 0 c).after 32 t = (outsAt0 m c t.val t.isLt).2.2.2.2.2.2.2.2.2.2.2.1 := by dsimp only [dats]
theorem after0_33 (c : Dev nD) (t : Fin cfg0.N) : (dats m 0 c).after 33 t = (outsAt0 m c t.val t.isLt).2.2.2.2.2.2.2.2.2.2.2.2.1 := by dsimp only [dats]
theorem after0_34 (c : Dev nD) (t : Fin cfg0.N) : (dats m 0 c).after 34 t = (outsAt0 m c t.val t.isLt).2.2.2.2.2.2.2.2.2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
/-- At a point of case B output 26's current staging buffer holds what the body left at the point before: the point is
    not the first, the buffer was not written back between (`flush0_26`), the window is live and uncut (Lib/Pipeline/Frame.lean
    `Dat.before_out_kept`). -/
theorem before0_26_B (c : Dev nD) (t : Fin cfg0.N) (h0 : ¬t.val % 16 = 0) (d) :
    (dats m 0 c).before 26 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 26 rfl t (by omega) (Bool.eq_false_iff.mpr fun h => by have := (flush0_26 _).mp h; dsimp only at this; omega)
    (fun _ => rfl) (fun _ _ => rfl)]
  dsimp only [dats]
/-- At a point of case B output 27's current staging buffer holds what the body left at the point before: the point is
    not the first, the buffer was not written back between (`flush0_27`), the window is live and uncut (Lib/Pipeline/Frame.lean
    `Dat.before_out_kept`). -/
theorem before0_27_B (c : Dev nD) (t : Fin cfg0.N) (h0 : ¬t.val % 16 = 0) (d) :
    (dats m 0 c).before 27 t d = (outsAt0 m c (t.val - 1) (Nat.lt_of_le_of_lt (Nat.sub_le _ _) t.isLt)).2.2.2.2.2.2.1 := by
  have hN : t.val < 16 := lt_of_lt_of_eq t.isLt (show cfg0.N = 16 from N_0)
  rw [Dat.before_out_kept _ 27 rfl t (by omega) (Bool.eq_false_iff.mpr fun h => by have := (flush0_27 _).mp h; dsimp only at this; omega)
    (fun _ => rfl) (fun _ _ => rfl)]
  dsimp only [dats]
/-- At a point of case B output 28's current staging buffer holds what the body left at the point before: the point is
    not the first, the buffer was not written back between (`flush0_28`), the window is live and uncut (Lib/Pipeline/Frame.lean
    `Dat.before_out_kept`). -/
theorem before0_28_B (c : Dev nD) (t : Fin cfg0.N) (h0 : ¬t.val % 16 = 0) (d) :
    (dats m 0 c).before 28 t d = (outsAt0 m c (t.val - 1) (Nat.lt_of_le_of_lt (Nat.sub_le _ _) t.isLt)).2.2.2.2.2.2.2.1 := by
  have hN : t.val < 16 := lt_of_lt_of_eq t.isLt (show cfg0.N = 16 from N_0)
  rw [Dat.before_out_kept _ 28 rfl t (by omega) (Bool.eq_false_iff.mpr fun h => by have := (flush0_28 _).mp h; dsimp only at this; omega)
    (fun _ => rfl) (fun _ _ => rfl)]
  dsimp only [dats]
/-- At a point of case B output 29's current staging buffer holds what the body left at the point before: the point is
    not the first, the buffer was not written back between (`flush0_29`), the window is live and uncut (Lib/Pipeline/Frame.lean
    `Dat.before_out_kept`). -/
theorem before0_29_B (c : Dev nD) (t : Fin cfg0.N) (h0 : ¬t.val % 16 = 0) (d) :
    (dats m 0 c).before 29 t d = (outsAt0 m c (t.val - 1) (Nat.lt_of_le_of_lt (Nat.sub_le _ _) t.isLt)).2.2.2.2.2.2.2.2.1 := by
  have hN : t.val < 16 := lt_of_lt_of_eq t.isLt (show cfg0.N = 16 from N_0)
  rw [Dat.before_out_kept _ 29 rfl t (by omega) (Bool.eq_false_iff.mpr fun h => by have := (flush0_29 _).mp h; dsimp only at this; omega)
    (fun _ => rfl) (fun _ _ => rfl)]
  dsimp only [dats]
/-- At a point of case B output 30's current staging buffer holds what the body left at the point before: the point is
    not the first, the buffer was not written back between (`flush0_30`), the window is live and uncut (Lib/Pipeline/Frame.lean
    `Dat.before_out_kept`). -/
theorem before0_30_B (c : Dev nD) (t : Fin cfg0.N) (h0 : ¬t.val % 16 = 0) (d) :
    (dats m 0 c).before 30 t d = (outsAt0 m c (t.val - 1) (Nat.lt_of_le_of_lt (Nat.sub_le _ _) t.isLt)).2.2.2.2.2.2.2.2.2.1 := by
  have hN : t.val < 16 := lt_of_lt_of_eq t.isLt (show cfg0.N = 16 from N_0)
  rw [Dat.before_out_kept _ 30 rfl t (by omega) (Bool.eq_false_iff.mpr fun h => by have := (flush0_30 _).mp h; dsimp only at this; omega)
    (fun _ => rfl) (fun _ _ => rfl)]
  dsimp only [dats]
/-- At a point of case B output 31's current staging buffer holds what the body left at the point before: the point is
    not the first, the buffer was not written back between (`flush0_31`), the window is live and uncut (Lib/Pipeline/Frame.lean
    `Dat.before_out_kept`). -/
theorem before0_31_B (c : Dev nD) (t : Fin cfg0.N) (h0 : ¬t.val % 16 = 0) (d) :
    (dats m 0 c).before 31 t d = (outsAt0 m c (t.val - 1) (Nat.lt_of_le_of_lt (Nat.sub_le _ _) t.isLt)).2.2.2.2.2.2.2.2.2.2.1 := by
  have hN : t.val < 16 := lt_of_lt_of_eq t.isLt (show cfg0.N = 16 from N_0)
  rw [Dat.before_out_kept _ 31 rfl t (by omega) (Bool.eq_false_iff.mpr fun h => by have := (flush0_31 _).mp h; dsimp only at this; omega)
    (fun _ => rfl) (fun _ _ => rfl)]
  dsimp only [dats]
/-- At a point of case B output 32's current staging buffer holds what the body left at the point before: the point is
    not the first, the buffer was not written back between (`flush0_32`), the window is live and uncut (Lib/Pipeline/Frame.lean
    `Dat.before_out_kept`). -/
theorem before0_32_B (c : Dev nD) (t : Fin cfg0.N) (h0 : ¬t.val % 16 = 0) (d) :
    (dats m 0 c).before 32 t d = (outsAt0 m c (t.val - 1) (Nat.lt_of_le_of_lt (Nat.sub_le _ _) t.isLt)).2.2.2.2.2.2.2.2.2.2.2.1 := by
  have hN : t.val < 16 := lt_of_lt_of_eq t.isLt (show cfg0.N = 16 from N_0)
  rw [Dat.before_out_kept _ 32 rfl t (by omega) (Bool.eq_false_iff.mpr fun h => by have := (flush0_32 _).mp h; dsimp only at this; omega)
    (fun _ => rfl) (fun _ _ => rfl)]
  dsimp only [dats]
/-- At a point of case B output 33's current staging buffer holds what the body left at the point before: the point is
    not the first, the buffer was not written back between (`flush0_33`), the window is live and uncut (Lib/Pipeline/Frame.lean
    `Dat.before_out_kept`). -/
theorem before0_33_B (c : Dev nD) (t : Fin cfg0.N) (h0 : ¬t.val % 16 = 0) (d) :
    (dats m 0 c).before 33 t d = (outsAt0 m c (t.val - 1) (Nat.lt_of_le_of_lt (Nat.sub_le _ _) t.isLt)).2.2.2.2.2.2.2.2.2.2.2.2.1 := by
  have hN : t.val < 16 := lt_of_lt_of_eq t.isLt (show cfg0.N = 16 from N_0)
  rw [Dat.before_out_kept _ 33 rfl t (by omega) (Bool.eq_false_iff.mpr fun h => by have := (flush0_33 _).mp h; dsimp only at this; omega)
    (fun _ => rfl) (fun _ _ => rfl)]
  dsimp only [dats]
/-- At a point of case B output 34's current staging buffer holds what the body left at the point before: the point is
    not the first, the buffer was not written back between (`flush0_34`), the window is live and uncut (Lib/Pipeline/Frame.lean
    `Dat.before_out_kept`). -/
theorem before0_34_B (c : Dev nD) (t : Fin cfg0.N) (h0 : ¬t.val % 16 = 0) (d) :
    (dats m 0 c).before 34 t d = (outsAt0 m c (t.val - 1) (Nat.lt_of_le_of_lt (Nat.sub_le _ _) t.isLt)).2.2.2.2.2.2.2.2.2.2.2.2.2.1 := by
  have hN : t.val < 16 := lt_of_lt_of_eq t.isLt (show cfg0.N = 16 from N_0)
  rw [Dat.before_out_kept _ 34 rfl t (by omega) (Bool.eq_false_iff.mpr fun h => by have := (flush0_34 _).mp h; dsimp only at this; omega)
    (fun _ => rfl) (fun _ _ => rfl)]
  dsimp only [dats]

end Cert.KernelIdeal.Mix

end
-- ==== Proof.Stage.lean ====
/- The stages of the reference over one bundle of its inputs, each by the stages before it. -/
module

public import proofs.«01_k».proof.Proof.Gen.ReferenceIdeal.Read

@[expose] public section

set_option maxRecDepth 16384

noncomputable section

namespace Cert.ReferenceIdeal

open Idealize.ShloMosaic Idealize.ShloMosaic.TcCoe Idealize.SL.Sem Cert.ReferenceIdeal.Gen

/-- The thirteen inputs of the mixer's backward pass. -/
structure In where
  x0 : FVec Ideal S4096x1024 .f32
  x1 : FVec Ideal S1024 .f32
  x2 : FVec Ideal S1024x2048 .f32
  x3 : FVec Ideal S512 .f32
  x4 : FVec Ideal S512 .f32
  x5 : FVec Ideal S4x128x128 .f32
  x6 : FVec Ideal S4x128 .f32
  x7 : FVec Ideal S31x512 .f32
  x8 : FVec Ideal S512 .f32
  x9 : FVec Ideal S512 .f32
  x10 : FVec Ideal S512 .f32
  x11 : FVec Ideal S1024x1024 .f32
  x12 : FVec Ideal S4096x1024 .f32

def In.v7 (I : In) : FVec Ideal S4096x1 .f32 := Read.val_main_v7 (F := Ideal) I.x0
theorem In.v7_eq (I : In) : I.v7 = Host.rsqrt (addf (Host.divf (broadcastInDim S4096x1 ![0] bcast_S4096_S4096x1_0 (Host.reduceAdd (mulf (I.x0) (I.x0)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))) := rfl
def In.v12 (I : In) : FVec Ideal S4096x1024 .f32 := Read.val_main_v12 (F := Ideal) I.x0
theorem In.v12_eq (I : In) : I.v12 = mulf (I.x0) (broadcastInDim S4096x1024 ![0, 1] bcast_S4096x1_S4096x1024_0_1 (I.v7)) := rfl
def In.v15 (I : In) : FVec Ideal S4096x1024 .f32 := Read.val_main_v15 (F := Ideal) I.x0 I.x1
theorem In.v15_eq (I : In) : I.v15 = mulf (I.v12) (broadcastInDim S4096x1024 ![0, 1] bcast_S1x1024_S4096x1024_0_1 (broadcastInDim S1x1024 ![1] bcast_S1024_S1x1024_1 (I.x1))) := rfl
def In.v16 (I : In) : FVec Ideal S4096x2048 .f32 := Read.val_main_v16 (F := Ideal) I.x0 I.x1 I.x2
theorem In.v16_eq (I : In) : I.v16 = Host.dotGeneral dot_S4096x1024_S1024x2048_S4096x2048_1_0_0_1_n_n none (I.v15) (I.x2) := rfl
def In.v17 (I : In) : FVec Ideal S4096x512 .f32 := Read.val_main_v17 (F := Ideal) I.x0 I.x1 I.x2
theorem In.v17_eq (I : In) : I.v17 = extractStridedSlice S4096x512 ![0, 0] (I.v16) slices_S4096x2048_S4096x512_0_0 := rfl
def In.v18 (I : In) : FVec Ideal S4096x512 .f32 := Read.val_main_v18 (F := Ideal) I.x0 I.x1 I.x2
theorem In.v18_eq (I : In) : I.v18 = extractStridedSlice S4096x512 ![0, 512] (I.v16) slices_S4096x2048_S4096x512_0_512 := rfl
def In.v19 (I : In) : FVec Ideal S4096x512 .f32 := Read.val_main_v19 (F := Ideal) I.x0 I.x1 I.x2
theorem In.v19_eq (I : In) : I.v19 = extractStridedSlice S4096x512 ![0, 1024] (I.v16) slices_S4096x2048_S4096x512_0_1024 := rfl
def In.v20 (I : In) : FVec Ideal S4096x512 .f32 := Read.val_main_v20 (F := Ideal) I.x0 I.x1 I.x2
theorem In.v20_eq (I : In) : I.v20 = extractStridedSlice S4096x512 ![0, 1536] (I.v16) slices_S4096x2048_S4096x512_0_1536 := rfl
def In.v22 (I : In) : FVec Ideal S4096x512 .f32 := Read.val_main_v22 (F := Ideal) I.x0 I.x1 I.x2
theorem In.v22_eq (I : In) : I.v22 = mulf (broadcastInDim S4096x512 ![] bcast_S_S4096x512 (constant S_ .f32 0x3F000000#32)) (I.v17) := rfl
def In.v26 (I : In) : FVec Ideal S4096x512 .f32 := Read.val_main_v26 (F := Ideal) I.x0 I.x1 I.x2
theorem In.v26_eq (I : In) : I.v26 = Host.erfc (mulf (Host.negf (I.v17)) (broadcastInDim S4096x512 ![] bcast_S_S4096x512 (constant S_ .f32 0x3F3504F3#32))) := rfl
def In.v29 (I : In) : FVec Ideal S4096x512 .f32 := Read.val_main_v29 (F := Ideal) I.x0 I.x1 I.x2
theorem In.v29_eq (I : In) : I.v29 = Host.exp (Host.negf (mulf (mulf (Host.negf (I.v17)) (broadcastInDim S4096x512 ![] bcast_S_S4096x512 (constant S_ .f32 0x3F3504F3#32))) (mulf (Host.negf (I.v17)) (broadcastInDim S4096x512 ![] bcast_S_S4096x512 (constant S_ .f32 0x3F3504F3#32))))) := rfl
def In.v30 (I : In) : FVec Ideal S4096x512 .f32 := Read.val_main_v30 (F := Ideal) I.x0 I.x1 I.x2
theorem In.v30_eq (I : In) : I.v30 = mulf (I.v22) (I.v26) := rfl
def In.v32 (I : In) : FVec Ideal S4096x512 .f32 := Read.val_main_v32 (F := Ideal) I.x0 I.x1 I.x2
theorem In.v32_eq (I : In) : I.v32 = mulf (broadcastInDim S4096x512 ![] bcast_S_S4096x512 (constant S_ .f32 0x3F000000#32)) (I.v18) := rfl
def In.v36 (I : In) : FVec Ideal S4096x512 .f32 := Read.val_main_v36 (F := Ideal) I.x0 I.x1 I.x2
theorem In.v36_eq (I : In) : I.v36 = Host.erfc (mulf (Host.negf (I.v18)) (broadcastInDim S4096x512 ![] bcast_S_S4096x512 (constant S_ .f32 0x3F3504F3#32))) := rfl
def In.v39 (I : In) : FVec Ideal S4096x512 .f32 := Read.val_main_v39 (F := Ideal) I.x0 I.x1 I.x2
theorem In.v39_eq (I : In) : I.v39 = Host.exp (Host.negf (mulf (mulf (Host.negf (I.v18)) (broadcastInDim S4096x512 ![] bcast_S_S4096x512 (constant S_ .f32 0x3F3504F3#32))) (mulf (Host.negf (I.v18)) (broadcastInDim S4096x512 ![] bcast_S_S4096x512 (constant S_ .f32 0x3F3504F3#32))))) := rfl
def In.v40 (I : In) : FVec Ideal S4096x512 .f32 := Read.val_main_v40 (F := Ideal) I.x0 I.x1 I.x2
theorem In.v40_eq (I : In) : I.v40 = mulf (I.v32) (I.v36) := rfl
def In.v46 (I : In) : FVec Ideal S4096x512 .f32 := Read.val_main_v46 (F := Ideal) I.x0 I.x1 I.x2
theorem In.v46_eq (I : In) : I.v46 = subf (I.v40) (broadcastInDim S4096x512 ![0, 1] bcast_S4096x1_S4096x512_0_1 (Host.divf (broadcastInDim S4096x1 ![0] bcast_S4096_S4096x1_0 (Host.reduceAdd (I.v40) (constant S_ .f32 0x00000000#32) reducesTo_S4096x512_S4096_d1 h_S_)) (broadcastInDim S4096x1 ![] bcast_S_S4096x1 (constant S_ .f32 0x44000000#32)))) := rfl
def In.v49 (I : In) : FVec Ideal S4096x512 .f32 := Read.val_main_v49 (F := Ideal) I.x0 I.x1 I.x2
theorem In.v49_eq (I : In) : I.v49 = mulf (broadcastInDim S4096x512 ![] bcast_S_S4096x512 (constant S_ .f32 0x40000000#32)) (I.v46) := rfl
def In.v55 (I : In) : FVec Ideal S4096x1 .f32 := Read.val_main_v55 (F := Ideal) I.x0 I.x1 I.x2
theorem In.v55_eq (I : In) : I.v55 = addf (Host.divf (broadcastInDim S4096x1 ![0] bcast_S4096_S4096x1_0 (Host.reduceAdd (mulf (I.v46) (I.v46)) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32)) := rfl
def In.v56 (I : In) : FVec Ideal S4096x1 .f32 := Read.val_main_v56 (F := Ideal) I.x0 I.x1 I.x2
theorem In.v56_eq (I : In) : I.v56 = Host.rsqrt (I.v55) := rfl
def In.v59 (I : In) : FVec Ideal S4096x1 .f32 := Read.val_main_v59 (F := Ideal) I.x0 I.x1 I.x2
theorem In.v59_eq (I : In) : I.v59 = mulf (broadcastInDim S4096x1 ![] bcast_S_S4096x1 (constant S_ .f32 0xBF000000#32)) (Host.divf (I.v56) (I.v55)) := rfl
def In.v61 (I : In) : FVec Ideal S4096x512 .f32 := Read.val_main_v61 (F := Ideal) I.x0 I.x1 I.x2
theorem In.v61_eq (I : In) : I.v61 = subf (I.v40) (broadcastInDim S4096x512 ![0, 1] bcast_S4096x1_S4096x512_0_1 (Host.divf (broadcastInDim S4096x1 ![0] bcast_S4096_S4096x1_0 (Host.reduceAdd (I.v40) (constant S_ .f32 0x00000000#32) reducesTo_S4096x512_S4096_d1 h_S_)) (broadcastInDim S4096x1 ![] bcast_S_S4096x1 (constant S_ .f32 0x44000000#32)))) := rfl
def In.v63 (I : In) : FVec Ideal S4096x512 .f32 := Read.val_main_v63 (F := Ideal) I.x0 I.x1 I.x2
theorem In.v63_eq (I : In) : I.v63 = mulf (I.v61) (broadcastInDim S4096x512 ![0, 1] bcast_S4096x1_S4096x512_0_1 (I.v56)) := rfl
def In.v69 (I : In) : FVec Ideal S4096x512 .f32 := Read.val_main_v69 (F := Ideal) I.x0 I.x1 I.x2 I.x3 I.x4
theorem In.v69_eq (I : In) : I.v69 = addf (mulf (I.v63) (broadcastInDim S4096x512 ![0, 1] bcast_S1x512_S4096x512_0_1 (broadcastInDim S1x512 ![1] bcast_S512_S1x512_1 (I.x3)))) (broadcastInDim S4096x512 ![0, 1] bcast_S1x512_S4096x512_0_1 (broadcastInDim S1x512 ![1] bcast_S512_S1x512_1 (I.x4))) := rfl
def In.v75 (I : In) : FVec Ideal S4x128x128 .f32 := Read.val_main_v75 (F := Ideal) I.x5
theorem In.v75_eq (I : In) : I.v75 = mulf (I.x5) (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))) := rfl
def In.v82 (I : In) : FVec Ideal S4096x512 .f32 := Read.val_main_v82 (F := Ideal) I.x0 I.x1 I.x2 I.x3 I.x4 I.x5 I.x6
theorem In.v82_eq (I : In) : I.v82 = shapeCast _ (addf (transpose S32x128x4x128 [1, 3, 0, 2] (Host.dotGeneral dot_S32x128x4x128_S4x128x128_S4x32x128x128_1_2_03_1_2_0 none (shapeCast _ (I.v69) shapeCasts_S4096x512_S32x128x4x128) (I.v75)) transposes_S4x32x128x128_S32x128x4x128_1_3_0_2) (broadcastInDim S32x128x4x128 ![0, 1, 2, 3] bcast_S1x128x4x1_S32x128x4x128_0_1_2_3 (broadcastInDim S1x128x4x1 ![1, 2] bcast_S128x4_S1x128x4x1_1_2 (transpose S128x4 [1, 0] (I.x6) transposes_S4x128_S128x4_1_0)))) shapeCasts_S32x128x4x128_S4096x512 := rfl
def In.v85 (I : In) : FVec Ideal S4096x512 .f32 := Read.val_main_v85 (F := Ideal) I.x0 I.x1 I.x2
theorem In.v85_eq (I : In) : I.v85 = Host.exp (Host.negf (I.v20)) := rfl
def In.v89 (I : In) : FVec Ideal S4096x512 .f32 := Read.val_main_v89 (F := Ideal) I.x0 I.x1 I.x2
theorem In.v89_eq (I : In) : I.v89 = Host.divf (broadcastInDim S4096x512 ![] bcast_S_S4096x512 (constant S_ .f32 0x3F800000#32)) (addf (broadcastInDim S4096x512 ![] bcast_S_S4096x512 (constant S_ .f32 0x3F800000#32)) (I.v85)) := rfl
def In.v92 (I : In) : FVec Ideal S4096x512 .f32 := Read.val_main_v92 (F := Ideal) I.x0 I.x1 I.x2
theorem In.v92_eq (I : In) : I.v92 = mulf (I.v89) (subf (broadcastInDim S4096x512 ![] bcast_S_S4096x512 (constant S_ .f32 0x3F800000#32)) (I.v89)) := rfl
def In.v93 (I : In) : FVec Ideal S4096x512 .f32 := Read.val_main_v93 (F := Ideal) I.x0 I.x1 I.x2
theorem In.v93_eq (I : In) : I.v93 = mulf (I.v19) (I.v89) := rfl
def In.v102 (I : In) : FVec Ideal S31x4096x512 .f32 := Read.val_main_v102 (F := Ideal) I.x0 I.x1 I.x2
theorem In.v102_eq (I : In) : I.v102 = Host.reduceAdd (select (broadcastInDim S31x4096x4096x512 ![0, 1, 2, 3] bcast_S31x4096x4096x1_S31x4096x4096x512_0_1_2_3 (cmpi .eq (addi (iotaInDim S31x4096x4096x1 32 2) (broadcastInDim S31x4096x4096x1 ![] bcast_S_S31x4096x4096x1 (constantI S_ 32 30#32))) (addi (iotaInDim S31x4096x4096x1 32 1) (iotaInDim S31x4096x4096x1 32 0)))) (broadcastInDim S31x4096x4096x512 ![2, 3] bcast_S4096x512_S31x4096x4096x512_2_3 (I.v93)) (broadcastInDim S31x4096x4096x512 ![] bcast_S_S31x4096x4096x512 (id (constant S_ .f32 0x00000000#32)))) (constant S_ .f32 0x00000000#32) reducesTo_S31x4096x4096x512_S31x4096x512_d2 h_S_ := rfl
def In.v109 (I : In) : FVec Ideal S4096x512 .f32 := Read.val_main_v109 (F := Ideal) I.x0 I.x1 I.x2 I.x7 I.x8
theorem In.v109_eq (I : In) : I.v109 = addf (Host.reduceAdd (mulf (I.v102) (broadcastInDim S31x4096x512 ![0, 1, 2] bcast_S31x1x512_S31x4096x512_0_1_2 (broadcastInDim S31x1x512 ![0, 2] bcast_S31x512_S31x1x512_0_2 (I.x7)))) (constant S_ .f32 0x00000000#32) reducesTo_S31x4096x512_S4096x512_d0 h_S_) (broadcastInDim S4096x512 ![0, 1] bcast_S1x512_S4096x512_0_1 (broadcastInDim S1x512 ![1] bcast_S512_S1x512_1 (I.x8))) := rfl
def In.v118 (I : In) : FVec Ideal S4096x4x128 .f32 := Read.val_main_v118 (F := Ideal) I.x0 I.x1 I.x2 I.x7 I.x8
theorem In.v118_eq (I : In) : I.v118 = subf (shapeCast _ (I.v109) shapeCasts_S4096x512_S4096x4x128) (broadcastInDim S4096x4x128 ![0, 1, 2] bcast_S4096x4x1_S4096x4x128_0_1_2 (Host.divf (broadcastInDim S4096x4x1 ![0, 1] bcast_S4096x4_S4096x4x1_0_1 (Host.reduceAdd (shapeCast _ (I.v109) shapeCasts_S4096x512_S4096x4x128) (constant S_ .f32 0x00000000#32) reducesTo_S4096x4x128_S4096x4_d2 h_S_)) (broadcastInDim S4096x4x1 ![] bcast_S_S4096x4x1 (constant S_ .f32 0x43000000#32)))) := rfl
def In.v121 (I : In) : FVec Ideal S4096x4x128 .f32 := Read.val_main_v121 (F := Ideal) I.x0 I.x1 I.x2 I.x7 I.x8
theorem In.v121_eq (I : In) : I.v121 = mulf (broadcastInDim S4096x4x128 ![] bcast_S_S4096x4x128 (constant S_ .f32 0x40000000#32)) (I.v118) := rfl
def In.v127 (I : In) : FVec Ideal S4096x4x1 .f32 := Read.val_main_v127 (F := Ideal) I.x0 I.x1 I.x2 I.x7 I.x8
theorem In.v127_eq (I : In) : I.v127 = addf (Host.divf (broadcastInDim S4096x4x1 ![0, 1] bcast_S4096x4_S4096x4x1_0_1 (Host.reduceAdd (mulf (I.v118) (I.v118)) (constant S_ .f32 0x00000000#32) reducesTo_S4096x4x128_S4096x4_d2 h_S_)) (broadcastInDim S4096x4x1 ![] bcast_S_S4096x4x1 (constant S_ .f32 0x43000000#32))) (broadcastInDim S4096x4x1 ![] bcast_S_S4096x4x1 (constant S_ .f32 0x358637BD#32)) := rfl
def In.v128 (I : In) : FVec Ideal S4096x4x1 .f32 := Read.val_main_v128 (F := Ideal) I.x0 I.x1 I.x2 I.x7 I.x8
theorem In.v128_eq (I : In) : I.v128 = Host.rsqrt (I.v127) := rfl
def In.v131 (I : In) : FVec Ideal S4096x4x1 .f32 := Read.val_main_v131 (F := Ideal) I.x0 I.x1 I.x2 I.x7 I.x8
theorem In.v131_eq (I : In) : I.v131 = mulf (broadcastInDim S4096x4x1 ![] bcast_S_S4096x4x1 (constant S_ .f32 0xBF000000#32)) (Host.divf (I.v128) (I.v127)) := rfl
def In.v133 (I : In) : FVec Ideal S4096x4x128 .f32 := Read.val_main_v133 (F := Ideal) I.x0 I.x1 I.x2 I.x7 I.x8
theorem In.v133_eq (I : In) : I.v133 = subf (shapeCast _ (I.v109) shapeCasts_S4096x512_S4096x4x128) (broadcastInDim S4096x4x128 ![0, 1, 2] bcast_S4096x4x1_S4096x4x128_0_1_2 (Host.divf (broadcastInDim S4096x4x1 ![0, 1] bcast_S4096x4_S4096x4x1_0_1 (Host.reduceAdd (shapeCast _ (I.v109) shapeCasts_S4096x512_S4096x4x128) (constant S_ .f32 0x00000000#32) reducesTo_S4096x4x128_S4096x4_d2 h_S_)) (broadcastInDim S4096x4x1 ![] bcast_S_S4096x4x1 (constant S_ .f32 0x43000000#32)))) := rfl
def In.v135 (I : In) : FVec Ideal S4096x4x128 .f32 := Read.val_main_v135 (F := Ideal) I.x0 I.x1 I.x2 I.x7 I.x8
theorem In.v135_eq (I : In) : I.v135 = mulf (I.v133) (broadcastInDim S4096x4x128 ![0, 1, 2] bcast_S4096x4x1_S4096x4x128_0_1_2 (I.v128)) := rfl
def In.v141 (I : In) : FVec Ideal S4096x4x128 .f32 := Read.val_main_v141 (F := Ideal) I.x0 I.x1 I.x2 I.x7 I.x8 I.x9 I.x10
theorem In.v141_eq (I : In) : I.v141 = addf (mulf (I.v135) (broadcastInDim S4096x4x128 ![0, 1, 2] bcast_S1x4x128_S4096x4x128_0_1_2 (broadcastInDim S1x4x128 ![1, 2] bcast_S4x128_S1x4x128_1_2 (shapeCast _ (I.x9) shapeCasts_S512_S4x128)))) (broadcastInDim S4096x4x128 ![0, 1, 2] bcast_S1x4x128_S4096x4x128_0_1_2 (broadcastInDim S1x4x128 ![1, 2] bcast_S4x128_S1x4x128_1_2 (shapeCast _ (I.x10) shapeCasts_S512_S4x128))) := rfl
def In.v142_2 (I : In) : FVec Ideal S4096x4x128 .f32 := Read.val_main_v142_2 (F := Ideal) I.x0 I.x1 I.x2 I.x7 I.x8 I.x9 I.x10
theorem In.v142_2_eq (I : In) : I.v142_2 = Host.divf (broadcastInDim S4096x4x128 ![] bcast_S_S4096x4x128 (constant S_ .f32 0x3F800000#32)) (addf (broadcastInDim S4096x4x128 ![] bcast_S_S4096x4x128 (constant S_ .f32 0x3F800000#32)) (Host.exp (Host.negf (I.v141)))) := rfl
def In.v142_1 (I : In) : FVec Ideal S4096x4x128 .f32 := Read.val_main_v142_1 (F := Ideal) I.x0 I.x1 I.x2 I.x7 I.x8 I.x9 I.x10
theorem In.v142_1_eq (I : In) : I.v142_1 = mulf (I.v142_2) (subf (broadcastInDim S4096x4x128 ![] bcast_S_S4096x4x128 (constant S_ .f32 0x3F800000#32)) (I.v142_2)) := rfl
def In.v142_0 (I : In) : FVec Ideal S4096x4x128 .f32 := Read.val_main_v142_0 (F := Ideal) I.x0 I.x1 I.x2 I.x7 I.x8 I.x9 I.x10
theorem In.v142_0_eq (I : In) : I.v142_0 = mulf (I.v141) (I.v142_2) := rfl
def In.v144 (I : In) : FVec Ideal S4096x1024 .f32 := Read.val_main_v144 (F := Ideal) I.x0 I.x1 I.x2 I.x3 I.x4 I.x5 I.x6 I.x7 I.x8 I.x9 I.x10
theorem In.v144_eq (I : In) : I.v144 = concatenate S4096x1024 1 [⟨S4096x512, (mulf (I.v30) (I.v82))⟩, ⟨S4096x512, (shapeCast _ (I.v142_0) shapeCasts_S4096x4x128_S4096x512)⟩] concatenates_S4096x512_S4096x512_S4096x1024_d1 := rfl
def In.v150 (I : In) : FVec Ideal S4096x1024 .f32 := Read.val_main_v150 (F := Ideal) I.x11 I.x12
theorem In.v150_eq (I : In) : I.v150 = Host.dotGeneral dot_S4096x1024_S1024x1024_S4096x1024_1_1_0_0_n_n none (shapeCast _ (I.x12) shapeCasts_S4096x1024_S4096x1024) (I.x11) := rfl
def In.v151 (I : In) : FVec Ideal S4096x512 .f32 := Read.val_main_v151 (F := Ideal) I.x11 I.x12
theorem In.v151_eq (I : In) : I.v151 = extractStridedSlice S4096x512 ![0, 0] (I.v150) slices_S4096x1024_S4096x512_0_0 := rfl
def In.v152 (I : In) : FVec Ideal S4096x512 .f32 := Read.val_main_v152 (F := Ideal) I.x11 I.x12
theorem In.v152_eq (I : In) : I.v152 = extractStridedSlice S4096x512 ![0, 512] (I.v150) slices_S4096x1024_S4096x512_0_512 := rfl
def In.v154 (I : In) : FVec Ideal S4096x4x128 .f32 := Read.val_main_v154 (F := Ideal) I.x0 I.x1 I.x2 I.x7 I.x8 I.x9 I.x10 I.x11 I.x12
theorem In.v154_eq (I : In) : I.v154 = addf (mulf (shapeCast _ (I.v152) shapeCasts_S4096x512_S4096x4x128) (I.v142_2)) (mulf (mulf (I.v141) (shapeCast _ (I.v152) shapeCasts_S4096x512_S4096x4x128)) (I.v142_1)) := rfl
def In.v157 (I : In) : FVec Ideal S4x128 .f32 := Read.val_main_v157 (F := Ideal) I.x0 I.x1 I.x2 I.x7 I.x8 I.x9 I.x10 I.x11 I.x12
theorem In.v157_eq (I : In) : I.v157 = Host.reduceAdd (shapeCast _ (Host.reduceAdd (I.v154) (constant S_ .f32 0x00000000#32) reducesTo_S4096x4x128_S4x128_d0 h_S_) shapeCasts_S4x128_S1x4x128) (constant S_ .f32 0x00000000#32) reducesTo_S1x4x128_S4x128_d0 h_S_ := rfl
def In.v162 (I : In) : FVec Ideal S4096x4x128 .f32 := Read.val_main_v162 (F := Ideal) I.x0 I.x1 I.x2 I.x7 I.x8 I.x9 I.x10 I.x11 I.x12
theorem In.v162_eq (I : In) : I.v162 = mulf (I.v154) (broadcastInDim S4096x4x128 ![0, 1, 2] bcast_S1x4x128_S4096x4x128_0_1_2 (broadcastInDim S1x4x128 ![1, 2] bcast_S4x128_S1x4x128_1_2 (shapeCast _ (I.x9) shapeCasts_S512_S4x128))) := rfl
def In.v163 (I : In) : FVec Ideal S4x128 .f32 := Read.val_main_v163 (F := Ideal) I.x0 I.x1 I.x2 I.x7 I.x8 I.x9 I.x10 I.x11 I.x12
theorem In.v163_eq (I : In) : I.v163 = Host.reduceAdd (shapeCast _ (Host.reduceAdd (mulf (I.v135) (I.v154)) (constant S_ .f32 0x00000000#32) reducesTo_S4096x4x128_S4x128_d0 h_S_) shapeCasts_S4x128_S1x4x128) (constant S_ .f32 0x00000000#32) reducesTo_S1x4x128_S4x128_d0 h_S_ := rfl
def In.v187 (I : In) : FVec Ideal S4096x4x128 .f32 := Read.val_main_v187 (F := Ideal) I.x0 I.x1 I.x2 I.x7 I.x8 I.x9 I.x10 I.x11 I.x12
theorem In.v187_eq (I : In) : I.v187 = addf (addf (mulf (I.v162) (broadcastInDim S4096x4x128 ![0, 1, 2] bcast_S4096x4x1_S4096x4x128_0_1_2 (I.v128))) (mulf (broadcastInDim S4096x4x128 ![0, 1] bcast_S4096x4_S4096x4x128_0_1 (Host.reduceAdd (Host.divf (mulf (shapeCast _ (Host.reduceAdd (mulf (I.v133) (I.v162)) (constant S_ .f32 0x00000000#32) reducesTo_S4096x4x128_S4096x4_d2 h_S_) shapeCasts_S4096x4_S4096x4x1) (I.v131)) (broadcastInDim S4096x4x1 ![] bcast_S_S4096x4x1 (constant S_ .f32 0x43000000#32))) (constant S_ .f32 0x00000000#32) reducesTo_S4096x4x1_S4096x4_d2 h_S_)) (I.v121))) (broadcastInDim S4096x4x128 ![0, 1] bcast_S4096x4_S4096x4x128_0_1 (Host.reduceAdd (Host.divf (addf (shapeCast _ (Host.reduceAdd (Host.negf (mulf (I.v162) (broadcastInDim S4096x4x128 ![0, 1, 2] bcast_S4096x4x1_S4096x4x128_0_1_2 (I.v128)))) (constant S_ .f32 0x00000000#32) reducesTo_S4096x4x128_S4096x4_d2 h_S_) shapeCasts_S4096x4_S4096x4x1) (shapeCast _ (Host.reduceAdd (Host.negf (mulf (broadcastInDim S4096x4x128 ![0, 1] bcast_S4096x4_S4096x4x128_0_1 (Host.reduceAdd (Host.divf (mulf (shapeCast _ (Host.reduceAdd (mulf (I.v133) (I.v162)) (constant S_ .f32 0x00000000#32) reducesTo_S4096x4x128_S4096x4_d2 h_S_) shapeCasts_S4096x4_S4096x4x1) (I.v131)) (broadcastInDim S4096x4x1 ![] bcast_S_S4096x4x1 (constant S_ .f32 0x43000000#32))) (constant S_ .f32 0x00000000#32) reducesTo_S4096x4x1_S4096x4_d2 h_S_)) (I.v121))) (constant S_ .f32 0x00000000#32) reducesTo_S4096x4x128_S4096x4_d2 h_S_) shapeCasts_S4096x4_S4096x4x1)) (broadcastInDim S4096x4x1 ![] bcast_S_S4096x4x1 (constant S_ .f32 0x43000000#32))) (constant S_ .f32 0x00000000#32) reducesTo_S4096x4x1_S4096x4_d2 h_S_)) := rfl
def In.v190 (I : In) : FVec Ideal S4096x512 .f32 := Read.val_main_v190 (F := Ideal) I.x0 I.x1 I.x2 I.x7 I.x8 I.x9 I.x10 I.x11 I.x12
theorem In.v190_eq (I : In) : I.v190 = shapeCast _ (I.v187) shapeCasts_S4096x4x128_S4096x512 := rfl
def In.v193 (I : In) : FVec Ideal S512 .f32 := Read.val_main_v193 (F := Ideal) I.x0 I.x1 I.x2 I.x7 I.x8 I.x9 I.x10 I.x11 I.x12
theorem In.v193_eq (I : In) : I.v193 = Host.reduceAdd (shapeCast _ (Host.reduceAdd (I.v190) (constant S_ .f32 0x00000000#32) reducesTo_S4096x512_S512_d0 h_S_) shapeCasts_S512_S1x512) (constant S_ .f32 0x00000000#32) reducesTo_S1x512_S512_d0 h_S_ := rfl
def In.v200 (I : In) : FVec Ideal S31x512 .f32 := Read.val_main_v200 (F := Ideal) I.x0 I.x1 I.x2 I.x7 I.x8 I.x9 I.x10 I.x11 I.x12
theorem In.v200_eq (I : In) : I.v200 = Host.reduceAdd (shapeCast _ (Host.reduceAdd (mulf (I.v102) (broadcastInDim S31x4096x512 ![1, 2] bcast_S4096x512_S31x4096x512_1_2 (I.v190))) (constant S_ .f32 0x00000000#32) reducesTo_S31x4096x512_S31x512_d1 h_S_) shapeCasts_S31x512_S31x1x512) (constant S_ .f32 0x00000000#32) reducesTo_S31x1x512_S31x512_d1 h_S_ := rfl
def In.v202 (I : In) : FVec Ideal S4096x512 .f32 := Read.val_main_v202 (F := Ideal) I.x0 I.x1 I.x2 I.x7 I.x8 I.x9 I.x10 I.x11 I.x12
theorem In.v202_eq (I : In) : I.v202 = Host.reduceAdd (select (broadcastInDim S31x4096x4096x512 ![0, 1, 2, 3] bcast_S31x4096x4096x1_S31x4096x4096x512_0_1_2_3 (cmpi .eq (addi (iotaInDim S31x4096x4096x1 32 2) (broadcastInDim S31x4096x4096x1 ![] bcast_S_S31x4096x4096x1 (constantI S_ 32 30#32))) (addi (iotaInDim S31x4096x4096x1 32 1) (iotaInDim S31x4096x4096x1 32 0)))) (broadcastInDim S31x4096x4096x512 ![0, 1, 3] bcast_S31x4096x512_S31x4096x4096x512_0_1_3 (mulf (broadcastInDim S31x4096x512 ![1, 2] bcast_S4096x512_S31x4096x512_1_2 (I.v190)) (broadcastInDim S31x4096x512 ![0, 1, 2] bcast_S31x1x512_S31x4096x512_0_1_2 (broadcastInDim S31x1x512 ![0, 2] bcast_S31x512_S31x1x512_0_2 (I.x7))))) (broadcastInDim S31x4096x4096x512 ![] bcast_S_S31x4096x4096x512 (constant S_ .f32 0x00000000#32))) (constant S_ .f32 0x00000000#32) reducesTo_S31x4096x4096x512_S4096x512_d0_1 h_S_ := rfl
def In.v203 (I : In) : FVec Ideal S4096x512 .f32 := Read.val_main_v203 (F := Ideal) I.x0 I.x1 I.x2 I.x7 I.x8 I.x9 I.x10 I.x11 I.x12
theorem In.v203_eq (I : In) : I.v203 = mulf (I.v19) (I.v202) := rfl
def In.v204 (I : In) : FVec Ideal S4096x512 .f32 := Read.val_main_v204 (F := Ideal) I.x0 I.x1 I.x2 I.x7 I.x8 I.x9 I.x10 I.x11 I.x12
theorem In.v204_eq (I : In) : I.v204 = mulf (I.v202) (I.v89) := rfl
def In.v205 (I : In) : FVec Ideal S4096x512 .f32 := Read.val_main_v205 (F := Ideal) I.x0 I.x1 I.x2 I.x7 I.x8 I.x9 I.x10 I.x11 I.x12
theorem In.v205_eq (I : In) : I.v205 = mulf (I.v203) (I.v92) := rfl
def In.v206 (I : In) : FVec Ideal S4096x512 .f32 := Read.val_main_v206 (F := Ideal) I.x0 I.x1 I.x2 I.x11 I.x12
theorem In.v206_eq (I : In) : I.v206 = mulf (I.v30) (I.v151) := rfl
def In.v207 (I : In) : FVec Ideal S4096x512 .f32 := Read.val_main_v207 (F := Ideal) I.x0 I.x1 I.x2 I.x3 I.x4 I.x5 I.x6 I.x11 I.x12
theorem In.v207_eq (I : In) : I.v207 = mulf (I.v151) (I.v82) := rfl
def In.v212 (I : In) : FVec Ideal S4x128 .f32 := Read.val_main_v212 (F := Ideal) I.x0 I.x1 I.x2 I.x11 I.x12
theorem In.v212_eq (I : In) : I.v212 = transpose S4x128 [1, 0] (Host.reduceAdd (shapeCast _ (Host.reduceAdd (shapeCast _ (I.v206) shapeCasts_S4096x512_S32x128x4x128) (constant S_ .f32 0x00000000#32) reducesTo_S32x128x4x128_S128x4_d0_3 h_S_) shapeCasts_S128x4_S1x128x4x1) (constant S_ .f32 0x00000000#32) reducesTo_S1x128x4x1_S128x4_d0_3 h_S_) transposes_S128x4_S4x128_1_0 := rfl
def In.v214 (I : In) : FVec Ideal S4x128x128 .f32 := Read.val_main_v214 (F := Ideal) I.x0 I.x1 I.x2 I.x3 I.x4 I.x11 I.x12
theorem In.v214_eq (I : In) : I.v214 = Host.dotGeneral dot_S4x32x128x128_S32x128x4x128_S4x128x128_12_03_3_1_0_2 none (transpose S4x32x128x128 [2, 0, 3, 1] (shapeCast _ (I.v206) shapeCasts_S4096x512_S32x128x4x128) transposes_S32x128x4x128_S4x32x128x128_2_0_3_1) (shapeCast _ (I.v69) shapeCasts_S4096x512_S32x128x4x128) := rfl
def In.v218 (I : In) : FVec Ideal S4x128x128 .f32 := Read.val_main_v218 (F := Ideal) I.x0 I.x1 I.x2 I.x3 I.x4 I.x11 I.x12
theorem In.v218_eq (I : In) : I.v218 = mulf (I.v214) (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32))))) := rfl
def In.v219 (I : In) : FVec Ideal S4096x512 .f32 := Read.val_main_v219 (F := Ideal) I.x0 I.x1 I.x2 I.x5 I.x11 I.x12
theorem In.v219_eq (I : In) : I.v219 = shapeCast _ (transpose S32x128x4x128 [1, 3, 0, 2] (Host.dotGeneral dot_S4x32x128x128_S4x128x128_S4x32x128x128_3_1_12_2_0_0 none (transpose S4x32x128x128 [2, 0, 3, 1] (shapeCast _ (I.v206) shapeCasts_S4096x512_S32x128x4x128) transposes_S32x128x4x128_S4x32x128x128_2_0_3_1) (I.v75)) transposes_S4x32x128x128_S32x128x4x128_1_3_0_2) shapeCasts_S32x128x4x128_S4096x512 := rfl
def In.v222 (I : In) : FVec Ideal S512 .f32 := Read.val_main_v222 (F := Ideal) I.x0 I.x1 I.x2 I.x5 I.x11 I.x12
theorem In.v222_eq (I : In) : I.v222 = Host.reduceAdd (shapeCast _ (Host.reduceAdd (I.v219) (constant S_ .f32 0x00000000#32) reducesTo_S4096x512_S512_d0 h_S_) shapeCasts_S512_S1x512) (constant S_ .f32 0x00000000#32) reducesTo_S1x512_S512_d0 h_S_ := rfl
def In.v227 (I : In) : FVec Ideal S4096x512 .f32 := Read.val_main_v227 (F := Ideal) I.x0 I.x1 I.x2 I.x3 I.x5 I.x11 I.x12
theorem In.v227_eq (I : In) : I.v227 = mulf (I.v219) (broadcastInDim S4096x512 ![0, 1] bcast_S1x512_S4096x512_0_1 (broadcastInDim S1x512 ![1] bcast_S512_S1x512_1 (I.x3))) := rfl
def In.v228 (I : In) : FVec Ideal S512 .f32 := Read.val_main_v228 (F := Ideal) I.x0 I.x1 I.x2 I.x5 I.x11 I.x12
theorem In.v228_eq (I : In) : I.v228 = Host.reduceAdd (shapeCast _ (Host.reduceAdd (mulf (I.v63) (I.v219)) (constant S_ .f32 0x00000000#32) reducesTo_S4096x512_S512_d0 h_S_) shapeCasts_S512_S1x512) (constant S_ .f32 0x00000000#32) reducesTo_S1x512_S512_d0 h_S_ := rfl
def In.v252 (I : In) : FVec Ideal S4096x512 .f32 := Read.val_main_v252 (F := Ideal) I.x0 I.x1 I.x2 I.x3 I.x5 I.x11 I.x12
theorem In.v252_eq (I : In) : I.v252 = addf (addf (mulf (I.v227) (broadcastInDim S4096x512 ![0, 1] bcast_S4096x1_S4096x512_0_1 (I.v56))) (mulf (broadcastInDim S4096x512 ![0] bcast_S4096_S4096x512_0 (Host.reduceAdd (Host.divf (mulf (shapeCast _ (Host.reduceAdd (mulf (I.v61) (I.v227)) (constant S_ .f32 0x00000000#32) reducesTo_S4096x512_S4096_d1 h_S_) shapeCasts_S4096_S4096x1) (I.v59)) (broadcastInDim S4096x1 ![] bcast_S_S4096x1 (constant S_ .f32 0x44000000#32))) (constant S_ .f32 0x00000000#32) reducesTo_S4096x1_S4096_d1 h_S_)) (I.v49))) (broadcastInDim S4096x512 ![0] bcast_S4096_S4096x512_0 (Host.reduceAdd (Host.divf (addf (shapeCast _ (Host.reduceAdd (Host.negf (mulf (I.v227) (broadcastInDim S4096x512 ![0, 1] bcast_S4096x1_S4096x512_0_1 (I.v56)))) (constant S_ .f32 0x00000000#32) reducesTo_S4096x512_S4096_d1 h_S_) shapeCasts_S4096_S4096x1) (shapeCast _ (Host.reduceAdd (Host.negf (mulf (broadcastInDim S4096x512 ![0] bcast_S4096_S4096x512_0 (Host.reduceAdd (Host.divf (mulf (shapeCast _ (Host.reduceAdd (mulf (I.v61) (I.v227)) (constant S_ .f32 0x00000000#32) reducesTo_S4096x512_S4096_d1 h_S_) shapeCasts_S4096_S4096x1) (I.v59)) (broadcastInDim S4096x1 ![] bcast_S_S4096x1 (constant S_ .f32 0x44000000#32))) (constant S_ .f32 0x00000000#32) reducesTo_S4096x1_S4096_d1 h_S_)) (I.v49))) (constant S_ .f32 0x00000000#32) reducesTo_S4096x512_S4096_d1 h_S_) shapeCasts_S4096_S4096x1)) (broadcastInDim S4096x1 ![] bcast_S_S4096x1 (constant S_ .f32 0x44000000#32))) (constant S_ .f32 0x00000000#32) reducesTo_S4096x1_S4096_d1 h_S_)) := rfl
def In.v263 (I : In) : FVec Ideal S4096x512 .f32 := Read.val_main_v263 (F := Ideal) I.x0 I.x1 I.x2 I.x3 I.x5 I.x11 I.x12
theorem In.v263_eq (I : In) : I.v263 = addf (Host.negf (mulf (mulf (mulf (broadcastInDim S4096x512 ![] bcast_S_S4096x512 (constant S_ .f32 0xBF906EBB#32)) (mulf (I.v32) (I.v252))) (I.v39)) (broadcastInDim S4096x512 ![] bcast_S_S4096x512 (constant S_ .f32 0x3F3504F3#32)))) (mulf (broadcastInDim S4096x512 ![] bcast_S_S4096x512 (constant S_ .f32 0x3F000000#32)) (mulf (I.v252) (I.v36))) := rfl
def In.v274 (I : In) : FVec Ideal S4096x512 .f32 := Read.val_main_v274 (F := Ideal) I.x0 I.x1 I.x2 I.x3 I.x4 I.x5 I.x6 I.x11 I.x12
theorem In.v274_eq (I : In) : I.v274 = addf (Host.negf (mulf (mulf (mulf (broadcastInDim S4096x512 ![] bcast_S_S4096x512 (constant S_ .f32 0xBF906EBB#32)) (mulf (I.v22) (I.v207))) (I.v29)) (broadcastInDim S4096x512 ![] bcast_S_S4096x512 (constant S_ .f32 0x3F3504F3#32)))) (mulf (broadcastInDim S4096x512 ![] bcast_S_S4096x512 (constant S_ .f32 0x3F000000#32)) (mulf (I.v207) (I.v26))) := rfl
def In.v281 (I : In) : FVec Ideal S4096x2048 .f32 := Read.val_main_v281 (F := Ideal) I.x0 I.x1 I.x2 I.x3 I.x4 I.x5 I.x6 I.x7 I.x8 I.x9 I.x10 I.x11 I.x12
theorem In.v281_eq (I : In) : I.v281 = addf (addf (addf (pad S4096x2048 ![0, 1536] ![0, 0] ![0, 0] (I.v205) (constant S_ .f32 0x00000000#32) pads_S4096x512_S4096x2048_000_153600 h_S_) (pad S4096x2048 ![0, 1024] ![0, 512] ![0, 0] (I.v204) (constant S_ .f32 0x00000000#32) pads_S4096x512_S4096x2048_000_10245120 h_S_)) (pad S4096x2048 ![0, 512] ![0, 1024] ![0, 0] (I.v263) (constant S_ .f32 0x00000000#32) pads_S4096x512_S4096x2048_000_51210240 h_S_)) (pad S4096x2048 ![0, 0] ![0, 1536] ![0, 0] (I.v274) (constant S_ .f32 0x00000000#32) pads_S4096x512_S4096x2048_000_015360 h_S_) := rfl
def In.v284 (I : In) : FVec Ideal S4096x1024 .f32 := Read.val_main_v284 (F := Ideal) I.x0 I.x1 I.x2 I.x3 I.x4 I.x5 I.x6 I.x7 I.x8 I.x9 I.x10 I.x11 I.x12
theorem In.v284_eq (I : In) : I.v284 = Host.dotGeneral dot_S4096x2048_S1024x2048_S4096x1024_1_1_0_0_n_n none (I.v281) (I.x2) := rfl
def In.v289 (I : In) : FVec Ideal S4096x1024 .f32 := Read.val_main_v289 (F := Ideal) I.x0 I.x1 I.x2 I.x3 I.x4 I.x5 I.x6 I.x7 I.x8 I.x9 I.x10 I.x11 I.x12
theorem In.v289_eq (I : In) : I.v289 = mulf (I.v284) (broadcastInDim S4096x1024 ![0, 1] bcast_S1x1024_S4096x1024_0_1 (broadcastInDim S1x1024 ![1] bcast_S1024_S1x1024_1 (I.x1))) := rfl
def In.v290 (I : In) : FVec Ideal S1024 .f32 := Read.val_main_v290 (F := Ideal) I.x0 I.x1 I.x2 I.x3 I.x4 I.x5 I.x6 I.x7 I.x8 I.x9 I.x10 I.x11 I.x12
theorem In.v290_eq (I : In) : I.v290 = Host.reduceAdd (shapeCast _ (Host.reduceAdd (mulf (I.v12) (I.v284)) (constant S_ .f32 0x00000000#32) reducesTo_S4096x1024_S1024_d0 h_S_) shapeCasts_S1024_S1x1024) (constant S_ .f32 0x00000000#32) reducesTo_S1x1024_S1024_d0 h_S_ := rfl
def In.v305 (I : In) : FVec Ideal S4096x1024 .f32 := Read.val_main_v305 (F := Ideal) I.x0 I.x1 I.x2 I.x3 I.x4 I.x5 I.x6 I.x7 I.x8 I.x9 I.x10 I.x11 I.x12
theorem In.v305_eq (I : In) : I.v305 = addf (addf (addf (I.x12) (mulf (I.v289) (broadcastInDim S4096x1024 ![0, 1] bcast_S4096x1_S4096x1024_0_1 (I.v7)))) (mulf (I.x0) (broadcastInDim S4096x1024 ![0] bcast_S4096_S4096x1024_0 (Host.reduceAdd (Host.divf (mulf (shapeCast _ (Host.reduceAdd (mulf (I.x0) (I.v289)) (constant S_ .f32 0x00000000#32) reducesTo_S4096x1024_S4096_d1 h_S_) shapeCasts_S4096_S4096x1) (mulf (broadcastInDim S4096x1 ![] bcast_S_S4096x1 (constant S_ .f32 0xBF000000#32)) (Host.divf (I.v7) (addf (Host.divf (broadcastInDim S4096x1 ![0] bcast_S4096_S4096x1_0 (Host.reduceAdd (mulf (I.x0) (I.x0)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)))) (mulf (broadcastInDim S4096x1024 ![0] bcast_S4096_S4096x1024_0 (Host.reduceAdd (Host.divf (mulf (shapeCast _ (Host.reduceAdd (mulf (I.x0) (I.v289)) (constant S_ .f32 0x00000000#32) reducesTo_S4096x1024_S4096_d1 h_S_) shapeCasts_S4096_S4096x1) (mulf (broadcastInDim S4096x1 ![] bcast_S_S4096x1 (constant S_ .f32 0xBF000000#32)) (Host.divf (I.v7) (addf (Host.divf (broadcastInDim S4096x1 ![0] bcast_S4096_S4096x1_0 (Host.reduceAdd (mulf (I.x0) (I.x0)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1 ![] bcast_S_S4096x1 (constant S_ .f32 0x44800000#32))) (constant S_ .f32 0x00000000#32) reducesTo_S4096x1_S4096_d1 h_S_)) (I.x0)) := rfl
def In.v306 (I : In) : FVec Ideal S1x512 .f32 := Read.val_main_v306 (F := Ideal) I.x0 I.x1 I.x2 I.x5 I.x11 I.x12
theorem In.v306_eq (I : In) : I.v306 = shapeCast _ (I.v228) shapeCasts_S512_S1x512 := rfl
def In.v307 (I : In) : FVec Ideal S1x512 .f32 := Read.val_main_v307 (F := Ideal) I.x0 I.x1 I.x2 I.x5 I.x11 I.x12
theorem In.v307_eq (I : In) : I.v307 = shapeCast _ (I.v222) shapeCasts_S512_S1x512 := rfl
def In.v309 (I : In) : FVec Ideal S4x128x128 .f32 := Read.val_main_v309 (F := Ideal) I.x0 I.x1 I.x2 I.x11 I.x12
theorem In.v309_eq (I : In) : I.v309 = broadcastInDim S4x128x128 ![0, 1, 2] bcast_S4x128x1_S4x128x128_0_1_2 (broadcastInDim S4x128x1 ![0, 1] bcast_S4x128_S4x128x1_0_1 (I.v212)) := rfl

end Cert.ReferenceIdeal

end
-- ==== Proof.Alg.lean ====
/- Arithmetic of extended reals that are real numbers: closure under the operations of the two programs, and the
   identities between the two ways of writing a backward pass. -/
module

public import Idealize.ShloMosaic.PureOps.Ideal.Laws
public import Idealize.ShloMosaic.Lib.Pointwise

@[expose] public section

set_option maxRecDepth 16384

noncomputable section

namespace Cert.Alg

open Idealize.ShloMosaic

/-- The extended real is a real number. -/
def IsR (x : EReal) : Prop := ∃ r : ℝ, x = (r : EReal)

theorem IsR.coe (r : ℝ) : IsR (r : EReal) := ⟨r, rfl⟩
theorem IsR.zero : IsR 0 := ⟨0, EReal.coe_zero.symm⟩
theorem IsR.one : IsR 1 := ⟨1, EReal.coe_one.symm⟩
theorem IsR.add {x y : EReal} : IsR x → IsR y → IsR (x + y) := by
  rintro ⟨a, rfl⟩ ⟨b, rfl⟩; exact ⟨a + b, (EReal.coe_add a b).symm⟩
theorem IsR.sub {x y : EReal} : IsR x → IsR y → IsR (x - y) := by
  rintro ⟨a, rfl⟩ ⟨b, rfl⟩; exact ⟨a - b, (EReal.coe_sub a b).symm⟩
theorem IsR.mul {x y : EReal} : IsR x → IsR y → IsR (x * y) := by
  rintro ⟨a, rfl⟩ ⟨b, rfl⟩; exact ⟨a * b, (EReal.coe_mul a b).symm⟩
theorem IsR.neg {x : EReal} : IsR x → IsR (-x) := by
  rintro ⟨a, rfl⟩; exact ⟨-a, (EReal.coe_neg a).symm⟩
theorem IsR.exp {x : EReal} : IsR x → IsR (Ideal.exp x) := by
  rintro ⟨a, rfl⟩; exact ⟨Real.exp a, Ideal.exp_coe a⟩
theorem IsR.erfc {x : EReal} : IsR x → IsR (Ideal.erfc x) := by
  rintro ⟨a, rfl⟩
  rw [Ideal.erfc, Ideal.erf_coe]
  exact IsR.one.sub ⟨_, rfl⟩
theorem IsR.ite {p : Prop} [Decidable p] {x y : EReal} (hx : IsR x) (hy : IsR y) : IsR (if p then x else y) := by
  split <;> assumption

/-- A sum of real numbers, as an extended real, is the extended real of their sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type*} {s : Finset ι} {f : ι → EReal} (h : ∀ i, IsR (f i)) : IsR (∑ i ∈ s, f i) := by
  choose g hg using h
  exact ⟨∑ i ∈ s, g i, by rw [coe_sum]; exact Finset.sum_congr rfl fun i _ => hg i⟩

theorem IsR.div {x y : EReal} (hx : IsR x) (hy : IsR y) (h0 : y ≠ 0) : IsR (Ideal.div x y) := by
  obtain ⟨b, rfl⟩ := hy
  rw [Ideal.div_coe (by exact_mod_cast h0)]
  exact hx.mul ⟨_, rfl⟩

/-- The logistic quotient has a denominator that is a positive real. -/
theorem IsR.sigm {x : EReal} (hx : IsR x) : IsR (Ideal.div 1 (1 + Ideal.exp x)) := by
  obtain ⟨a, rfl⟩ := hx
  refine IsR.one.div (IsR.one.add ⟨_, Ideal.exp_coe a⟩) ?_
  rw [Ideal.exp_coe, ← EReal.coe_one, ← EReal.coe_add]
  have : (0 : ℝ) < 1 + Real.exp a := by positivity
  exact_mod_cast this.ne'

/-- A nonnegative real plus a positive one has a real inverse root `r` with `r * r * a = 1`. -/
theorem rsqrt_pos {a : ℝ} (ha : 0 < a) :
    ∃ r : ℝ, Ideal.rsqrt (a : EReal) = (r : EReal) ∧ r * r * a = 1 := by
  refine ⟨(Real.sqrt a)⁻¹, ?_, ?_⟩
  · rw [Ideal.rsqrt_coe, if_neg (not_lt.2 ha.le), if_neg ha.ne']
  · have h := Real.mul_self_sqrt ha.le
    have h0 : Real.sqrt a ≠ 0 := (Real.sqrt_pos.2 ha).ne'
    rw [← mul_inv, h]; exact inv_mul_cancel₀ ha.ne'

/-! ## The constants of the programs -/

theorem c_half : Ideal.ofBits .f32 0x3F000000#32 = ((1 / 2 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul, -EReal.coe_neg]; norm_num
theorem c_two : Ideal.ofBits .f32 0x40000000#32 = ((2 : ℝ) : EReal) := by
  simp [Ideal.ofBits, Ideal.ieee, -EReal.coe_mul]; norm_num
theorem c_128 : Ideal.ofBits .f32 0x43000000#32 = ((128 : ℝ) : EReal) := by
  simp [Ideal.ofBits, Ideal.ieee, -EReal.coe_mul]; norm_num
theorem c_512 : Ideal.ofBits .f32 0x44000000#32 = ((512 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_eps : ∃ e : ℝ, 0 < e ∧ Ideal.ofBits .f32 0x358637BD#32 = (e : EReal) := by
  refine ⟨_, ?_, by simp [Ideal.ofBits, Ideal.ieee, -EReal.coe_mul]; rfl⟩
  norm_num
theorem c_rt : IsR (Ideal.ofBits .f32 0x3F3504F3#32) := by
  refine ⟨_, by simp [Ideal.ofBits, Ideal.ieee, -EReal.coe_mul]; rfl⟩
theorem c_pi : IsR (Ideal.ofBits .f32 0xBF906EBB#32) := by
  refine ⟨_, by simp [Ideal.ofBits, Ideal.ieee, -EReal.coe_mul, -EReal.coe_neg]; rfl⟩

/-! ## The backward pass of a normalisation -/

/-- Over the reals: the derivative of `c * r` with `c` the centred row and `r` its inverse deviation, as the
    differentiation of the plain lines gives it, is the closed form. -/
theorem ln_bwd_real {ι : Type*} [Fintype ι] (N : ℝ) (d c : ι → ℝ) (hc : ∑ k, c k = 0) (r : ℝ) (j : ι) :
    (d j * r + (∑ k, c k * d k) * (-(1 / 2) * (r * (r * r))) * (1 / N) * (2 * c j))
      + ((∑ k, -(d k * r)) + ∑ k, -((∑ k, c k * d k) * (-(1 / 2) * (r * (r * r))) * (1 / N) * (2 * c k))) * (1 / N)
    = r * ((d j - (∑ k, d k) * (1 / N)) - (c j * r) * ((∑ k, d k * (c k * r)) * (1 / N))) := by
  have h1 : ∑ k, -((∑ k, c k * d k) * (-(1 / 2) * (r * (r * r))) * (1 / N) * (2 * c k)) = 0 := by
    rw [Finset.sum_neg_distrib, ← Finset.mul_sum, ← Finset.mul_sum, hc]; ring
  have h2 : ∑ k, -(d k * r) = -((∑ k, d k) * r) := by
    rw [Finset.sum_neg_distrib, ← Finset.sum_mul]
  have h3 : ∑ k, d k * (c k * r) = (∑ k, c k * d k) * r := by
    rw [Finset.sum_mul]; exact Finset.sum_congr rfl fun k _ => by ring
  rw [h1, h2, h3]; ring

/-- The inverse root divided by what it is the root of. -/
theorem div_rs {r a : ℝ} (h : r * r * a = 1) : Ideal.div (r : EReal) (a : EReal) = ((r * (r * r) : ℝ) : EReal) := by
  have ha : a ≠ 0 := by rintro rfl; simp at h
  rw [Ideal.div_coe ha, ← EReal.coe_mul]
  have : 1 / a = r * r := by field_simp; linarith
  rw [this]

/-- The same over extended reals that are real. -/
theorem ln_bwd {ι : Type*} [Fintype ι] (N : ℝ) (hN : N ≠ 0) (d c : ι → EReal) (hd : ∀ k, IsR (d k)) (hc : ∀ k, IsR (c k))
    (h0 : ∑ k, c k = 0) (a r : EReal) (hr : ∃ a' r' : ℝ, a = a' ∧ r = r' ∧ r' * r' * a' = 1) (j : ι) :
    (d j * r + Ideal.div ((∑ k, c k * d k) * (((-(1 / 2) : ℝ) : EReal) * Ideal.div r a)) (N : EReal) * (((2 : ℝ) : EReal) * c j))
      + Ideal.div ((∑ k, -(d k * r)) + ∑ k, -(Ideal.div ((∑ k, c k * d k) * (((-(1 / 2) : ℝ) : EReal) * Ideal.div r a))
          (N : EReal) * (((2 : ℝ) : EReal) * c k))) (N : EReal)
    = r * ((d j - Ideal.div (∑ k, d k) (N : EReal)) - (c j * r) * Ideal.div (∑ k, d k * (c k * r)) (N : EReal)) := by
  obtain ⟨a, r, rfl, rfl, h⟩ := hr
  choose d' hd using hd
  choose c' hc using hc
  obtain rfl : d = fun k => (d' k : EReal) := funext hd
  obtain rfl : c = fun k => (c' k : EReal) := funext hc
  have h0' : ∑ k, c' k = 0 := by rw [← coe_sum] at h0; exact_mod_cast h0
  rw [div_rs h]
  simp only [Ideal.div_coe hN, ← EReal.coe_mul, ← EReal.coe_add, ← EReal.coe_sub, ← EReal.coe_neg, ← coe_sum]
  exact congrArg _ (ln_bwd_real N d' c' h0' r j)

/-- A row minus its mean sums to zero. -/
theorem sum_centred {ι : Type*} [Fintype ι] (N : ℝ) (hN : N ≠ 0) (hcard : (Fintype.card ι : ℝ) = N) (x : ι → EReal)
    (hx : ∀ k, IsR (x k)) : ∑ k, (x k - Ideal.div (∑ k, x k) (N : EReal)) = 0 := by
  choose x' hx using hx
  obtain rfl : x = fun k => (x' k : EReal) := funext hx
  simp only [Ideal.div_coe hN, ← EReal.coe_mul, ← EReal.coe_sub, ← coe_sum]
  rw [← EReal.coe_zero]
  refine congrArg _ ?_
  rw [Finset.sum_sub_distrib, Finset.sum_const, Finset.card_univ, nsmul_eq_mul, hcard]
  field_simp; ring

/-- The mean of squares plus a positive constant is a positive real, and its inverse root is what `ln_bwd` asks for. -/
theorem var_pos {ι : Type*} [Fintype ι] (N : ℝ) (hN : 0 < N) (e : EReal) (he : ∃ e' : ℝ, 0 < e' ∧ e = e') (c : ι → EReal)
    (hc : ∀ k, IsR (c k)) : ∃ a' r' : ℝ, Ideal.div (∑ k, c k * c k) (N : EReal) + e = a'
      ∧ Ideal.rsqrt (Ideal.div (∑ k, c k * c k) (N : EReal) + e) = r' ∧ r' * r' * a' = 1 := by
  obtain ⟨e, he, rfl⟩ := he
  choose c' hc using hc
  obtain rfl : c = fun k => (c' k : EReal) := funext hc
  simp only [Ideal.div_coe hN.ne', ← EReal.coe_mul, ← EReal.coe_add, ← coe_sum]
  have hp : 0 < (∑ k, c' k * c' k) * (1 / N) + e := by
    have : 0 ≤ ∑ k, c' k * c' k := Finset.sum_nonneg fun k _ => mul_self_nonneg _
    positivity
  obtain ⟨r, h1, h2⟩ := rsqrt_pos hp
  exact ⟨_, r, rfl, h1, h2⟩

/-- The larger of two real numbers is one. -/
theorem IsR.max {x y : EReal} (hx : IsR x) (hy : IsR y) : IsR (max x y) := by
  rcases max_choice x y with h | h <;> rw [h] <;> assumption

/-- A value smaller in size than the largest word of the format is a real number. -/
theorem isR_of_lt {x : EReal} (h : Ideal.cmp .olt (Max.max x (-x)) (Ideal.ofBits .f32 0x7F800000#32) = 1#1) : IsR x := by
  induction x using EReal.rec with
  | bot => simp [Ideal.cmp, Ideal.ofBits, Ideal.ieee] at h
  | top => simp [Ideal.cmp, Ideal.ofBits, Ideal.ieee] at h
  | coe r => exact ⟨r, rfl⟩

/-- The backward pass of a row divided by the root of its mean square: the differentiation of the plain lines, with
    the square's two halves apart, is the closed form. -/
theorem rms_bwd {ι : Type*} [Fintype ι] (N : ℝ) (hN : N ≠ 0) (d x : ι → EReal) (hd : ∀ k, IsR (d k)) (hx : ∀ k, IsR (x k))
    (a r : EReal) (hr : ∃ a' r' : ℝ, a = a' ∧ r = r' ∧ r' * r' * a' = 1) (j : ι) (v : EReal) (hv : IsR v) :
    ((v + d j * r) + x j * Ideal.div ((∑ k, x k * d k) * (((-(1 / 2) : ℝ) : EReal) * Ideal.div r a)) (N : EReal))
      + Ideal.div ((∑ k, x k * d k) * (((-(1 / 2) : ℝ) : EReal) * Ideal.div r a)) (N : EReal) * x j
    = v + r * (d j - (x j * r) * Ideal.div (∑ k, d k * (x k * r)) (N : EReal)) := by
  obtain ⟨a, r, rfl, rfl, h⟩ := hr
  obtain ⟨v, rfl⟩ := hv
  choose d' hd using hd
  choose x' hx using hx
  obtain rfl : d = fun k => (d' k : EReal) := funext hd
  obtain rfl : x = fun k => (x' k : EReal) := funext hx
  rw [div_rs h]
  simp only [Ideal.div_coe hN, ← EReal.coe_mul, ← EReal.coe_add, ← EReal.coe_sub, ← coe_sum]
  have e : ∑ k, d' k * (x' k * r) = (∑ k, x' k * d' k) * r := by
    rw [Finset.sum_mul]; exact Finset.sum_congr rfl fun k _ => by ring
  rw [e]
  refine congrArg _ ?_
  ring

end Cert.Alg

end
-- ==== Proof.Tile.lean ====
/- The 256 rows of a grid point's tile, and what the body computes on them, stage by stage. -/
module

public import proofs.«01_k».proof.Proof.Stage
public import proofs.«01_k».proof.Proof.Alg
public import proofs.«01_k».proof.Proof.Gen.KernelIdeal.Skeleton
public import Idealize.ShloMosaic.Lib.Pointwise

@[expose] public section

set_option maxRecDepth 16384

noncomputable section

namespace Cert.Mix

open Idealize.ShloMosaic Idealize.ShloMosaic.TcCoe Idealize.SL.Sem
open Cert.KernelIdeal Cert.KernelIdeal.Gen
open Cert.ReferenceIdeal (In)

/-- Row `r` of tile `b`. -/
abbrev row (b : Fin 16) (r : Fin 256) : Fin 4096 := ⟨256 * b.val + r.val, by omega⟩

/-- The tile `b` of an array of 512 columns. -/
def tl (b : Fin 16) (X : FVec Ideal Cert.ReferenceIdeal.S4096x512 .f32) : FVec Ideal S256x512 .f32 :=
  fun j => X (ix2 (row b (j 0)) (j 1))
/-- The tile `b` of an array of 1024 columns. -/
def tlw (b : Fin 16) (X : FVec Ideal Cert.ReferenceIdeal.S4096x1024 .f32) : FVec Ideal S256x1024 .f32 :=
  fun j => X (ix2 (row b (j 0)) (j 1))
/-- A vector as one row. -/
def rw1 (X : FVec Ideal Cert.ReferenceIdeal.S512 .f32) : FVec Ideal S1x512 .f32 := fun j => X (ix1 (j 1))
/-- Rows `256 q …` of the output projection, as a leading block. -/
def wo (X : FVec Ideal Cert.ReferenceIdeal.S1024x1024 .f32) (q : Fin 4) : FVec Ideal S1x256x1024 .bf16 :=
  fun j => X (ix2 ⟨256 * q.val + (j 1).val, by have h : (j 1).val < 256 := (j 1).isLt; have := q.isLt; omega⟩ (j 2))
/-- The spatial weight of head `h`, and its transpose. -/
def wh (X : FVec Ideal Cert.ReferenceIdeal.S4x128x128 .f32) (h : Fin 4) : FVec Ideal S1x128x128 .f32 := fun j => X (ix3 h (j 1) (j 2))
def wht (X : FVec Ideal Cert.ReferenceIdeal.S4x128x128 .f32) (h : Fin 4) : FVec Ideal S1x128x128 .f32 := fun j => X (ix3 h (j 2) (j 1))
/-- The spatial bias of head `h`, one value per row. -/
def bh (X : FVec Ideal Cert.ReferenceIdeal.S4x128 .f32) (h : Fin 4) : FVec Ideal S1x128x128 .f32 := fun j => X (ix2 h (j 1))

/-- The 128×128 sub-tile at rows `128 i …` and columns `128 h …`. -/
def sub (X : FVec Ideal S256x512 .f32) (i : Fin 2) (h : Fin 4) : FVec Ideal S128x128 .f32 :=
  fun j => X (ix2 ⟨128 * i.val + (j 0).val, by have := i.isLt; have h : (j 0).val < 128 := (j 0).isLt; omega⟩ ⟨128 * h.val + (j 1).val, by have := h.isLt; have h : (j 1).val < 128 := (j 1).isLt; omega⟩)

theorem pay74 (I : In) (b : Fin 16) :
    k0_pay74 (F := Ideal) (tlw b I.x12) (wo I.x11 0) (wo I.x11 1) (wo I.x11 2) (wo I.x11 3) = tlw b I.v150 := by
  funext j
  idx_vars j
  pointwise [k0_pay74, In.v150_eq, tlw, wo]
  split_ifs <;> refine Finset.sum_congr rfl fun x _ => ?_ <;> congr 3 <;> refine Fin.ext ?_ <;> simp <;> omega

theorem pay31 (I : In) (b : Fin 16) : k0_pay31 (F := Ideal) (rw1 I.x3) (tl b I.v63) (rw1 I.x4) = tl b I.v69 := by
  funext j
  idx_vars j
  pointwise [k0_pay31, k0_pay22, k0_pay27, In.v69_eq, tl, rw1]

theorem pay75 (I : In) (b : Fin 16) (wo0 wo1 wo2 wo3) (h : k0_pay74 (F := Ideal) (tlw b I.x12) wo0 wo1 wo2 wo3 = tlw b I.v150) :
    k0_pay75 (F := Ideal) (tlw b I.x12) wo0 wo1 wo2 wo3 = tl b I.v151 := by
  funext j
  idx_vars j
  pointwise [k0_pay75, h, In.v151_eq, tl, tlw]

theorem pay76 (I : In) (b : Fin 16) (wo0 wo1 wo2 wo3) (h : k0_pay74 (F := Ideal) (tlw b I.x12) wo0 wo1 wo2 wo3 = tlw b I.v150) :
    k0_pay76 (F := Ideal) (tlw b I.x12) wo0 wo1 wo2 wo3 = tl b I.v152 := by
  funext j
  idx_vars j
  pointwise [k0_pay76, h, In.v152_eq, tl, tlw]

theorem pay78 (I : In) (b : Fin 16) (wo0 wo1 wo2 wo3) (h : k0_pay74 (F := Ideal) (tlw b I.x12) wo0 wo1 wo2 wo3 = tlw b I.v150) :
    k0_pay78 (F := Ideal) (k0_pay24 (tl b I.v30)) (tlw b I.x12) wo0 wo1 wo2 wo3 = tl b I.v206 := by
  funext j
  idx_vars j
  pointwise [k0_pay78, pay75 I b _ _ _ _ h, k0_pay24, In.v206_eq, tl]
  exact mul_comm _ _

theorem pay78' (I : In) (b : Fin 16) :
    k0_pay78 (F := Ideal) (k0_pay24 (tl b I.v30)) (tlw b I.x12) (wo I.x11 0) (wo I.x11 1) (wo I.x11 2) (wo I.x11 3) = tl b I.v206 :=
  pay78 I b _ _ _ _ (pay74 I b)

theorem pay76' (I : In) (b : Fin 16) :
    k0_pay76 (F := Ideal) (tlw b I.x12) (wo I.x11 0) (wo I.x11 1) (wo I.x11 2) (wo I.x11 3) = tl b I.v152 :=
  pay76 I b _ _ _ _ (pay74 I b)

theorem addi0 (a : BitVec 32) : IntOp.addi a 0#32 = a := by simp [IntOp.addi]

theorem at2 (X : FVec Ideal Cert.ReferenceIdeal.S4096x512 .f32) {R R' : Fin 4096} {C C' : Fin 512} (hR : R.val = R'.val) (hC : C.val = C'.val) :
    X (ix2 R C) = X (ix2 R' C') := by
  obtain rfl := Fin.ext hR
  obtain rfl := Fin.ext hC
  rfl

/-- The gate's mixed rows at an index, its coordinates named by chunk, place, head and lane. -/
theorem v82_at (I : In) (R : Fin 4096) (C : Fin 512) (p : Fin 32) (r : Fin 128) (h : Fin 4) (k : Fin 128) (hR : R.val = p.val * 128 + r.val) (hC : C.val = h.val * 128 + k.val) :
    I.v82 (ix2 R C) = (∑ x : Fin 128, Scalar.select (IntOp.cmpi .sge (BitVec.ofNat 32 r.val) (BitVec.ofNat 32 x.val)) (I.v69 (ix2 ⟨p.val * 128 + x.val, by omega⟩ ⟨h.val * 128 + k.val, by omega⟩) * I.x5 (ix3 h r x)) 0) + I.x6 (ix2 h r) := by
  rw [at2 I.v82 (R' := ⟨128 * p.val + r.val, by omega⟩) (C' := ⟨128 * h.val + k.val, by omega⟩) (by show R.val = _; dsimp only; omega) (by dsimp only; omega)]
  pointwise [In.v82_eq, In.v75_eq]
  simp only [addi0]

theorem v219_at (I : In) (R : Fin 4096) (C : Fin 512) (p : Fin 32) (r : Fin 128) (h : Fin 4) (k : Fin 128) (hR : R.val = p.val * 128 + r.val) (hC : C.val = h.val * 128 + k.val) :
    I.v219 (ix2 R C) = ∑ x : Fin 128, Scalar.select (IntOp.cmpi .sge (BitVec.ofNat 32 x.val) (BitVec.ofNat 32 r.val)) (I.v206 (ix2 ⟨p.val * 128 + x.val, by omega⟩ ⟨h.val * 128 + k.val, by omega⟩) * I.x5 (ix3 h x r)) 0 := by
  rw [at2 I.v219 (R' := ⟨128 * p.val + r.val, by omega⟩) (C' := ⟨128 * h.val + k.val, by omega⟩) (by dsimp only; omega) (by dsimp only; omega)]
  pointwise [In.v219_eq, In.v75_eq]
  simp only [addi0]

theorem dv00 (I : In) (b : Fin 16) : k0_pay86 (F := Ideal) (tl b I.v206) (k0_pay80 (wht I.x5 0)) = sub (tl b I.v219) 0 0 := by
  funext j
  idx_vars j
  pointwise [k0_pay86, k0_pay85, k0_pay80, k0_pay79, tl, sub, wht]
  rw [v219_at I _ _ ⟨2 * b.val + 0, by omega⟩ j0 0 j1 (by simp; omega) (by simp)]
  exact Finset.sum_congr rfl fun x _ => congrArg (fun z => Scalar.select _ z 0) ((mul_comm _ _).trans (congrArg (· * _) (at2 I.v206 (by simp; omega) (by simp))))
theorem dv10 (I : In) (b : Fin 16) : k0_pay88 (F := Ideal) (tl b I.v206) (k0_pay80 (wht I.x5 0)) = sub (tl b I.v219) 1 0 := by
  funext j
  idx_vars j
  pointwise [k0_pay88, k0_pay87, k0_pay80, k0_pay79, tl, sub, wht]
  rw [v219_at I _ _ ⟨2 * b.val + 1, by omega⟩ j0 0 j1 (by simp; omega) (by simp)]
  exact Finset.sum_congr rfl fun x _ => congrArg (fun z => Scalar.select _ z 0) ((mul_comm _ _).trans (congrArg (· * _) (at2 I.v206 (by simp; omega) (by simp))))
theorem dv01 (I : In) (b : Fin 16) : k0_pay95 (F := Ideal) (tl b I.v206) (k0_pay81 (wht I.x5 1)) = sub (tl b I.v219) 0 1 := by
  funext j
  idx_vars j
  pointwise [k0_pay95, k0_pay94, k0_pay81, k0_pay79, tl, sub, wht]
  rw [v219_at I _ _ ⟨2 * b.val + 0, by omega⟩ j0 1 j1 (by simp; omega) (by simp)]
  exact Finset.sum_congr rfl fun x _ => congrArg (fun z => Scalar.select _ z 0) ((mul_comm _ _).trans (congrArg (· * _) (at2 I.v206 (by simp; omega) (by simp))))
theorem dv11 (I : In) (b : Fin 16) : k0_pay98 (F := Ideal) (tl b I.v206) (k0_pay81 (wht I.x5 1)) = sub (tl b I.v219) 1 1 := by
  funext j
  idx_vars j
  pointwise [k0_pay98, k0_pay97, k0_pay81, k0_pay79, tl, sub, wht]
  rw [v219_at I _ _ ⟨2 * b.val + 1, by omega⟩ j0 1 j1 (by simp; omega) (by simp)]
  exact Finset.sum_congr rfl fun x _ => congrArg (fun z => Scalar.select _ z 0) ((mul_comm _ _).trans (congrArg (· * _) (at2 I.v206 (by simp; omega) (by simp))))
theorem dv02 (I : In) (b : Fin 16) : k0_pay103 (F := Ideal) (tl b I.v206) (k0_pay82 k0_pay79 (wht I.x5 2)) = sub (tl b I.v219) 0 2 := by
  funext j
  idx_vars j
  pointwise [k0_pay103, k0_pay102, k0_pay82, k0_pay79, tl, sub, wht]
  rw [v219_at I _ _ ⟨2 * b.val + 0, by omega⟩ j0 2 j1 (by simp; omega) (by simp)]
  exact Finset.sum_congr rfl fun x _ => congrArg (fun z => Scalar.select _ z 0) ((mul_comm _ _).trans (congrArg (· * _) (at2 I.v206 (by simp; omega) (by simp))))
theorem dv12 (I : In) (b : Fin 16) : k0_pay108 (F := Ideal) (k0_pay107 (tl b I.v206) (k0_pay82 k0_pay79 (wht I.x5 2))) = sub (tl b I.v219) 1 2 := by
  funext j
  idx_vars j
  pointwise [k0_pay108, k0_pay107, k0_pay106, k0_pay82, k0_pay79, tl, sub, wht]
  rw [v219_at I _ _ ⟨2 * b.val + 1, by omega⟩ j0 2 j1 (by simp; omega) (by simp)]
  exact Finset.sum_congr rfl fun x _ => congrArg (fun z => Scalar.select _ z 0) ((mul_comm _ _).trans (congrArg (· * _) (at2 I.v206 (by simp; omega) (by simp))))
theorem dv03 (I : In) (b : Fin 16) : k0_pay114 (F := Ideal) (tl b I.v206) (k0_pay83 k0_pay79 (wht I.x5 3)) = sub (tl b I.v219) 0 3 := by
  funext j
  idx_vars j
  pointwise [k0_pay114, k0_pay113, k0_pay83, k0_pay79, tl, sub, wht]
  rw [v219_at I _ _ ⟨2 * b.val + 0, by omega⟩ j0 3 j1 (by simp; omega) (by simp)]
  exact Finset.sum_congr rfl fun x _ => congrArg (fun z => Scalar.select _ z 0) ((mul_comm _ _).trans (congrArg (· * _) (at2 I.v206 (by simp; omega) (by simp))))
theorem dv13 (I : In) (b : Fin 16) : k0_pay117 (F := Ideal) (tl b I.v206) (k0_pay83 k0_pay79 (wht I.x5 3)) = sub (tl b I.v219) 1 3 := by
  funext j
  idx_vars j
  pointwise [k0_pay117, k0_pay116, k0_pay83, k0_pay79, tl, sub, wht]
  rw [v219_at I _ _ ⟨2 * b.val + 1, by omega⟩ j0 3 j1 (by simp; omega) (by simp)]
  exact Finset.sum_congr rfl fun x _ => congrArg (fun z => Scalar.select _ z 0) ((mul_comm _ _).trans (congrArg (· * _) (at2 I.v206 (by simp; omega) (by simp))))
theorem mx00 (I : In) (b : Fin 16) : k0_pay38 (F := Ideal) (tl b I.v69) k0_pay32 (wh I.x5 0) (bh I.x6 0) = sub (tl b I.v82) 0 0 := by
  funext j
  idx_vars j
  pointwise [k0_pay38, k0_pay33, k0_pay32, k0_pay37, tl, sub, wh, bh]
  rw [v82_at I _ _ ⟨2 * b.val + 0, by omega⟩ j0 0 j1 (by simp; omega) (by simp)]
  exact congrArg (· + _) (Finset.sum_congr rfl fun x _ => congrArg (fun z => Scalar.select _ z 0) ((mul_comm _ _).trans (congrArg (· * _) (at2 I.v69 (by simp; omega) (by simp)))))
theorem mx01 (I : In) (b : Fin 16) : k0_pay40 (F := Ideal) (k0_pay39 (tl b I.v69) k0_pay32 (wh I.x5 1) (bh I.x6 1)) = sub (tl b I.v82) 0 1 := by
  funext j
  idx_vars j
  pointwise [k0_pay40, k0_pay39, k0_pay34, k0_pay32, k0_pay37, tl, sub, wh, bh]
  rw [v82_at I _ _ ⟨2 * b.val + 0, by omega⟩ j0 1 j1 (by simp; omega) (by simp)]
  exact congrArg (· + _) (Finset.sum_congr rfl fun x _ => congrArg (fun z => Scalar.select _ z 0) ((mul_comm _ _).trans (congrArg (· * _) (at2 I.v69 (by simp; omega) (by simp)))))
theorem mx02 (I : In) (b : Fin 16) : k0_pay41 (F := Ideal) (k0_pay35 k0_pay32 (wh I.x5 2)) (k0_pay37 (tl b I.v69)) (bh I.x6 2) = sub (tl b I.v82) 0 2 := by
  funext j
  idx_vars j
  pointwise [k0_pay41, k0_pay35, k0_pay32, k0_pay37, tl, sub, wh, bh]
  rw [v82_at I _ _ ⟨2 * b.val + 0, by omega⟩ j0 2 j1 (by simp; omega) (by simp)]
  exact congrArg (· + _) (Finset.sum_congr rfl fun x _ => congrArg (fun z => Scalar.select _ z 0) ((mul_comm _ _).trans (congrArg (· * _) (at2 I.v69 (by simp; omega) (by simp)))))
theorem mx03 (I : In) (b : Fin 16) : k0_pay42 (F := Ideal) (k0_pay36 k0_pay32 (wh I.x5 3)) (k0_pay37 (tl b I.v69)) (bh I.x6 3) = sub (tl b I.v82) 0 3 := by
  funext j
  idx_vars j
  pointwise [k0_pay42, k0_pay36, k0_pay32, k0_pay37, tl, sub, wh, bh]
  rw [v82_at I _ _ ⟨2 * b.val + 0, by omega⟩ j0 3 j1 (by simp; omega) (by simp)]
  exact congrArg (· + _) (Finset.sum_congr rfl fun x _ => congrArg (fun z => Scalar.select _ z 0) ((mul_comm _ _).trans (congrArg (· * _) (at2 I.v69 (by simp; omega) (by simp)))))
theorem mx10 (I : In) (b : Fin 16) : k0_pay43 (F := Ideal) (k0_pay33 k0_pay32 (wh I.x5 0)) (k0_pay37 (tl b I.v69)) (bh I.x6 0) = sub (tl b I.v82) 1 0 := by
  funext j
  idx_vars j
  pointwise [k0_pay43, k0_pay33, k0_pay32, k0_pay37, tl, sub, wh, bh]
  rw [v82_at I _ _ ⟨2 * b.val + 1, by omega⟩ j0 0 j1 (by simp; omega) (by simp)]
  exact congrArg (· + _) (Finset.sum_congr rfl fun x _ => congrArg (fun z => Scalar.select _ z 0) ((mul_comm _ _).trans (congrArg (· * _) (at2 I.v69 (by simp; omega) (by simp)))))
theorem mx11 (I : In) (b : Fin 16) : k0_pay45 (F := Ideal) (k0_pay44 (k0_pay34 k0_pay32 (wh I.x5 1)) (k0_pay37 (tl b I.v69)) (bh I.x6 1)) = sub (tl b I.v82) 1 1 := by
  funext j
  idx_vars j
  pointwise [k0_pay45, k0_pay44, k0_pay34, k0_pay32, k0_pay37, tl, sub, wh, bh]
  rw [v82_at I _ _ ⟨2 * b.val + 1, by omega⟩ j0 1 j1 (by simp; omega) (by simp)]
  exact congrArg (· + _) (Finset.sum_congr rfl fun x _ => congrArg (fun z => Scalar.select _ z 0) ((mul_comm _ _).trans (congrArg (· * _) (at2 I.v69 (by simp; omega) (by simp)))))
theorem mx12 (I : In) (b : Fin 16) : k0_pay46 (F := Ideal) (k0_pay35 k0_pay32 (wh I.x5 2)) (k0_pay37 (tl b I.v69)) (bh I.x6 2) = sub (tl b I.v82) 1 2 := by
  funext j
  idx_vars j
  pointwise [k0_pay46, k0_pay35, k0_pay32, k0_pay37, tl, sub, wh, bh]
  rw [v82_at I _ _ ⟨2 * b.val + 1, by omega⟩ j0 2 j1 (by simp; omega) (by simp)]
  exact congrArg (· + _) (Finset.sum_congr rfl fun x _ => congrArg (fun z => Scalar.select _ z 0) ((mul_comm _ _).trans (congrArg (· * _) (at2 I.v69 (by simp; omega) (by simp)))))
theorem mx13 (I : In) (b : Fin 16) : k0_pay47 (F := Ideal) (k0_pay36 k0_pay32 (wh I.x5 3)) (k0_pay37 (tl b I.v69)) (bh I.x6 3) = sub (tl b I.v82) 1 3 := by
  funext j
  idx_vars j
  pointwise [k0_pay47, k0_pay36, k0_pay32, k0_pay37, tl, sub, wh, bh]
  rw [v82_at I _ _ ⟨2 * b.val + 1, by omega⟩ j0 3 j1 (by simp; omega) (by simp)]
  exact congrArg (· + _) (Finset.sum_congr rfl fun x _ => congrArg (fun z => Scalar.select _ z 0) ((mul_comm _ _).trans (congrArg (· * _) (at2 I.v69 (by simp; omega) (by simp)))))

/-- What tile `b` adds to the spatial weight's gradient of head `h`. -/
def dwT (I : In) (b : Fin 16) (h : Fin 4) (r k : Fin 128) : EReal :=
  Scalar.select (IntOp.cmpi .sge (BitVec.ofNat 32 r.val) (BitVec.ofNat 32 k.val))
    ((∑ x : Fin 128, I.v206 (ix2 (row b ⟨r.val, by omega⟩) ⟨h.val * 128 + x.val, by omega⟩) * I.v69 (ix2 (row b ⟨k.val, by omega⟩) ⟨h.val * 128 + x.val, by omega⟩))
      + ∑ x : Fin 128, I.v206 (ix2 (row b ⟨128 + r.val, by omega⟩) ⟨h.val * 128 + x.val, by omega⟩) * I.v69 (ix2 (row b ⟨128 + k.val, by omega⟩) ⟨h.val * 128 + x.val, by omega⟩)) 0

/-- What tile `b` adds to the spatial bias's gradient of head `h`. -/
def dbT (I : In) (b : Fin 16) (h : Fin 4) (r : Fin 128) : EReal :=
  ∑ x : Fin 128, (I.v206 (ix2 (row b ⟨r.val, by omega⟩) ⟨h.val * 128 + x.val, by omega⟩) + I.v206 (ix2 (row b ⟨128 + r.val, by omega⟩) ⟨h.val * 128 + x.val, by omega⟩))

theorem dw0 (I : In) (b : Fin 16) (O : FVec Ideal S1x128x128 .f32) (r k : Fin 128) : k0_pay92 (F := Ideal) k0_pay84 (k0_pay89 (k0_pay37 (tl b I.v69)) (tl b I.v206)) (k0_pay91 O) (FloatOps.ofBits FTy.f32 0#32) (ix3 0 r k) = O (ix3 0 r k) + dwT I b 0 r k := by
  pointwise [k0_pay92, k0_pay89, k0_pay91, k0_pay85, k0_pay87, k0_pay84, k0_pay37, tl, dwT]
theorem dw1 (I : In) (b : Fin 16) (O : FVec Ideal S1x128x128 .f32) (r k : Fin 128) : k0_pay100 (F := Ideal) k0_pay84 (k0_pay99 (k0_pay37 (tl b I.v69)) (tl b I.v206)) O (ix3 0 r k) = O (ix3 0 r k) + dwT I b 1 r k := by
  pointwise [k0_pay100, k0_pay99, k0_pay94, k0_pay97, k0_pay84, k0_pay37, tl, dwT]
theorem dw2 (I : In) (b : Fin 16) (O : FVec Ideal S1x128x128 .f32) (r k : Fin 128) : k0_pay109 (F := Ideal) (k0_pay37 (tl b I.v69)) k0_pay84 (k0_pay104 (k0_pay37 (tl b I.v69)) (tl b I.v206)) (k0_pay106 (tl b I.v206)) O (ix3 0 r k) = O (ix3 0 r k) + dwT I b 2 r k := by
  pointwise [k0_pay109, k0_pay104, k0_pay102, k0_pay106, k0_pay84, k0_pay37, tl, dwT]
theorem dw3 (I : In) (b : Fin 16) (O : FVec Ideal S1x128x128 .f32) (r k : Fin 128) : k0_pay118 (F := Ideal) (k0_pay37 (tl b I.v69)) (tl b I.v206) k0_pay84 k0_pay111 (k0_pay115 (k0_pay37 (tl b I.v69)) (tl b I.v206)) O (ix3 0 r k) = O (ix3 0 r k) + dwT I b 3 r k := by
  pointwise [k0_pay118, k0_pay111, k0_pay115, k0_pay113, k0_pay116, k0_pay84, k0_pay37, tl, dwT]
theorem db0 (I : In) (b : Fin 16) (O : FVec Ideal S1x128x128 .f32) (r k : Fin 128) : k0_pay93 (F := Ideal) (k0_pay90 (tl b I.v206)) O (ix3 0 r k) = O (ix3 0 r k) + dbT I b 0 r := by
  pointwise [k0_pay93, k0_pay90, k0_pay85, k0_pay87, tl, dbT]
theorem db1 (I : In) (b : Fin 16) (O : FVec Ideal S1x128x128 .f32) (r k : Fin 128) : k0_pay101 (F := Ideal) (k0_pay96 (tl b I.v206)) (k0_pay97 (tl b I.v206)) O (ix3 0 r k) = O (ix3 0 r k) + dbT I b 1 r := by
  pointwise [k0_pay101, k0_pay96, k0_pay94, k0_pay97, tl, dbT]
theorem db2 (I : In) (b : Fin 16) (O : FVec Ideal S1x128x128 .f32) (r k : Fin 128) : k0_pay110 (F := Ideal) (k0_pay105 (tl b I.v206)) (k0_pay106 (tl b I.v206)) O (ix3 0 r k) = O (ix3 0 r k) + dbT I b 2 r := by
  pointwise [k0_pay110, k0_pay105, k0_pay102, k0_pay106, tl, dbT]
theorem db3 (I : In) (b : Fin 16) (O : FVec Ideal S1x128x128 .f32) (r k : Fin 128) : k0_pay119 (F := Ideal) (tl b I.v206) k0_pay112 (k0_pay113 (tl b I.v206)) O (ix3 0 r k) = O (ix3 0 r k) + dbT I b 3 r := by
  pointwise [k0_pay119, k0_pay112, k0_pay113, k0_pay116, tl, dbT]

theorem dlng (I : In) (b : Fin 16) (O : FVec Ideal S1x512 .f32) (k : Fin 512) : k0_pay122 (F := Ideal) (k0_pay120 O) (k0_pay121 (k0_pay27 (tl b I.v63)) (tl b I.v219)) (ix2 0 k) = O (ix2 0 k) + ∑ r : Fin 256, I.v219 (ix2 (row b r) k) * I.v63 (ix2 (row b r) k) := by
  pointwise [k0_pay122, k0_pay120, k0_pay121, k0_pay27, tl]
theorem dlnb (I : In) (b : Fin 16) (O : FVec Ideal S1x512 .f32) (k : Fin 512) : k0_pay123 (F := Ideal) (tl b I.v219) O (ix2 0 k) = O (ix2 0 k) + ∑ r : Fin 256, I.v219 (ix2 (row b r) k) := by
  pointwise [k0_pay123, tl]

end Cert.Mix

end
-- ==== Proof.Mix.Inp.lean ====
/- What the windows of the backward mixer hold at a grid point, as tiles of the reference's stages. -/
module

public import proofs.«01_k».proof.Proof.Mix.Dat
public import proofs.«01_k».proof.Proof.Tile
public import Idealize.ShloMosaic.Lib.Pipeline.ValueKit

@[expose] public section

set_option maxRecDepth 16384

noncomputable section

namespace Cert.KernelIdeal.Mix

open Cert.KernelIdeal Cert.KernelIdeal.Gen Idealize.ShloMosaic Idealize.ShloMosaic.TcCoe Idealize.SL.Sem
open Idealize.ShloMosaic.Pipeline (Dat)
open Cert.Mix
open Cert.ReferenceIdeal (In)

variable (m : (ℓ : Loc nD τ sig) → Buf (Elt Ideal) ℓ)

/-- The inputs, as the reference takes them. -/
def inp (c : Dev nD) : In where
  x0 := m ((c : Thread nD τ).loc main_arg0)
  x1 := m ((c : Thread nD τ).loc main_arg1)
  x2 := m ((c : Thread nD τ).loc main_arg2)
  x3 := m ((c : Thread nD τ).loc main_arg3)
  x4 := m ((c : Thread nD τ).loc main_arg4)
  x5 := m ((c : Thread nD τ).loc main_arg5)
  x6 := m ((c : Thread nD τ).loc main_arg6)
  x7 := m ((c : Thread nD τ).loc main_arg7)
  x8 := m ((c : Thread nD τ).loc main_arg8)
  x9 := m ((c : Thread nD τ).loc main_arg9)
  x10 := m ((c : Thread nD τ).loc main_arg10)
  x11 := m ((c : Thread nD τ).loc main_arg11)
  x12 := m ((c : Thread nD τ).loc main_arg12)

/-- The tile of rows that a grid point takes: the last first. -/
def bt (t : Fin cfg0.N) : Fin 16 := ⟨15 - t.val, by omega⟩

theorem idx : ∀ t : Fin cfg0.N, win0_0.index t = ![15 - t.val, 0] ∧ win0_1.index t = ![15 - t.val, 0] ∧ win0_2.index t = ![15 - t.val, 0]
    ∧ win0_3.index t = ![15 - t.val, 1] ∧ win0_6.index t = ![15 - t.val, 0] ∧ win0_7.index t = ![15 - t.val, 0] ∧ win0_8.index t = ![15 - t.val, 0] :=
  (by decide +kernel : ∀ t : Fin grid0.N, _)
theorem idx' : ∀ t : Fin cfg0.N, win0_9.index t = ![0, 0] ∧ win0_11.index t = ![0, 0] ∧ win0_12.index t = ![0, 0] ∧ win0_13.index t = ![0, 0, 0]
    ∧ win0_14.index t = ![0, 0, 0] ∧ win0_15.index t = ![0, 0, 0] ∧ win0_20.index t = ![0, 0, 0] :=
  (by decide +kernel : ∀ t : Fin grid0.N, _)
theorem idx'' : ∀ t : Fin cfg0.N, win0_10.index t = ![0, 0, 0] ∧ win0_16.index t = ![0, 0] ∧ win0_17.index t = ![0, 0] ∧ win0_18.index t = ![0, 0]
    ∧ win0_19.index t = ![0, 0] ∧ win0_4.index t = ![(15 - t.val) * 8 - 1, 2] ∧ win0_5.index t = ![(15 - t.val) * 8 - 1, 3] :=
  (by decide +kernel : ∀ t : Fin grid0.N, _)

end Cert.KernelIdeal.Mix
-- ==== Proof.Mix.EntryA.lean ====
/- What the windows of the backward mixer hold at a grid point, as tiles of the reference's stages. -/
module

public import proofs.«01_k».proof.Proof.Mix.Inp
public import Idealize.ShloMosaic.Lib.Pipeline.ValueKit

@[expose] public section

set_option maxRecDepth 16384

noncomputable section

namespace Cert.KernelIdeal.Mix

open Cert.KernelIdeal Cert.KernelIdeal.Gen Idealize.ShloMosaic Idealize.ShloMosaic.TcCoe Idealize.SL.Sem
open Idealize.ShloMosaic.Pipeline (Dat)
open Cert.Mix
open Cert.ReferenceIdeal (In)

variable (m : (ℓ : Loc nD τ sig) → Buf (Elt Ideal) ℓ)

theorem e1 (c : Dev nD) : V m c main_v111 = (inp m c).x12 := rfl
theorem e24 (c : Dev nD) : V m c main_v24 = (inp m c).v30 := rfl
theorem e54 (c : Dev nD) : V m c main_v54 = (inp m c).v63 := rfl
theorem e13 (c : Dev nD) : V m c main_v13 = (inp m c).v16 := rfl
theorem e50 (c : Dev nD) : V m c main_v50 = (inp m c).v56 := rfl

end Cert.KernelIdeal.Mix
-- ==== Proof.Mix.EntryB.lean ====
/- What the windows of the backward mixer hold at a grid point, as tiles of the reference's stages. -/
module

public import proofs.«01_k».proof.Proof.Mix.Inp
public import Idealize.ShloMosaic.Lib.Pipeline.ValueKit

@[expose] public section

set_option maxRecDepth 16384

noncomputable section

namespace Cert.KernelIdeal.Mix

open Cert.KernelIdeal Cert.KernelIdeal.Gen Idealize.ShloMosaic Idealize.ShloMosaic.TcCoe Idealize.SL.Sem
open Idealize.ShloMosaic.Pipeline (Dat)
open Cert.Mix
open Cert.ReferenceIdeal (In)

variable (m : (ℓ : Loc nD τ sig) → Buf (Elt Ideal) ℓ)

set_option maxHeartbeats 4000000 in
theorem e102 (c : Dev nD) : V m c main_v102 = (inp m c).v109 := rfl

end Cert.KernelIdeal.Mix
-- ==== Proof.Mix.EntryC.lean ====
/- What the windows of the backward mixer hold at a grid point, as tiles of the reference's stages. -/
module

public import proofs.«01_k».proof.Proof.Mix.Inp
public import Idealize.ShloMosaic.Lib.Pipeline.ValueKit

@[expose] public section

set_option maxRecDepth 16384

noncomputable section

namespace Cert.KernelIdeal.Mix

open Cert.KernelIdeal Cert.KernelIdeal.Gen Idealize.ShloMosaic Idealize.ShloMosaic.TcCoe Idealize.SL.Sem
open Idealize.ShloMosaic.Pipeline (Dat)
open Cert.Mix
open Cert.ReferenceIdeal (In)

variable (m : (ℓ : Loc nD τ sig) → Buf (Elt Ideal) ℓ)

theorem e112 (c : Dev nD) : V m c main_v112 = broadcastInDim S4096x128 ![0, 1] bcast_S4096x1_S4096x128_0_1 (V m c main_v50) := rfl
set_option maxHeartbeats 8000000 in
theorem e77 (c : Dev nD) : V m c main_v77 = concatenate S4096x2048 1 [⟨S4096x512, V m c main_v24⟩, ⟨S4096x512, V m c main_v65⟩, ⟨S4096x512, V m c main_v76⟩, ⟨S4096x512, V m c main_v54⟩] concatenates_S4096x512_S4096x512_S4096x512_S4096x512_S4096x2048_d1 := rfl
theorem e77a (c : Dev nD) (p : Fin 4096) (q : Fin 512) : V m c main_v77 (ix2 p ⟨q.val, by omega⟩) = V m c main_v24 (ix2 p q) := by
  rw [e77]
  pointwise
theorem e77b (c : Dev nD) (p : Fin 4096) (q : Fin 512) : V m c main_v77 (ix2 p ⟨512 + q.val, by omega⟩) = V m c main_v65 (ix2 p q) := by
  rw [e77]
  pointwise
theorem e77c (c : Dev nD) (p : Fin 4096) (q : Fin 512) : V m c main_v77 (ix2 p ⟨1024 + q.val, by omega⟩) = V m c main_v76 (ix2 p q) := by
  rw [e77]
  pointwise
  rw [dif_neg (by omega), dif_neg (by omega), dif_pos (by omega)]
  congr 2
  exact Fin.ext (by show 1024 + q.val - 512 - 512 = q.val; omega)
theorem e77d (c : Dev nD) (p : Fin 4096) (q : Fin 512) : V m c main_v77 (ix2 p ⟨1536 + q.val, by omega⟩) = V m c main_v54 (ix2 p q) := by
  rw [e77]
  pointwise
  rw [dif_neg (by omega), dif_neg (by omega), dif_neg (by omega)]
  congr 2
  exact Fin.ext (by show 1536 + q.val - 512 - 512 - 512 = q.val; omega)

end Cert.KernelIdeal.Mix
-- ==== Proof.Mix.EntryD.lean ====
/- What the windows of the backward mixer hold at a grid point, as tiles of the reference's stages. -/
module

public import proofs.«01_k».proof.Proof.Mix.Inp
public import Idealize.ShloMosaic.Lib.Pipeline.ValueKit

@[expose] public section

set_option maxRecDepth 16384

noncomputable section

namespace Cert.KernelIdeal.Mix

open Cert.KernelIdeal Cert.KernelIdeal.Gen Idealize.ShloMosaic Idealize.ShloMosaic.TcCoe Idealize.SL.Sem
open Idealize.ShloMosaic.Pipeline (Dat)
open Cert.Mix
open Cert.ReferenceIdeal (In)

variable (m : (ℓ : Loc nD τ sig) → Buf (Elt Ideal) ℓ)

theorem e113 (c : Dev nD) : V m c main_v113 = shapeCast S1x1024 (inp m c).x1 shapeCasts_S1024_S1x1024 := rfl
theorem e114 (c : Dev nD) : V m c main_v114 = shapeCast S1x512 (inp m c).x3 shapeCasts_S512_S1x512 := rfl
theorem e115 (c : Dev nD) : V m c main_v115 = shapeCast S1x512 (inp m c).x4 shapeCasts_S512_S1x512 := rfl
theorem e117 (c : Dev nD) : V m c main_v117 = shapeCast S1x512 (inp m c).x8 shapeCasts_S512_S1x512 := rfl
theorem e118 (c : Dev nD) : V m c main_v118 = shapeCast S1x512 (inp m c).x9 shapeCasts_S512_S1x512 := rfl
theorem e119 (c : Dev nD) : V m c main_v119 = shapeCast S1x512 (inp m c).x10 shapeCasts_S512_S1x512 := rfl
theorem e116 (c : Dev nD) : V m c main_v116 = transpose S4x128x128 [0, 2, 1] (inp m c).x5 transposes_S4x128x128_S4x128x128_0_2_1 := rfl
theorem e110 (c : Dev nD) : V m c main_v110 = broadcastInDim S4x128x128 ![0, 1, 2] bcast_S4x128x1_S4x128x128_0_1_2 (broadcastInDim S4x128x1 ![0, 1] bcast_S4x128_S4x128x1_0_1 (inp m c).x6) := rfl
theorem e107 (c : Dev nD) : V m c main_v107 = shapeCast S4x256x1024 (inp m c).x11 shapeCasts_S1024x1024_S4x256x1024 := rfl
theorem e105 (c : Dev nD) : V m c main_v105 = transpose S4x1024x512 [1, 0, 2] (shapeCast S1024x4x512 (inp m c).x2 shapeCasts_S1024x2048_S1024x4x512) transposes_S1024x4x512_S4x1024x512_1_0_2 := rfl

end Cert.KernelIdeal.Mix
-- ==== Proof.Mix.Entry.lean ====
/- What the windows of the backward mixer hold at a grid point: the host's entries. -/
module

public import proofs.«01_k».proof.Proof.Mix.EntryA
public import proofs.«01_k».proof.Proof.Mix.EntryB
public import proofs.«01_k».proof.Proof.Mix.EntryC
public import proofs.«01_k».proof.Proof.Mix.EntryD
-- ==== Proof.Mix.Blk.lean ====
/- What the windows of the backward mixer hold at a grid point, as tiles of the reference's stages. -/
module

public import proofs.«01_k».proof.Proof.Mix.Entry
public import Idealize.ShloMosaic.Lib.Pipeline.ValueKit

@[expose] public section

set_option maxRecDepth 16384

noncomputable section

namespace Cert.KernelIdeal.Mix

open Cert.KernelIdeal Cert.KernelIdeal.Gen Idealize.ShloMosaic Idealize.ShloMosaic.TcCoe Idealize.SL.Sem
open Idealize.ShloMosaic.Pipeline (Dat)
open Cert.Mix
open Cert.ReferenceIdeal (In)

variable (m : (ℓ : Loc nD τ sig) → Buf (Elt Ideal) ℓ)

theorem b1 (c : Dev nD) (t : Fin cfg0.N) : iblk m c 1 t = tlw (bt t) (inp m c).x12 := by
  funext j
  refine Eq.trans ?_ (congrFun (e1 m c) _)
  blk_point [iblk, idx t, bt]
theorem b7a (c : Dev nD) (t : Fin cfg0.N) : View.ld (Val := Elt Ideal) (e' := .f32) (S := S256x2048) (iblk m c 7 t) (Rect.unit (s := S256x2048) ![0, 0] ![256, 512] inb_S256x2048_S256x512_0_0) = tl (bt t) (inp m c).v30 := by
  funext j
  idx_vars j
  pointwise [tl]
  refine Eq.trans ?_ ((e77a m c _ _).trans (congrFun (e24 m c) _))
  blk_point [iblk, idx t, bt]
theorem b7b (c : Dev nD) (t : Fin cfg0.N) : View.ld (Val := Elt Ideal) (e' := .f32) (S := S256x2048) (iblk m c 7 t) (Rect.unit (s := S256x2048) ![0, 512] ![256, 512] inb_S256x2048_S256x512_0_512) = tl (bt t) (V m c main_v65) := by
  funext j
  idx_vars j
  pointwise [tl]
  refine Eq.trans ?_ (e77b m c _ _)
  blk_point [iblk, idx t, bt]
theorem b7c (c : Dev nD) (t : Fin cfg0.N) : View.ld (Val := Elt Ideal) (e' := .f32) (S := S256x2048) (iblk m c 7 t) (Rect.unit (s := S256x2048) ![0, 1024] ![256, 512] inb_S256x2048_S256x512_0_1024) = tl (bt t) (V m c main_v76) := by
  funext j
  idx_vars j
  pointwise [tl]
  refine Eq.trans ?_ (e77c m c _ _)
  blk_point [iblk, idx t, bt]
theorem b7d (c : Dev nD) (t : Fin cfg0.N) : View.ld (Val := Elt Ideal) (e' := .f32) (S := S256x2048) (iblk m c 7 t) (Rect.unit (s := S256x2048) ![0, 1536] ![256, 512] inb_S256x2048_S256x512_0_1536) = tl (bt t) (inp m c).v63 := by
  funext j
  idx_vars j
  pointwise [tl]
  refine Eq.trans ?_ ((e77d m c _ _).trans (congrFun (e54 m c) _))
  blk_point [iblk, idx t, bt]
theorem b6 (c : Dev nD) (t : Fin cfg0.N) : iblk m c 6 t = tl (bt t) (inp m c).v109 := by
  funext j
  refine Eq.trans ?_ (congrFun (e102 m c) _)
  blk_point [iblk, idx t, bt]
theorem b2 (c : Dev nD) (t : Fin cfg0.N) : iblk m c 2 t = tlw (bt t) (inp m c).x0 := by
  funext j
  show _ = m ((c : Thread nD τ).loc main_arg0) _
  blk_point [iblk, V_main_arg0 m c, idx t, bt]
theorem b0 (c : Dev nD) (t : Fin cfg0.N) : iblk m c 0 t = tlw (bt t) (inp m c).x12 := by
  funext j
  show _ = m ((c : Thread nD τ).loc main_arg12) _
  blk_point [iblk, V_main_arg12 m c, idx t, bt]
theorem b11 (c : Dev nD) (t : Fin cfg0.N) : iblk m c 11 t = rw1 (inp m c).x3 := by
  funext j
  refine Eq.trans ?_ ((congrFun (e114 m c) (ix2 0 (j 1))).trans (by pointwise [rw1]))
  blk_point [iblk, idx' t, idx'' t]
theorem b12 (c : Dev nD) (t : Fin cfg0.N) : iblk m c 12 t = rw1 (inp m c).x4 := by
  funext j
  refine Eq.trans ?_ ((congrFun (e115 m c) (ix2 0 (j 1))).trans (by pointwise [rw1]))
  blk_point [iblk, idx' t, idx'' t]
theorem b18 (c : Dev nD) (t : Fin cfg0.N) : iblk m c 18 t = rw1 (inp m c).x9 := by
  funext j
  refine Eq.trans ?_ ((congrFun (e118 m c) (ix2 0 (j 1))).trans (by pointwise [rw1]))
  blk_point [iblk, idx' t, idx'' t]
theorem b19 (c : Dev nD) (t : Fin cfg0.N) : iblk m c 19 t = rw1 (inp m c).x10 := by
  funext j
  refine Eq.trans ?_ ((congrFun (e119 m c) (ix2 0 (j 1))).trans (by pointwise [rw1]))
  blk_point [iblk, idx' t, idx'' t]
theorem b13_0 (c : Dev nD) (t : Fin cfg0.N) : View.ld (Val := Elt Ideal) (e' := .f32) (S := S4x128x128) (iblk m c 13 t) (Rect.unit (s := S4x128x128) ![0, 0, 0] ![1, 128, 128] inb_S4x128x128_S1x128x128_0_0_0) = wh (inp m c).x5 0 := by
  funext j
  idx_vars j
  pointwise [wh]
  show _ = m ((c : Thread nD τ).loc main_arg5) _
  blk_point [iblk, idx' t]
theorem b14_0 (c : Dev nD) (t : Fin cfg0.N) : View.ld (Val := Elt Ideal) (e' := .f32) (S := S4x128x128) (iblk m c 14 t) (Rect.unit (s := S4x128x128) ![0, 0, 0] ![1, 128, 128] inb_S4x128x128_S1x128x128_0_0_0) = wht (inp m c).x5 0 := by
  funext j
  idx_vars j
  pointwise [wht]
  refine Eq.trans ?_ ((congrFun (e116 m c) (ix3 0 j1 j2)).trans (by pointwise))
  blk_point [iblk, idx' t]
theorem b15_0 (c : Dev nD) (t : Fin cfg0.N) : View.ld (Val := Elt Ideal) (e' := .f32) (S := S4x128x128) (iblk m c 15 t) (Rect.unit (s := S4x128x128) ![0, 0, 0] ![1, 128, 128] inb_S4x128x128_S1x128x128_0_0_0) = bh (inp m c).x6 0 := by
  funext j
  idx_vars j
  pointwise [bh]
  refine Eq.trans ?_ ((congrFun (e110 m c) (ix3 0 j1 j2)).trans (by pointwise))
  blk_point [iblk, idx' t]
theorem b20_0 (c : Dev nD) (t : Fin cfg0.N) : View.ld (Val := Elt Ideal) (e' := .bf16) (S := S4x256x1024) (iblk m c 20 t) (Rect.unit (s := S4x256x1024) ![0, 0, 0] ![1, 256, 1024] inb_S4x256x1024_S1x256x1024_0_0_0) = wo (inp m c).x11 0 := by
  funext j
  idx_vars j
  pointwise [wo]
  refine Eq.trans ?_ ((congrFun (e107 m c) (ix3 0 j1 j2)).trans (by pointwise))
  blk_point [iblk, idx' t]
theorem b13_1 (c : Dev nD) (t : Fin cfg0.N) : View.ld (Val := Elt Ideal) (e' := .f32) (S := S4x128x128) (iblk m c 13 t) (Rect.unit (s := S4x128x128) ![1, 0, 0] ![1, 128, 128] inb_S4x128x128_S1x128x128_1_0_0) = wh (inp m c).x5 1 := by
  funext j
  idx_vars j
  pointwise [wh]
  show _ = m ((c : Thread nD τ).loc main_arg5) _
  blk_point [iblk, idx' t]
theorem b14_1 (c : Dev nD) (t : Fin cfg0.N) : View.ld (Val := Elt Ideal) (e' := .f32) (S := S4x128x128) (iblk m c 14 t) (Rect.unit (s := S4x128x128) ![1, 0, 0] ![1, 128, 128] inb_S4x128x128_S1x128x128_1_0_0) = wht (inp m c).x5 1 := by
  funext j
  idx_vars j
  pointwise [wht]
  refine Eq.trans ?_ ((congrFun (e116 m c) (ix3 1 j1 j2)).trans (by pointwise))
  blk_point [iblk, idx' t]
theorem b15_1 (c : Dev nD) (t : Fin cfg0.N) : View.ld (Val := Elt Ideal) (e' := .f32) (S := S4x128x128) (iblk m c 15 t) (Rect.unit (s := S4x128x128) ![1, 0, 0] ![1, 128, 128] inb_S4x128x128_S1x128x128_1_0_0) = bh (inp m c).x6 1 := by
  funext j
  idx_vars j
  pointwise [bh]
  refine Eq.trans ?_ ((congrFun (e110 m c) (ix3 1 j1 j2)).trans (by pointwise))
  blk_point [iblk, idx' t]
theorem b20_1 (c : Dev nD) (t : Fin cfg0.N) : View.ld (Val := Elt Ideal) (e' := .bf16) (S := S4x256x1024) (iblk m c 20 t) (Rect.unit (s := S4x256x1024) ![1, 0, 0] ![1, 256, 1024] inb_S4x256x1024_S1x256x1024_1_0_0) = wo (inp m c).x11 1 := by
  funext j
  idx_vars j
  pointwise [wo]
  refine Eq.trans ?_ ((congrFun (e107 m c) (ix3 1 j1 j2)).trans (by pointwise))
  blk_point [iblk, idx' t]
theorem b13_2 (c : Dev nD) (t : Fin cfg0.N) : View.ld (Val := Elt Ideal) (e' := .f32) (S := S4x128x128) (iblk m c 13 t) (Rect.unit (s := S4x128x128) ![2, 0, 0] ![1, 128, 128] inb_S4x128x128_S1x128x128_2_0_0) = wh (inp m c).x5 2 := by
  funext j
  idx_vars j
  pointwise [wh]
  show _ = m ((c : Thread nD τ).loc main_arg5) _
  blk_point [iblk, idx' t]
theorem b14_2 (c : Dev nD) (t : Fin cfg0.N) : View.ld (Val := Elt Ideal) (e' := .f32) (S := S4x128x128) (iblk m c 14 t) (Rect.unit (s := S4x128x128) ![2, 0, 0] ![1, 128, 128] inb_S4x128x128_S1x128x128_2_0_0) = wht (inp m c).x5 2 := by
  funext j
  idx_vars j
  pointwise [wht]
  refine Eq.trans ?_ ((congrFun (e116 m c) (ix3 2 j1 j2)).trans (by pointwise))
  blk_point [iblk, idx' t]
theorem b15_2 (c : Dev nD) (t : Fin cfg0.N) : View.ld (Val := Elt Ideal) (e' := .f32) (S := S4x128x128) (iblk m c 15 t) (Rect.unit (s := S4x128x128) ![2, 0, 0] ![1, 128, 128] inb_S4x128x128_S1x128x128_2_0_0) = bh (inp m c).x6 2 := by
  funext j
  idx_vars j
  pointwise [bh]
  refine Eq.trans ?_ ((congrFun (e110 m c) (ix3 2 j1 j2)).trans (by pointwise))
  blk_point [iblk, idx' t]
theorem b20_2 (c : Dev nD) (t : Fin cfg0.N) : View.ld (Val := Elt Ideal) (e' := .bf16) (S := S4x256x1024) (iblk m c 20 t) (Rect.unit (s := S4x256x1024) ![2, 0, 0] ![1, 256, 1024] inb_S4x256x1024_S1x256x1024_2_0_0) = wo (inp m c).x11 2 := by
  funext j
  idx_vars j
  pointwise [wo]
  refine Eq.trans ?_ ((congrFun (e107 m c) (ix3 2 j1 j2)).trans (by pointwise))
  blk_point [iblk, idx' t]
theorem b13_3 (c : Dev nD) (t : Fin cfg0.N) : View.ld (Val := Elt Ideal) (e' := .f32) (S := S4x128x128) (iblk m c 13 t) (Rect.unit (s := S4x128x128) ![3, 0, 0] ![1, 128, 128] inb_S4x128x128_S1x128x128_3_0_0) = wh (inp m c).x5 3 := by
  funext j
  idx_vars j
  pointwise [wh]
  show _ = m ((c : Thread nD τ).loc main_arg5) _
  blk_point [iblk, idx' t]
theorem b14_3 (c : Dev nD) (t : Fin cfg0.N) : View.ld (Val := Elt Ideal) (e' := .f32) (S := S4x128x128) (iblk m c 14 t) (Rect.unit (s := S4x128x128) ![3, 0, 0] ![1, 128, 128] inb_S4x128x128_S1x128x128_3_0_0) = wht (inp m c).x5 3 := by
  funext j
  idx_vars j
  pointwise [wht]
  refine Eq.trans ?_ ((congrFun (e116 m c) (ix3 3 j1 j2)).trans (by pointwise))
  blk_point [iblk, idx' t]
theorem b15_3 (c : Dev nD) (t : Fin cfg0.N) : View.ld (Val := Elt Ideal) (e' := .f32) (S := S4x128x128) (iblk m c 15 t) (Rect.unit (s := S4x128x128) ![3, 0, 0] ![1, 128, 128] inb_S4x128x128_S1x128x128_3_0_0) = bh (inp m c).x6 3 := by
  funext j
  idx_vars j
  pointwise [bh]
  refine Eq.trans ?_ ((congrFun (e110 m c) (ix3 3 j1 j2)).trans (by pointwise))
  blk_point [iblk, idx' t]
theorem b20_3 (c : Dev nD) (t : Fin cfg0.N) : View.ld (Val := Elt Ideal) (e' := .bf16) (S := S4x256x1024) (iblk m c 20 t) (Rect.unit (s := S4x256x1024) ![3, 0, 0] ![1, 256, 1024] inb_S4x256x1024_S1x256x1024_3_0_0) = wo (inp m c).x11 3 := by
  funext j
  idx_vars j
  pointwise [wo]
  refine Eq.trans ?_ ((congrFun (e107 m c) (ix3 3 j1 j2)).trans (by pointwise))
  blk_point [iblk, idx' t]
end Cert.KernelIdeal.Mix
-- ==== Proof.Mix.Sgu28.lean ====
/- What a grid point of the backward mixer adds to the gate's gradients. -/
module

public import proofs.«01_k».proof.Proof.Mix.Blk
public import proofs.«01_k».proof.Proof.Tile
public import Idealize.ShloMosaic.Lib.Pipeline.ValueKit
public import Idealize.ShloMosaic.Lib.Pipeline.ReadBack

@[expose] public section

set_option maxRecDepth 16384

noncomputable section

namespace Cert.KernelIdeal.Mix

open Cert.KernelIdeal Cert.KernelIdeal.Gen Idealize.ShloMosaic Idealize.ShloMosaic.TcCoe Idealize.SL.Sem
open Idealize.ShloMosaic.Pipeline (Dat)
open Cert.Mix
open Cert.ReferenceIdeal (In)

variable (m : (ℓ : Loc nD τ sig) → Buf (Elt Ideal) ℓ)

/-- A sub-tile's entry, the tile's index named by its coordinates. -/
theorem sub_eq (X : FVec Ideal S256x512 .f32) (i : Fin 2) (h : Fin 4) (x : S128x128.Idx) (j : S256x512.Idx) (h0 : (j 0).val = 128 * i.val + (x 0).val)
    (h1 : (j 1).val = 128 * h.val + (x 1).val) : sub X i h x = X j := by
  unfold sub
  congr 1
  funext a
  match a with
  | 0 => exact Fin.ext h0.symm
  | 1 => exact Fin.ext h1.symm

set_option maxHeartbeats 4000000 in
theorem B28 (c : Dev nD) (t : Fin cfg0.N) (h : ¬t.val % 16 = 0) (k : Fin 512) : (outsAt0 m c t.val t.isLt).2.2.2.2.2.2.2.1 (ix2 0 k) = (outsAt0 m c (t.val - 1) (lt_of_le_of_lt (Nat.sub_le _ _) t.isLt)).2.2.2.2.2.2.2.1 (ix2 0 k) + ∑ r : Fin 256, (inp m c).v219 (ix2 (row (bt t) r) k) := by
  rw [outsAt0_B m c t h]
  dsimp only [tupB]
  frame_open
  simp (disch := decide) only [↓ View.readCov_skip, ↓ View.readCov_cons_toLoadRect, ↓ View.readCov_fill]
  frame_out
  simp only [b1, b7a, b7d, b11, b12, b14_0, b14_1, b14_2, b14_3, b20_0, b20_1, b20_2, b20_3, pay78', dv00, dv01, dv02, dv03, dv10, dv11, dv12, dv13]
  refine Eq.trans (congrArg (fun Z => k0_pay123 (F := Ideal) Z _ _) (?_ : _ = tl (bt t) (inp m c).v219)) ((dlnb (inp m c) (bt t) _ k).trans (congrArg (· + _) ?_))
  · rw [View.readCov_eq_canon']
    funext j
    clear h
    canon_tiles x h
    all_goals
      have e0 : 0 + 1 * (j 0).val = _ := h0
      have e1 : 0 + 1 * (j 1).val = _ := h1
      exact sub_eq _ _ _ _ _ (by simp; omega) (by simp; omega)
  · rfl
set_option maxHeartbeats 4000000 in
theorem B27 (c : Dev nD) (t : Fin cfg0.N) (h : ¬t.val % 16 = 0) (k : Fin 512) : (outsAt0 m c t.val t.isLt).2.2.2.2.2.2.1 (ix2 0 k) = (outsAt0 m c (t.val - 1) (lt_of_le_of_lt (Nat.sub_le _ _) t.isLt)).2.2.2.2.2.2.1 (ix2 0 k) + ∑ r : Fin 256, (inp m c).v219 (ix2 (row (bt t) r) k) * (inp m c).v63 (ix2 (row (bt t) r) k) := by
  rw [outsAt0_B m c t h]
  dsimp only [tupB]
  frame_open
  simp (disch := decide) only [↓ View.readCov_skip, ↓ View.readCov_cons_toLoadRect, ↓ View.readCov_fill]
  frame_out
  simp only [b1, b7a, b7d, b11, b12, b14_0, b14_1, b14_2, b14_3, b20_0, b20_1, b20_2, b20_3, pay78', dv00, dv01, dv02, dv03, dv10, dv11, dv12, dv13]
  refine Eq.trans (congrArg (fun Z => k0_pay122 (F := Ideal) _ (k0_pay121 _ Z) _) (?_ : _ = tl (bt t) (inp m c).v219)) ((dlng (inp m c) (bt t) _ k).trans (congrArg (· + _) ?_))
  · rw [View.readCov_eq_canon']
    funext j
    clear h
    canon_tiles x h
    all_goals
      have e0 : 0 + 1 * (j 0).val = _ := h0
      have e1 : 0 + 1 * (j 1).val = _ := h1
      exact sub_eq _ _ _ _ _ (by simp; omega) (by simp; omega)
  · rfl
set_option maxHeartbeats 4000000 in
theorem A28 (c : Dev nD) (t : Fin cfg0.N) (h : t.val % 16 = 0) (k : Fin 512) : (outsAt0 m c t.val t.isLt).2.2.2.2.2.2.2.1 (ix2 0 k) = 0 + ∑ r : Fin 256, (inp m c).v219 (ix2 (row (bt t) r) k) := by
  rw [outsAt0_A m c t h]
  dsimp only [tupA]
  frame_open
  simp (disch := decide) only [↓ View.readCov_skip, ↓ View.readCov_cons_toLoadRect, ↓ View.readCov_fill]
  frame_out
  simp only [b1, b7a, b7d, b11, b12, b14_0, b14_1, b14_2, b14_3, b20_0, b20_1, b20_2, b20_3, pay78', dv00, dv01, dv02, dv03, dv10, dv11, dv12, dv13]
  refine Eq.trans (congrArg (fun Z => k0_pay123 (F := Ideal) Z _ _) (?_ : _ = tl (bt t) (inp m c).v219)) ((dlnb (inp m c) (bt t) _ k).trans (congrArg (· + _) ?_))
  · rw [View.readCov_eq_canon']
    funext j
    clear h
    canon_tiles x h
    all_goals
      have e0 : 0 + 1 * (j 0).val = _ := h0
      have e1 : 0 + 1 * (j 1).val = _ := h1
      exact sub_eq _ _ _ _ _ (by simp; omega) (by simp; omega)
  · pointwise [k0_pay5, k0_pay6]
set_option maxHeartbeats 4000000 in
theorem A27 (c : Dev nD) (t : Fin cfg0.N) (h : t.val % 16 = 0) (k : Fin 512) : (outsAt0 m c t.val t.isLt).2.2.2.2.2.2.1 (ix2 0 k) = 0 + ∑ r : Fin 256, (inp m c).v219 (ix2 (row (bt t) r) k) * (inp m c).v63 (ix2 (row (bt t) r) k) := by
  rw [outsAt0_A m c t h]
  dsimp only [tupA]
  frame_open
  simp (disch := decide) only [↓ View.readCov_skip, ↓ View.readCov_cons_toLoadRect, ↓ View.readCov_fill]
  frame_out
  simp only [b1, b7a, b7d, b11, b12, b14_0, b14_1, b14_2, b14_3, b20_0, b20_1, b20_2, b20_3, pay78', dv00, dv01, dv02, dv03, dv10, dv11, dv12, dv13]
  refine Eq.trans (congrArg (fun Z => k0_pay122 (F := Ideal) _ (k0_pay121 _ Z) _) (?_ : _ = tl (bt t) (inp m c).v219)) ((dlng (inp m c) (bt t) _ k).trans (congrArg (· + _) ?_))
  · rw [View.readCov_eq_canon']
    funext j
    clear h
    canon_tiles x h
    all_goals
      have e0 : 0 + 1 * (j 0).val = _ := h0
      have e1 : 0 + 1 * (j 1).val = _ := h1
      exact sub_eq _ _ _ _ _ (by simp; omega) (by simp; omega)
  · pointwise [k0_pay5, k0_pay6]

end Cert.KernelIdeal.Mix
-- ==== Proof.Mix.Sgu29.lean ====
/- What a grid point of the backward mixer adds to the spatial weight's gradient. -/
module

public import proofs.«01_k».proof.Proof.Mix.Blk
public import proofs.«01_k».proof.Proof.Tile
public import Idealize.ShloMosaic.Lib.Pipeline.ValueKit
public import Idealize.ShloMosaic.Lib.Pipeline.ReadBack

@[expose] public section

set_option maxRecDepth 16384

noncomputable section

namespace Cert.KernelIdeal.Mix

open Cert.KernelIdeal Cert.KernelIdeal.Gen Idealize.ShloMosaic Idealize.ShloMosaic.TcCoe Idealize.SL.Sem
open Idealize.ShloMosaic.Pipeline (Dat)
open Cert.Mix
open Cert.ReferenceIdeal (In)

variable (m : (ℓ : Loc nD τ sig) → Buf (Elt Ideal) ℓ)

theorem ix3_of (x : S1x128x128.Idx) : x = ix3 0 (x 1) (x 2) := by
  funext a
  match a with
  | 0 => exact Fin.ext (by have : (x 0).val < 1 := (x 0).isLt; show (x 0).val = 0; omega)
  | 1 => rfl
  | 2 => rfl

set_option maxHeartbeats 4000000 in
theorem B29 (c : Dev nD) (t : Fin cfg0.N) (h : ¬t.val % 16 = 0) (g : Fin 4) (r k : Fin 128) : (outsAt0 m c t.val t.isLt).2.2.2.2.2.2.2.2.1 (ix3 g r k) = (outsAt0 m c (t.val - 1) (lt_of_le_of_lt (Nat.sub_le _ _) t.isLt)).2.2.2.2.2.2.2.2.1 (ix3 g r k) + dwT (inp m c) (bt t) g r k := by
  rw [outsAt0_B m c t h]
  dsimp only [tupB]
  frame_open
  simp (disch := decide) only [↓ View.readCov_skip, ↓ View.readCov_cons_toLoadRect, ↓ View.readCov_fill]
  frame_out
  simp only [b1, b7a, b7d, b11, b12, b14_0, b14_1, b14_2, b14_3, b20_0, b20_1, b20_2, b20_3, pay31, pay78']
  clear h
  canon_tiles x h
  · have e0 : g.val = _ := h0
    obtain rfl : g = 3 := Fin.ext (by simp; omega)
    obtain rfl : x = ix3 0 r k := by
      funext a
      match a with
      | 0 => exact Fin.ext (by show (x 0).val = 0; omega)
      | 1 => exact Fin.ext h1.symm
      | 2 => exact Fin.ext h2.symm
    refine (dw3 (inp m c) (bt t) _ r k).trans (congrArg (· + _) ?_)
    pointwise
  · have e0 : g.val = _ := h0
    obtain rfl : g = 2 := Fin.ext (by simp; omega)
    obtain rfl : x = ix3 0 r k := by
      funext a
      match a with
      | 0 => exact Fin.ext (by show (x 0).val = 0; omega)
      | 1 => exact Fin.ext h1.symm
      | 2 => exact Fin.ext h2.symm
    refine (dw2 (inp m c) (bt t) _ r k).trans (congrArg (· + _) ?_)
    pointwise
  · have e0 : g.val = _ := h0
    obtain rfl : g = 1 := Fin.ext (by simp; omega)
    obtain rfl : x = ix3 0 r k := by
      funext a
      match a with
      | 0 => exact Fin.ext (by show (x 0).val = 0; omega)
      | 1 => exact Fin.ext h1.symm
      | 2 => exact Fin.ext h2.symm
    refine (dw1 (inp m c) (bt t) _ r k).trans (congrArg (· + _) ?_)
    pointwise
  · have e0 : g.val = _ := h0
    obtain rfl : g = 0 := Fin.ext (by simp; omega)
    obtain rfl : x = ix3 0 r k := by
      funext a
      match a with
      | 0 => exact Fin.ext (by show (x 0).val = 0; omega)
      | 1 => exact Fin.ext h1.symm
      | 2 => exact Fin.ext h2.symm
    refine (dw0 (inp m c) (bt t) _ r k).trans (congrArg (· + _) ?_)
    pointwise
set_option maxHeartbeats 4000000 in
theorem B30 (c : Dev nD) (t : Fin cfg0.N) (h : ¬t.val % 16 = 0) (g : Fin 4) (r k : Fin 128) : (outsAt0 m c t.val t.isLt).2.2.2.2.2.2.2.2.2.1 (ix3 g r k) = (outsAt0 m c (t.val - 1) (lt_of_le_of_lt (Nat.sub_le _ _) t.isLt)).2.2.2.2.2.2.2.2.2.1 (ix3 g r k) + dbT (inp m c) (bt t) g r := by
  rw [outsAt0_B m c t h]
  dsimp only [tupB]
  frame_open
  simp (disch := decide) only [↓ View.readCov_skip, ↓ View.readCov_cons_toLoadRect, ↓ View.readCov_fill]
  frame_out
  simp only [b1, b7a, b7d, b11, b12, b14_0, b14_1, b14_2, b14_3, b20_0, b20_1, b20_2, b20_3, pay31, pay78']
  clear h
  canon_tiles x h
  · have e0 : g.val = _ := h0
    obtain rfl : g = 3 := Fin.ext (by simp; omega)
    obtain rfl : x = ix3 0 r k := by
      funext a
      match a with
      | 0 => exact Fin.ext (by show (x 0).val = 0; omega)
      | 1 => exact Fin.ext h1.symm
      | 2 => exact Fin.ext h2.symm
    refine (db3 (inp m c) (bt t) _ r k).trans (congrArg (· + _) ?_)
    pointwise
  · have e0 : g.val = _ := h0
    obtain rfl : g = 2 := Fin.ext (by simp; omega)
    obtain rfl : x = ix3 0 r k := by
      funext a
      match a with
      | 0 => exact Fin.ext (by show (x 0).val = 0; omega)
      | 1 => exact Fin.ext h1.symm
      | 2 => exact Fin.ext h2.symm
    refine (db2 (inp m c) (bt t) _ r k).trans (congrArg (· + _) ?_)
    pointwise
  · have e0 : g.val = _ := h0
    obtain rfl : g = 1 := Fin.ext (by simp; omega)
    obtain rfl : x = ix3 0 r k := by
      funext a
      match a with
      | 0 => exact Fin.ext (by show (x 0).val = 0; omega)
      | 1 => exact Fin.ext h1.symm
      | 2 => exact Fin.ext h2.symm
    refine (db1 (inp m c) (bt t) _ r k).trans (congrArg (· + _) ?_)
    pointwise
  · have e0 : g.val = _ := h0
    obtain rfl : g = 0 := Fin.ext (by simp; omega)
    obtain rfl : x = ix3 0 r k := by
      funext a
      match a with
      | 0 => exact Fin.ext (by show (x 0).val = 0; omega)
      | 1 => exact Fin.ext h1.symm
      | 2 => exact Fin.ext h2.symm
    refine (db0 (inp m c) (bt t) _ r k).trans (congrArg (· + _) ?_)
    pointwise
set_option maxHeartbeats 4000000 in
theorem A29 (c : Dev nD) (t : Fin cfg0.N) (h : t.val % 16 = 0) (g : Fin 4) (r k : Fin 128) : (outsAt0 m c t.val t.isLt).2.2.2.2.2.2.2.2.1 (ix3 g r k) = 0 + dwT (inp m c) (bt t) g r k := by
  rw [outsAt0_A m c t h]
  dsimp only [tupA]
  frame_open
  simp (disch := decide) only [↓ View.readCov_skip, ↓ View.readCov_cons_toLoadRect, ↓ View.readCov_fill]
  frame_out
  simp only [b1, b7a, b7d, b11, b12, b14_0, b14_1, b14_2, b14_3, b20_0, b20_1, b20_2, b20_3, pay31, pay78']
  clear h
  refine (View.canon_append_of_piecesOf (fun y : S4x128x128.Idx => 0 + dwT (inp m c) (bt t) (y 0) (y 1) (y 2)) [_] [_, _, _, _]
    ⟨fun x => ?_, fun x => ?_, fun x => ?_, fun x => ?_, trivial⟩ _ (View.cover_of_tiledL _ ![1, 128, 128] (by sl_kernel_rfl) _)).trans rfl
  · refine Eq.trans (congrArg _ (ix3_of x)) ((dw3 (inp m c) (bt t) _ (x 1) (x 2)).trans (congrArg₂ (· + ·) ?_ ?_))
    · pointwise [k0_pay7, k0_pay8]
    · show dwT (inp m c) (bt t) 3 (x 1) (x 2) = dwT (inp m c) (bt t) _ _ _
      have x0 : (x 0).val < 1 := (x 0).isLt
      congr 1 <;> refine Fin.ext ?_
      · show 3 = 3 + 1 * (x 0).val
        omega
      all_goals
        show (_ : ℕ) = 0 + 1 * _
        omega
  · refine Eq.trans (congrArg _ (ix3_of x)) ((dw2 (inp m c) (bt t) _ (x 1) (x 2)).trans (congrArg₂ (· + ·) ?_ ?_))
    · pointwise [k0_pay7, k0_pay8]
    · show dwT (inp m c) (bt t) 2 (x 1) (x 2) = dwT (inp m c) (bt t) _ _ _
      have x0 : (x 0).val < 1 := (x 0).isLt
      congr 1 <;> refine Fin.ext ?_
      · show 2 = 2 + 1 * (x 0).val
        omega
      all_goals
        show (_ : ℕ) = 0 + 1 * _
        omega
  · refine Eq.trans (congrArg _ (ix3_of x)) ((dw1 (inp m c) (bt t) _ (x 1) (x 2)).trans (congrArg₂ (· + ·) ?_ ?_))
    · pointwise [k0_pay7, k0_pay8]
    · show dwT (inp m c) (bt t) 1 (x 1) (x 2) = dwT (inp m c) (bt t) _ _ _
      have x0 : (x 0).val < 1 := (x 0).isLt
      congr 1 <;> refine Fin.ext ?_
      · show 1 = 1 + 1 * (x 0).val
        omega
      all_goals
        show (_ : ℕ) = 0 + 1 * _
        omega
  · refine Eq.trans (congrArg _ (ix3_of x)) ((dw0 (inp m c) (bt t) _ (x 1) (x 2)).trans (congrArg₂ (· + ·) ?_ ?_))
    · pointwise [k0_pay7, k0_pay8]
    · show dwT (inp m c) (bt t) 0 (x 1) (x 2) = dwT (inp m c) (bt t) _ _ _
      have x0 : (x 0).val < 1 := (x 0).isLt
      congr 1 <;> refine Fin.ext ?_
      · show 0 = 0 + 1 * (x 0).val
        omega
      all_goals
        show (_ : ℕ) = 0 + 1 * _
        omega
set_option maxHeartbeats 4000000 in
theorem A30 (c : Dev nD) (t : Fin cfg0.N) (h : t.val % 16 = 0) (g : Fin 4) (r k : Fin 128) : (outsAt0 m c t.val t.isLt).2.2.2.2.2.2.2.2.2.1 (ix3 g r k) = 0 + dbT (inp m c) (bt t) g r := by
  rw [outsAt0_A m c t h]
  dsimp only [tupA]
  frame_open
  simp (disch := decide) only [↓ View.readCov_skip, ↓ View.readCov_cons_toLoadRect, ↓ View.readCov_fill]
  frame_out
  simp only [b1, b7a, b7d, b11, b12, b14_0, b14_1, b14_2, b14_3, b20_0, b20_1, b20_2, b20_3, pay31, pay78']
  clear h
  refine (View.canon_append_of_piecesOf (fun y : S4x128x128.Idx => 0 + dbT (inp m c) (bt t) (y 0) (y 1)) [_] [_, _, _, _]
    ⟨fun x => ?_, fun x => ?_, fun x => ?_, fun x => ?_, trivial⟩ _ (View.cover_of_tiledL _ ![1, 128, 128] (by sl_kernel_rfl) _)).trans rfl
  · refine Eq.trans (congrArg _ (ix3_of x)) ((db3 (inp m c) (bt t) _ (x 1) (x 2)).trans (congrArg₂ (· + ·) ?_ ?_))
    · pointwise [k0_pay7, k0_pay8]
    · show dbT (inp m c) (bt t) 3 (x 1) = dbT (inp m c) (bt t) _ _
      have x0 : (x 0).val < 1 := (x 0).isLt
      congr 1 <;> refine Fin.ext ?_
      · show 3 = 3 + 1 * (x 0).val
        omega
      all_goals
        show (_ : ℕ) = 0 + 1 * _
        omega
  · refine Eq.trans (congrArg _ (ix3_of x)) ((db2 (inp m c) (bt t) _ (x 1) (x 2)).trans (congrArg₂ (· + ·) ?_ ?_))
    · pointwise [k0_pay7, k0_pay8]
    · show dbT (inp m c) (bt t) 2 (x 1) = dbT (inp m c) (bt t) _ _
      have x0 : (x 0).val < 1 := (x 0).isLt
      congr 1 <;> refine Fin.ext ?_
      · show 2 = 2 + 1 * (x 0).val
        omega
      all_goals
        show (_ : ℕ) = 0 + 1 * _
        omega
  · refine Eq.trans (congrArg _ (ix3_of x)) ((db1 (inp m c) (bt t) _ (x 1) (x 2)).trans (congrArg₂ (· + ·) ?_ ?_))
    · pointwise [k0_pay7, k0_pay8]
    · show dbT (inp m c) (bt t) 1 (x 1) = dbT (inp m c) (bt t) _ _
      have x0 : (x 0).val < 1 := (x 0).isLt
      congr 1 <;> refine Fin.ext ?_
      · show 1 = 1 + 1 * (x 0).val
        omega
      all_goals
        show (_ : ℕ) = 0 + 1 * _
        omega
  · refine Eq.trans (congrArg _ (ix3_of x)) ((db0 (inp m c) (bt t) _ (x 1) (x 2)).trans (congrArg₂ (· + ·) ?_ ?_))
    · pointwise [k0_pay7, k0_pay8]
    · show dbT (inp m c) (bt t) 0 (x 1) = dbT (inp m c) (bt t) _ _
      have x0 : (x 0).val < 1 := (x 0).isLt
      congr 1 <;> refine Fin.ext ?_
      · show 0 = 0 + 1 * (x 0).val
        omega
      all_goals
        show (_ : ℕ) = 0 + 1 * _
        omega

end Cert.KernelIdeal.Mix
-- ==== Proof.Mix.SguFinal.lean ====
/- Backward mixer call: the gradients of the spatial gate's norm, mixing weights and bias. -/
module

public import proofs.«01_k».proof.Proof.Mix.Sgu28
public import proofs.«01_k».proof.Proof.Mix.Sgu29
public import Idealize.ShloMosaic.Lib.Pipeline.ValueKit
public import Idealize.ShloMosaic.Lib.Claim

@[expose] public section

set_option maxRecDepth 16384

noncomputable section

namespace Cert.KernelIdeal.Mix

open Cert.KernelIdeal Cert.KernelIdeal.Gen Idealize.ShloMosaic Idealize.ShloMosaic.TcCoe Idealize.SL.Sem
open Idealize.ShloMosaic.Pipeline (Dat)
open Cert.Mix
open Cert.ReferenceIdeal (In)

variable (m : (ℓ : Loc nD τ sig) → Buf (Elt Ideal) ℓ)

/-- An accumulator that starts at the first grid point and takes a term at every point ends at the sum over the row blocks. -/
theorem total (f : (n : ℕ) → n < cfg0.N → EReal) (T : Fin 16 → EReal)
    (h0 : ∀ t : Fin cfg0.N, t.val % 16 = 0 → f t.val t.isLt = 0 + T (bt t))
    (hs : ∀ t : Fin cfg0.N, ¬ t.val % 16 = 0 → f t.val t.isLt = f (t.val - 1) (lt_of_le_of_lt (Nat.sub_le _ _) t.isLt) + T (bt t))
    (t : Fin cfg0.N) (ht : t.val + 1 = cfg0.N) : f t.val t.isLt = ∑ b : Fin 16, T b := by
  rw [Pipeline.eq_sum_fin_of_reset_step_last f 16 0 (fun t => T (bt t)) h0 hs (le_of_eq rfl) t ht, zero_add]
  exact Equiv.sum_comp (Fin.revPerm (n := 16)) T |>.symm ▸ Finset.sum_congr rfl fun p _ => congrArg T (Fin.ext (by
    have := p.isLt
    simp [bt, Fin.rev]))

/-- The sum over the row blocks' rows is the sum over all rows. -/
theorem sum_rows (F : Fin 4096 → EReal) : ∑ b : Fin 16, ∑ r : Fin 256, F (row b r) = ∑ r : Fin 4096, F r :=
  Fin.sum_mul_add_congr fun b r h => congrArg F (Fin.ext (by
    simp [row]; omega))

/-- The rows of the two chunks of every row block are the rows of all chunks. -/
theorem sum_chunks (F : Fin 4096 → EReal) (r : Fin 128) : ∑ b : Fin 16, (F (row b ⟨r.val, by omega⟩) + F (row b ⟨128 + r.val, by omega⟩))
    = ∑ x : Fin 32, F ⟨x.val * 128 + r.val, by omega⟩ := by
  rw [← Fin.sum_mul_add_congr (S := 16) (n := 2) (L := 32) (F := fun b q => F ⟨(b.val * 2 + q.val) * 128 + r.val, by omega⟩) (f := fun x => F ⟨x.val * 128 + r.val, by omega⟩) fun s k hl => rfl]
  refine Finset.sum_congr rfl fun b _ => ?_
  rw [Fin.sum_univ_two]
  exact congrArg₂ (· + ·) (congrArg F (Fin.ext (by simp [row]; omega))) (congrArg F (Fin.ext (by simp [row]; omega)))

theorem ix2_of (j : S1x512.Idx) : j = ix2 0 (j 1) := by
  funext a
  match a with
  | 0 => exact Fin.ext (by have : (j 0).val < 1 := (j 0).isLt; show (j 0).val = 0; omega)
  | 1 => rfl

theorem t15 : (15 : ℕ) < cfg0.N := by decide
abbrev last : Fin cfg0.N := ⟨15, t15⟩

/-- The canonical indices of a rank four array that drop to a given one, along its first and last axes. -/
theorem fiber03 {n0 n1 n2 n3 : ℕ} (h : (⟨4, ![n0, n1, n2, n3]⟩ : Shape).ReducesTo [0, 3] (⟨2, ![n1, n2]⟩ : Shape)) (a : Fin n1) (b : Fin n2)
    (i : (⟨4, ![n0, n1, n2, n3]⟩ : Shape).Idx) : h.drop i = ix2 a b ↔ ∃ k : Fin n0 × Fin n3, ix4 k.1 a b k.2 = i := by
  constructor
  · intro e
    refine ⟨(i 0, i 3), ?_⟩
    funext d; apply Fin.ext
    match d with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext d
    apply Fin.ext
    match d with
    | ⟨0, _⟩ => rfl
    | ⟨1, _⟩ => rfl

/-- The host's sum along the first and the last of four axes. -/
theorem reduce03 {n0 n1 n2 n3 : ℕ} (h : (⟨4, ![n0, n1, n2, n3]⟩ : Shape).ReducesTo [0, 3] (⟨2, ![n1, n2]⟩ : Shape))
    (v : (⟨4, ![n0, n1, n2, n3]⟩ : Shape).Idx → EReal) (init : EReal) (a : Fin n1) (b : Fin n2) :
    Ideal.hostReduceAdd h v init (ix2 a b) = init + ∑ k : Fin n0, ∑ l : Fin n3, v (ix4 k a b l) := by
  refine congrArg (init + ·) ((Finset.sum_filter_eq_sum_of_fiber _ (fun k : Fin n0 × Fin n3 => ix4 k.1 a b k.2)
    (fun _ _ e => Prod.ext (congrFun e 0) (congrFun e 3)) (fiber03 h a b) v).trans ?_)
  simp only [Fintype.sum_prod_type]

/-! ## The reference's sums -/

section
variable (I : In)

theorem ref28 (k : Fin 512) : I.v307 (ix2 0 k) = ∑ r : Fin 4096, I.v219 (ix2 r k) := by
  rw [Cert.ReferenceIdeal.In.v307_eq]
  pointwise [Cert.ReferenceIdeal.In.v222_eq]
  exact Fin.sum_univ_one _

theorem ref27 (k : Fin 512) : I.v306 (ix2 0 k) = ∑ r : Fin 4096, I.v219 (ix2 r k) * I.v63 (ix2 r k) := by
  rw [Cert.ReferenceIdeal.In.v306_eq]
  pointwise [Cert.ReferenceIdeal.In.v228_eq]
  exact (Fin.sum_univ_one _).trans (Finset.sum_congr rfl fun r _ => mul_comm _ _)

theorem ref29 (g : Fin 4) (r k : Fin 128) : I.v218 (ix3 g r k) = Scalar.select (IntOp.cmpi .sge (BitVec.ofNat 32 r.val) (BitVec.ofNat 32 k.val))
    (∑ x : Fin 32, ∑ l : Fin 128, I.v206 (ix2 ⟨x.val * 128 + r.val, by omega⟩ ⟨g.val * 128 + l.val, by omega⟩) * I.v69 (ix2 ⟨x.val * 128 + k.val, by omega⟩ ⟨g.val * 128 + l.val, by omega⟩)) 0 := by
  rw [Cert.ReferenceIdeal.In.v218_eq]
  pointwise [Cert.ReferenceIdeal.In.v214_eq, addi0]

theorem ref30 (g : Fin 4) (r k : Fin 128) : I.v309 (ix3 g r k)
    = ∑ x : Fin 32, ∑ l : Fin 128, I.v206 (ix2 ⟨x.val * 128 + r.val, by omega⟩ ⟨g.val * 128 + l.val, by omega⟩) := by
  rw [Cert.ReferenceIdeal.In.v309_eq]
  pointwise [Cert.ReferenceIdeal.In.v212_eq]
  rw [reduce03, zero_add, Fin.sum_univ_one, Fin.sum_univ_one]
  pointwise
  rw [reduce03, zero_add]
  pointwise

end

/-- The norm's bias gradient. -/
theorem final28 (c : Dev nD) : (dats m 0 c).arrAt 28 (cfgs 0).N = (inp m c).v307 := by
  refine (dats m 0 c).arrAt_eq_of_after_last 28 last (by decide +kernel) _ fun j => ?_
  blk_simp
  rw [after0_28]
  obtain ⟨k, rfl⟩ : ∃ k : Fin 512, j = ix2 0 k := ⟨j 1, ix2_of j⟩
  refine Eq.trans ?_ (ref28 (inp m c) k).symm
  exact (total (fun n hn => (outsAt0 m c n hn).2.2.2.2.2.2.2.1 (ix2 0 k)) (fun b => ∑ r : Fin 256, (inp m c).v219 (ix2 (row b r) k))
    (fun t h => A28 m c t h k) (fun t h => B28 m c t h k) last rfl).trans (sum_rows fun r => (inp m c).v219 (ix2 r k))

/-- The norm's gain gradient. -/
theorem final27 (c : Dev nD) : (dats m 0 c).arrAt 27 (cfgs 0).N = (inp m c).v306 := by
  refine (dats m 0 c).arrAt_eq_of_after_last 27 last (by decide +kernel) _ fun j => ?_
  blk_simp
  rw [after0_27]
  obtain ⟨k, rfl⟩ : ∃ k : Fin 512, j = ix2 0 k := ⟨j 1, ix2_of j⟩
  refine Eq.trans ?_ (ref27 (inp m c) k).symm
  exact (total (fun n hn => (outsAt0 m c n hn).2.2.2.2.2.2.1 (ix2 0 k)) (fun b => ∑ r : Fin 256, (inp m c).v219 (ix2 (row b r) k) * (inp m c).v63 (ix2 (row b r) k))
    (fun t h => A27 m c t h k) (fun t h => B27 m c t h k) last rfl).trans (sum_rows fun r => (inp m c).v219 (ix2 r k) * (inp m c).v63 (ix2 r k))

theorem ix3_of4 (j : S4x128x128.Idx) : j = ix3 (j 0) (j 1) (j 2) := by
  funext a
  match a with
  | 0 => rfl
  | 1 => rfl
  | 2 => rfl

/-- A choice by a fixed condition, of every row block's part or zero, sums to the choice of the sum. -/
theorem sum_select (b : BitVec 1) (A : Fin 16 → EReal) : ∑ x : Fin 16, Scalar.select b (A x) 0 = Scalar.select b (∑ x : Fin 16, A x) 0 := by
  by_cases h : b = 1#1 <;> simp [Scalar.select, h]

theorem sum_dw (I : In) (g : Fin 4) (r k : Fin 128) : ∑ b : Fin 16, dwT I b g r k = I.v218 (ix3 g r k) := by
  rw [ref29]
  unfold dwT
  rw [sum_select]
  refine congrArg (fun z => Scalar.select _ z 0) ?_
  rw [← Fin.sum_mul_add_congr (S := 16) (n := 2) (L := 32) (F := fun b q => ∑ l : Fin 128, I.v206 (ix2 ⟨(b.val * 2 + q.val) * 128 + r.val, by omega⟩ ⟨g.val * 128 + l.val, by omega⟩) * I.v69 (ix2 ⟨(b.val * 2 + q.val) * 128 + k.val, by omega⟩ ⟨g.val * 128 + l.val, by omega⟩)) (f := fun x => ∑ l : Fin 128, I.v206 (ix2 ⟨x.val * 128 + r.val, by omega⟩ ⟨g.val * 128 + l.val, by omega⟩) * I.v69 (ix2 ⟨x.val * 128 + k.val, by omega⟩ ⟨g.val * 128 + l.val, by omega⟩)) fun s k hl => rfl]
  refine Finset.sum_congr rfl fun b _ => ?_
  rw [Fin.sum_univ_two]
  refine congrArg₂ (· + ·) (Finset.sum_congr rfl fun l _ => congrArg₂ (· * ·) (congrArg _ ?_) (congrArg _ ?_)) (Finset.sum_congr rfl fun l _ => congrArg₂ (· * ·) (congrArg _ ?_) (congrArg _ ?_)) <;>
    exact congrArg₂ ix2 (Fin.ext (by simp [row]; omega)) rfl

theorem sum_db (I : In) (g : Fin 4) (r k : Fin 128) : ∑ b : Fin 16, dbT I b g r = I.v309 (ix3 g r k) := by
  rw [ref30]
  unfold dbT
  rw [Finset.sum_comm, Finset.sum_comm (s := (Finset.univ : Finset (Fin 32)))]
  exact Finset.sum_congr rfl fun l _ => sum_chunks (fun z => I.v206 (ix2 z ⟨g.val * 128 + l.val, by omega⟩)) r

/-- The mixing weights' gradient. -/
theorem final29 (c : Dev nD) : (dats m 0 c).arrAt 29 (cfgs 0).N = (inp m c).v218 := by
  refine (dats m 0 c).arrAt_eq_of_after_last 29 last (by decide +kernel) _ fun j => ?_
  blk_simp
  rw [after0_29]
  obtain ⟨g, r, k, rfl⟩ : ∃ (g : Fin 4) (r k : Fin 128), j = ix3 g r k := ⟨j 0, j 1, j 2, ix3_of4 j⟩
  exact (total (fun n hn => (outsAt0 m c n hn).2.2.2.2.2.2.2.2.1 (ix3 g r k)) (fun b => dwT (inp m c) b g r k)
    (fun t h => A29 m c t h g r k) (fun t h => B29 m c t h g r k) last rfl).trans (sum_dw (inp m c) g r k)

/-- The mixing bias's gradient. -/
theorem final30 (c : Dev nD) : (dats m 0 c).arrAt 30 (cfgs 0).N = (inp m c).v309 := by
  refine (dats m 0 c).arrAt_eq_of_after_last 30 last (by decide +kernel) _ fun j => ?_
  blk_simp
  rw [after0_30]
  obtain ⟨g, r, k, rfl⟩ : ∃ (g : Fin 4) (r k : Fin 128), j = ix3 g r k := ⟨j 0, j 1, j 2, ix3_of4 j⟩
  exact (total (fun n hn => (outsAt0 m c n hn).2.2.2.2.2.2.2.2.2.1 (ix3 g r k)) (fun b => dbT (inp m c) b g r)
    (fun t h => A30 m c t h g r k) (fun t h => B30 m c t h g r k) last rfl).trans (sum_db (inp m c) g r k)

end Cert.KernelIdeal.Mix

end
-- ==== Proof.Mix.Frame.lean ====
/- The backward mixer terminates without fault, leaves its arguments unchanged and every counter at zero. -/
module

public import proofs.«01_k».proof.Proof.Mix.Dat
public import Idealize.ShloMosaic.Lib.Claim

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t))

set_option maxHeartbeats 28800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold tupA out0_A_21 out0_A_22 out0_A_23 out0_A_24 out0_A_25 out0_A_26 out0_A_27 out0_A_28 out0_A_29 out0_A_30 out0_A_31 out0_A_32 out0_A_33 out0_A_34 sout0_A_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)).2.2.2.2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [H27]; · iexists _; iexact H27
      isplitl [H28]; · iexists _; iexact H28
      isplitl [H29]; · iexists _; iexact H29
      isplitl [H30]; · iexists _; iexact H30
      isplitl [H31]; · iexists _; iexact H31
      isplitl [H32]; · iexists _; iexact H32
      isplitl [H33]; · iexists _; iexact H33
      isplitl [H34]; · iexists _; iexact H34
      isplitl [HS0]; · iexact HS0
      isplitl [HS1]; · iexact HS1
      isplitl [HS2]; · iexact HS2
      iintro ⟨H0, H1, H2, H3, H4, H5, H6, H7, H8, H9, H10, H11, H12, H13, H14, H15, H16, H17, H18, H19, H20, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%e33, H33⟩, ⟨%e34, H34⟩, ⟨%es0, HS0⟩, ⟨%fT1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H24]
      · unfold owns; iexists _; isplitr
        swap; · iexact H24
        ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H25]
      · unfold owns; iexists _; isplitr
        swap; · iexact H25
        ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H26]
      · unfold owns; iexists _; isplitr
        swap; · iexact H26
        ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H27]
      · unfold owns; iexists _; isplitr
        swap; · iexact H27
        ipureintro; exact View.read_writes_of_cover _ _ _ _ _ (cover0_A_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H28]
      · unfold owns; iexists _; isplitr
        swap; · iexact H28
        ipureintro; exact View.read_writes_of_cover _ _ _ _ _ (cover0_A_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H29]
      · unfold owns; iexists _; isplitr
        swap; · iexact H29
        ipureintro; exact View.read_writes_of_cover _ _ _ _ _ (cover0_A_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H30]
      · unfold owns; iexists _; isplitr
        swap; · iexact H30
        ipureintro; exact View.read_writes_of_cover _ _ _ _ _ (cover0_A_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H31]
      · unfold owns; iexists _; isplitr
        swap; · iexact H31
        ipureintro; exact View.read_writes_of_cover _ _ _ _ _ (cover0_A_31 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H32]
      · unfold owns; iexists _; isplitr
        swap; · iexact H32
        ipureintro; exact View.read_writes_of_cover _ _ _ _ _ (cover0_A_32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H33]
      · unfold owns; iexists _; isplitr
        swap; · iexact H33
        ipureintro; exact View.read_writes_of_cover _ _ _ _ _ (cover0_A_33 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H34
      ipureintro; exact View.read_writes_of_cover _ _ _ _ _ (cover0_A_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_26_B m c t h0, before0_27_B m c t h0, before0_28_B m c t h0, before0_29_B m c t h0, before0_30_B m c t h0, before0_31_B m c t h0, before0_32_B m c t h0, before0_33_B m c t h0, before0_34_B m c t h0]
      unfold tupB out0_B_21 out0_B_22 out0_B_23 out0_B_24 out0_B_25 out0_B_26 out0_B_27 out0_B_28 out0_B_29 out0_B_30 out0_B_31 out0_B_32 out0_B_33 out0_B_34 sout0_B_0; (try dsimp only)
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _ _ _ _ _ _ _ _ _ _).2.2.2.2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexact H34
      isplitl [HS0]; · iexact HS0
      isplitl [HS1]; · iexact HS1
      isplitl [HS2]; · iexact HS2
      iintro ⟨H0, H1, H2, H3, H4, H5, H6, H7, H8, H9, H10, H11, H12, H13, H14, H15, H16, H17, H18, H19, H20, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, H31, ⟨%e32, H32⟩, ⟨%e33, H33⟩, ⟨%e34, H34⟩, ⟨%es0, HS0⟩, ⟨%fT1, HS1⟩, ⟨%fT2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          iexists _; unfold owns; iexists _; isplitr
          swap; · iexact HS2
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]
      · unfold owns; iexists _; isplitr
        swap; · iexact H21
        ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H24]
      · unfold owns; iexists _; isplitr
        swap; · iexact H24
        ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H25]
      · unfold owns; iexists _; isplitr
        swap; · iexact H25
        ipureintro; exact View.read_writes_of_cover _ _ _ _ _ (cover0_B_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H26]
      · unfold owns; iexists _; isplitr
        swap; · iexact H26
        ipureintro; exact View.read_writes_of_cover _ _ _ _ _ (cover0_B_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H27]
      · unfold owns; iexists _; isplitr
        swap; · iexact H27
        ipureintro; exact View.read_writes_of_cover _ _ _ _ _ (cover0_B_27 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H28]
      · unfold owns; iexists _; isplitr
        swap; · iexact H28
        ipureintro; exact View.read_writes_of_cover _ _ _ _ _ (cover0_B_28 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H29]
      · unfold owns; iexists _; isplitr
        swap; · iexact H29
        ipureintro; exact View.read_writes_of_cover _ _ _ _ _ (cover0_B_29 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H30]
      · unfold owns; iexists _; isplitr
        swap; · iexact H30
        ipureintro; exact View.read_writes_of_cover _ _ _ _ _ (cover0_B_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H31]
      · unfold owns; iexists _; isplitr
        swap; · iexact H31
        ipureintro; rfl
      isplitl [H32]
      · unfold owns; iexists _; isplitr
        swap; · iexact H32
        ipureintro; exact View.read_writes_of_cover _ _ _ _ _ (cover0_B_32 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H33]
      · unfold owns; iexists _; isplitr
        swap; · iexact H33
        ipureintro; exact View.read_writes_of_cover _ _ _ _ _ (cover0_B_33 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H34
      ipureintro; exact View.read_writes_of_cover _ _ _ _ _ (cover0_B_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

set_option maxHeartbeats 4000000 in
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- Every execution ends, leaves the arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Mix

end
-- ==== Proof.MixClaims.lean ====
/- The claims about the backward mixer call. -/
module

public import proofs.«01_k».proof.Defs
public import proofs.«01_k».proof.Proof.Mix.Same
public import proofs.«01_k».proof.Proof.Mix.SguFinal
public import proofs.«01_k».proof.Proof.Mix.Frame
public import proofs.«01_k».proof.Proof.Gen.KernelIdeal.Frame.Runs
public import proofs.«01_k».proof.Proof.Gen.Kernel.Launch
public import proofs.«01_k».proof.Proof.Gen.Kernel.Skeleton
public import proofs.«01_k».proof.Proof.Gen.ReferenceIdeal.Read
public import Idealize.ShloMosaic.Lib.Claim
public import Idealize.ShloMosaic.Lib.Quiescent

@[expose] public section

set_option maxRecDepth 16384

noncomputable section

namespace Cert.Proof1

open Idealize.ShloMosaic Idealize.SL.Sem
open Cert.KernelIdeal.Mix

set_option maxHeartbeats 40000000 in
/-- The program and its ideal reading have one text, so its frame is the run at the machine's floats. -/
theorem frameK : Cert.quiescent_Kernel := by
  intro m ρ _
  rw [defs_same, main_same]
  exact Cert.KernelIdeal.Mix.frame (F := Bits) m ρ

theorem frameKI : Cert.quiescent_KernelIdeal := fun m ρ _ => Cert.KernelIdeal.Mix.frame m ρ

theorem frameR : Cert.quiescent_ReferenceIdeal := fun m ρ _ =>
  (θ_run Cert.ReferenceIdeal.defs _ _).mono (fun r h => ⟨fun c => (h c).2.2.2.2,
    sem_eq_zero_of_no_sems (by decide) r.2⟩) (Cert.ReferenceIdeal.Value.run (F := Ideal) m ρ)

/-! The arrays the call leaves, for any arrays that are the arguments. -/

theorem val_dlng (m : (ℓ : Loc Cert.KernelIdeal.nD Cert.KernelIdeal.τ Cert.KernelIdeal.sig) → Buf (Elt Ideal) ℓ) (c : Dev Cert.KernelIdeal.nD)
    (x0 : FVec Ideal Cert.ReferenceIdeal.S4096x1024 .f32) (x1 : FVec Ideal Cert.ReferenceIdeal.S1024 .f32) (x2 : FVec Ideal Cert.ReferenceIdeal.S1024x2048 .f32) (x5 : FVec Ideal Cert.ReferenceIdeal.S4x128x128 .f32) (x11 : FVec Ideal Cert.ReferenceIdeal.S1024x1024 .f32) (x12 : FVec Ideal Cert.ReferenceIdeal.S4096x1024 .f32)
    (e0 : x0 = (inp m c).x0) (e1 : x1 = (inp m c).x1) (e2 : x2 = (inp m c).x2) (e5 : x5 = (inp m c).x5) (e11 : x11 = (inp m c).x11) (e12 : x12 = (inp m c).x12) :
    Cert.ReferenceIdeal.Read.val_main_v306 (F := Ideal) x0 x1 x2 x5 x11 x12 = (dats m 0 c).arrAt 27 (Cert.KernelIdeal.cfgs 0).N := by
  subst e0 e1 e2 e5 e11 e12
  exact (final27 m c).symm

theorem val_dlnb (m : (ℓ : Loc Cert.KernelIdeal.nD Cert.KernelIdeal.τ Cert.KernelIdeal.sig) → Buf (Elt Ideal) ℓ) (c : Dev Cert.KernelIdeal.nD)
    (x0 : FVec Ideal Cert.ReferenceIdeal.S4096x1024 .f32) (x1 : FVec Ideal Cert.ReferenceIdeal.S1024 .f32) (x2 : FVec Ideal Cert.ReferenceIdeal.S1024x2048 .f32) (x5 : FVec Ideal Cert.ReferenceIdeal.S4x128x128 .f32) (x11 : FVec Ideal Cert.ReferenceIdeal.S1024x1024 .f32) (x12 : FVec Ideal Cert.ReferenceIdeal.S4096x1024 .f32)
    (e0 : x0 = (inp m c).x0) (e1 : x1 = (inp m c).x1) (e2 : x2 = (inp m c).x2) (e5 : x5 = (inp m c).x5) (e11 : x11 = (inp m c).x11) (e12 : x12 = (inp m c).x12) :
    Cert.ReferenceIdeal.Read.val_main_v307 (F := Ideal) x0 x1 x2 x5 x11 x12 = (dats m 0 c).arrAt 28 (Cert.KernelIdeal.cfgs 0).N := by
  subst e0 e1 e2 e5 e11 e12
  exact (final28 m c).symm

theorem val_dws (m : (ℓ : Loc Cert.KernelIdeal.nD Cert.KernelIdeal.τ Cert.KernelIdeal.sig) → Buf (Elt Ideal) ℓ) (c : Dev Cert.KernelIdeal.nD)
    (x0 : FVec Ideal Cert.ReferenceIdeal.S4096x1024 .f32) (x1 : FVec Ideal Cert.ReferenceIdeal.S1024 .f32) (x2 : FVec Ideal Cert.ReferenceIdeal.S1024x2048 .f32) (x3 : FVec Ideal Cert.ReferenceIdeal.S512 .f32) (x4 : FVec Ideal Cert.ReferenceIdeal.S512 .f32) (x11 : FVec Ideal Cert.ReferenceIdeal.S1024x1024 .f32) (x12 : FVec Ideal Cert.ReferenceIdeal.S4096x1024 .f32)
    (e0 : x0 = (inp m c).x0) (e1 : x1 = (inp m c).x1) (e2 : x2 = (inp m c).x2) (e3 : x3 = (inp m c).x3) (e4 : x4 = (inp m c).x4) (e11 : x11 = (inp m c).x11) (e12 : x12 = (inp m c).x12) :
    Cert.ReferenceIdeal.Read.val_main_v218 (F := Ideal) x0 x1 x2 x3 x4 x11 x12 = (dats m 0 c).arrAt 29 (Cert.KernelIdeal.cfgs 0).N := by
  subst e0 e1 e2 e3 e4 e11 e12
  exact (final29 m c).symm

theorem val_dbs (m : (ℓ : Loc Cert.KernelIdeal.nD Cert.KernelIdeal.τ Cert.KernelIdeal.sig) → Buf (Elt Ideal) ℓ) (c : Dev Cert.KernelIdeal.nD)
    (x0 : FVec Ideal Cert.ReferenceIdeal.S4096x1024 .f32) (x1 : FVec Ideal Cert.ReferenceIdeal.S1024 .f32) (x2 : FVec Ideal Cert.ReferenceIdeal.S1024x2048 .f32) (x11 : FVec Ideal Cert.ReferenceIdeal.S1024x1024 .f32) (x12 : FVec Ideal Cert.ReferenceIdeal.S4096x1024 .f32)
    (e0 : x0 = (inp m c).x0) (e1 : x1 = (inp m c).x1) (e2 : x2 = (inp m c).x2) (e11 : x11 = (inp m c).x11) (e12 : x12 = (inp m c).x12) :
    Cert.ReferenceIdeal.Read.val_main_v309 (F := Ideal) x0 x1 x2 x11 x12 = (dats m 0 c).arrAt 30 (Cert.KernelIdeal.cfgs 0).N := by
  subst e0 e1 e2 e11 e12
  exact (final30 m c).symm

set_option maxHeartbeats 4000000 in
theorem algebraic : Cert.algebraic_KernelIdeal_ReferenceIdeal := by
  intro m g m' g' hp h
  refine ⟨fun c => (dats m 0 c).arrAt 27 (Cert.KernelIdeal.cfgs 0).N, fun c => (dats m 0 c).arrAt 28 (Cert.KernelIdeal.cfgs 0).N, fun c => (dats m 0 c).arrAt 29 (Cert.KernelIdeal.cfgs 0).N, fun c => (dats m 0 c).arrAt 30 (Cert.KernelIdeal.cfgs 0).N, ?_, ?_⟩
  · refine (θ_run Cert.KernelIdeal.defs _ _).mono (fun r h => fun c => ?_) (θ_run_and (run_main m g) (unchanged m g))
    exact ⟨(h.1 c).1 27, (h.1 c).1 28, (h.1 c).1 29, (h.1 c).1 30, h.2 c⟩
  · refine (θ_run Cert.ReferenceIdeal.defs _ _).mono (fun r k => fun c => ?_) (Cert.ReferenceIdeal.Value.run (F := Ideal) m' g')
    refine ⟨(k c).1.trans ?_, (k c).2.1.trans ?_, (k c).2.2.1.trans ?_, (k c).2.2.2.1.trans ?_, (k c).2.2.2.2⟩
    · exact (Cert.ReferenceIdeal.Read.val_main_v306_eq _).trans (val_dlng m c _ _ _ _ _ _ (h c).1 (h c).2.1 (h c).2.2.1 (h c).2.2.2.2.2.1 (h c).2.2.2.2.2.2.2.2.2.2.2.1 (h c).2.2.2.2.2.2.2.2.2.2.2.2)
    · exact (Cert.ReferenceIdeal.Read.val_main_v307_eq _).trans (val_dlnb m c _ _ _ _ _ _ (h c).1 (h c).2.1 (h c).2.2.1 (h c).2.2.2.2.2.1 (h c).2.2.2.2.2.2.2.2.2.2.2.1 (h c).2.2.2.2.2.2.2.2.2.2.2.2)
    · exact (Cert.ReferenceIdeal.Read.val_main_v218_eq _).trans (val_dws m c _ _ _ _ _ _ _ (h c).1 (h c).2.1 (h c).2.2.1 (h c).2.2.2.1 (h c).2.2.2.2.1 (h c).2.2.2.2.2.2.2.2.2.2.2.1 (h c).2.2.2.2.2.2.2.2.2.2.2.2)
    · exact (Cert.ReferenceIdeal.Read.val_main_v309_eq _).trans (val_dbs m c _ _ _ _ _ (h c).1 (h c).2.1 (h c).2.2.1 (h c).2.2.2.2.2.2.2.2.2.2.2.1 (h c).2.2.2.2.2.2.2.2.2.2.2.2)

end Cert.Proof1

end
-- ==== Proof.Ffn.Same.lean ====
/- Backward feed-forward call: the program and its ideal reading are one text. -/
module

public import proofs.«01_k».proof.Proof.Gen.Kernel2
public import proofs.«01_k».proof.Proof.Gen.Kernel2Ideal

@[expose] public section

set_option maxRecDepth 100000

namespace Cert.Proof2

open Idealize.ShloMosaic Idealize.SL.Sem

variable {F : FTy → Type} [FloatOps F]

theorem body_same : Cert.Kernel2.cc0_ffn_bwd_l0 (F := F) = Cert.Kernel2Ideal.cc0_ffn_bwd_l0 (F := F) := rfl

set_option maxHeartbeats 4000000 in
theorem defs₀_same : Cert.Kernel2.defs₀ (F := F) = Cert.Kernel2Ideal.defs₀ (F := F) := by
  unfold Cert.Kernel2.defs₀ Cert.Kernel2Ideal.defs₀
  refine congrArg Defs.onTc (funext fun l => funext fun a => ?_)
  match l, a with
  | 0, (t, s) => rw [body_same]; rfl
  | ⟨_ + 1, h⟩, _ => exact absurd h (Nat.not_lt.2 (Nat.le_add_left _ _))

set_option maxHeartbeats 4000000 in
theorem defs_same : Cert.Kernel2.defs (F := F) = Cert.Kernel2Ideal.defs (F := F) :=
  congrArg (Pipeline.defs Cert.Kernel2.pcfgs) defs₀_same

set_option maxHeartbeats 4000000 in
theorem main_same : Cert.Kernel2.main (F := F) = Cert.Kernel2Ideal.main (F := F) := rfl

end Cert.Proof2
-- ==== Proof.Ffn.Cases.lean ====
/- Backward feed-forward call: where the body branches, where the windows rest, and the buffers that it is called with. -/
module

public import proofs.«01_k».proof.Proof.Gen.Kernel2Ideal.Skeleton
public import proofs.«01_k».proof.Proof.Gen.Kernel2Ideal.Frame
public import Idealize.ShloMosaic.Lib.Pipeline.TableIdle

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The body's branch 1 is taken where `t.val % 32 = 0`. -/
theorem hcond1 (t : Fin cfg0.N) : k0_cond1 (grid0.coords t) = 1#1 ↔ t.val % 32 = 0 := by
  have ht : t.val < 32 := Nat.lt_of_lt_of_eq t.isLt N_0
  have e0 : (grid0.coords t 0).val = t.val / 4 % 8 := Pipeline.Grid.coords_val t 0 (by decide) rfl
  have e1 : (grid0.coords t 1).val = t.val / 1 % 4 := Pipeline.Grid.coords_val t 1 (by decide) rfl
  simp only [k0_cond1, e0, e1]
  word_cmp

/-- The body's branch 2 is taken where `t.val % 4 = 0`. -/
theorem hcond2 (t : Fin cfg0.N) : k0_cond2 (grid0.coords t) = 1#1 ↔ t.val % 4 = 0 := by
  have ht : t.val < 32 := Nat.lt_of_lt_of_eq t.isLt N_0
  have e0 : (grid0.coords t 0).val = t.val / 4 % 8 := Pipeline.Grid.coords_val t 0 (by decide) rfl
  have e1 : (grid0.coords t 1).val = t.val / 1 % 4 := Pipeline.Grid.coords_val t 1 (by decide) rfl
  simp only [k0_cond2, e0, e1]
  word_cmp

/-- The body's branch 3 is taken where `t.val % 4 = 3`. -/
theorem hcond3 (t : Fin cfg0.N) : k0_cond3 (grid0.coords t) = 1#1 ↔ t.val % 4 = 3 := by
  have ht : t.val < 32 := Nat.lt_of_lt_of_eq t.isLt N_0
  have e0 : (grid0.coords t 0).val = t.val / 4 % 8 := Pipeline.Grid.coords_val t 0 (by decide) rfl
  have e1 : (grid0.coords t 1).val = t.val / 1 % 4 := Pipeline.Grid.coords_val t 1 (by decide) rfl
  simp only [k0_cond3, e0, e1]
  word_cmp

/-! ## Where the output windows rest, are written back, and are fresh -/

theorem idle7 : ∀ t : Fin cfg0.N, cfg0.idle 7 (grid0.coords t) = !decide (t.val % 4 = 3) := by decide +kernel
theorem flush7 : ∀ t : Fin cfg0.N, (cfg0.win 7).flush t = decide (t.val % 4 = 3) := by decide +kernel
theorem idle8 : ∀ t : Fin cfg0.N, cfg0.idle 8 (grid0.coords t) = !decide (t.val % 4 = 3) := by decide +kernel
theorem flush8 : ∀ t : Fin cfg0.N, (cfg0.win 8).flush t = decide (t.val % 4 = 3) := by decide +kernel
theorem idle11 : ∀ t : Fin cfg0.N, cfg0.idle 11 (grid0.coords t) = !decide (t.val % 4 = 0) := by decide +kernel
theorem flush11 : ∀ t : Fin cfg0.N, (cfg0.win 11).flush t = decide (t.val % 4 = 3) := by decide +kernel
theorem idle12 : ∀ t : Fin cfg0.N, cfg0.idle 12 (grid0.coords t) = !(decide (t.val % 32 = 0) || decide (t.val % 4 = 3)) := by decide +kernel
theorem flush12 : ∀ t : Fin cfg0.N, (cfg0.win 12).flush t = decide (t.val = 31) := by decide +kernel

/-- The buffer of the transposed hidden rows is fresh exactly at the first point of a row block. -/
def fresh11 : ℕ → Bool
  | 0 => true
  | n + 1 => decide (n % 4 = 3)
theorem fresh11_step : ∀ t : Fin cfg0.N,
    fresh11 (t.val + 1) = ((cfg0.win 11).flush t || (cfg0.idle 11 (cfg0.grid.coords t) && fresh11 t.val)) := by decide +kernel
theorem fresh11_eq (t : Fin cfg0.N) : cfg0.fresh 11 t.val = fresh11 t.val :=
  Pipeline.Cfg.fresh_tab cfg0 11 fresh11 rfl fresh11_step t.val (Nat.le_of_lt t.isLt)

/-- The buffer of the gain's gradient is fresh only at the first point. -/
def fresh12 : ℕ → Bool
  | 0 => true
  | n + 1 => decide (n = 31)
theorem fresh12_step : ∀ t : Fin cfg0.N,
    fresh12 (t.val + 1) = ((cfg0.win 12).flush t || (cfg0.idle 12 (cfg0.grid.coords t) && fresh12 t.val)) := by decide +kernel
theorem fresh12_eq (t : Fin cfg0.N) : cfg0.fresh 12 t.val = fresh12 t.val :=
  Pipeline.Cfg.fresh_tab cfg0 12 fresh12 rfl fresh12_step t.val (Nat.le_of_lt t.isLt)

/-! ## The buffers that a point's body is called with -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1024 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1024x1024 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S512x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S512x1024 .bf16 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x1024 .bf16 := win0_9.stage (cfg0.slots t 9)
abbrev hs9 (t : Fin cfg0.N) : (ms9 t).IsWhole := hstage0_9 ((cfg0.slots t 9).cast nbuf0_9)
abbrev ms10 (t : Fin cfg0.N) : Memref sig .tc .vmem S1024x512 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S1024x512 .bf16 := win0_11.stage (cfg0.slots t 11)
abbrev hs11 (t : Fin cfg0.N) : (ms11 t).IsWhole := hstage0_11 ((cfg0.slots t 11).cast nbuf0_11)
abbrev ms12 (t : Fin cfg0.N) : Memref sig .tc .vmem S1x1024 .f32 := win0_12.stage (cfg0.slots t 12)
abbrev hs12 (t : Fin cfg0.N) : (ms12 t).IsWhole := hstage0_12 ((cfg0.slots t 12).cast nbuf0_12)
/-- The scratch accumulator of the hidden rows' gradient. -/
abbrev scM : Memref sig .tc .vmem S512x1024 .f32 := Memref.whole cc0_scratch0

/-- The region's invariant with the scratch as a buffer owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel2Ideal.Ffn

end
-- ==== Proof.Ffn.Dat.lean ====
/- Backward feed-forward call: what every buffer holds after every point, and the pipeline's proof data. -/
module

public import proofs.«01_k».proof.Proof.Ffn.Cases

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold, point by point -/

/-- The hidden layer's gradient before its activation, of the rows and columns of point `t`. -/
def dz (c : Dev nD) (t : Fin cfg0.N) : Vec F S512x1024 .bf16 := k0_pay12 (iblk m c 3 t) (iblk m c 1 t) (iblk m c 6 t)
/-- The first weight's block of columns at point `t`. -/
def wb (c : Dev nD) (t : Fin cfg0.N) : FVec F S1024x1024 .bf16 := k0_pay13 (iblk m c 5 t)

/-- The accumulator after point `n`: within a row block the sum of the products so far. -/
def acc (c : Dev nD) : (n : ℕ) → n < cfg0.N → Vec F S512x1024 .f32
  | 0, h => k0_pay1 (dz m c ⟨0, h⟩) (k0_pay9 (F := F)) (wb m c ⟨0, h⟩)
  | n + 1, h => k0_pay1 (dz m c ⟨n + 1, h⟩) (if (n + 1) % 4 = 0 then k0_pay9 (F := F) else acc c n (Nat.lt_of_succ_lt h)) (wb m c ⟨n + 1, h⟩)

/-- The transposed hidden rows after point `n`: those of the row block's first point. -/
def ht (c : Dev nD) : (n : ℕ) → n < cfg0.N → Vec F S1024x512 .bf16
  | 0, h => k0_pay8 (iblk m c 2 ⟨0, h⟩) (iblk m c 4 ⟨0, h⟩)
  | n + 1, h => if (n + 1) % 4 = 0 then k0_pay8 (iblk m c 2 ⟨n + 1, h⟩) (iblk m c 4 ⟨n + 1, h⟩) else ht c n (Nat.lt_of_succ_lt h)

/-- The gain's gradient after point `n`: each row block adds its part at its last point. -/
def dg (c : Dev nD) : (n : ℕ) → n < cfg0.N → Vec F S1x1024 .f32
  | 0, h => k0_pay7 (F := F)
  | n + 1, h => if (n + 1) % 4 = 3 then k0_pay4 (iblk m c 2 ⟨n + 1, h⟩) (acc m c (n + 1) h) (dg c n (Nat.lt_of_succ_lt h)) else dg c n (Nat.lt_of_succ_lt h)

theorem acc_first (c : Dev nD) (t : Fin cfg0.N) (h : t.val % 4 = 0) :
    acc m c t.val t.isLt = k0_pay1 (dz m c t) (k0_pay9 (F := F)) (wb m c t) := by
  obtain ⟨n, hn⟩ := t
  cases n with
  | zero => rfl
  | succ n => rw [acc, if_pos h]
theorem acc_next (c : Dev nD) (t : Fin cfg0.N) (h : ¬t.val % 4 = 0) :
    acc m c t.val t.isLt = k0_pay1 (dz m c t) (acc m c (t.val - 1) (Nat.lt_of_le_of_lt (Nat.sub_le _ _) t.isLt)) (wb m c t) := by
  obtain ⟨n, hn⟩ := t
  cases n with
  | zero => exact absurd rfl h
  | succ n => rw [acc, if_neg h]; rfl
theorem ht_first (c : Dev nD) (t : Fin cfg0.N) (h : t.val % 4 = 0) :
    ht m c t.val t.isLt = k0_pay8 (iblk m c 2 t) (iblk m c 4 t) := by
  obtain ⟨n, hn⟩ := t
  cases n with
  | zero => rfl
  | succ n => rw [ht, if_pos h]
theorem ht_next (c : Dev nD) (t : Fin cfg0.N) (h : ¬t.val % 4 = 0) :
    ht m c t.val t.isLt = ht m c (t.val - 1) (Nat.lt_of_le_of_lt (Nat.sub_le _ _) t.isLt) := by
  obtain ⟨n, hn⟩ := t
  cases n with
  | zero => exact absurd rfl h
  | succ n => rw [ht, if_neg h]; rfl
theorem dg_first (c : Dev nD) (t : Fin cfg0.N) (h : t.val = 0) : dg m c t.val t.isLt = k0_pay7 (F := F) := by
  obtain ⟨n, hn⟩ := t
  obtain rfl : n = 0 := h
  rfl
theorem dg_keep (c : Dev nD) (t : Fin cfg0.N) (h0 : t.val ≠ 0) (h : ¬t.val % 4 = 3) :
    dg m c t.val t.isLt = dg m c (t.val - 1) (Nat.lt_of_le_of_lt (Nat.sub_le _ _) t.isLt) := by
  obtain ⟨n, hn⟩ := t
  cases n with
  | zero => exact absurd rfl h0
  | succ n => rw [dg, if_neg h]; rfl
theorem dg_add (c : Dev nD) (t : Fin cfg0.N) (h : t.val % 4 = 3) :
    dg m c t.val t.isLt = k0_pay4 (iblk m c 2 t) (acc m c t.val t.isLt) (dg m c (t.val - 1) (Nat.lt_of_le_of_lt (Nat.sub_le _ _) t.isLt)) := by
  obtain ⟨n, hn⟩ := t
  cases n with
  | zero => exact absurd h (by simp)
  | succ n => rw [dg, if_pos h]; rfl

/-- The region's invariant before position `n`: the accumulator at what the point before left. -/
def PhiS (c : Dev nD) : (n : ℕ) → n ≤ cfg0.N → sProp 𝕄
  | 0, _ => Pipeline.ΦA spec0 c
  | n + 1, hn => iprop(iprop(owns (c : Thread nD τ) scM fullShare (acc m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (acc m c n hn)) ∗ (∃ r, prngReg c r)) := rfl
theorem PhiS_pos (c : Dev nD) (n : ℕ) (h : n ≤ cfg0.N) (hz : n ≠ 0) :
    PhiS m c n h = iprop(iprop(owns (c : Thread nD τ) scM fullShare (acc m c (n - 1) (by omega))) ∗ (∃ r, prngReg c r)) := by
  cases n with
  | zero => exact absurd rfl hz
  | succ n => rfl

/-- The pipeline's proof data: what each window's buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay5 (iblk m c 4 t) (iblk m c 2 t) (acc m c t.val t.isLt) (iblk m c 0 t)
    | ⟨8, _⟩ => k0_pay6 (iblk m c 4 t) (iblk m c 2 t) (acc m c t.val t.isLt) (iblk m c 0 t)
    | ⟨9, _⟩ => dz m c t
    | ⟨10, _⟩ => k0_pay11 (iblk m c 3 t)
    | ⟨11, _⟩ => ht m c t.val t.isLt
    | ⟨12, _⟩ => dg m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = (iblk m c 0 t : Vec F S512x1024 .f32) := by dsimp only [dats]
theorem after1 (c : Dev nD) (t : Fin cfg0.N) : (dats m 0 c).after 1 t = (iblk m c 1 t : Vec F S512x1024 .bf16) := by dsimp only [dats]
theorem after2 (c : Dev nD) (t : Fin cfg0.N) : (dats m 0 c).after 2 t = (iblk m c 2 t : Vec F S512x1024 .f32) := by dsimp only [dats]
theorem after3 (c : Dev nD) (t : Fin cfg0.N) : (dats m 0 c).after 3 t = (iblk m c 3 t : Vec F S512x1024 .bf16) := by dsimp only [dats]
theorem after4 (c : Dev nD) (t : Fin cfg0.N) : (dats m 0 c).after 4 t = (iblk m c 4 t : Vec F S1x1024 .f32) := by dsimp only [dats]
theorem after5 (c : Dev nD) (t : Fin cfg0.N) : (dats m 0 c).after 5 t = (iblk m c 5 t : Vec F S1x1024x1024 .bf16) := by dsimp only [dats]
theorem after6 (c : Dev nD) (t : Fin cfg0.N) : (dats m 0 c).after 6 t = (iblk m c 6 t : Vec F S1x1024x1024 .bf16) := by dsimp only [dats]
theorem after7 (c : Dev nD) (t : Fin cfg0.N) : (dats m 0 c).after 7 t = (k0_pay5 (iblk m c 4 t) (iblk m c 2 t) (acc m c t.val t.isLt) (iblk m c 0 t) : Vec F S512x1024 .f32) := by dsimp only [dats]
theorem after8 (c : Dev nD) (t : Fin cfg0.N) : (dats m 0 c).after 8 t = (k0_pay6 (iblk m c 4 t) (iblk m c 2 t) (acc m c t.val t.isLt) (iblk m c 0 t) : Vec F S512x1024 .bf16) := by dsimp only [dats]
theorem after9 (c : Dev nD) (t : Fin cfg0.N) : (dats m 0 c).after 9 t = (dz m c t : Vec F S512x1024 .bf16) := by dsimp only [dats]
theorem after10 (c : Dev nD) (t : Fin cfg0.N) : (dats m 0 c).after 10 t = (k0_pay11 (iblk m c 3 t) : Vec F S1024x512 .bf16) := by dsimp only [dats]
theorem after11 (c : Dev nD) (t : Fin cfg0.N) : (dats m 0 c).after 11 t = (ht m c t.val t.isLt : Vec F S1024x512 .bf16) := by dsimp only [dats]
theorem after12 (c : Dev nD) (t : Fin cfg0.N) : (dats m 0 c).after 12 t = (dg m c t.val t.isLt : Vec F S1x1024 .f32) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- Where the transposed hidden rows rest, they stay as they were. -/
theorem carry11 (c : Dev nD) (t : Fin cfg0.N) (_ : t.val ≠ 0) (hi : cfg0.idle 11 (grid0.coords t) = true) (_ : cfg0.fresh 11 t.val = false) :
    (dats m 0 c).after 11 t = (dats m 0 c).after 11 ⟨t.val - 1, by omega⟩ := by
  rw [idle11 t] at hi
  have h : ¬t.val % 4 = 0 := by simpa using hi
  rw [after11, after11]
  exact ht_next m c t h
/-- Where the gain's gradient rests, it stays as it was. -/
theorem carry12 (c : Dev nD) (t : Fin cfg0.N) (h0 : t.val ≠ 0) (hi : cfg0.idle 12 (grid0.coords t) = true) (_ : cfg0.fresh 12 t.val = false) :
    (dats m 0 c).after 12 t = (dats m 0 c).after 12 ⟨t.val - 1, by omega⟩ := by
  rw [idle12 t] at hi
  have h : ¬t.val % 4 = 3 := by
    intro h3; rw [h3] at hi; simp at hi
  rw [after12, after12]
  exact dg_keep m c t h0 h
theorem before11 (c : Dev nD) (t : Fin cfg0.N) (h : ¬t.val % 4 = 0) (d) :
    (dats m 0 c).before 11 t d = ht m c t.val t.isLt := by
  have hN : t.val < 32 := lt_of_lt_of_eq t.isLt N_0
  have hf : cfg0.fresh 11 t.val = false := by
    rw [fresh11_eq t]
    obtain ⟨n, hn⟩ := t
    cases n with
    | zero => exact absurd rfl h
    | succ n => simp only [fresh11, decide_eq_false_iff_not]; simp only at h; omega
  rw [Dat.before_out_traj _ 11 rfl (fun _ _ => rfl) (carry11 m c) t.val t rfl d, if_neg (by rw [hf]; exact Bool.false_ne_true), after11]
  exact (ht_next m c t h).symm
theorem before12 (c : Dev nD) (t : Fin cfg0.N) (h : t.val ≠ 0) (d) :
    (dats m 0 c).before 12 t d = dg m c (t.val - 1) (Nat.lt_of_le_of_lt (Nat.sub_le _ _) t.isLt) := by
  have hN : t.val < 32 := lt_of_lt_of_eq t.isLt N_0
  have hf : cfg0.fresh 12 t.val = false := by
    rw [fresh12_eq t]
    obtain ⟨n, hn⟩ := t
    cases n with
    | zero => exact absurd rfl h
    | succ n => simp only [fresh12, decide_eq_false_iff_not]; simp only at hN; omega
  rw [Dat.before_out_traj _ 12 rfl (fun _ _ => rfl) (carry12 m c) t.val t rfl d, if_neg (by rw [hf]; exact Bool.false_ne_true), after12]

end Cert.Kernel2Ideal.Ffn

end
-- ==== Proof.Ffn.RunA.lean ====
/- Backward feed-forward call: one run of the body, case A. -/
module

public import proofs.«01_k».proof.Proof.Ffn.Cases
public import Idealize.ShloMosaic.Lib.Pipeline.ValueKit
public import Idealize.ShloMosaic.Lib.VecWindow

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at the first point: the gain's gradient and the accumulator are reset, the hidden rows stored transposed, and the first block of columns added. -/
theorem runA (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1x1024 .f32) (harg14 : arg14.IsWhole) (arg15 : Memref sig .tc .vmem S512x1024 .f32) (harg15 : arg15.IsWhole)
    (hc1 : k0_cond1 i = 1#1) (hc2 : k0_cond2 i = 1#1) (hc3 : ¬k0_cond3 i = 1#1) (x0 : Vec F S512x1024 .f32) (x1 : Vec F S512x1024 .bf16) (x2 : Vec F S512x1024 .f32) (x3 : Vec F S512x1024 .bf16) (x4 : Vec F S1x1024 .f32) (x5 : Vec F S1x1024x1024 .bf16) (x6 : Vec F S1x1024x1024 .bf16) (xi7 : Vec F S512x1024 .f32) (xi8 : Vec F S512x1024 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare (k0_pay12 x3 x1 x6) ∗ owns (c : Thread nD τ) arg12 fullShare (k0_pay11 x3) ∗ owns (c : Thread nD τ) arg13 fullShare (k0_pay8 x2 x4) ∗ owns (c : Thread nD τ) arg14 fullShare (k0_pay7 (F := F)) ∗ owns (c : Thread nD τ) arg15 fullShare (k0_pay1 (k0_pay12 x3 x1 x6) (k0_pay9 (F := F)) (k0_pay13 x5))) -∗ K ⟨⟩))
      ⊢ wp frame (wpE (defs₀ (F := F)) Variants.none c none) E (cc0_ffn_bwd_l0 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_bwd_l0_eq_skeleton]; unfold cc0_ffn_bwd_l0_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc1 | sl_exact hc2 | sl_exact hc3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; frame_out; exact View.read_writes_full _ _ _ _ _
  isplitl [H10]
  · iexists _; isplitr; swap; · iexact H10
    ipureintro; frame_out; exact View.read_writes_full _ _ _ _ _
  isplitl [H11]
  · iexists _; isplitr; swap; · iexact H11
    ipureintro; frame_out; exact View.read_writes_full _ _ _ _ _
  isplitl [H12]
  · iexists _; isplitr; swap; · iexact H12
    ipureintro; frame_out; exact View.read_writes_full _ _ _ _ _
  iexists _; isplitr; swap; · iexact H13
  ipureintro; frame_out; exact View.read_writes_full _ _ _ _ _

end Cert.Kernel2Ideal.Ffn

end
-- ==== Proof.Ffn.RunB.lean ====
/- Backward feed-forward call: one run of the body, case B. -/
module

public import proofs.«01_k».proof.Proof.Ffn.Cases
public import Idealize.ShloMosaic.Lib.Pipeline.ValueKit
public import Idealize.ShloMosaic.Lib.VecWindow

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body in the midst of a row block: a further block of columns is added to the accumulator. -/
theorem runB (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1x1024 .f32) (harg14 : arg14.IsWhole) (arg15 : Memref sig .tc .vmem S512x1024 .f32) (harg15 : arg15.IsWhole)
    (hc1 : ¬k0_cond1 i = 1#1) (hc2 : ¬k0_cond2 i = 1#1) (hc3 : ¬k0_cond3 i = 1#1) (x0 : Vec F S512x1024 .f32) (x1 : Vec F S512x1024 .bf16) (x2 : Vec F S512x1024 .f32) (x3 : Vec F S512x1024 .bf16) (x4 : Vec F S1x1024 .f32) (x5 : Vec F S1x1024x1024 .bf16) (x6 : Vec F S1x1024x1024 .bf16) (xi7 : Vec F S512x1024 .f32) (xi8 : Vec F S512x1024 .bf16) (xi11 : Vec F S1024x512 .bf16) (xi12 : Vec F S1x1024 .f32) (xs : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d) ∗ owns (c : Thread nD τ) arg13 fullShare xi11 ∗ owns (c : Thread nD τ) arg14 fullShare xi12 ∗ owns (c : Thread nD τ) arg15 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare (k0_pay12 x3 x1 x6) ∗ owns (c : Thread nD τ) arg12 fullShare (k0_pay11 x3) ∗ owns (c : Thread nD τ) arg13 fullShare xi11 ∗ owns (c : Thread nD τ) arg14 fullShare xi12 ∗ owns (c : Thread nD τ) arg15 fullShare (k0_pay1 (k0_pay12 x3 x1 x6) xs (k0_pay13 x5))) -∗ K ⟨⟩))
      ⊢ wp frame (wpE (defs₀ (F := F)) Variants.none c none) E (cc0_ffn_bwd_l0 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_bwd_l0_eq_skeleton]; unfold cc0_ffn_bwd_l0_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg13.eq_unread hf11; obtain rfl := harg14.eq_unread hf12; obtain rfl := harg15.eq_unread hf13
  sl_exec (disch := first | sl_exact hc1 | sl_exact hc2 | sl_exact hc3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; frame_out; exact View.read_writes_full _ _ _ _ _
  isplitl [H10]
  · iexists _; isplitr; swap; · iexact H10
    ipureintro; frame_out; exact View.read_writes_full _ _ _ _ _
  isplitl [H11]
  · iexists _; isplitr; swap; · iexact H11
    ipureintro; exact harg13.read_unread _
  isplitl [H12]
  · iexists _; isplitr; swap; · iexact H12
    ipureintro; exact harg14.read_unread _
  iexists _; isplitr; swap; · iexact H13
  ipureintro; frame_out; exact View.read_writes_full _ _ _ _ _

end Cert.Kernel2Ideal.Ffn

end
-- ==== Proof.Ffn.RunC.lean ====
/- Backward feed-forward call: one run of the body, case C. -/
module

public import proofs.«01_k».proof.Proof.Ffn.Cases
public import Idealize.ShloMosaic.Lib.Pipeline.ValueKit
public import Idealize.ShloMosaic.Lib.VecWindow

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at the last point of a row block: after the last block of columns the accumulator holds the gradient of the normalised rows, from which the gain's gradient and the rows' gradient are taken. -/
theorem runC (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1x1024 .f32) (harg14 : arg14.IsWhole) (arg15 : Memref sig .tc .vmem S512x1024 .f32) (harg15 : arg15.IsWhole)
    (hc1 : ¬k0_cond1 i = 1#1) (hc2 : ¬k0_cond2 i = 1#1) (hc3 : k0_cond3 i = 1#1) (x0 : Vec F S512x1024 .f32) (x1 : Vec F S512x1024 .bf16) (x2 : Vec F S512x1024 .f32) (x3 : Vec F S512x1024 .bf16) (x4 : Vec F S1x1024 .f32) (x5 : Vec F S1x1024x1024 .bf16) (x6 : Vec F S1x1024x1024 .bf16) (xi11 : Vec F S1024x512 .bf16) (xi12 : Vec F S1x1024 .f32) (xs : Vec F S512x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xi11 ∗ owns (c : Thread nD τ) arg14 fullShare xi12 ∗ owns (c : Thread nD τ) arg15 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (k0_pay5 x4 x2 (k0_pay1 (k0_pay12 x3 x1 x6) xs (k0_pay13 x5)) x0) ∗ owns (c : Thread nD τ) arg10 fullShare (k0_pay6 x4 x2 (k0_pay1 (k0_pay12 x3 x1 x6) xs (k0_pay13 x5)) x0) ∗ owns (c : Thread nD τ) arg11 fullShare (k0_pay12 x3 x1 x6) ∗ owns (c : Thread nD τ) arg12 fullShare (k0_pay11 x3) ∗ owns (c : Thread nD τ) arg13 fullShare xi11 ∗ owns (c : Thread nD τ) arg14 fullShare (k0_pay4 x2 (k0_pay1 (k0_pay12 x3 x1 x6) xs (k0_pay13 x5)) xi12) ∗ owns (c : Thread nD τ) arg15 fullShare (k0_pay1 (k0_pay12 x3 x1 x6) xs (k0_pay13 x5))) -∗ K ⟨⟩))
      ⊢ wp frame (wpE (defs₀ (F := F)) Variants.none c none) E (cc0_ffn_bwd_l0 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_bwd_l0_eq_skeleton]; unfold cc0_ffn_bwd_l0_skel
  simp only [k0_part2_eq_skeleton, k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg13.eq_unread hf11; obtain rfl := harg14.eq_unread hf12; obtain rfl := harg15.eq_unread hf13
  sl_exec (disch := first | sl_exact hc1 | sl_exact hc2 | sl_exact hc3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; frame_out; exact View.read_writes_full _ _ _ _ _
  isplitl [H8]
  · iexists _; isplitr; swap; · iexact H8
    ipureintro; frame_out; exact View.read_writes_full _ _ _ _ _
  isplitl [H9]
  · iexists _; isplitr; swap; · iexact H9
    ipureintro; frame_out; exact View.read_writes_full _ _ _ _ _
  isplitl [H10]
  · iexists _; isplitr; swap; · iexact H10
    ipureintro; frame_out; exact View.read_writes_full _ _ _ _ _
  isplitl [H11]
  · iexists _; isplitr; swap; · iexact H11
    ipureintro; exact harg13.read_unread _
  isplitl [H12]
  · iexists _; isplitr; swap; · iexact H12
    ipureintro; frame_out; exact View.read_writes_full _ _ _ _ _
  iexists _; isplitr; swap; · iexact H13
  ipureintro; frame_out; exact View.read_writes_full _ _ _ _ _

end Cert.Kernel2Ideal.Ffn

end
-- ==== Proof.Ffn.RunD.lean ====
/- Backward feed-forward call: one run of the body, case D. -/
module

public import proofs.«01_k».proof.Proof.Ffn.Cases
public import Idealize.ShloMosaic.Lib.Pipeline.ValueKit
public import Idealize.ShloMosaic.Lib.VecWindow

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at the first point of a later row block: as at the very first, but the gain's gradient is kept. -/
theorem runD (c : Dev nD) (i : grid0.Coords) (arg2 : Memref sig .tc .vmem S512x1024 .f32) (harg2 : arg2.IsWhole) (arg3 : Memref sig .tc .vmem S512x1024 .bf16) (harg3 : arg3.IsWhole) (arg4 : Memref sig .tc .vmem S512x1024 .f32) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S1x1024x1024 .bf16) (harg7 : arg7.IsWhole) (arg8 : Memref sig .tc .vmem S1x1024x1024 .bf16) (harg8 : arg8.IsWhole) (arg9 : Memref sig .tc .vmem S512x1024 .f32) (harg9 : arg9.IsWhole) (arg10 : Memref sig .tc .vmem S512x1024 .bf16) (harg10 : arg10.IsWhole) (arg11 : Memref sig .tc .vmem S512x1024 .bf16) (harg11 : arg11.IsWhole) (arg12 : Memref sig .tc .vmem S1024x512 .bf16) (harg12 : arg12.IsWhole) (arg13 : Memref sig .tc .vmem S1024x512 .bf16) (harg13 : arg13.IsWhole) (arg14 : Memref sig .tc .vmem S1x1024 .f32) (harg14 : arg14.IsWhole) (arg15 : Memref sig .tc .vmem S512x1024 .f32) (harg15 : arg15.IsWhole)
    (hc1 : ¬k0_cond1 i = 1#1) (hc2 : k0_cond2 i = 1#1) (hc3 : ¬k0_cond3 i = 1#1) (x0 : Vec F S512x1024 .f32) (x1 : Vec F S512x1024 .bf16) (x2 : Vec F S512x1024 .f32) (x3 : Vec F S512x1024 .bf16) (x4 : Vec F S1x1024 .f32) (x5 : Vec F S1x1024x1024 .bf16) (x6 : Vec F S1x1024x1024 .bf16) (xi7 : Vec F S512x1024 .f32) (xi8 : Vec F S512x1024 .bf16) (xi12 : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xi12 ∗ (∃ d, owns (c : Thread nD τ) arg15 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xi7 ∗ owns (c : Thread nD τ) arg10 fullShare xi8 ∗ owns (c : Thread nD τ) arg11 fullShare (k0_pay12 x3 x1 x6) ∗ owns (c : Thread nD τ) arg12 fullShare (k0_pay11 x3) ∗ owns (c : Thread nD τ) arg13 fullShare (k0_pay8 x2 x4) ∗ owns (c : Thread nD τ) arg14 fullShare xi12 ∗ owns (c : Thread nD τ) arg15 fullShare (k0_pay1 (k0_pay12 x3 x1 x6) (k0_pay9 (F := F)) (k0_pay13 x5))) -∗ K ⟨⟩))
      ⊢ wp frame (wpE (defs₀ (F := F)) Variants.none c none) E (cc0_ffn_bwd_l0 i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_ffn_bwd_l0_eq_skeleton]; unfold cc0_ffn_bwd_l0_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%d13, %f13, -, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hf12
  sl_exec (disch := first | sl_exact hc1 | sl_exact hc2 | sl_exact hc3)
  sl_step
  iapply Hk
  isplitl [H0]
  · iexists _; isplitr; swap; · iexact H0
    ipureintro; exact harg2.read_unread _
  isplitl [H1]
  · iexists _; isplitr; swap; · iexact H1
    ipureintro; exact harg3.read_unread _
  isplitl [H2]
  · iexists _; isplitr; swap; · iexact H2
    ipureintro; exact harg4.read_unread _
  isplitl [H3]
  · iexists _; isplitr; swap; · iexact H3
    ipureintro; exact harg5.read_unread _
  isplitl [H4]
  · iexists _; isplitr; swap; · iexact H4
    ipureintro; exact harg6.read_unread _
  isplitl [H5]
  · iexists _; isplitr; swap; · iexact H5
    ipureintro; exact harg7.read_unread _
  isplitl [H6]
  · iexists _; isplitr; swap; · iexact H6
    ipureintro; exact harg8.read_unread _
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; frame_out; exact View.read_writes_full _ _ _ _ _
  isplitl [H10]
  · iexists _; isplitr; swap; · iexact H10
    ipureintro; frame_out; exact View.read_writes_full _ _ _ _ _
  isplitl [H11]
  · iexists _; isplitr; swap; · iexact H11
    ipureintro; frame_out; exact View.read_writes_full _ _ _ _ _
  isplitl [H12]
  · iexists _; isplitr; swap; · iexact H12
    ipureintro; exact harg14.read_unread _
  iexists _; isplitr; swap; · iexact H13
  ipureintro; frame_out; exact View.read_writes_full _ _ _ _ _

end Cert.Kernel2Ideal.Ffn

end
-- ==== Proof.Ffn.Frame.lean ====
/- Backward feed-forward call: the body at every point, the run and the frame. -/
module

public import proofs.«01_k».proof.Proof.Ffn.Dat
public import proofs.«01_k».proof.Proof.Ffn.RunA
public import proofs.«01_k».proof.Proof.Ffn.RunB
public import proofs.«01_k».proof.Proof.Ffn.RunC
public import proofs.«01_k».proof.Proof.Ffn.RunD

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

/-- A window in use at a point ends with its stated contents. -/
theorem leaves_live (c : Dev nD) (t : Fin cfg0.N) (w : Fin cfg0.W) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
/-- A window written back at a point ends with its stated contents. -/
theorem leaves_flush (c : Dev nD) (t : Fin cfg0.N) (w : Fin cfg0.W) (hi : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [hi, hf]

set_option maxHeartbeats 3200000 in
/-- The body at the first point. -/
theorem soundA (c : Dev nD) (t : Fin cfg0.N) (h0 : t.val = 0) :
    bodyPre m c t ⊢ wp frame (wpE (defs₀ (F := F)) Variants.none c none) Set.univ (bodyAt0 t) (fun _ => bodyPost m c t) := by
  have hN : t.val < 32 := lt_of_lt_of_eq t.isLt N_0
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves_live m c t 0 rfl, after0]
  rw [leaves_live m c t 1 rfl, after1]
  rw [leaves_live m c t 2 rfl, after2]
  rw [leaves_live m c t 3 rfl, after3]
  rw [leaves_live m c t 4 rfl, after4]
  rw [leaves_live m c t 5 rfl, after5]
  rw [leaves_live m c t 6 rfl, after6]
  rw [Dat.leavesExact_idle (dats m 0 c) 7 t ((idle7 t).trans (by simp [h0])) ((flush7 t).trans (by simp [h0]))]
  rw [Dat.leavesExact_idle (dats m 0 c) 8 t ((idle8 t).trans (by simp [h0])) ((flush8 t).trans (by simp [h0]))]
  rw [leaves_live m c t 9 rfl, after9]
  rw [leaves_live m c t 10 rfl, after10]
  rw [leaves_live m c t 11 ((idle11 t).trans (by simp [h0])), after11]
  rw [leaves_live m c t 12 ((idle12 t).trans (by simp [h0])), after12]
  rw [PhiS_castSucc m c t, PhiS_zero m c _ _ h0, PhiA_eq, acc_first m c t (by omega), ht_first m c t (by omega), dg_first m c t h0]
  unfold dz wb
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runA c (grid0.coords t) _ _ _ _ _ _ _ _ _ _ _ _ _ _ _ _ _ _ _ _ _ _ _ _ _ _ _ _ ((hcond1 t).mpr (by omega)) ((hcond2 t).mpr (by omega)) (fun h => absurd ((hcond3 t).mp h) (by omega)) (iblk m c 0 t) (iblk m c 1 t) (iblk m c 2 t) (iblk m c 3 t) (iblk m c 4 t) (iblk m c 5 t) (iblk m c 6 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [HS]; · iexact HS
  iintro ⟨H0, H1, H2, H3, H4, H5, H6, H7, H8, H9, H10, H11, H12, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  isplitl [H11]; · iexact H11
  iexact H12

set_option maxHeartbeats 3200000 in
/-- The body in the midst of a row block. -/
theorem soundB (c : Dev nD) (t : Fin cfg0.N) (h1 : ¬t.val % 4 = 0) (h3 : ¬t.val % 4 = 3) :
    bodyPre m c t ⊢ wp frame (wpE (defs₀ (F := F)) Variants.none c none) Set.univ (bodyAt0 t) (fun _ => bodyPost m c t) := by
  have hN : t.val < 32 := lt_of_lt_of_eq t.isLt N_0
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves_live m c t 0 rfl, after0]
  rw [leaves_live m c t 1 rfl, after1]
  rw [leaves_live m c t 2 rfl, after2]
  rw [leaves_live m c t 3 rfl, after3]
  rw [leaves_live m c t 4 rfl, after4]
  rw [leaves_live m c t 5 rfl, after5]
  rw [leaves_live m c t 6 rfl, after6]
  rw [Dat.leavesExact_idle (dats m 0 c) 7 t ((idle7 t).trans (by simp [h3])) ((flush7 t).trans (by simp [h3]))]
  rw [Dat.leavesExact_idle (dats m 0 c) 8 t ((idle8 t).trans (by simp [h3])) ((flush8 t).trans (by simp [h3]))]
  rw [leaves_live m c t 9 rfl, after9]
  rw [leaves_live m c t 10 rfl, after10]
  rw [Dat.leavesExact_idle (dats m 0 c) 11 t ((idle11 t).trans (by simp [h1, h3])) ((flush11 t).trans (by simp [h1, h3]))]
  rw [Dat.leavesExact_idle (dats m 0 c) 12 t ((idle12 t).trans (by simp [h3, show ¬t.val % 32 = 0 by omega, show ¬t.val = 31 by omega])) ((flush12 t).trans (by simp [h3, show ¬t.val % 32 = 0 by omega, show ¬t.val = 31 by omega]))]
  rw [PhiS_castSucc m c t, PhiS_pos m c _ _ (by omega), acc_next m c t h1]
  unfold dz wb
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runB c (grid0.coords t) _ _ _ _ _ _ _ _ _ _ _ _ _ _ _ _ _ _ _ _ _ _ _ _ _ _ _ _ (fun h => absurd ((hcond1 t).mp h) (by omega)) (fun h => absurd ((hcond2 t).mp h) (by omega)) (fun h => absurd ((hcond3 t).mp h) (by omega)) (iblk m c 0 t) (iblk m c 1 t) (iblk m c 2 t) (iblk m c 3 t) (iblk m c 4 t) (iblk m c 5 t) (iblk m c 6 t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  isplitl [H11]; · iexists _; iexact H11
  iexists _; iexact H12

set_option maxHeartbeats 3200000 in
/-- The body at the first point of a later row block. -/
theorem soundD (c : Dev nD) (t : Fin cfg0.N) (h0 : t.val ≠ 0) (h1 : t.val % 4 = 0) :
    bodyPre m c t ⊢ wp frame (wpE (defs₀ (F := F)) Variants.none c none) Set.univ (bodyAt0 t) (fun _ => bodyPost m c t) := by
  have hN : t.val < 32 := lt_of_lt_of_eq t.isLt N_0
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves_live m c t 0 rfl, after0]
  rw [leaves_live m c t 1 rfl, after1]
  rw [leaves_live m c t 2 rfl, after2]
  rw [leaves_live m c t 3 rfl, after3]
  rw [leaves_live m c t 4 rfl, after4]
  rw [leaves_live m c t 5 rfl, after5]
  rw [leaves_live m c t 6 rfl, after6]
  rw [Dat.leavesExact_idle (dats m 0 c) 7 t ((idle7 t).trans (by simp [h1])) ((flush7 t).trans (by simp [h1]))]
  rw [Dat.leavesExact_idle (dats m 0 c) 8 t ((idle8 t).trans (by simp [h1])) ((flush8 t).trans (by simp [h1]))]
  rw [leaves_live m c t 9 rfl, after9]
  rw [leaves_live m c t 10 rfl, after10]
  rw [leaves_live m c t 11 ((idle11 t).trans (by simp [h1])), after11]
  rw [Dat.leavesExact_idle (dats m 0 c) 12 t ((idle12 t).trans (by simp [h1, show ¬t.val % 32 = 0 by omega, show ¬t.val = 31 by omega])) ((flush12 t).trans (by simp [h1, show ¬t.val % 32 = 0 by omega, show ¬t.val = 31 by omega]))]
  rw [PhiS_castSucc m c t, PhiS_pos m c _ _ h0, acc_first m c t h1, ht_first m c t h1]
  unfold dz wb
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runD c (grid0.coords t) _ _ _ _ _ _ _ _ _ _ _ _ _ _ _ _ _ _ _ _ _ _ _ _ _ _ _ _ (fun h => absurd ((hcond1 t).mp h) (by omega)) ((hcond2 t).mpr (by omega)) (fun h => absurd ((hcond3 t).mp h) (by omega)) (iblk m c 0 t) (iblk m c 1 t) (iblk m c 2 t) (iblk m c 3 t) (iblk m c 4 t) (iblk m c 5 t) (iblk m c 6 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexact H12
  isplitl [HS]; · iexists _; iexact HS
  iintro ⟨H0, H1, H2, H3, H4, H5, H6, H7, H8, H9, H10, H11, H12, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexact H10
  isplitl [H11]; · iexact H11
  iexists _; iexact H12

set_option maxHeartbeats 3200000 in
/-- The body at the last point of a row block. -/
theorem soundC (c : Dev nD) (t : Fin cfg0.N) (h3 : t.val % 4 = 3) :
    bodyPre m c t ⊢ wp frame (wpE (defs₀ (F := F)) Variants.none c none) Set.univ (bodyAt0 t) (fun _ => bodyPost m c t) := by
  have hN : t.val < 32 := lt_of_lt_of_eq t.isLt N_0
  unfold bodyPre bodyPost bodyAt0
  simp only [before0, before1, before2, before3, before4, before5, before6]
  rw [show (dats m 0 c).owesAt () t.succ = (dats m 0 c).owesAt () t.castSucc from rfl]
  rw [show (dats m 0 c).Φ t.succ = PhiS m c (t.val + 1) t.isLt from rfl, PhiS_succ]
  rw [leaves_live m c t 0 rfl, after0]
  rw [leaves_live m c t 1 rfl, after1]
  rw [leaves_live m c t 2 rfl, after2]
  rw [leaves_live m c t 3 rfl, after3]
  rw [leaves_live m c t 4 rfl, after4]
  rw [leaves_live m c t 5 rfl, after5]
  rw [leaves_live m c t 6 rfl, after6]
  rw [leaves_live m c t 7 ((idle7 t).trans (by simp [h3])), after7]
  rw [leaves_live m c t 8 ((idle8 t).trans (by simp [h3])), after8]
  rw [leaves_live m c t 9 rfl, after9]
  rw [leaves_live m c t 10 rfl, after10]
  rw [leaves_flush m c t 11 ((idle11 t).trans (by simp [h3])) ((flush11 t).trans (by simp [h3])), after11]
  rw [leaves_live m c t 12 ((idle12 t).trans (by simp [h3])), after12]
  rw [PhiS_castSucc m c t, PhiS_pos m c _ _ (by omega)]
  simp only [before11 m c t (show ¬t.val % 4 = 0 by omega), before12 m c t (show t.val ≠ 0 by omega)]
  rw [dg_add m c t h3, acc_next m c t (by omega)]
  unfold dz wb
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (runC c (grid0.coords t) _ _ _ _ _ _ _ _ _ _ _ _ _ _ _ _ _ _ _ _ _ _ _ _ _ _ _ _ (fun h => absurd ((hcond1 t).mp h) (by omega)) (fun h => absurd ((hcond2 t).mp h) (by omega)) ((hcond3 t).mpr h3) (iblk m c 0 t) (iblk m c 1 t) (iblk m c 2 t) (iblk m c 3 t) (iblk m c 4 t) (iblk m c 5 t) (iblk m c 6 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexact H11
  isplitl [H12]; · iexact H12
  isplitl [HS]; · iexact HS
  iintro ⟨H0, H1, H2, H3, H4, H5, H6, H7, H8, H9, H10, H11, H12, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h3 : t.val % 4 = 3
  · exact soundC m c t h3
  by_cases h1 : t.val % 4 = 0
  · by_cases h0 : t.val = 0
    · exact soundA m c t h0
    · exact soundD m c t h0 h1
  · exact soundB m c t h1 h3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 32 := N_0; omega), PhiA_eq]
  iintro ⟨HS, Hg⟩
  isplitl [HS]
  · iexists _; iexact HS
  iexact Hg

set_option backward.isDefEq.respectTransparency.types false in
/-- Every run of the program ends with the arrays that the proof data give, and with all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: every run ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel2Ideal.Ffn

end
-- ==== Proof.Ffn.Value.lean ====
/- Backward feed-forward call: the tiles it writes are the reference's. -/
module

public import proofs.«01_k».proof.Proof.Ffn.Frame
public import proofs.«01_k».proof.Proof.Gen.Reference2Ideal.Read
public import Idealize.ShloMosaic.Lib.Pipeline.ValueKit
public import Idealize.ShloMosaic.Lib.Claim

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)
open Cert.Reference2Ideal.Read

variable (m : (ℓ : Loc nD τ sig) → Buf (Elt Ideal) ℓ)

/-- The five arguments. -/
abbrev X (c : Dev nD) : FVec Ideal S4096x1024 .f32 := m ((c : Thread nD τ).loc main_arg0)
abbrev G (c : Dev nD) : FVec Ideal S1024 .f32 := m ((c : Thread nD τ).loc main_arg1)
abbrev W1 (c : Dev nD) : FVec Ideal S1024x4096 .f32 := m ((c : Thread nD τ).loc main_arg2)
abbrev W2 (c : Dev nD) : FVec Ideal S4096x1024 .f32 := m ((c : Thread nD τ).loc main_arg3)
abbrev CT (c : Dev nD) : FVec Ideal S4096x1024 .f32 := m ((c : Thread nD τ).loc main_arg4)

/-- The block that each window takes at a grid point. -/
theorem idx : ∀ t : Fin cfg0.N, win0_0.index t = ![t.val / 4, 0] ∧ win0_1.index t = ![t.val / 4, 0] ∧ win0_2.index t = ![t.val / 4, 0]
    ∧ win0_3.index t = ![t.val / 4, t.val % 4] ∧ win0_4.index t = ![0, 0] ∧ win0_5.index t = ![t.val % 4, 0, 0] ∧ win0_6.index t = ![t.val % 4, 0, 0]
    ∧ win0_7.index t = ![t.val / 4, 0] ∧ win0_8.index t = ![t.val / 4, 0] ∧ win0_9.index t = ![t.val / 4, t.val % 4]
    ∧ win0_10.index t = ![t.val % 4, t.val / 4] ∧ win0_11.index t = ![0, t.val / 4] ∧ win0_12.index t = ![0, 0] :=
  (by decide +kernel : ∀ t : Fin grid0.N, _)

/-! What the windows read of the arguments. -/

theorem entryCt (c : Dev nD) (i : S4096x1024.Idx) : V m c main_v20 i = CT m c i := by
  entry_read
  pointwise
theorem entryG (c : Dev nD) (i : S1x1024.Idx) : V m c main_v21 i = G m c (ix1 (i 1)) := by
  entry_read
  pointwise
theorem entryW1 (c : Dev nD) (i : S4x1024x1024.Idx) : V m c main_v17 i
    = W1 m c (ix2 (i 1) (⟨(i 0).val * 1024 + (i 2).val, by have h : (i 0).val < 4 := (i 0).isLt; have h' : (i 2).val < 1024 := (i 2).isLt; omega⟩ : Fin 4096)) := by
  entry_read
  pointwise
theorem entryW2 (c : Dev nD) (i : S4x1024x1024.Idx) : V m c main_v19 i
    = W2 m c (ix2 (⟨(i 0).val * 1024 + (i 1).val, by have h : (i 0).val < 4 := (i 0).isLt; have h' : (i 1).val < 1024 := (i 1).isLt; omega⟩ : Fin 4096) (i 2)) := by
  entry_read
  pointwise
/-- The kept pre-activations are the reference's. -/
theorem entryZ (c : Dev nD) (i : S4096x4096.Idx) : V m c main_v14 i = val_main_v66 (F := Ideal) (X m c) (G m c) (W1 m c) i := by
  entry_read
  rfl

/-- Where the pre-activation is not positive the product is zero, so the choice between the two is the product. -/
theorem ref_dz (x : FVec Ideal S4096x1024 .f32) (g : FVec Ideal S1024 .f32) (w1 : FVec Ideal S1024x4096 .f32) (w2 ct : FVec Ideal S4096x1024 .f32)
    (i : S4096x4096.Idx) : val_main_v78 (F := Ideal) x g w1 w2 ct i
    = val_main_v75 (F := Ideal) w2 ct i * (Ideal.ofBits .f32 0x40000000#32 * max (val_main_v66 (F := Ideal) x g w1 i) 0) := by
  rw [val_main_v78_apply, val_main_v76_apply]
  pointwise [val_main_v69, val_main_v68, val_main_cst_15, val_main_v73, val_main_v72, val_main_cst_17, val_main_v67, val_main_call1_v0, val_main_call1_cst, val_main_cst_18, val_main_v77]
  by_cases hz : 0 < val_main_v66 (F := Ideal) x g w1 i
  · rw [if_pos hz]
  · rw [if_neg hz, max_eq_right (not_lt.mp hz), mul_zero, mul_zero]

/-- The gradient before the activation is the reference's. -/
theorem dz_eq (c : Dev nD) (t : Fin cfg0.N) (y : S512x1024.Idx) : dz m c t y
    = val_main_v78 (F := Ideal) (X m c) (G m c) (W1 m c) (W2 m c) (CT m c)
        (ix2 (⟨t.val / 4 * 512 + (y 0).val, by have h : (y 0).val < 512 := (y 0).isLt; have h' : t.val < 32 := t.isLt; omega⟩ : Fin 4096)
          (⟨t.val % 4 * 1024 + (y 1).val, by have h : (y 1).val < 1024 := (y 1).isLt; omega⟩ : Fin 4096)) := by
  unfold dz
  rw [ref_dz, val_main_v75_apply]
  pointwise [k0_pay12, k0_pay10]
  blk_point [iblk, entryCt m c, entryW2 m c, entryZ m c, idx t]

/-- The gradient before the activation, over the whole array. -/
theorem final_dz (c : Dev nD) : (dats m 0 c).arrAt 9 (cfgs 0).N
    = val_main_v82 (F := Ideal) (X m c) (G m c) (W1 m c) (W2 m c) (CT m c) := by
  refine (dats m 0 c).arrAt_eq_of_covers 9 _ (by decide +kernel) fun t _ y => ?_
  blk_simp
  rw [after9, dz_eq]
  pointwise [val_main_v82]
  blk_point [idx t]

/-- The transposed squared activations. -/
theorem final_ft (c : Dev nD) : (dats m 0 c).arrAt 10 (cfgs 0).N
    = val_main_v84 (F := Ideal) (X m c) (G m c) (W1 m c) := by
  refine (dats m 0 c).arrAt_eq_of_covers 10 _ (by decide +kernel) fun t _ y => ?_
  blk_simp
  rw [after10]
  pointwise [k0_pay11, k0_pay10, val_main_v84, val_main_v83, val_main_v80, val_main_v79, val_main_call2_v0, val_main_call2_cst]
  blk_point [iblk, entryZ m c, idx t]

/-- A row block's transposed normalised rows. -/
theorem ht_eq (c : Dev nD) : ∀ (n : ℕ) (hn : n < cfg0.N) (y : S1024x512.Idx), ht m c n hn y
    = val_main_v86 (F := Ideal) (X m c) (G m c) (ix2 (y 0) (⟨n / 4 * 512 + (y 1).val, by have h : (y 1).val < 512 := (y 1).isLt; have h' : n < 32 := hn; omega⟩ : Fin 4096)) := by
  have key : ∀ (t : Fin cfg0.N) (y : S1024x512.Idx), k0_pay8 (F := Ideal) (iblk m c 2 t) (iblk m c 4 t) y
      = val_main_v86 (F := Ideal) (X m c) (G m c) (ix2 (y 0) (⟨t.val / 4 * 512 + (y 1).val, by have h : (y 1).val < 512 := (y 1).isLt; have h' : t.val < 32 := t.isLt; omega⟩ : Fin 4096)) := by
    intro t y
    pointwise [k0_pay8, val_main_v86, val_main_v85, val_main_v65, val_main_v64, val_main_v63, val_main_v62, val_main_v61, val_main_v60, val_main_v59, val_main_v58, val_main_v57, val_main_v56, val_main_v55, val_main_v54, val_main_v53, val_main_cst_12, val_main_cst_13, val_main_cst_14]
    blk_point [iblk, entryG m c, idx t]
  intro n
  induction n with
  | zero => intro hn y; rw [ht_first m c ⟨0, hn⟩ rfl]; exact key ⟨0, hn⟩ y
  | succ n ih =>
    intro hn y
    by_cases h : (n + 1) % 4 = 0
    · rw [ht_first m c ⟨n + 1, hn⟩ h]; exact key ⟨n + 1, hn⟩ y
    · rw [ht_next m c ⟨n + 1, hn⟩ h]
      refine (ih _ y).trans (congrArg _ (congrArg₂ _ rfl (Fin.ext ?_)))
      show n / 4 * 512 + _ = (n + 1) / 4 * 512 + _
      omega

/-- The transposed normalised rows. -/
theorem final_ht (c : Dev nD) : (dats m 0 c).arrAt 11 (cfgs 0).N = val_main_v86 (F := Ideal) (X m c) (G m c) := by
  refine (dats m 0 c).arrAt_eq_of_covers 11 _ (by decide +kernel) fun t _ y => ?_
  blk_simp
  rw [after11, ht_eq]
  blk_point [idx t]

/-- What a point adds to the accumulator. -/
def term (c : Dev nD) (t : Fin cfg0.N) (y : S512x1024.Idx) : EReal := k0_pay1 (F := Ideal) (dz m c t) (k0_pay9 (F := Ideal)) (wb m c t) y

theorem pay1_eq (a : Vec Ideal S512x1024 .bf16) (v : Vec Ideal S512x1024 .f32) (b : Vec Ideal S1024x1024 .bf16) (y : S512x1024.Idx) :
    k0_pay1 (F := Ideal) a v b y = v y + k0_pay1 (F := Ideal) a (k0_pay9 (F := Ideal)) b y := by
  pointwise [k0_pay1, k0_pay9]

/-- The accumulator after the last point of a row block. -/
theorem acc_sum (c : Dev nD) (t : Fin cfg0.N) (ht : t.val % 4 = 3) (y : S512x1024.Idx) :
    acc m c t.val t.isLt y = 0 + ∑ s : Fin 4, term m c ⟨4 * (t.val / 4) + s.val, Pipeline.run_point_lt_of_flush (J := 4) t ht s⟩ y := by
  refine Pipeline.eq_sum_fin_of_reset_step_apply_of_flush (fun n h => acc m c n h) 4 (fun _ => (0 : EReal)) (term m c)
    (fun t h0 y => ?_) (fun t h0 y => ?_) t ht y
  · rw [acc_first m c t h0, zero_add]
    rfl
  · rw [acc_next m c t h0, pay1_eq]
    rfl

/-- One point's contribution, over the reference's gradient. -/
theorem term_eq (c : Dev nD) (t : Fin cfg0.N) (y : S512x1024.Idx) : term m c t y
    = ∑ k : Fin 1024, val_main_v78 (F := Ideal) (X m c) (G m c) (W1 m c) (W2 m c) (CT m c)
        (ix2 (⟨t.val / 4 * 512 + (y 0).val, by have h : (y 0).val < 512 := (y 0).isLt; have h' : t.val < 32 := t.isLt; omega⟩ : Fin 4096)
          (⟨t.val % 4 * 1024 + k.val, by omega⟩ : Fin 4096))
      * W1 m c (ix2 (y 1) (⟨t.val % 4 * 1024 + k.val, by omega⟩ : Fin 4096)) := by
  unfold term
  pointwise [k0_pay1, k0_pay9, wb, k0_pay13]
  simp only [dz_eq]
  all_goals blk_point [iblk, entryW1 m c, idx t]

/-- The reference's two lines for the gradient before the activation are one. -/
theorem v30_eq (x : FVec Ideal S4096x1024 .f32) (g : FVec Ideal S1024 .f32) (w1 : FVec Ideal S1024x4096 .f32) (w2 ct : FVec Ideal S4096x1024 .f32)
    (i : S4096x4096.Idx) : val_main_v30 (F := Ideal) x g w1 w2 ct i = val_main_v78 (F := Ideal) x g w1 w2 ct i := by
  have e : val_main_v26 (F := Ideal) ct = ct := by
    funext j
    pointwise [val_main_v26]
  have e' : val_main_v27 (F := Ideal) w2 ct = val_main_v75 (F := Ideal) w2 ct := by
    unfold val_main_v27 val_main_v75
    rw [e]
  unfold val_main_v30 val_main_v28
  rw [e']
  rfl

/-- The gradient of the normalised rows, after the last point of a row block. -/
theorem acc_eq (c : Dev nD) (t : Fin cfg0.N) (ht : t.val % 4 = 3) (y : S512x1024.Idx) : acc m c t.val t.isLt y
    = val_main_v31 (F := Ideal) (X m c) (G m c) (W1 m c) (W2 m c) (CT m c)
        (ix2 (⟨t.val / 4 * 512 + (y 0).val, by have h : (y 0).val < 512 := (y 0).isLt; have h' : t.val < 32 := t.isLt; omega⟩ : Fin 4096) (y 1)) := by
  rw [acc_sum m c t ht, zero_add]
  simp only [term_eq]
  have e : ∀ s : Fin 4, (4 * (t.val / 4) + s.val) / 4 = t.val / 4 ∧ (4 * (t.val / 4) + s.val) % 4 = s.val := fun s => by
    have := s.isLt
    omega
  simp only [(e _).1, (e _).2]
  rw [val_main_v31_apply]
  refine Fin.sum_mul_add_congr fun s k hl => ?_
  rw [v30_eq]
  blk_point [idx t]

/-- The part of the gain's gradient that row block `s` adds. -/
def part (c : Dev nD) (s : ℕ) (y : S1x1024.Idx) : EReal :=
  ∑ k : Fin 512, val_main_v32 (F := Ideal) (X m c) (G m c) (W1 m c) (W2 m c) (CT m c) (ix2 (⟨(s % 8) * 512 + k.val, by omega⟩ : Fin 4096) (y 1))

/-- One row block's addition to the gain's gradient. -/
theorem dg_step (c : Dev nD) (t : Fin cfg0.N) (ht : t.val % 4 = 3) (v : Vec Ideal S1x1024 .f32) (y : S1x1024.Idx) :
    k0_pay4 (F := Ideal) (iblk m c 2 t) (acc m c t.val t.isLt) v y = v y + part m c (t.val / 4) y := by
  have h8 : t.val / 4 % 8 = t.val / 4 := by have h' : t.val < 32 := t.isLt; omega
  unfold part
  simp only [h8]
  pointwise [k0_pay4, k0_pay3, k0_pay2, val_main_v32, val_main_v12, val_main_v11, val_main_v7, val_main_v6, val_main_v5, val_main_v4, val_main_v3, val_main_v2, val_main_v1, val_main_v0, val_main_cst, val_main_cst_0, val_main_cst_1]
  simp only [acc_eq m c t ht]
  refine congrArg _ (Finset.sum_congr rfl fun k _ => (mul_comm _ _).trans ?_)
  blk_point [iblk, idx t]

/-- The gain's gradient after a point: the parts of the row blocks done. -/
theorem dg_sum (c : Dev nD) : ∀ (n : ℕ) (hn : n < cfg0.N) (y : S1x1024.Idx), dg m c n hn y = ∑ s ∈ Finset.range ((n + 1) / 4), part m c s y := by
  intro n
  induction n with
  | zero =>
    intro hn y
    rw [dg_first m c ⟨0, hn⟩ rfl]
    pointwise [k0_pay7]
    rfl
  | succ n ih =>
    intro hn y
    by_cases h : (n + 1) % 4 = 3
    · rw [dg_add m c ⟨n + 1, hn⟩ h, dg_step m c ⟨n + 1, hn⟩ h]
      show dg m c n _ y + part m c ((n + 1) / 4) y = _
      rw [ih, show (n + 1 + 1) / 4 = (n + 1) / 4 + 1 by omega, Finset.sum_range_succ]
    · rw [dg_keep m c ⟨n + 1, hn⟩ (Nat.succ_ne_zero n) h]
      show dg m c n _ y = _
      rw [ih, show (n + 1 + 1) / 4 = (n + 1) / 4 by omega]

end Cert.Kernel2Ideal.Ffn

end
-- ==== Proof.Ffn.Value2.lean ====
/- Backward feed-forward call: the gain's gradient and the input's gradient are the reference's. -/
module

public import proofs.«01_k».proof.Proof.Ffn.Value
public import proofs.«01_k».proof.Proof.Alg
public import Idealize.ShloMosaic.Lib.Pipeline.ValueKit
public import Idealize.ShloMosaic.Lib.Claim

@[expose] public section

set_option maxRecDepth 16384

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)
open Cert.Reference2Ideal.Read

variable (m : (ℓ : Loc nD τ sig) → Buf (Elt Ideal) ℓ)

/-- The reference's gain gradient: the sum over all rows. -/
theorem ref_dg (x : FVec Ideal S4096x1024 .f32) (g : FVec Ideal S1024 .f32) (w1 : FVec Ideal S1024x4096 .f32) (w2 ct : FVec Ideal S4096x1024 .f32)
    (i : S1x1024.Idx) : val_main_v87 (F := Ideal) x g w1 w2 ct i = ∑ k : Fin 4096, val_main_v32 (F := Ideal) x g w1 w2 ct (ix2 k (i 1)) := by
  pointwise [val_main_v87, val_main_v37, val_main_cst_8, val_main_v34]
  rw [Fin.sum_univ_one, val_main_v33_apply]
  pointwise [val_main_cst_7]
  refine Finset.sum_congr rfl fun k _ => congrArg _ ?_
  funext a
  match a with
  | ⟨0, _⟩ => rfl
  | ⟨1, _⟩ => rfl

/-- The gain's gradient. -/
theorem final_dg (c : Dev nD) : (dats m 0 c).arrAt 12 (cfgs 0).N
    = val_main_v87 (F := Ideal) (X m c) (G m c) (W1 m c) (W2 m c) (CT m c) := by
  refine (dats m 0 c).arrAt_eq_of_covers 12 _ (by decide +kernel) fun t hf y => ?_
  have ht : t.val = 31 := by simpa [flush12 t] using hf
  blk_simp
  rw [after12, dg_sum, show (t.val + 1) / 4 = 8 by omega, Finset.sum_range, ref_dg]
  unfold part
  refine Fin.sum_mul_add_congr fun s k hl => ?_
  have h8 : s.val % 8 = s.val := Nat.mod_eq_of_lt s.isLt
  simp only [h8]
  blk_point [idx t]

/-! ## The input's gradient -/

section Reals
open Cert.Alg

variable (x : FVec Ideal S4096x1024 .f32) (g : FVec Ideal S1024 .f32) (w1 : FVec Ideal S1024x4096 .f32) (w2 ct : FVec Ideal S4096x1024 .f32)

/-- A row's mean square plus the small constant is a positive real number, and its inverse root is real. -/
theorem row_real (hx : ∀ i, IsR (x i)) (i : S4096x1.Idx) :
    ∃ a' r' : ℝ, val_main_v6 (F := Ideal) x i = a' ∧ val_main_v7 (F := Ideal) x i = r' ∧ r' * r' * a' = 1 := by
  obtain ⟨a, r, ha, hr, h⟩ := var_pos 1024 (by norm_num) (Ideal.ofBits .f32 0x358637BD#32) c_eps (fun k : Fin 1024 => x (ix2 (i 0) k)) (fun k => hx _)
  have e : val_main_v6 (F := Ideal) x i = Ideal.div (∑ k : Fin 1024, x (ix2 (i 0) k) * x (ix2 (i 0) k)) ((1024 : ℝ) : EReal) + Ideal.ofBits .f32 0x358637BD#32 := by
    rw [← c_1024]
    pointwise [val_main_v6, val_main_v5, val_main_v4, val_main_v3, val_main_v2, val_main_v1, val_main_v0, val_main_cst, val_main_cst_0, val_main_cst_1]
  refine ⟨a, r, e.trans ha, ?_, h⟩
  show Ideal.rsqrt (val_main_v6 (F := Ideal) x i) = r
  rw [e]; exact hr

theorem real_h (hx : ∀ i, IsR (x i)) (hg : ∀ i, IsR (g i)) (i : S4096x1024.Idx) : IsR (val_main_v15 (F := Ideal) x g i) := by
  obtain ⟨a, r, _, hr, _⟩ := row_real x hx (ix2 (i 0) 0)
  have e : val_main_v15 (F := Ideal) x g i = x i * val_main_v7 (F := Ideal) x (ix2 (i 0) 0) * g (ix1 (i 1)) := by
    pointwise [val_main_v15, val_main_v14, val_main_v13, val_main_v12, val_main_v11]
  rw [e, hr]
  exact ((hx i).mul ⟨r, rfl⟩).mul (hg _)

theorem real_z (hx : ∀ i, IsR (x i)) (hg : ∀ i, IsR (g i)) (hw : ∀ i, IsR (w1 i)) (i : S4096x4096.Idx) : IsR (val_main_v66 (F := Ideal) x g w1 i) := by
  show IsR (val_main_v16 (F := Ideal) x g w1 i)
  rw [val_main_v16_apply]
  exact IsR.sum fun k => (real_h x g hx hg _).mul (hw _)

theorem real_dz (hx : ∀ i, IsR (x i)) (hg : ∀ i, IsR (g i)) (hw : ∀ i, IsR (w1 i)) (hw2 : ∀ i, IsR (w2 i)) (hc : ∀ i, IsR (ct i))
    (i : S4096x4096.Idx) : IsR (val_main_v30 (F := Ideal) x g w1 w2 ct i) := by
  rw [v30_eq, ref_dz, c_two, val_main_v75_apply]
  exact (IsR.sum fun k => (hc _).mul (hw2 _)).mul ((IsR.coe 2).mul ((real_z x g w1 hx hg hw i).max IsR.zero))

theorem real_dh (hx : ∀ i, IsR (x i)) (hg : ∀ i, IsR (g i)) (hw : ∀ i, IsR (w1 i)) (hw2 : ∀ i, IsR (w2 i)) (hc : ∀ i, IsR (ct i))
    (i : S4096x1024.Idx) : IsR (val_main_v31 (F := Ideal) x g w1 w2 ct i) := by
  rw [val_main_v31_apply]
  exact IsR.sum fun k => (real_dz x g w1 w2 ct hx hg hw hw2 hc _).mul (hw _)

/-- The reference's input gradient in the closed form. -/
theorem ref_dx (hx : ∀ i, IsR (x i)) (hg : ∀ i, IsR (g i)) (hw : ∀ i, IsR (w1 i)) (hw2 : ∀ i, IsR (w2 i)) (hc : ∀ i, IsR (ct i))
    (p : Fin 4096) (q : Fin 1024) : val_main_v52 (F := Ideal) x g w1 w2 ct (ix2 p q)
    = ct (ix2 p q) + val_main_v7 (F := Ideal) x (ix2 p 0) * (val_main_v31 (F := Ideal) x g w1 w2 ct (ix2 p q) * g (ix1 q)
        - (x (ix2 p q) * val_main_v7 (F := Ideal) x (ix2 p 0)) * Ideal.div (∑ k : Fin 1024, (val_main_v31 (F := Ideal) x g w1 w2 ct (ix2 p k) * g (ix1 k))
            * (x (ix2 p k) * val_main_v7 (F := Ideal) x (ix2 p 0))) ((1024 : ℝ) : EReal)) := by
  have key := rms_bwd 1024 (by norm_num) (fun k : Fin 1024 => val_main_v31 (F := Ideal) x g w1 w2 ct (ix2 p k) * g (ix1 k))
    (fun k : Fin 1024 => x (ix2 p k)) (fun k => (real_dh x g w1 w2 ct hx hg hw hw2 hc _).mul (hg _)) (fun k => hx _)
    (val_main_v6 (F := Ideal) x (ix2 p 0)) (val_main_v7 (F := Ideal) x (ix2 p 0)) (row_real x hx _) q (ct (ix2 p q)) (hc _)
  refine Eq.trans ?_ key
  rw [← c_1024, ← c_neg_half]
  have e36 : ∀ j, val_main_v36 (F := Ideal) x g w1 w2 ct j = val_main_v31 (F := Ideal) x g w1 w2 ct j * g (ix1 (j 1)) := by
    intro j
    pointwise [val_main_v36, val_main_v35, val_main_v13]
  have e48 : val_main_v48 (F := Ideal) x g w1 w2 ct (ix2 p q) = Ideal.div ((∑ k : Fin 1024, x (ix2 p k) * (val_main_v31 (F := Ideal) x g w1 w2 ct (ix2 p k) * g (ix1 k)))
      * (Ideal.ofBits .f32 0xBF000000#32 * Ideal.div (val_main_v7 (F := Ideal) x (ix2 p 0)) (val_main_v6 (F := Ideal) x (ix2 p 0)))) (Ideal.ofBits .f32 0x44800000#32) := by
    pointwise [val_main_v48, val_main_v47, val_main_v46, val_main_v45, val_main_v44, val_main_v40, val_main_v39, val_main_v38, val_main_v10, val_main_v9, val_main_v8, val_main_cst_2, val_main_cst_9, val_main_cst_10, val_main_cst_11]
    simp only [e36, Fin.sum_univ_one]
    rfl
  have e41 : val_main_v41 (F := Ideal) x (ix2 p q) = val_main_v7 (F := Ideal) x (ix2 p 0) := by
    pointwise [val_main_v41]
  show ((ct (ix2 p q) + val_main_v36 (F := Ideal) x g w1 w2 ct (ix2 p q) * val_main_v41 (F := Ideal) x (ix2 p q)) + x (ix2 p q) * val_main_v48 (F := Ideal) x g w1 w2 ct (ix2 p q)) + val_main_v48 (F := Ideal) x g w1 w2 ct (ix2 p q) * x (ix2 p q) = _
  rw [e48, e36, e41]
  rfl

end Reals

open Cert.Alg in
/-- A row block of the input's gradient. -/
theorem dx_eq (c : Dev nD) (hx : ∀ i, IsR (X m c i)) (hg : ∀ i, IsR (G m c i)) (hw : ∀ i, IsR (W1 m c i)) (hw2 : ∀ i, IsR (W2 m c i)) (hc : ∀ i, IsR (CT m c i))
    (t : Fin cfg0.N) (ht : t.val % 4 = 3) (y : S512x1024.Idx) : k0_pay5 (F := Ideal) (iblk m c 4 t) (iblk m c 2 t) (acc m c t.val t.isLt) (iblk m c 0 t) y
    = val_main_v52 (F := Ideal) (X m c) (G m c) (W1 m c) (W2 m c) (CT m c)
        (ix2 (⟨t.val / 4 * 512 + (y 0).val, by have h : (y 0).val < 512 := (y 0).isLt; have h' : t.val < 32 := t.isLt; omega⟩ : Fin 4096) (y 1)) := by
  refine Eq.trans ?_ (ref_dx _ _ _ _ _ hx hg hw hw2 hc _ _).symm
  rw [← c_1024]
  pointwise [k0_pay5, k0_pay3, k0_pay2, val_main_v7, val_main_v6, val_main_v5, val_main_v4, val_main_v3, val_main_v2, val_main_v1, val_main_v0, val_main_cst, val_main_cst_0, val_main_cst_1]
  simp only [acc_eq m c t ht]
  blk_point [iblk, entryG m c, idx t]

open Cert.Alg in
/-- The input's gradient. -/
theorem final_dx (c : Dev nD) (hx : ∀ i, IsR (X m c i)) (hg : ∀ i, IsR (G m c i)) (hw : ∀ i, IsR (W1 m c i)) (hw2 : ∀ i, IsR (W2 m c i)) (hc : ∀ i, IsR (CT m c i)) :
    (dats m 0 c).arrAt 7 (cfgs 0).N = val_main_v52 (F := Ideal) (X m c) (G m c) (W1 m c) (W2 m c) (CT m c) := by
  refine (dats m 0 c).arrAt_eq_of_covers 7 _ (by decide +kernel) fun t hf y => ?_
  have ht : t.val % 4 = 3 := by simpa [flush7 t] using hf
  blk_simp
  rw [after7, dx_eq m c hx hg hw hw2 hc t ht]
  blk_point [idx t]

open Cert.Alg in
/-- The input's gradient, rounded. -/
theorem final_dxb (c : Dev nD) (hx : ∀ i, IsR (X m c i)) (hg : ∀ i, IsR (G m c i)) (hw : ∀ i, IsR (W1 m c i)) (hw2 : ∀ i, IsR (W2 m c i)) (hc : ∀ i, IsR (CT m c i)) :
    (dats m 0 c).arrAt 8 (cfgs 0).N = val_main_v81 (F := Ideal) (X m c) (G m c) (W1 m c) (W2 m c) (CT m c) := by
  refine (dats m 0 c).arrAt_eq_of_covers 8 _ (by decide +kernel) fun t hf y => ?_
  have ht : t.val % 4 = 3 := by simpa [flush8 t] using hf
  blk_simp
  rw [after8]
  show k0_pay5 (F := Ideal) (iblk m c 4 t) (iblk m c 2 t) (acc m c t.val t.isLt) (iblk m c 0 t) y = val_main_v52 (F := Ideal) (X m c) (G m c) (W1 m c) (W2 m c) (CT m c) _
  rw [dx_eq m c hx hg hw hw2 hc t ht]
  blk_point [idx t]

end Cert.Kernel2Ideal.Ffn

end
-- ==== Proof.Claims2.lean ====
/- The claims about the backward feed-forward call. -/
module

public import proofs.«01_k».proof.Defs
public import proofs.«01_k».proof.Proof.Ffn.Same
public import proofs.«01_k».proof.Proof.Gen.Pre_finite2
public import proofs.«01_k».proof.Proof.Ffn.Value2
public import Idealize.ShloMosaic.Lib.Claim
public import Idealize.ShloMosaic.Lib.Quiescent

@[expose] public section

set_option maxRecDepth 16384

noncomputable section

namespace Cert.Proof2

open Idealize.ShloMosaic Idealize.SL.Sem
open Cert.Alg Cert.Kernel2Ideal.Ffn

/-- The program and its ideal reading have one text, so its frame is the run at the machine's floats. -/
theorem frameK : Cert.quiescent_Kernel2 := by
  intro m ρ _
  rw [defs_same, main_same]
  exact Cert.Kernel2Ideal.Ffn.frame (F := Bits) m ρ

theorem frameKI : Cert.quiescent_Kernel2Ideal := fun m ρ _ => Cert.Kernel2Ideal.Ffn.frame m ρ

theorem frameKI_pre : Cert.quiescent_Kernel2Ideal_pre_finite2 := fun m ρ _ => Cert.Kernel2Ideal.Ffn.frame m ρ

theorem frameR : Cert.quiescent_Reference2Ideal := fun m ρ _ =>
  (θ_run Cert.Reference2Ideal.defs _ _).mono (fun r h => ⟨fun c => (h c).2.2.2.2.2.2,
    sem_eq_zero_of_no_sems (by decide) r.2⟩) (Cert.Reference2Ideal.Value.run (F := Ideal) m ρ)

theorem frameR_pre : Cert.quiescent_Reference2Ideal_pre_finite2 := fun m ρ _ => frameR m ρ trivial

/-- The precondition says that every argument holds real numbers. -/
theorem reals (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) :
    (∀ i, IsR (X m c i)) ∧ (∀ i, IsR (G m c i)) ∧ (∀ i, IsR (W1 m c i)) ∧ (∀ i, IsR (W2 m c i)) ∧ (∀ i, IsR (CT m c i)) :=
  ⟨fun i => isR_of_lt (congrFun (h c).1 i), fun i => isR_of_lt (congrFun (h c).2.1 i), fun i => isR_of_lt (congrFun (h c).2.2.1 i),
    fun i => isR_of_lt (congrFun (h c).2.2.2.1 i), fun i => isR_of_lt (congrFun (h c).2.2.2.2 i)⟩

/-! The arrays the call leaves, for any arrays that are the arguments. -/

theorem val_dx (m : (ℓ : Loc Cert.Kernel2Ideal.nD Cert.Kernel2Ideal.τ Cert.Kernel2Ideal.sig) → Buf (Elt Ideal) ℓ) (hp : Cert.Pre_Kernel2Ideal_finite2 m) (c : Dev Cert.Kernel2Ideal.nD)
    (x : FVec Ideal Cert.Kernel2Ideal.S4096x1024 .f32) (g : FVec Ideal Cert.Kernel2Ideal.S1024 .f32) (w1 : FVec Ideal Cert.Kernel2Ideal.S1024x4096 .f32) (w2 : FVec Ideal Cert.Kernel2Ideal.S4096x1024 .f32) (ct : FVec Ideal Cert.Kernel2Ideal.S4096x1024 .f32)
    (e0 : x = X m c) (e1 : g = G m c) (e2 : w1 = W1 m c) (e3 : w2 = W2 m c) (e4 : ct = CT m c) :
    Cert.Reference2Ideal.Read.val_main_v52 (F := Ideal) x g w1 w2 ct = (dats m 0 c).arrAt 7 (Cert.Kernel2Ideal.cfgs 0).N := by
  subst e0 e1 e2 e3 e4
  obtain ⟨hx, hg, hw, hw2, hc⟩ := reals m hp c
  exact (final_dx m c hx hg hw hw2 hc).symm

theorem val_dxb (m : (ℓ : Loc Cert.Kernel2Ideal.nD Cert.Kernel2Ideal.τ Cert.Kernel2Ideal.sig) → Buf (Elt Ideal) ℓ) (hp : Cert.Pre_Kernel2Ideal_finite2 m) (c : Dev Cert.Kernel2Ideal.nD)
    (x : FVec Ideal Cert.Kernel2Ideal.S4096x1024 .f32) (g : FVec Ideal Cert.Kernel2Ideal.S1024 .f32) (w1 : FVec Ideal Cert.Kernel2Ideal.S1024x4096 .f32) (w2 : FVec Ideal Cert.Kernel2Ideal.S4096x1024 .f32) (ct : FVec Ideal Cert.Kernel2Ideal.S4096x1024 .f32)
    (e0 : x = X m c) (e1 : g = G m c) (e2 : w1 = W1 m c) (e3 : w2 = W2 m c) (e4 : ct = CT m c) :
    Cert.Reference2Ideal.Read.val_main_v81 (F := Ideal) x g w1 w2 ct = (dats m 0 c).arrAt 8 (Cert.Kernel2Ideal.cfgs 0).N := by
  subst e0 e1 e2 e3 e4
  obtain ⟨hx, hg, hw, hw2, hc⟩ := reals m hp c
  exact (final_dxb m c hx hg hw hw2 hc).symm

theorem val_dz (m : (ℓ : Loc Cert.Kernel2Ideal.nD Cert.Kernel2Ideal.τ Cert.Kernel2Ideal.sig) → Buf (Elt Ideal) ℓ) (c : Dev Cert.Kernel2Ideal.nD)
    (x : FVec Ideal Cert.Kernel2Ideal.S4096x1024 .f32) (g : FVec Ideal Cert.Kernel2Ideal.S1024 .f32) (w1 : FVec Ideal Cert.Kernel2Ideal.S1024x4096 .f32) (w2 : FVec Ideal Cert.Kernel2Ideal.S4096x1024 .f32) (ct : FVec Ideal Cert.Kernel2Ideal.S4096x1024 .f32)
    (e0 : x = X m c) (e1 : g = G m c) (e2 : w1 = W1 m c) (e3 : w2 = W2 m c) (e4 : ct = CT m c) :
    Cert.Reference2Ideal.Read.val_main_v82 (F := Ideal) x g w1 w2 ct = (dats m 0 c).arrAt 9 (Cert.Kernel2Ideal.cfgs 0).N := by
  subst e0 e1 e2 e3 e4
  exact (final_dz m c).symm

theorem val_ft (m : (ℓ : Loc Cert.Kernel2Ideal.nD Cert.Kernel2Ideal.τ Cert.Kernel2Ideal.sig) → Buf (Elt Ideal) ℓ) (c : Dev Cert.Kernel2Ideal.nD)
    (x : FVec Ideal Cert.Kernel2Ideal.S4096x1024 .f32) (g : FVec Ideal Cert.Kernel2Ideal.S1024 .f32) (w1 : FVec Ideal Cert.Kernel2Ideal.S1024x4096 .f32)
    (e0 : x = X m c) (e1 : g = G m c) (e2 : w1 = W1 m c) :
    Cert.Reference2Ideal.Read.val_main_v84 (F := Ideal) x g w1 = (dats m 0 c).arrAt 10 (Cert.Kernel2Ideal.cfgs 0).N := by
  subst e0 e1 e2
  exact (final_ft m c).symm

theorem val_ht (m : (ℓ : Loc Cert.Kernel2Ideal.nD Cert.Kernel2Ideal.τ Cert.Kernel2Ideal.sig) → Buf (Elt Ideal) ℓ) (c : Dev Cert.Kernel2Ideal.nD)
    (x : FVec Ideal Cert.Kernel2Ideal.S4096x1024 .f32) (g : FVec Ideal Cert.Kernel2Ideal.S1024 .f32)
    (e0 : x = X m c) (e1 : g = G m c) :
    Cert.Reference2Ideal.Read.val_main_v86 (F := Ideal) x g = (dats m 0 c).arrAt 11 (Cert.Kernel2Ideal.cfgs 0).N := by
  subst e0 e1
  exact (final_ht m c).symm

theorem val_dg (m : (ℓ : Loc Cert.Kernel2Ideal.nD Cert.Kernel2Ideal.τ Cert.Kernel2Ideal.sig) → Buf (Elt Ideal) ℓ) (c : Dev Cert.Kernel2Ideal.nD)
    (x : FVec Ideal Cert.Kernel2Ideal.S4096x1024 .f32) (g : FVec Ideal Cert.Kernel2Ideal.S1024 .f32) (w1 : FVec Ideal Cert.Kernel2Ideal.S1024x4096 .f32) (w2 : FVec Ideal Cert.Kernel2Ideal.S4096x1024 .f32) (ct : FVec Ideal Cert.Kernel2Ideal.S4096x1024 .f32)
    (e0 : x = X m c) (e1 : g = G m c) (e2 : w1 = W1 m c) (e3 : w2 = W2 m c) (e4 : ct = CT m c) :
    Cert.Reference2Ideal.Read.val_main_v87 (F := Ideal) x g w1 w2 ct = (dats m 0 c).arrAt 12 (Cert.Kernel2Ideal.cfgs 0).N := by
  subst e0 e1 e2 e3 e4
  exact (final_dg m c).symm

set_option maxHeartbeats 1000000 in
theorem algebraic : Cert.algebraic_Kernel2Ideal_Reference2Ideal_pre_finite2 := by
  intro m g m' g' hp h
  refine ⟨fun c => (dats m 0 c).arrAt 7 (Cert.Kernel2Ideal.cfgs 0).N, fun c => (dats m 0 c).arrAt 8 (Cert.Kernel2Ideal.cfgs 0).N,
    fun c => (dats m 0 c).arrAt 9 (Cert.Kernel2Ideal.cfgs 0).N, fun c => (dats m 0 c).arrAt 10 (Cert.Kernel2Ideal.cfgs 0).N,
    fun c => (dats m 0 c).arrAt 11 (Cert.Kernel2Ideal.cfgs 0).N, fun c => (dats m 0 c).arrAt 12 (Cert.Kernel2Ideal.cfgs 0).N, ?_, ?_⟩
  · refine (θ_run Cert.Kernel2Ideal.defs _ _).mono (fun r h => fun c => ?_) (θ_run_and (run_main m g) (unchanged m g))
    exact ⟨(h.1 c).1 7, (h.1 c).1 8, (h.1 c).1 9, (h.1 c).1 10, (h.1 c).1 11, (h.1 c).1 12, h.2 c⟩
  · refine (θ_run Cert.Reference2Ideal.defs _ _).mono (fun r k => fun c => ?_) (Cert.Reference2Ideal.Value.run (F := Ideal) m' g')
    refine ⟨(k c).1.trans ?_, (k c).2.1.trans ?_, (k c).2.2.1.trans ?_, (k c).2.2.2.1.trans ?_, (k c).2.2.2.2.1.trans ?_, (k c).2.2.2.2.2.1.trans ?_, (k c).2.2.2.2.2.2⟩
    · exact (Cert.Reference2Ideal.Read.val_main_v52_eq m' c).trans (val_dx m hp c _ _ _ _ _ (h c).1 (h c).2.1 (h c).2.2.1 (h c).2.2.2.1 (h c).2.2.2.2)
    · exact (Cert.Reference2Ideal.Read.val_main_v81_eq m' c).trans (val_dxb m hp c _ _ _ _ _ (h c).1 (h c).2.1 (h c).2.2.1 (h c).2.2.2.1 (h c).2.2.2.2)
    · exact (Cert.Reference2Ideal.Read.val_main_v82_eq _ _ _ _ _).trans (val_dz m c _ _ _ _ _ (h c).1 (h c).2.1 (h c).2.2.1 (h c).2.2.2.1 (h c).2.2.2.2)
    · exact (Cert.Reference2Ideal.Read.val_main_v84_eq _ _ _).trans (val_ft m c _ _ _ (h c).1 (h c).2.1 (h c).2.2.1)
    · exact (Cert.Reference2Ideal.Read.val_main_v86_eq _ _).trans (val_ht m c _ _ (h c).1 (h c).2.1)
    · exact (Cert.Reference2Ideal.Read.val_main_v87_eq _ _ _ _ _).trans (val_dg m c _ _ _ _ _ (h c).1 (h c).2.1 (h c).2.2.1 (h c).2.2.2.1 (h c).2.2.2.2)

end Cert.Proof2

end
-- ==== Proof.FfnFwd.lean ====
/- The forward feed-forward block: the tiled pre-activation and the residual output equal the reference's. -/
module

public import proofs.«01_k».proof.Proof.Gen.Kernel3Ideal.Frame
public import proofs.«01_k».proof.Proof.Gen.Reference3Ideal.Read
public import Idealize.ShloMosaic.Lib.Pipeline.ValueKit
public import Idealize.ShloMosaic.Lib.Claim

@[expose] public section

set_option maxRecDepth 16384

noncomputable section

namespace Cert.Kernel3Ideal.Fwd

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- The four arguments. -/
abbrev X (c : Dev nD) : FVec Ideal S4096x1024 .f32 := m ((c : Thread nD τ).loc main_arg0)
abbrev G (c : Dev nD) : FVec Ideal S1024 .f32 := m ((c : Thread nD τ).loc main_arg1)
abbrev W1 (c : Dev nD) : FVec Ideal S1024x4096 .f32 := m ((c : Thread nD τ).loc main_arg2)
abbrev W2 (c : Dev nD) : FVec Ideal S4096x1024 .f32 := m ((c : Thread nD τ).loc main_arg3)

/-- The block that each window takes at a grid point. -/
theorem idx : ∀ t : Fin cfg0.N, win0_0.index t = ![t.val / 4, 0] ∧ win0_1.index t = ![0, 0] ∧ win0_2.index t = ![t.val % 4, 0, 0]
    ∧ win0_3.index t = ![t.val % 4, 0, 0] ∧ win0_4.index t = ![t.val / 4, 0] ∧ win0_5.index t = ![t.val / 4, t.val % 4] :=
  (by decide +kernel : ∀ t : Fin grid0.N, _)

/-- The gain row, the two grouped weights: what their windows read. -/
theorem entryG (c : Dev nD) (i : S1x1024.Idx) : V m c main_v5 i = G m c (ix1 (i 1)) := by
  entry_read
  pointwise
theorem entryW1 (c : Dev nD) (i : S4x1024x1024.Idx) : V m c main_v2 i
    = W1 m c (ix2 (i 1) (⟨(i 0).val * 1024 + (i 2).val, by have h : (i 0).val < 4 := (i 0).isLt; have h' : (i 2).val < 1024 := (i 2).isLt; omega⟩ : Fin 4096)) := by
  entry_read
  pointwise
theorem entryW2 (c : Dev nD) (i : S4x1024x1024.Idx) : V m c main_v4 i
    = W2 m c (ix2 (⟨(i 0).val * 1024 + (i 1).val, by have h : (i 0).val < 4 := (i 0).isLt; have h' : (i 1).val < 1024 := (i 1).isLt; omega⟩ : Fin 4096) (i 2)) := by
  entry_read
  pointwise

/-- The normalised row tile that a grid point's run uses. -/
def hT (c : Dev nD) (t : Fin cfg0.N) : FVec Ideal S1024x1024 .bf16 := k0_pay1 (F := Ideal) (iblk m c 0 t) (iblk m c 1 t)

/-- The normalised rows are the reference's. -/
theorem hT_eq (c : Dev nD) (t : Fin cfg0.N) (y : S1024x1024.Idx) : hT m c t y
    = Cert.Reference3Ideal.Read.val_main_v12 (F := Ideal) (X m c) (G m c) (ix2 (⟨t.val / 4 * 1024 + (y 0).val, by have h : (y 0).val < 1024 := (y 0).isLt; have h' : t.val < 16 := t.isLt; omega⟩ : Fin 4096) (y 1)) := by
  unfold hT
  pointwise [k0_pay1, Cert.Reference3Ideal.Read.val_main_v12, Cert.Reference3Ideal.Read.val_main_v11, Cert.Reference3Ideal.Read.val_main_v10, Cert.Reference3Ideal.Read.val_main_v9, Cert.Reference3Ideal.Read.val_main_v8, Cert.Reference3Ideal.Read.val_main_v7, Cert.Reference3Ideal.Read.val_main_v6, Cert.Reference3Ideal.Read.val_main_v5, Cert.Reference3Ideal.Read.val_main_v4, Cert.Reference3Ideal.Read.val_main_v3, Cert.Reference3Ideal.Read.val_main_v2, Cert.Reference3Ideal.Read.val_main_v1, Cert.Reference3Ideal.Read.val_main_v0, Cert.Reference3Ideal.Read.val_main_cst, Cert.Reference3Ideal.Read.val_main_cst_0, Cert.Reference3Ideal.Read.val_main_cst_1]
  blk_point [iblk, entryG m c, idx t]

/-- Within a run of four points the row tile does not change. -/
theorem hT_pred (c : Dev nD) (t : Fin cfg0.N) (h : ¬t.val % 4 = 0) :
    hT m c t = hT m c ⟨t.val - 1, Nat.lt_of_le_of_lt (Nat.sub_le _ _) t.isLt⟩ := by
  funext y
  rw [hT_eq, hT_eq]
  congr 2
  apply Fin.ext
  show t.val / 4 * 1024 + _ = (t.val - 1) / 4 * 1024 + _
  omega

/-- The carried scratch holds the normalised rows at every point. -/
theorem scratch_h (c : Dev nD) : ∀ (n : ℕ) (hn : n < cfg0.N), (outsAt0 m c n hn).2.2.1 = hT m c ⟨n, hn⟩ := by
  intro n
  induction n with
  | zero =>
    intro hn
    have h := outsAt0_A m c ⟨0, hn⟩ rfl (by simp)
    dsimp only at h
    rw [h]
    frame_out
    rfl
  | succ n ih =>
    intro hn
    by_cases h0 : (n + 1) % 4 = 0
    · have h := outsAt0_A m c ⟨n + 1, hn⟩ h0 (by dsimp only; omega)
      dsimp only at h
      rw [h]
      frame_out
      rfl
    · have e := hT_pred m c ⟨n + 1, hn⟩ h0
      by_cases h1 : (n + 1) % 4 = 3
      · have h := outsAt0_C m c ⟨n + 1, hn⟩ h0 h1
        dsimp only at h
        rw [h, e]
        frame_out
        exact ih _
      · have h := outsAt0_B m c ⟨n + 1, hn⟩ h0 h1
        dsimp only at h
        rw [h, e]
        frame_out
        exact ih _

/-- The block of pre-activations of a point. -/
theorem out_z (c : Dev nD) (t : Fin cfg0.N) : (outsAt0 m c t.val t.isLt).2.1 = k0_pay4 (F := Ideal) (hT m c t) (iblk m c 2 t) := by
  by_cases h0 : t.val % 4 = 0
  · rw [outsAt0_A m c t h0 (by omega)]
    frame_out
    rfl
  · have e := hT_pred m c t h0
    have p := scratch_h m c (t.val - 1) (Nat.lt_of_le_of_lt (Nat.sub_le _ _) t.isLt)
    by_cases h1 : t.val % 4 = 3
    · rw [outsAt0_C m c t h0 h1, e]
      frame_out
      rw [p, (Memref.isWhole_whole _).read_unread]
    · rw [outsAt0_B m c t h0 h1, e]
      frame_out
      rw [p, (Memref.isWhole_whole _).read_unread]

/-- The pre-activations are the reference's. -/
theorem final_z (c : Dev nD) : (dats m 0 c).arrAt 5 (cfgs 0).N
    = Cert.Reference3Ideal.Read.val_main_v32 (F := Ideal) (X m c) (G m c) (W1 m c) := by
  refine (dats m 0 c).arrAt_eq_of_covers 5 _ (by decide +kernel) fun t _ y => ?_
  blk_simp
  rw [after0_5, out_z]
  pointwise [k0_pay4, k0_pay3, Cert.Reference3Ideal.Read.val_main_v32, Cert.Reference3Ideal.Read.val_main_v31]
  simp only [hT_eq]
  change _ = ∑ k : Fin 1024, Cert.Reference3Ideal.Read.val_main_v12 (F := Ideal) (X m c) (G m c) _ * _
  blk_point [iblk, entryW1 m c, idx t]

/-- What a point adds to the accumulator. -/
def term (c : Dev nD) (t : Fin cfg0.N) (y : S1024x1024.Idx) : EReal :=
  k0_pay5 (F := Ideal) (hT m c t) (iblk m c 2 t) (k0_pay2 (F := Ideal)) (iblk m c 3 t) y

theorem pay5_eq (a : Vec Ideal S1024x1024 .bf16) (b : Vec Ideal S1x1024x1024 .bf16) (v : Vec Ideal S1024x1024 .f32)
    (d : Vec Ideal S1x1024x1024 .bf16) (y : S1024x1024.Idx) :
    k0_pay5 (F := Ideal) a b v d y = v y + k0_pay5 (F := Ideal) a b (k0_pay2 (F := Ideal)) d y := by
  pointwise [k0_pay5, k0_pay2]

/-- The accumulator after the last point of a run. -/
theorem acc (c : Dev nD) (t : Fin cfg0.N) (ht : t.val % 4 = 3) (y : S1024x1024.Idx) :
    (outsAt0 m c t.val t.isLt).2.2.2 y = 0 + ∑ s : Fin 4, term m c ⟨4 * (t.val / 4) + s.val, Pipeline.run_point_lt_of_flush (J := 4) t ht s⟩ y := by
  refine Pipeline.eq_sum_fin_of_reset_step_apply_of_flush (fun n h => (outsAt0 m c n h).2.2.2) 4 (fun _ => (0 : EReal)) (term m c)
    (fun t h0 y => ?_) (fun t h0 y => ?_) t ht y
  · rw [outsAt0_A m c t h0 (by omega), zero_add]
    frame_out
    rfl
  · have e := hT_pred m c t h0
    have p := scratch_h m c (t.val - 1) (Nat.lt_of_le_of_lt (Nat.sub_le _ _) t.isLt)
    unfold term
    by_cases h1 : t.val % 4 = 3
    · rw [outsAt0_C m c t h0 h1, e]
      frame_out
      rw [p, pay5_eq, (Memref.isWhole_whole cc0_scratch0).read_unread, (Memref.isWhole_whole cc0_scratch1).read_unread]
    · rw [outsAt0_B m c t h0 h1, e]
      frame_out
      rw [p, pay5_eq, (Memref.isWhole_whole cc0_scratch0).read_unread, (Memref.isWhole_whole cc0_scratch1).read_unread]

/-- The output block at the last point of a run: the residual plus the accumulator. -/
theorem out_x (c : Dev nD) (t : Fin cfg0.N) (ht : t.val % 4 = 3) (y : S1024x1024.Idx) :
    (outsAt0 m c t.val t.isLt).1 y = (show FVec Ideal S1024x1024 .f32 from iblk m c 0 t) y + (outsAt0 m c t.val t.isLt).2.2.2 y := by
  rw [outsAt0_C m c t (by omega) ht]
  frame_out
  pointwise [k0_pay6]

/-- One point's contribution, over the reference's pre-activations. -/
theorem term_eq (c : Dev nD) (t : Fin cfg0.N) (y : S1024x1024.Idx) : term m c t y
    = ∑ k : Fin 1024, Cert.Reference3Ideal.Read.val_main_v15 (F := Ideal) (X m c) (G m c) (W1 m c)
        (ix2 (⟨t.val / 4 * 1024 + (y 0).val, by have h : (y 0).val < 1024 := (y 0).isLt; have h' : t.val < 16 := t.isLt; omega⟩ : Fin 4096)
          (⟨t.val % 4 * 1024 + k.val, by omega⟩ : Fin 4096))
      * W2 m c (ix2 (⟨t.val % 4 * 1024 + k.val, by omega⟩ : Fin 4096) (y 1)) := by
  unfold term
  pointwise [k0_pay5, k0_pay3, k0_pay2, Cert.Reference3Ideal.Read.val_main_v15, Cert.Reference3Ideal.Read.val_main_v14, Cert.Reference3Ideal.Read.val_main_call0_v0, Cert.Reference3Ideal.Read.val_main_call0_cst, Cert.Reference3Ideal.Read.val_main_v13]
  simp only [hT_eq]
  all_goals blk_point [iblk, entryW1 m c, entryW2 m c, idx t]

/-- The residual output is the reference's. -/
theorem final_x (c : Dev nD) : (dats m 0 c).arrAt 4 (cfgs 0).N
    = Cert.Reference3Ideal.Read.val_main_v17 (F := Ideal) (X m c) (G m c) (W1 m c) (W2 m c) := by
  refine (dats m 0 c).arrAt_eq_of_covers 4 _ (by decide +kernel) fun t hf y => ?_
  have ht : t.val % 4 = 3 := (flush0_4 t).mp hf
  blk_simp
  rw [after0_4, out_x m c t ht, acc m c t ht, zero_add]
  simp only [term_eq]
  have e : ∀ s : Fin 4, (4 * (t.val / 4) + s.val) / 4 = t.val / 4 ∧ (4 * (t.val / 4) + s.val) % 4 = s.val := fun s => by
    have := s.isLt
    omega
  simp only [(e _).1, (e _).2]
  rw [Cert.Reference3Ideal.Read.val_main_v17_apply, Cert.Reference3Ideal.Read.val_main_v16_apply]
  refine congrArg₂ (· + ·) ?_ (Fin.sum_mul_add_congr fun s k hl => ?_)
  · blk_point [iblk, idx t]
  · blk_point [idx t]

end Cert.Kernel3Ideal.Fwd

end
-- ==== Proof.Claims3.lean ====
/- The claims about the forward feed-forward block. -/
module

public import proofs.«01_k».proof.Defs
public import proofs.«01_k».proof.Proof.Gen.Kernel3.Frame
public import proofs.«01_k».proof.Proof.FfnFwd
public import Idealize.ShloMosaic.Lib.Claim
public import Idealize.ShloMosaic.Lib.Quiescent

@[expose] public section

noncomputable section

namespace Cert.Proof3

open Idealize.ShloMosaic Idealize.SL.Sem

theorem frameK : Cert.quiescent_Kernel3 := fun m ρ _ => Cert.Kernel3.Gen.frame m ρ

theorem frameKI : Cert.quiescent_Kernel3Ideal := fun m ρ _ => Cert.Kernel3Ideal.Gen.frame m ρ

theorem frameR : Cert.quiescent_Reference3Ideal := fun m ρ _ =>
  (θ_run Cert.Reference3Ideal.defs _ _).mono (fun r h => ⟨fun c => ⟨(h c).2.2.1, (h c).2.2.2.1, (h c).2.2.2.2.1, (h c).2.2.2.2.2⟩,
    sem_eq_zero_of_no_sems (by decide) r.2⟩) (Cert.Reference3Ideal.Value.run (F := Ideal) m ρ)

theorem algebraic : Cert.algebraic_Kernel3Ideal_Reference3Ideal := by
  intro m g m' g' _ h
  refine ⟨fun c => ((Cert.Kernel3Ideal.Gen.dats m 0 c).arrAt 4 (Cert.Kernel3Ideal.cfgs 0).N), fun c => ((Cert.Kernel3Ideal.Gen.dats m 0 c).arrAt 5 (Cert.Kernel3Ideal.cfgs 0).N), ?_, ?_⟩
  · refine (θ_run Cert.Kernel3Ideal.defs _ _).mono (fun r h => fun c => ?_) (θ_run_and (Cert.Kernel3Ideal.Gen.run_main m g) (Cert.Kernel3Ideal.Gen.unchanged m g))
    exact ⟨(h.1 c).1 4, (h.1 c).1 5, h.2 c⟩
  · refine (θ_run Cert.Reference3Ideal.defs _ _).mono (fun r k => fun c => ?_) (Cert.Reference3Ideal.Value.run (F := Ideal) m' g')
    refine ⟨(k c).1.trans ?_, (k c).2.1.trans ?_, (k c).2.2⟩
    · rw [(h c).1, (h c).2.1, (h c).2.2.1, (h c).2.2.2]
      exact (Cert.Reference3Ideal.Read.val_main_v17_eq _ _ _ _).trans (Cert.Kernel3Ideal.Fwd.final_x m c).symm
    · rw [(h c).1, (h c).2.1, (h c).2.2.1]
      exact (Cert.Reference3Ideal.Read.val_main_v32_eq _ _ _).trans (Cert.Kernel3Ideal.Fwd.final_z m c).symm

end Cert.Proof3

end
-- ==== Proof.WGrad4.lean ====
/- The weight gradient of the second feed-forward weight: the tiled product equals the reference's product, reshaped. -/
module

public import proofs.«01_k».proof.Proof.Gen.Kernel4Ideal.Frame
public import proofs.«01_k».proof.Proof.Gen.Reference4Ideal.Run
public import Idealize.ShloMosaic.Lib.Pipeline.ValueKit
public import Idealize.ShloMosaic.Lib.Claim

@[expose] public section

set_option maxRecDepth 16384

noncomputable section

namespace Cert.Kernel4Ideal.Wg

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- The reference's result of the activations `X` and the cotangent `Y`. -/
abbrev ref (X : FVec Ideal S4096x4096 .f32) (Y : FVec Ideal S4096x1024 .f32) : FVec Ideal S4x1024x1024 .bf16 :=
  truncf .bf16 (shapeCast Cert.Reference4Ideal.S4x1024x1024 (transpose Cert.Reference4Ideal.S4096x1024 [1, 0] (Host.dotGeneral Cert.Reference4Ideal.dot_S4096x1024_S4096x4096_S1024x4096_0_0_1_1_n_n none Y X) Cert.Reference4Ideal.Gen.transposes_S1024x4096_S4096x1024_1_0) Cert.Reference4Ideal.Gen.shapeCasts_S4096x1024_S4x1024x1024) Cert.Reference4Ideal.Gen.bitsLt_bf16_f32

/-- The block that each window takes at a grid point. -/
theorem idx : ∀ t : Fin cfg0.N, win0_0.index t = ![t.val, 0] ∧ win0_1.index t = ![0, 0] ∧ win0_2.index t = ![t.val / 2, t.val % 2, 0] :=
  (by decide +kernel : ∀ t : Fin grid0.N, _)

/-- What the first window reads: the activations, transposed. -/
theorem entry1 (c : Dev nD) (i : S4096x4096.Idx) : V m c main_v1 i = m ((c : Thread nD τ).loc main_arg0) (ix2 (i 1) (i 0)) := by
  entry_read
  pointwise

/-- What the second window reads: the cotangent. -/
theorem entry2 (c : Dev nD) (i : S4096x1024.Idx) : V m c main_v2 i = m ((c : Thread nD τ).loc main_arg1) i := by
  entry_read
  pointwise

/-- One grid point: the body's block is the block of the reference's result. -/
theorem point (c : Dev nD) (t : Fin cfg0.N) (y) : k0_pay1 (F := Ideal) (iblk m c 0 t) (iblk m c 1 t) y
    = ref (m ((c : Thread nD τ).loc main_arg0)) (m ((c : Thread nD τ).loc main_arg1)) (((cfg0.win 2).blk t).view.emb y) := by
  pointwise [k0_pay1, ref]
  refine (Finset.sum_congr rfl fun k _ => mul_comm _ _).trans ?_
  blk_point [iblk, entry1 m c, entry2 m c, idx t]

/-- The result after the run is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel4Ideal.Wg

end
-- ==== Proof.Claims4.lean ====
/- The claims about the second feed-forward weight's gradient. -/
module

public import proofs.«01_k».proof.Defs
public import proofs.«01_k».proof.Proof.Gen.Kernel4.Frame
public import proofs.«01_k».proof.Proof.WGrad4
public import Idealize.ShloMosaic.Lib.Claim
public import Idealize.ShloMosaic.Lib.Quiescent

@[expose] public section

noncomputable section

namespace Cert.Proof4

open Idealize.ShloMosaic Idealize.SL.Sem

theorem frameK : Cert.quiescent_Kernel4 := fun m ρ _ => Cert.Kernel4.Gen.frame m ρ

theorem frameKI : Cert.quiescent_Kernel4Ideal := fun m ρ _ => Cert.Kernel4Ideal.Gen.frame m ρ

theorem frameR : Cert.quiescent_Reference4Ideal := fun m ρ _ =>
  (θ_run Cert.Reference4Ideal.defs _ _).mono (fun r h => ⟨fun c => ⟨(h c).2.1, (h c).2.2⟩,
    sem_eq_zero_of_no_sems (by decide) r.2⟩) (Cert.Reference4Ideal.Value.run (F := Ideal) m ρ)

theorem algebraic : Cert.algebraic_Kernel4Ideal_Reference4Ideal := by
  intro m g m' g' _ h
  refine ⟨fun c => ((Cert.Kernel4Ideal.Gen.dats m 0 c).arrAt 2 (Cert.Kernel4Ideal.cfgs 0).N), ?_, ?_⟩
  · refine (θ_run Cert.Kernel4Ideal.defs _ _).mono (fun r h => fun c => ?_) (θ_run_and (Cert.Kernel4Ideal.Gen.run_main m g) (Cert.Kernel4Ideal.Gen.unchanged m g))
    exact ⟨(h.1 c).1 2, h.2 c⟩
  · refine (θ_run Cert.Reference4Ideal.defs _ _).mono (fun r k => fun c => ?_) (Cert.Reference4Ideal.Value.run (F := Ideal) m' g')
    refine ⟨(k c).1.trans ?_, (k c).2⟩
    rw [(h c).1, (h c).2]
    exact (Cert.Kernel4Ideal.Wg.final m c).symm

end Cert.Proof4

end
-- ==== Proof.WGrad5.lean ====
/- The weight gradient of the first feed-forward weight: the tiled product equals the reference's product, reshaped. -/
module

public import proofs.«01_k».proof.Proof.Gen.Kernel5Ideal.Frame
public import proofs.«01_k».proof.Proof.Gen.Reference5Ideal.Run
public import Idealize.ShloMosaic.Lib.Pipeline.ValueKit
public import Idealize.ShloMosaic.Lib.Claim

@[expose] public section

set_option maxRecDepth 16384

noncomputable section

namespace Cert.Kernel5Ideal.Wg

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- The reference's result of the activations `X` and the cotangent `Y`. -/
abbrev ref (X : FVec Ideal S4096x1024 .f32) (Y : FVec Ideal S4096x4096 .f32) : FVec Ideal S4x1024x1024 .bf16 :=
  truncf .bf16 (transpose Cert.Reference5Ideal.S4x1024x1024 [1, 0, 2] (shapeCast Cert.Reference5Ideal.S1024x4x1024 (transpose Cert.Reference5Ideal.S1024x4096 [1, 0] (Host.dotGeneral Cert.Reference5Ideal.dot_S4096x4096_S4096x1024_S4096x1024_0_0_1_1_n_n none Y X) Cert.Reference5Ideal.Gen.transposes_S4096x1024_S1024x4096_1_0) Cert.Reference5Ideal.Gen.shapeCasts_S1024x4096_S1024x4x1024) Cert.Reference5Ideal.Gen.transposes_S1024x4x1024_S4x1024x1024_1_0_2) Cert.Reference5Ideal.Gen.bitsLt_bf16_f32

/-- The block that each window takes at a grid point. -/
theorem idx : ∀ t : Fin cfg0.N, win0_0.index t = ![0, 0] ∧ win0_1.index t = ![0, t.val] ∧ win0_2.index t = ![t.val / 2, 0, t.val % 2] :=
  (by decide +kernel : ∀ t : Fin grid0.N, _)

/-- What the first window reads: the activations, transposed. -/
theorem entry1 (c : Dev nD) (i : S1024x4096.Idx) : V m c main_v1 i = m ((c : Thread nD τ).loc main_arg0) (ix2 (i 1) (i 0)) := by
  entry_read
  pointwise

/-- What the second window reads: the cotangent. -/
theorem entry2 (c : Dev nD) (i : S4096x4096.Idx) : V m c main_v2 i = m ((c : Thread nD τ).loc main_arg1) i := by
  entry_read
  pointwise

/-- One grid point: the body's block is the block of the reference's result. -/
theorem point (c : Dev nD) (t : Fin cfg0.N) (y) : k0_pay1 (F := Ideal) (iblk m c 0 t) (iblk m c 1 t) y
    = ref (m ((c : Thread nD τ).loc main_arg0)) (m ((c : Thread nD τ).loc main_arg1)) (((cfg0.win 2).blk t).view.emb y) := by
  pointwise [k0_pay1, ref]
  refine (Finset.sum_congr rfl fun k _ => mul_comm _ _).trans ?_
  blk_point [iblk, entry1 m c, entry2 m c, idx t]

/-- The result after the run is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel5Ideal.Wg

end
-- ==== Proof.Claims5.lean ====
/- The claims about the first feed-forward weight's gradient. -/
module

public import proofs.«01_k».proof.Defs
public import proofs.«01_k».proof.Proof.Gen.Kernel5.Frame
public import proofs.«01_k».proof.Proof.WGrad5
public import Idealize.ShloMosaic.Lib.Claim
public import Idealize.ShloMosaic.Lib.Quiescent

@[expose] public section

noncomputable section

namespace Cert.Proof5

open Idealize.ShloMosaic Idealize.SL.Sem

theorem frameK : Cert.quiescent_Kernel5 := fun m ρ _ => Cert.Kernel5.Gen.frame m ρ

theorem frameKI : Cert.quiescent_Kernel5Ideal := fun m ρ _ => Cert.Kernel5Ideal.Gen.frame m ρ

theorem frameR : Cert.quiescent_Reference5Ideal := fun m ρ _ =>
  (θ_run Cert.Reference5Ideal.defs _ _).mono (fun r h => ⟨fun c => ⟨(h c).2.1, (h c).2.2⟩,
    sem_eq_zero_of_no_sems (by decide) r.2⟩) (Cert.Reference5Ideal.Value.run (F := Ideal) m ρ)

theorem algebraic : Cert.algebraic_Kernel5Ideal_Reference5Ideal := by
  intro m g m' g' _ h
  refine ⟨fun c => ((Cert.Kernel5Ideal.Gen.dats m 0 c).arrAt 2 (Cert.Kernel5Ideal.cfgs 0).N), ?_, ?_⟩
  · refine (θ_run Cert.Kernel5Ideal.defs _ _).mono (fun r h => fun c => ?_) (θ_run_and (Cert.Kernel5Ideal.Gen.run_main m g) (Cert.Kernel5Ideal.Gen.unchanged m g))
    exact ⟨(h.1 c).1 2, h.2 c⟩
  · refine (θ_run Cert.Reference5Ideal.defs _ _).mono (fun r k => fun c => ?_) (Cert.Reference5Ideal.Value.run (F := Ideal) m' g')
    refine ⟨(k c).1.trans ?_, (k c).2⟩
    rw [(h c).1, (h c).2]
    exact (Cert.Kernel5Ideal.Wg.final m c).symm

end Cert.Proof5

end
-- ==== Proof.WGrad6.lean ====
/- The weight gradient of the output projection: the tiled product equals the reference's product, reshaped. -/
module

public import proofs.«01_k».proof.Proof.Gen.Kernel6Ideal.Frame
public import proofs.«01_k».proof.Proof.Gen.Reference6Ideal.Run
public import Idealize.ShloMosaic.Lib.Pipeline.ValueKit
public import Idealize.ShloMosaic.Lib.Claim

@[expose] public section

set_option maxRecDepth 16384

noncomputable section

namespace Cert.Kernel6Ideal.Wg

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

/-- The reference's result of the activations `X` and the cotangent `Y`. -/
abbrev ref (X : FVec Ideal S4096x1024 .f32) (Y : FVec Ideal S4096x1024 .f32) : FVec Ideal S4x256x1024 .bf16 :=
  truncf .bf16 (shapeCast Cert.Reference6Ideal.S4x256x1024 (transpose Cert.Reference6Ideal.S1024x1024 [1, 0] (Host.dotGeneral Cert.Reference6Ideal.dot_S4096x1024_S4096x1024_S1024x1024_0_0_1_1_n_n none Y X) Cert.Reference6Ideal.Gen.transposes_S1024x1024_S1024x1024_1_0) Cert.Reference6Ideal.Gen.shapeCasts_S1024x1024_S4x256x1024) Cert.Reference6Ideal.Gen.bitsLt_bf16_f32

/-- The block that each window takes at a grid point. -/
theorem idx : ∀ t : Fin cfg0.N, win0_0.index t = ![t.val, 0] ∧ win0_1.index t = ![0, 0] ∧ win0_2.index t = ![t.val, 0, 0] :=
  (by decide +kernel : ∀ t : Fin grid0.N, _)

/-- What the first window reads: the activations, transposed. -/
theorem entry1 (c : Dev nD) (i : S1024x4096.Idx) : V m c main_v1 i = m ((c : Thread nD τ).loc main_arg0) (ix2 (i 1) (i 0)) := by
  entry_read
  pointwise

/-- What the second window reads: the cotangent. -/
theorem entry2 (c : Dev nD) (i : S4096x1024.Idx) : V m c main_v2 i = m ((c : Thread nD τ).loc main_arg1) i := by
  entry_read
  pointwise

/-- One grid point: the body's block is the block of the reference's result. -/
theorem point (c : Dev nD) (t : Fin cfg0.N) (y) : k0_pay1 (F := Ideal) (iblk m c 0 t) (iblk m c 1 t) y
    = ref (m ((c : Thread nD τ).loc main_arg0)) (m ((c : Thread nD τ).loc main_arg1)) (((cfg0.win 2).blk t).view.emb y) := by
  pointwise [k0_pay1, ref]
  refine (Finset.sum_congr rfl fun k _ => mul_comm _ _).trans ?_
  blk_point [iblk, entry1 m c, entry2 m c, idx t]

/-- The result after the run is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel6Ideal.Wg

end
-- ==== Proof.Claims6.lean ====
/- The claims about the output projection's gradient. -/
module

public import proofs.«01_k».proof.Defs
public import proofs.«01_k».proof.Proof.Gen.Kernel6.Frame
public import proofs.«01_k».proof.Proof.WGrad6
public import Idealize.ShloMosaic.Lib.Claim
public import Idealize.ShloMosaic.Lib.Quiescent

@[expose] public section

noncomputable section

namespace Cert.Proof6

open Idealize.ShloMosaic Idealize.SL.Sem

theorem frameK : Cert.quiescent_Kernel6 := fun m ρ _ => Cert.Kernel6.Gen.frame m ρ

theorem frameKI : Cert.quiescent_Kernel6Ideal := fun m ρ _ => Cert.Kernel6Ideal.Gen.frame m ρ

theorem frameR : Cert.quiescent_Reference6Ideal := fun m ρ _ =>
  (θ_run Cert.Reference6Ideal.defs _ _).mono (fun r h => ⟨fun c => ⟨(h c).2.1, (h c).2.2⟩,
    sem_eq_zero_of_no_sems (by decide) r.2⟩) (Cert.Reference6Ideal.Value.run (F := Ideal) m ρ)

theorem algebraic : Cert.algebraic_Kernel6Ideal_Reference6Ideal := by
  intro m g m' g' _ h
  refine ⟨fun c => ((Cert.Kernel6Ideal.Gen.dats m 0 c).arrAt 2 (Cert.Kernel6Ideal.cfgs 0).N), ?_, ?_⟩
  · refine (θ_run Cert.Kernel6Ideal.defs _ _).mono (fun r h => fun c => ?_) (θ_run_and (Cert.Kernel6Ideal.Gen.run_main m g) (Cert.Kernel6Ideal.Gen.unchanged m g))
    exact ⟨(h.1 c).1 2, h.2 c⟩
  · refine (θ_run Cert.Reference6Ideal.defs _ _).mono (fun r k => fun c => ?_) (Cert.Reference6Ideal.Value.run (F := Ideal) m' g')
    refine ⟨(k c).1.trans ?_, (k c).2⟩
    rw [(h c).1, (h c).2]
    exact (Cert.Kernel6Ideal.Wg.final m c).symm

end Cert.Proof6

end
-- ==== Proof.WGrad7.lean ====
/- The weight gradient of the input projection: the tiled product equals the reference's product, reshaped. -/
module

public import proofs.«01_k».proof.Proof.Gen.Kernel7Ideal.Frame
public import proofs.«01_k».proof.Proof.Gen.Reference7Ideal.Run
public import Idealize.ShloMosaic.Lib.Pipeline.ValueKit
public import Idealize.ShloMosaic.Lib.Claim

@[expose] public section

set_option maxRecDepth 16384

noncomputable section

namespace Cert.Kernel7Ideal.Wg

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The reference's result of the activations `X` and the cotangent `Y`. -/
abbrev ref (X : FVec Ideal S4096x1024 .f32) (Y : FVec Ideal S4096x2048 .f32) : FVec Ideal S4x1024x512 .bf16 :=
  truncf .bf16 (transpose Cert.Reference7Ideal.S4x1024x512 [1, 0, 2] (shapeCast Cert.Reference7Ideal.S1024x4x512 (transpose Cert.Reference7Ideal.S1024x2048 [1, 0] (Host.dotGeneral Cert.Reference7Ideal.dot_S4096x2048_S4096x1024_S2048x1024_0_0_1_1_n_n none Y X) Cert.Reference7Ideal.Gen.transposes_S2048x1024_S1024x2048_1_0) Cert.Reference7Ideal.Gen.shapeCasts_S1024x2048_S1024x4x512) Cert.Reference7Ideal.Gen.transposes_S1024x4x512_S4x1024x512_1_0_2) Cert.Reference7Ideal.Gen.bitsLt_bf16_f32

/-- The block that each window takes at a grid point. -/
theorem idx : ∀ t : Fin cfg0.N, win0_0.index t = ![0, 0] ∧ win0_1.index t = ![0, t.val] ∧ win0_2.index t = ![t.val, 0, 0] :=
  (by decide +kernel : ∀ t : Fin grid0.N, _)

/-- What the first window reads: the activations, transposed. -/
theorem entry1 (c : Dev nD) (i : S1024x4096.Idx) : V m c main_v1 i = m ((c : Thread nD τ).loc main_arg0) (ix2 (i 1) (i 0)) := by
  entry_read
  pointwise

/-- What the second window reads: the cotangent. -/
theorem entry2 (c : Dev nD) (i : S4096x2048.Idx) : V m c main_v2 i = m ((c : Thread nD τ).loc main_arg1) i := by
  entry_read
  pointwise

/-- One grid point: the body's block is the block of the reference's result. -/
theorem point (c : Dev nD) (t : Fin cfg0.N) (y) : k0_pay1 (F := Ideal) (iblk m c 0 t) (iblk m c 1 t) y
    = ref (m ((c : Thread nD τ).loc main_arg0)) (m ((c : Thread nD τ).loc main_arg1)) (((cfg0.win 2).blk t).view.emb y) := by
  pointwise [k0_pay1, ref]
  refine (Finset.sum_congr rfl fun k _ => mul_comm _ _).trans ?_
  blk_point [iblk, entry1 m c, entry2 m c, idx t]

/-- The result after the run is the reference's. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]
  frame_out
  exact point m c t y

end Cert.Kernel7Ideal.Wg

end
-- ==== Proof.Claims7.lean ====
/- The claims about the input projection's gradient. -/
module

public import proofs.«01_k».proof.Defs
public import proofs.«01_k».proof.Proof.Gen.Kernel7.Frame
public import proofs.«01_k».proof.Proof.WGrad7
public import Idealize.ShloMosaic.Lib.Claim
public import Idealize.ShloMosaic.Lib.Quiescent

@[expose] public section

noncomputable section

namespace Cert.Proof7

open Idealize.ShloMosaic Idealize.SL.Sem

theorem frameK : Cert.quiescent_Kernel7 := fun m ρ _ => Cert.Kernel7.Gen.frame m ρ

theorem frameKI : Cert.quiescent_Kernel7Ideal := fun m ρ _ => Cert.Kernel7Ideal.Gen.frame m ρ

theorem frameR : Cert.quiescent_Reference7Ideal := fun m ρ _ =>
  (θ_run Cert.Reference7Ideal.defs _ _).mono (fun r h => ⟨fun c => ⟨(h c).2.1, (h c).2.2⟩,
    sem_eq_zero_of_no_sems (by decide) r.2⟩) (Cert.Reference7Ideal.Value.run (F := Ideal) m ρ)

theorem algebraic : Cert.algebraic_Kernel7Ideal_Reference7Ideal := by
  intro m g m' g' _ h
  refine ⟨fun c => ((Cert.Kernel7Ideal.Gen.dats m 0 c).arrAt 2 (Cert.Kernel7Ideal.cfgs 0).N), ?_, ?_⟩
  · refine (θ_run Cert.Kernel7Ideal.defs _ _).mono (fun r h => fun c => ?_) (θ_run_and (Cert.Kernel7Ideal.Gen.run_main m g) (Cert.Kernel7Ideal.Gen.unchanged m g))
    exact ⟨(h.1 c).1 2, h.2 c⟩
  · refine (θ_run Cert.Reference7Ideal.defs _ _).mono (fun r k => fun c => ?_) (Cert.Reference7Ideal.Value.run (F := Ideal) m' g')
    refine ⟨(k c).1.trans ?_, (k c).2⟩
    rw [(h c).1, (h c).2]
    exact (Cert.Kernel7Ideal.Wg.final m c).symm

end Cert.Proof7

end
-- ==== Proof.Adam8.lean ====
/- The optimiser step of one large weight, both layers in one call (program 8): each result is the reference's. -/
module

public import proofs.«01_k».proof.Proof.Gen.Kernel8Ideal.Frame
public import proofs.«01_k».proof.Proof.Gen.Reference8Ideal.Read
public import Idealize.ShloMosaic.Lib.Pipeline.ValueKit
public import Idealize.ShloMosaic.Lib.Claim

@[expose] public section

set_option maxRecDepth 16384

noncomputable section

namespace Cert.Kernel8Ideal.Adam

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- The block of the stacked arrays at a grid point: the layer, and the rows within it. -/
theorem idx : ∀ t : Fin cfg0.N, win0_0.index t = ![t.val / 2, t.val % 2, 0] ∧ win0_3.index t = ![t.val / 2, t.val % 2, 0] ∧ win0_4.index t = ![t.val / 2, t.val % 2, 0] ∧ win0_5.index t = ![t.val / 2, t.val % 2, 0] ∧ win0_6.index t = ![t.val / 2, t.val % 2, 0] ∧ win0_7.index t = ![t.val / 2, t.val % 2, 0] ∧ win0_8.index t = ![t.val / 2, t.val % 2, 0] :=
  (by decide +kernel : ∀ t : Fin grid0.N, _)

/-- Which layer a grid point belongs to: its gradient is at its own block of rows, and the layer's test says so. -/
theorem layer : ∀ t : Fin cfg0.N,
    (t.val / 2 = 0 ∧ win0_1.index t = ![t.val % 2, 0] ∧ Scalar.cmpi .eq (BitVec.ofNat 32 (cfg0.grid.coords t 0).val) 0#32 = 1#1)
    ∨ (t.val / 2 = 1 ∧ win0_2.index t = ![t.val % 2, 0] ∧ Scalar.cmpi .eq (BitVec.ofNat 32 (cfg0.grid.coords t 0).val) 0#32 = 0#1) :=
  (by decide +kernel : ∀ t : Fin grid0.N, _)

theorem entry0 (c : Dev nD) : V m c main_arg0 = m ((c : Thread nD τ).loc main_arg0) := rfl

theorem entry1 (c : Dev nD) : V m c main_arg1 = m ((c : Thread nD τ).loc main_arg1) := rfl

theorem entry2 (c : Dev nD) : V m c main_arg2 = m ((c : Thread nD τ).loc main_arg2) := rfl

theorem entry3 (c : Dev nD) : V m c main_arg3 = m ((c : Thread nD τ).loc main_arg3) := rfl

theorem entry4 (c : Dev nD) : V m c main_arg4 = m ((c : Thread nD τ).loc main_arg4) := rfl

/-- The gradient that the body picks at a grid point is the stacked gradient's, at the place of the block. -/
theorem pick (c : Dev nD) (t : Fin cfg0.N) (y : S1x512x512.Idx) (j : S2x1024x512.Idx)
    (h0 : (j 0).val = t.val / 2) (h1 : (j 1).val = t.val % 2 * 512 + (y 1).val) (h2 : (j 2).val = (y 2).val) :
    k0_pay4 (F := Ideal) (cfg0.grid.coords t) (iblk m c 1 t) (iblk m c 2 t) (ix2 (y 1) (y 2))
      = Cert.Reference8Ideal.Read.val_main_v2 (F := Ideal) (m ((c : Thread nD τ).loc main_arg1)) (m ((c : Thread nD τ).loc main_arg2)) j := by
  rcases layer t with ⟨hl, hi, hs⟩ | ⟨hl, hi, hs⟩
  · unfold k0_pay4
    simp only [hs]
    pointwise [Cert.Reference8Ideal.Read.val_main_v2, Cert.Reference8Ideal.Read.val_main_v0, Cert.Reference8Ideal.Read.val_main_v1]
    blk_point [iblk, entry1 m c, hi]
    all_goals (exfalso; omega)
  · unfold k0_pay4
    simp only [hs]
    pointwise [Cert.Reference8Ideal.Read.val_main_v2, Cert.Reference8Ideal.Read.val_main_v0, Cert.Reference8Ideal.Read.val_main_v1]
    blk_point [iblk, entry2 m c, hi]
    all_goals (exfalso; omega)

/-- The gradient picked, at the place that an output's block has. -/
theorem pick' (c : Dev nD) (t : Fin cfg0.N) (y : S1x512x512.Idx) :
    k0_pay4 (F := Ideal) (cfg0.grid.coords t) (iblk m c 1 t) (iblk m c 2 t) (ix2 (y 1) (y 2))
      = Cert.Reference8Ideal.Read.val_main_v2 (F := Ideal) (m ((c : Thread nD τ).loc main_arg1)) (m ((c : Thread nD τ).loc main_arg2)) (((cfg0.win 5).blk t).view.emb y) := by
  have hb := (y 0).isLt
  refine pick m c t y _ ?_ ?_ ?_
  · blk_simp [idx t] <;> omega
  · blk_simp [idx t] <;> omega
  · blk_simp [idx t] <;> omega

/-- The gradient at one place of the block. -/
theorem point5 (c : Dev nD) (t : Fin cfg0.N) (y) : k0_pay5 (F := Ideal) (cfg0.grid.coords t) (iblk m c 1 t) (iblk m c 2 t) y
    = Cert.Reference8Ideal.Read.val_main_v2 (F := Ideal) (m ((c : Thread nD τ).loc main_arg1)) (m ((c : Thread nD τ).loc main_arg2)) (((cfg0.win 5).blk t).view.emb y) := by
  pointwise [k0_pay1, k0_pay2, k0_pay3, k0_pay5, k0_pay6, k0_pay7, k0_pay8, k0_pay9, Cert.Reference8Ideal.Read.val_main_v3, Cert.Reference8Ideal.Read.val_main_v4, Cert.Reference8Ideal.Read.val_main_v5, Cert.Reference8Ideal.Read.val_main_v6, Cert.Reference8Ideal.Read.val_main_v7, Cert.Reference8Ideal.Read.val_main_v8, Cert.Reference8Ideal.Read.val_main_v9, Cert.Reference8Ideal.Read.val_main_v10, Cert.Reference8Ideal.Read.val_main_v11, Cert.Reference8Ideal.Read.val_main_v12, Cert.Reference8Ideal.Read.val_main_v13, Cert.Reference8Ideal.Read.val_main_v14, Cert.Reference8Ideal.Read.val_main_v15, Cert.Reference8Ideal.Read.val_main_v16, Cert.Reference8Ideal.Read.val_main_v17, Cert.Reference8Ideal.Read.val_main_v18, Cert.Reference8Ideal.Read.val_main_v19, Cert.Reference8Ideal.Read.val_main_v20, Cert.Reference8Ideal.Read.val_main_v21, Cert.Reference8Ideal.Read.val_main_v22, Cert.Reference8Ideal.Read.val_main_v23, Cert.Reference8Ideal.Read.val_main_v24, Cert.Reference8Ideal.Read.val_main_v25, Cert.Reference8Ideal.Read.val_main_v26, Cert.Reference8Ideal.Read.val_main_cst, Cert.Reference8Ideal.Read.val_main_cst_0, Cert.Reference8Ideal.Read.val_main_cst_1, Cert.Reference8Ideal.Read.val_main_cst_2, Cert.Reference8Ideal.Read.val_main_cst_3, Cert.Reference8Ideal.Read.val_main_cst_4, Cert.Reference8Ideal.Read.val_main_cst_5, Cert.Reference8Ideal.Read.val_main_cst_6, Cert.Reference8Ideal.Read.val_main_cst_7]
  rw [pick' m c t y]

/-- The gradient, after the run, is the reference's. -/
theorem final5 (c : Dev nD) : (dats m 0 c).arrAt 5 (cfgs 0).N
    = Cert.Reference8Ideal.Read.val_main_v2 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point5 m c t y

/-- The update at one place of the block. -/
theorem point6 (c : Dev nD) (t : Fin cfg0.N) (y) : k0_pay1 (F := Ideal) (k0_pay8 (cfg0.grid.coords t) (iblk m c 1 t) (iblk m c 2 t) (iblk m c 3 t) (iblk m c 4 t)) (k0_pay9 (iblk m c 0 t)) (Scalar.ofBits .f32 0x3C23D70A#32) y
    = Cert.Reference8Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, k0_pay2, k0_pay3, k0_pay5, k0_pay6, k0_pay7, k0_pay8, k0_pay9, Cert.Reference8Ideal.Read.val_main_v3, Cert.Reference8Ideal.Read.val_main_v4, Cert.Reference8Ideal.Read.val_main_v5, Cert.Reference8Ideal.Read.val_main_v6, Cert.Reference8Ideal.Read.val_main_v7, Cert.Reference8Ideal.Read.val_main_v8, Cert.Reference8Ideal.Read.val_main_v9, Cert.Reference8Ideal.Read.val_main_v10, Cert.Reference8Ideal.Read.val_main_v11, Cert.Reference8Ideal.Read.val_main_v12, Cert.Reference8Ideal.Read.val_main_v13, Cert.Reference8Ideal.Read.val_main_v14, Cert.Reference8Ideal.Read.val_main_v15, Cert.Reference8Ideal.Read.val_main_v16, Cert.Reference8Ideal.Read.val_main_v17, Cert.Reference8Ideal.Read.val_main_v18, Cert.Reference8Ideal.Read.val_main_v19, Cert.Reference8Ideal.Read.val_main_v20, Cert.Reference8Ideal.Read.val_main_v21, Cert.Reference8Ideal.Read.val_main_v22, Cert.Reference8Ideal.Read.val_main_v23, Cert.Reference8Ideal.Read.val_main_v24, Cert.Reference8Ideal.Read.val_main_v25, Cert.Reference8Ideal.Read.val_main_v26, Cert.Reference8Ideal.Read.val_main_cst, Cert.Reference8Ideal.Read.val_main_cst_0, Cert.Reference8Ideal.Read.val_main_cst_1, Cert.Reference8Ideal.Read.val_main_cst_2, Cert.Reference8Ideal.Read.val_main_cst_3, Cert.Reference8Ideal.Read.val_main_cst_4, Cert.Reference8Ideal.Read.val_main_cst_5, Cert.Reference8Ideal.Read.val_main_cst_6, Cert.Reference8Ideal.Read.val_main_cst_7]
  rw [pick' m c t y]
  blk_point [iblk, entry0 m c, entry3 m c, entry4 m c, idx t]

/-- The update, after the run, is the reference's. -/
theorem final6 (c : Dev nD) : (dats m 0 c).arrAt 6 (cfgs 0).N
    = Cert.Reference8Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  exact point6 m c t y

/-- The first moment at one place of the block. -/
theorem point7 (c : Dev nD) (t : Fin cfg0.N) (y) : k0_pay2 (F := Ideal) (k0_pay6 (cfg0.grid.coords t) (iblk m c 1 t) (iblk m c 2 t) (iblk m c 3 t)) y
    = Cert.Reference8Ideal.Read.val_main_v7 (F := Ideal) (m ((c : Thread nD τ).loc main_arg1)) (m ((c : Thread nD τ).loc main_arg2)) (m ((c : Thread nD τ).loc main_arg3)) (((cfg0.win 7).blk t).view.emb y) := by
  pointwise [k0_pay1, k0_pay2, k0_pay3, k0_pay5, k0_pay6, k0_pay7, k0_pay8, k0_pay9, Cert.Reference8Ideal.Read.val_main_v3, Cert.Reference8Ideal.Read.val_main_v4, Cert.Reference8Ideal.Read.val_main_v5, Cert.Reference8Ideal.Read.val_main_v6, Cert.Reference8Ideal.Read.val_main_v7, Cert.Reference8Ideal.Read.val_main_v8, Cert.Reference8Ideal.Read.val_main_v9, Cert.Reference8Ideal.Read.val_main_v10, Cert.Reference8Ideal.Read.val_main_v11, Cert.Reference8Ideal.Read.val_main_v12, Cert.Reference8Ideal.Read.val_main_v13, Cert.Reference8Ideal.Read.val_main_v14, Cert.Reference8Ideal.Read.val_main_v15, Cert.Reference8Ideal.Read.val_main_v16, Cert.Reference8Ideal.Read.val_main_v17, Cert.Reference8Ideal.Read.val_main_v18, Cert.Reference8Ideal.Read.val_main_v19, Cert.Reference8Ideal.Read.val_main_v20, Cert.Reference8Ideal.Read.val_main_v21, Cert.Reference8Ideal.Read.val_main_v22, Cert.Reference8Ideal.Read.val_main_v23, Cert.Reference8Ideal.Read.val_main_v24, Cert.Reference8Ideal.Read.val_main_v25, Cert.Reference8Ideal.Read.val_main_v26, Cert.Reference8Ideal.Read.val_main_cst, Cert.Reference8Ideal.Read.val_main_cst_0, Cert.Reference8Ideal.Read.val_main_cst_1, Cert.Reference8Ideal.Read.val_main_cst_2, Cert.Reference8Ideal.Read.val_main_cst_3, Cert.Reference8Ideal.Read.val_main_cst_4, Cert.Reference8Ideal.Read.val_main_cst_5, Cert.Reference8Ideal.Read.val_main_cst_6, Cert.Reference8Ideal.Read.val_main_cst_7]
  rw [pick' m c t y]
  blk_point [iblk, entry0 m c, entry3 m c, entry4 m c, idx t]

/-- The first moment, after the run, is the reference's. -/
theorem final7 (c : Dev nD) : (dats m 0 c).arrAt 7 (cfgs 0).N
    = Cert.Reference8Ideal.Read.val_main_v7 (F := Ideal) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  exact point7 m c t y

/-- The second moment at one place of the block. -/
theorem point8 (c : Dev nD) (t : Fin cfg0.N) (y) : k0_pay3 (F := Ideal) (k0_pay7 (cfg0.grid.coords t) (iblk m c 1 t) (iblk m c 2 t) (iblk m c 4 t)) y
    = Cert.Reference8Ideal.Read.val_main_v13 (F := Ideal) (m ((c : Thread nD τ).loc main_arg1)) (m ((c : Thread nD τ).loc main_arg2)) (m ((c : Thread nD τ).loc main_arg4)) (((cfg0.win 8).blk t).view.emb y) := by
  pointwise [k0_pay1, k0_pay2, k0_pay3, k0_pay5, k0_pay6, k0_pay7, k0_pay8, k0_pay9, Cert.Reference8Ideal.Read.val_main_v3, Cert.Reference8Ideal.Read.val_main_v4, Cert.Reference8Ideal.Read.val_main_v5, Cert.Reference8Ideal.Read.val_main_v6, Cert.Reference8Ideal.Read.val_main_v7, Cert.Reference8Ideal.Read.val_main_v8, Cert.Reference8Ideal.Read.val_main_v9, Cert.Reference8Ideal.Read.val_main_v10, Cert.Reference8Ideal.Read.val_main_v11, Cert.Reference8Ideal.Read.val_main_v12, Cert.Reference8Ideal.Read.val_main_v13, Cert.Reference8Ideal.Read.val_main_v14, Cert.Reference8Ideal.Read.val_main_v15, Cert.Reference8Ideal.Read.val_main_v16, Cert.Reference8Ideal.Read.val_main_v17, Cert.Reference8Ideal.Read.val_main_v18, Cert.Reference8Ideal.Read.val_main_v19, Cert.Reference8Ideal.Read.val_main_v20, Cert.Reference8Ideal.Read.val_main_v21, Cert.Reference8Ideal.Read.val_main_v22, Cert.Reference8Ideal.Read.val_main_v23, Cert.Reference8Ideal.Read.val_main_v24, Cert.Reference8Ideal.Read.val_main_v25, Cert.Reference8Ideal.Read.val_main_v26, Cert.Reference8Ideal.Read.val_main_cst, Cert.Reference8Ideal.Read.val_main_cst_0, Cert.Reference8Ideal.Read.val_main_cst_1, Cert.Reference8Ideal.Read.val_main_cst_2, Cert.Reference8Ideal.Read.val_main_cst_3, Cert.Reference8Ideal.Read.val_main_cst_4, Cert.Reference8Ideal.Read.val_main_cst_5, Cert.Reference8Ideal.Read.val_main_cst_6, Cert.Reference8Ideal.Read.val_main_cst_7]
  rw [pick' m c t y]
  blk_point [iblk, entry0 m c, entry3 m c, entry4 m c, idx t]

/-- The second moment, after the run, is the reference's. -/
theorem final8 (c : Dev nD) : (dats m 0 c).arrAt 8 (cfgs 0).N
    = Cert.Reference8Ideal.Read.val_main_v13 (F := Ideal) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]
  frame_out
  exact point8 m c t y

end Cert.Kernel8Ideal.Adam

end
-- ==== Proof.Claims8.lean ====
/- The claims about the optimiser step of w_in. -/
module

public import proofs.«01_k».proof.Defs
public import proofs.«01_k».proof.Proof.Gen.Kernel8.Frame
public import proofs.«01_k».proof.Proof.Adam8
public import proofs.«01_k».proof.Proof.Gen.Reference8Ideal.Run
public import Idealize.ShloMosaic.Lib.Claim
public import Idealize.ShloMosaic.Lib.Quiescent

@[expose] public section

set_option maxRecDepth 16384

noncomputable section

namespace Cert.Proof8

open Idealize.ShloMosaic Idealize.ShloMosaic.TcCoe Idealize.SL.Sem

theorem frameK : Cert.quiescent_Kernel8 := fun m ρ _ => Cert.Kernel8.Gen.frame m ρ

theorem frameKI : Cert.quiescent_Kernel8Ideal := fun m ρ _ => Cert.Kernel8Ideal.Gen.frame m ρ

theorem frameR : Cert.quiescent_Reference8Ideal := fun m ρ _ =>
  (θ_run Cert.Reference8Ideal.defs _ _).mono (fun r h => ⟨fun c => (h c).2.2.2.2,
    sem_eq_zero_of_no_sems (by decide) r.2⟩) (Cert.Reference8Ideal.Value.run (F := Ideal) m ρ)

theorem val_g (m : (ℓ : Loc Cert.Kernel8Ideal.nD Cert.Kernel8Ideal.τ Cert.Kernel8Ideal.sig) → Buf (Elt Ideal) ℓ) (c : Dev Cert.Kernel8Ideal.nD)
    (x1 x2 : _) (h1 : x1 = (m ((c : Thread Cert.Kernel8Ideal.nD Cert.Kernel8Ideal.τ).loc Cert.Kernel8Ideal.main_arg1))) (h2 : x2 = (m ((c : Thread Cert.Kernel8Ideal.nD Cert.Kernel8Ideal.τ).loc Cert.Kernel8Ideal.main_arg2))) :
    Cert.Reference8Ideal.Read.val_main_v2 (F := Ideal) x1 x2 = (Cert.Kernel8Ideal.Gen.dats m 0 c).arrAt 5 (Cert.Kernel8Ideal.cfgs 0).N := by
  subst h1 h2
  exact (Cert.Kernel8Ideal.Adam.final5 m c).symm

theorem val_delta (m : (ℓ : Loc Cert.Kernel8Ideal.nD Cert.Kernel8Ideal.τ Cert.Kernel8Ideal.sig) → Buf (Elt Ideal) ℓ) (c : Dev Cert.Kernel8Ideal.nD)
    (x0 x1 x2 x3 x4 : _) (h0 : x0 = (m ((c : Thread Cert.Kernel8Ideal.nD Cert.Kernel8Ideal.τ).loc Cert.Kernel8Ideal.main_arg0))) (h1 : x1 = (m ((c : Thread Cert.Kernel8Ideal.nD Cert.Kernel8Ideal.τ).loc Cert.Kernel8Ideal.main_arg1))) (h2 : x2 = (m ((c : Thread Cert.Kernel8Ideal.nD Cert.Kernel8Ideal.τ).loc Cert.Kernel8Ideal.main_arg2))) (h3 : x3 = (m ((c : Thread Cert.Kernel8Ideal.nD Cert.Kernel8Ideal.τ).loc Cert.Kernel8Ideal.main_arg3))) (h4 : x4 = (m ((c : Thread Cert.Kernel8Ideal.nD Cert.Kernel8Ideal.τ).loc Cert.Kernel8Ideal.main_arg4))) :
    Cert.Reference8Ideal.Read.val_main_v26 (F := Ideal) x0 x1 x2 x3 x4 = (Cert.Kernel8Ideal.Gen.dats m 0 c).arrAt 6 (Cert.Kernel8Ideal.cfgs 0).N := by
  subst h0 h1 h2 h3 h4
  exact (Cert.Kernel8Ideal.Adam.final6 m c).symm

theorem val_m (m : (ℓ : Loc Cert.Kernel8Ideal.nD Cert.Kernel8Ideal.τ Cert.Kernel8Ideal.sig) → Buf (Elt Ideal) ℓ) (c : Dev Cert.Kernel8Ideal.nD)
    (x1 x2 x3 : _) (h1 : x1 = (m ((c : Thread Cert.Kernel8Ideal.nD Cert.Kernel8Ideal.τ).loc Cert.Kernel8Ideal.main_arg1))) (h2 : x2 = (m ((c : Thread Cert.Kernel8Ideal.nD Cert.Kernel8Ideal.τ).loc Cert.Kernel8Ideal.main_arg2))) (h3 : x3 = (m ((c : Thread Cert.Kernel8Ideal.nD Cert.Kernel8Ideal.τ).loc Cert.Kernel8Ideal.main_arg3))) :
    Cert.Reference8Ideal.Read.val_main_v7 (F := Ideal) x1 x2 x3 = (Cert.Kernel8Ideal.Gen.dats m 0 c).arrAt 7 (Cert.Kernel8Ideal.cfgs 0).N := by
  subst h1 h2 h3
  exact (Cert.Kernel8Ideal.Adam.final7 m c).symm

theorem val_v (m : (ℓ : Loc Cert.Kernel8Ideal.nD Cert.Kernel8Ideal.τ Cert.Kernel8Ideal.sig) → Buf (Elt Ideal) ℓ) (c : Dev Cert.Kernel8Ideal.nD)
    (x1 x2 x4 : _) (h1 : x1 = (m ((c : Thread Cert.Kernel8Ideal.nD Cert.Kernel8Ideal.τ).loc Cert.Kernel8Ideal.main_arg1))) (h2 : x2 = (m ((c : Thread Cert.Kernel8Ideal.nD Cert.Kernel8Ideal.τ).loc Cert.Kernel8Ideal.main_arg2))) (h4 : x4 = (m ((c : Thread Cert.Kernel8Ideal.nD Cert.Kernel8Ideal.τ).loc Cert.Kernel8Ideal.main_arg4))) :
    Cert.Reference8Ideal.Read.val_main_v13 (F := Ideal) x1 x2 x4 = (Cert.Kernel8Ideal.Gen.dats m 0 c).arrAt 8 (Cert.Kernel8Ideal.cfgs 0).N := by
  subst h1 h2 h4
  exact (Cert.Kernel8Ideal.Adam.final8 m c).symm

theorem algebraic : Cert.algebraic_Kernel8Ideal_Reference8Ideal := by
  intro m g m' g' _ h
  refine ⟨fun c => ((Cert.Kernel8Ideal.Gen.dats m 0 c).arrAt 5 (Cert.Kernel8Ideal.cfgs 0).N), fun c => ((Cert.Kernel8Ideal.Gen.dats m 0 c).arrAt 6 (Cert.Kernel8Ideal.cfgs 0).N), fun c => ((Cert.Kernel8Ideal.Gen.dats m 0 c).arrAt 7 (Cert.Kernel8Ideal.cfgs 0).N), fun c => ((Cert.Kernel8Ideal.Gen.dats m 0 c).arrAt 8 (Cert.Kernel8Ideal.cfgs 0).N), ?_, ?_⟩
  · refine (θ_run Cert.Kernel8Ideal.defs _ _).mono (fun r h => fun c => ?_) (θ_run_and (Cert.Kernel8Ideal.Gen.run_main m g) (Cert.Kernel8Ideal.Gen.unchanged m g))
    exact ⟨(h.1 c).1 5, (h.1 c).1 6, (h.1 c).1 7, (h.1 c).1 8, h.2 c⟩
  · refine (θ_run Cert.Reference8Ideal.defs _ _).mono (fun r k => fun c => ?_) (Cert.Reference8Ideal.Value.run (F := Ideal) m' g')
    refine ⟨(k c).1.trans ?_, (k c).2.1.trans ?_, (k c).2.2.1.trans ?_, (k c).2.2.2.1.trans ?_, (k c).2.2.2.2⟩
    · exact (Cert.Reference8Ideal.Read.val_main_v2_eq _ _).trans (val_g m c _ _ (h c).2.1 (h c).2.2.1)
    · exact (Cert.Reference8Ideal.Read.val_main_v26_eq _ _ _ _ _).trans (val_delta m c _ _ _ _ _ (h c).1 (h c).2.1 (h c).2.2.1 (h c).2.2.2.1 (h c).2.2.2.2)
    · exact (Cert.Reference8Ideal.Read.val_main_v7_eq _ _ _).trans (val_m m c _ _ _ (h c).2.1 (h c).2.2.1 (h c).2.2.2.1)
    · exact (Cert.Reference8Ideal.Read.val_main_v13_eq _ _ _).trans (val_v m c _ _ _ (h c).2.1 (h c).2.2.1 (h c).2.2.2.2)

end Cert.Proof8

end
-- ==== Proof.Adam9.lean ====
/- The optimiser step of one large weight, both layers in one call (program 9): each result is the reference's. -/
module

public import proofs.«01_k».proof.Proof.Gen.Kernel9Ideal.Frame
public import proofs.«01_k».proof.Proof.Gen.Reference9Ideal.Read
public import Idealize.ShloMosaic.Lib.Pipeline.ValueKit
public import Idealize.ShloMosaic.Lib.Claim

@[expose] public section

set_option maxRecDepth 16384

noncomputable section

namespace Cert.Kernel9Ideal.Adam

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The block of the stacked arrays at a grid point: the layer, and the rows within it. -/
theorem idx : ∀ t : Fin cfg0.N, win0_0.index t = ![t.val / 1, t.val % 1, 0] ∧ win0_3.index t = ![t.val / 1, t.val % 1, 0] ∧ win0_4.index t = ![t.val / 1, t.val % 1, 0] ∧ win0_5.index t = ![t.val / 1, t.val % 1, 0] ∧ win0_6.index t = ![t.val / 1, t.val % 1, 0] ∧ win0_7.index t = ![t.val / 1, t.val % 1, 0] ∧ win0_8.index t = ![t.val / 1, t.val % 1, 0] :=
  (by decide +kernel : ∀ t : Fin grid0.N, _)

/-- Which layer a grid point belongs to: its gradient is at its own block of rows, and the layer's test says so. -/
theorem layer : ∀ t : Fin cfg0.N,
    (t.val / 1 = 0 ∧ win0_1.index t = ![t.val % 1, 0] ∧ Scalar.cmpi .eq (BitVec.ofNat 32 (cfg0.grid.coords t 0).val) 0#32 = 1#1)
    ∨ (t.val / 1 = 1 ∧ win0_2.index t = ![t.val % 1, 0] ∧ Scalar.cmpi .eq (BitVec.ofNat 32 (cfg0.grid.coords t 0).val) 0#32 = 0#1) :=
  (by decide +kernel : ∀ t : Fin grid0.N, _)

theorem entry0 (c : Dev nD) : V m c main_arg0 = m ((c : Thread nD τ).loc main_arg0) := rfl

theorem entry1 (c : Dev nD) : V m c main_arg1 = m ((c : Thread nD τ).loc main_arg1) := rfl

theorem entry2 (c : Dev nD) : V m c main_arg2 = m ((c : Thread nD τ).loc main_arg2) := rfl

theorem entry3 (c : Dev nD) : V m c main_arg3 = m ((c : Thread nD τ).loc main_arg3) := rfl

theorem entry4 (c : Dev nD) : V m c main_arg4 = m ((c : Thread nD τ).loc main_arg4) := rfl

/-- The gradient that the body picks at a grid point is the stacked gradient's, at the place of the block. -/
theorem pick (c : Dev nD) (t : Fin cfg0.N) (y : S1x256x1024.Idx) (j : S2x256x1024.Idx)
    (h0 : (j 0).val = t.val / 1) (h1 : (j 1).val = t.val % 1 * 256 + (y 1).val) (h2 : (j 2).val = (y 2).val) :
    k0_pay4 (F := Ideal) (cfg0.grid.coords t) (iblk m c 1 t) (iblk m c 2 t) (ix2 (y 1) (y 2))
      = Cert.Reference9Ideal.Read.val_main_v2 (F := Ideal) (m ((c : Thread nD τ).loc main_arg1)) (m ((c : Thread nD τ).loc main_arg2)) j := by
  rcases layer t with ⟨hl, hi, hs⟩ | ⟨hl, hi, hs⟩
  · unfold k0_pay4
    simp only [hs]
    pointwise [Cert.Reference9Ideal.Read.val_main_v2, Cert.Reference9Ideal.Read.val_main_v0, Cert.Reference9Ideal.Read.val_main_v1]
    blk_point [iblk, entry1 m c, hi]
    all_goals (exfalso; omega)
  · unfold k0_pay4
    simp only [hs]
    pointwise [Cert.Reference9Ideal.Read.val_main_v2, Cert.Reference9Ideal.Read.val_main_v0, Cert.Reference9Ideal.Read.val_main_v1]
    blk_point [iblk, entry2 m c, hi]
    all_goals (exfalso; omega)

/-- The gradient picked, at the place that an output's block has. -/
theorem pick' (c : Dev nD) (t : Fin cfg0.N) (y : S1x256x1024.Idx) :
    k0_pay4 (F := Ideal) (cfg0.grid.coords t) (iblk m c 1 t) (iblk m c 2 t) (ix2 (y 1) (y 2))
      = Cert.Reference9Ideal.Read.val_main_v2 (F := Ideal) (m ((c : Thread nD τ).loc main_arg1)) (m ((c : Thread nD τ).loc main_arg2)) (((cfg0.win 5).blk t).view.emb y) := by
  have hb := (y 0).isLt
  refine pick m c t y _ ?_ ?_ ?_
  · blk_simp [idx t] <;> omega
  · blk_simp [idx t] <;> omega
  · blk_simp [idx t] <;> omega

/-- The gradient at one place of the block. -/
theorem point5 (c : Dev nD) (t : Fin cfg0.N) (y) : k0_pay5 (F := Ideal) (cfg0.grid.coords t) (iblk m c 1 t) (iblk m c 2 t) y
    = Cert.Reference9Ideal.Read.val_main_v2 (F := Ideal) (m ((c : Thread nD τ).loc main_arg1)) (m ((c : Thread nD τ).loc main_arg2)) (((cfg0.win 5).blk t).view.emb y) := by
  pointwise [k0_pay1, k0_pay2, k0_pay3, k0_pay5, k0_pay6, k0_pay7, k0_pay8, k0_pay9, Cert.Reference9Ideal.Read.val_main_v3, Cert.Reference9Ideal.Read.val_main_v4, Cert.Reference9Ideal.Read.val_main_v5, Cert.Reference9Ideal.Read.val_main_v6, Cert.Reference9Ideal.Read.val_main_v7, Cert.Reference9Ideal.Read.val_main_v8, Cert.Reference9Ideal.Read.val_main_v9, Cert.Reference9Ideal.Read.val_main_v10, Cert.Reference9Ideal.Read.val_main_v11, Cert.Reference9Ideal.Read.val_main_v12, Cert.Reference9Ideal.Read.val_main_v13, Cert.Reference9Ideal.Read.val_main_v14, Cert.Reference9Ideal.Read.val_main_v15, Cert.Reference9Ideal.Read.val_main_v16, Cert.Reference9Ideal.Read.val_main_v17, Cert.Reference9Ideal.Read.val_main_v18, Cert.Reference9Ideal.Read.val_main_v19, Cert.Reference9Ideal.Read.val_main_v20, Cert.Reference9Ideal.Read.val_main_v21, Cert.Reference9Ideal.Read.val_main_v22, Cert.Reference9Ideal.Read.val_main_v23, Cert.Reference9Ideal.Read.val_main_v24, Cert.Reference9Ideal.Read.val_main_v25, Cert.Reference9Ideal.Read.val_main_v26, Cert.Reference9Ideal.Read.val_main_cst, Cert.Reference9Ideal.Read.val_main_cst_0, Cert.Reference9Ideal.Read.val_main_cst_1, Cert.Reference9Ideal.Read.val_main_cst_2, Cert.Reference9Ideal.Read.val_main_cst_3, Cert.Reference9Ideal.Read.val_main_cst_4, Cert.Reference9Ideal.Read.val_main_cst_5, Cert.Reference9Ideal.Read.val_main_cst_6, Cert.Reference9Ideal.Read.val_main_cst_7]
  rw [pick' m c t y]

/-- The gradient, after the run, is the reference's. -/
theorem final5 (c : Dev nD) : (dats m 0 c).arrAt 5 (cfgs 0).N
    = Cert.Reference9Ideal.Read.val_main_v2 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point5 m c t y

/-- The update at one place of the block. -/
theorem point6 (c : Dev nD) (t : Fin cfg0.N) (y) : k0_pay1 (F := Ideal) (k0_pay8 (cfg0.grid.coords t) (iblk m c 1 t) (iblk m c 2 t) (iblk m c 3 t) (iblk m c 4 t)) (k0_pay9 (iblk m c 0 t)) (Scalar.ofBits .f32 0x3C23D70A#32) y
    = Cert.Reference9Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, k0_pay2, k0_pay3, k0_pay5, k0_pay6, k0_pay7, k0_pay8, k0_pay9, Cert.Reference9Ideal.Read.val_main_v3, Cert.Reference9Ideal.Read.val_main_v4, Cert.Reference9Ideal.Read.val_main_v5, Cert.Reference9Ideal.Read.val_main_v6, Cert.Reference9Ideal.Read.val_main_v7, Cert.Reference9Ideal.Read.val_main_v8, Cert.Reference9Ideal.Read.val_main_v9, Cert.Reference9Ideal.Read.val_main_v10, Cert.Reference9Ideal.Read.val_main_v11, Cert.Reference9Ideal.Read.val_main_v12, Cert.Reference9Ideal.Read.val_main_v13, Cert.Reference9Ideal.Read.val_main_v14, Cert.Reference9Ideal.Read.val_main_v15, Cert.Reference9Ideal.Read.val_main_v16, Cert.Reference9Ideal.Read.val_main_v17, Cert.Reference9Ideal.Read.val_main_v18, Cert.Reference9Ideal.Read.val_main_v19, Cert.Reference9Ideal.Read.val_main_v20, Cert.Reference9Ideal.Read.val_main_v21, Cert.Reference9Ideal.Read.val_main_v22, Cert.Reference9Ideal.Read.val_main_v23, Cert.Reference9Ideal.Read.val_main_v24, Cert.Reference9Ideal.Read.val_main_v25, Cert.Reference9Ideal.Read.val_main_v26, Cert.Reference9Ideal.Read.val_main_cst, Cert.Reference9Ideal.Read.val_main_cst_0, Cert.Reference9Ideal.Read.val_main_cst_1, Cert.Reference9Ideal.Read.val_main_cst_2, Cert.Reference9Ideal.Read.val_main_cst_3, Cert.Reference9Ideal.Read.val_main_cst_4, Cert.Reference9Ideal.Read.val_main_cst_5, Cert.Reference9Ideal.Read.val_main_cst_6, Cert.Reference9Ideal.Read.val_main_cst_7]
  rw [pick' m c t y]
  blk_point [iblk, entry0 m c, entry3 m c, entry4 m c, idx t]

/-- The update, after the run, is the reference's. -/
theorem final6 (c : Dev nD) : (dats m 0 c).arrAt 6 (cfgs 0).N
    = Cert.Reference9Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  exact point6 m c t y

/-- The first moment at one place of the block. -/
theorem point7 (c : Dev nD) (t : Fin cfg0.N) (y) : k0_pay2 (F := Ideal) (k0_pay6 (cfg0.grid.coords t) (iblk m c 1 t) (iblk m c 2 t) (iblk m c 3 t)) y
    = Cert.Reference9Ideal.Read.val_main_v7 (F := Ideal) (m ((c : Thread nD τ).loc main_arg1)) (m ((c : Thread nD τ).loc main_arg2)) (m ((c : Thread nD τ).loc main_arg3)) (((cfg0.win 7).blk t).view.emb y) := by
  pointwise [k0_pay1, k0_pay2, k0_pay3, k0_pay5, k0_pay6, k0_pay7, k0_pay8, k0_pay9, Cert.Reference9Ideal.Read.val_main_v3, Cert.Reference9Ideal.Read.val_main_v4, Cert.Reference9Ideal.Read.val_main_v5, Cert.Reference9Ideal.Read.val_main_v6, Cert.Reference9Ideal.Read.val_main_v7, Cert.Reference9Ideal.Read.val_main_v8, Cert.Reference9Ideal.Read.val_main_v9, Cert.Reference9Ideal.Read.val_main_v10, Cert.Reference9Ideal.Read.val_main_v11, Cert.Reference9Ideal.Read.val_main_v12, Cert.Reference9Ideal.Read.val_main_v13, Cert.Reference9Ideal.Read.val_main_v14, Cert.Reference9Ideal.Read.val_main_v15, Cert.Reference9Ideal.Read.val_main_v16, Cert.Reference9Ideal.Read.val_main_v17, Cert.Reference9Ideal.Read.val_main_v18, Cert.Reference9Ideal.Read.val_main_v19, Cert.Reference9Ideal.Read.val_main_v20, Cert.Reference9Ideal.Read.val_main_v21, Cert.Reference9Ideal.Read.val_main_v22, Cert.Reference9Ideal.Read.val_main_v23, Cert.Reference9Ideal.Read.val_main_v24, Cert.Reference9Ideal.Read.val_main_v25, Cert.Reference9Ideal.Read.val_main_v26, Cert.Reference9Ideal.Read.val_main_cst, Cert.Reference9Ideal.Read.val_main_cst_0, Cert.Reference9Ideal.Read.val_main_cst_1, Cert.Reference9Ideal.Read.val_main_cst_2, Cert.Reference9Ideal.Read.val_main_cst_3, Cert.Reference9Ideal.Read.val_main_cst_4, Cert.Reference9Ideal.Read.val_main_cst_5, Cert.Reference9Ideal.Read.val_main_cst_6, Cert.Reference9Ideal.Read.val_main_cst_7]
  rw [pick' m c t y]
  blk_point [iblk, entry0 m c, entry3 m c, entry4 m c, idx t]

/-- The first moment, after the run, is the reference's. -/
theorem final7 (c : Dev nD) : (dats m 0 c).arrAt 7 (cfgs 0).N
    = Cert.Reference9Ideal.Read.val_main_v7 (F := Ideal) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  exact point7 m c t y

/-- The second moment at one place of the block. -/
theorem point8 (c : Dev nD) (t : Fin cfg0.N) (y) : k0_pay3 (F := Ideal) (k0_pay7 (cfg0.grid.coords t) (iblk m c 1 t) (iblk m c 2 t) (iblk m c 4 t)) y
    = Cert.Reference9Ideal.Read.val_main_v13 (F := Ideal) (m ((c : Thread nD τ).loc main_arg1)) (m ((c : Thread nD τ).loc main_arg2)) (m ((c : Thread nD τ).loc main_arg4)) (((cfg0.win 8).blk t).view.emb y) := by
  pointwise [k0_pay1, k0_pay2, k0_pay3, k0_pay5, k0_pay6, k0_pay7, k0_pay8, k0_pay9, Cert.Reference9Ideal.Read.val_main_v3, Cert.Reference9Ideal.Read.val_main_v4, Cert.Reference9Ideal.Read.val_main_v5, Cert.Reference9Ideal.Read.val_main_v6, Cert.Reference9Ideal.Read.val_main_v7, Cert.Reference9Ideal.Read.val_main_v8, Cert.Reference9Ideal.Read.val_main_v9, Cert.Reference9Ideal.Read.val_main_v10, Cert.Reference9Ideal.Read.val_main_v11, Cert.Reference9Ideal.Read.val_main_v12, Cert.Reference9Ideal.Read.val_main_v13, Cert.Reference9Ideal.Read.val_main_v14, Cert.Reference9Ideal.Read.val_main_v15, Cert.Reference9Ideal.Read.val_main_v16, Cert.Reference9Ideal.Read.val_main_v17, Cert.Reference9Ideal.Read.val_main_v18, Cert.Reference9Ideal.Read.val_main_v19, Cert.Reference9Ideal.Read.val_main_v20, Cert.Reference9Ideal.Read.val_main_v21, Cert.Reference9Ideal.Read.val_main_v22, Cert.Reference9Ideal.Read.val_main_v23, Cert.Reference9Ideal.Read.val_main_v24, Cert.Reference9Ideal.Read.val_main_v25, Cert.Reference9Ideal.Read.val_main_v26, Cert.Reference9Ideal.Read.val_main_cst, Cert.Reference9Ideal.Read.val_main_cst_0, Cert.Reference9Ideal.Read.val_main_cst_1, Cert.Reference9Ideal.Read.val_main_cst_2, Cert.Reference9Ideal.Read.val_main_cst_3, Cert.Reference9Ideal.Read.val_main_cst_4, Cert.Reference9Ideal.Read.val_main_cst_5, Cert.Reference9Ideal.Read.val_main_cst_6, Cert.Reference9Ideal.Read.val_main_cst_7]
  rw [pick' m c t y]
  blk_point [iblk, entry0 m c, entry3 m c, entry4 m c, idx t]

/-- The second moment, after the run, is the reference's. -/
theorem final8 (c : Dev nD) : (dats m 0 c).arrAt 8 (cfgs 0).N
    = Cert.Reference9Ideal.Read.val_main_v13 (F := Ideal) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]
  frame_out
  exact point8 m c t y

end Cert.Kernel9Ideal.Adam

end
-- ==== Proof.Claims9.lean ====
/- The claims about the optimiser step of w_out. -/
module

public import proofs.«01_k».proof.Defs
public import proofs.«01_k».proof.Proof.Gen.Kernel9.Frame
public import proofs.«01_k».proof.Proof.Adam9
public import proofs.«01_k».proof.Proof.Gen.Reference9Ideal.Run
public import Idealize.ShloMosaic.Lib.Claim
public import Idealize.ShloMosaic.Lib.Quiescent

@[expose] public section

set_option maxRecDepth 16384

noncomputable section

namespace Cert.Proof9

open Idealize.ShloMosaic Idealize.ShloMosaic.TcCoe Idealize.SL.Sem

theorem frameK : Cert.quiescent_Kernel9 := fun m ρ _ => Cert.Kernel9.Gen.frame m ρ

theorem frameKI : Cert.quiescent_Kernel9Ideal := fun m ρ _ => Cert.Kernel9Ideal.Gen.frame m ρ

theorem frameR : Cert.quiescent_Reference9Ideal := fun m ρ _ =>
  (θ_run Cert.Reference9Ideal.defs _ _).mono (fun r h => ⟨fun c => (h c).2.2.2.2,
    sem_eq_zero_of_no_sems (by decide) r.2⟩) (Cert.Reference9Ideal.Value.run (F := Ideal) m ρ)

theorem val_g (m : (ℓ : Loc Cert.Kernel9Ideal.nD Cert.Kernel9Ideal.τ Cert.Kernel9Ideal.sig) → Buf (Elt Ideal) ℓ) (c : Dev Cert.Kernel9Ideal.nD)
    (x1 x2 : _) (h1 : x1 = (m ((c : Thread Cert.Kernel9Ideal.nD Cert.Kernel9Ideal.τ).loc Cert.Kernel9Ideal.main_arg1))) (h2 : x2 = (m ((c : Thread Cert.Kernel9Ideal.nD Cert.Kernel9Ideal.τ).loc Cert.Kernel9Ideal.main_arg2))) :
    Cert.Reference9Ideal.Read.val_main_v2 (F := Ideal) x1 x2 = (Cert.Kernel9Ideal.Gen.dats m 0 c).arrAt 5 (Cert.Kernel9Ideal.cfgs 0).N := by
  subst h1 h2
  exact (Cert.Kernel9Ideal.Adam.final5 m c).symm

theorem val_delta (m : (ℓ : Loc Cert.Kernel9Ideal.nD Cert.Kernel9Ideal.τ Cert.Kernel9Ideal.sig) → Buf (Elt Ideal) ℓ) (c : Dev Cert.Kernel9Ideal.nD)
    (x0 x1 x2 x3 x4 : _) (h0 : x0 = (m ((c : Thread Cert.Kernel9Ideal.nD Cert.Kernel9Ideal.τ).loc Cert.Kernel9Ideal.main_arg0))) (h1 : x1 = (m ((c : Thread Cert.Kernel9Ideal.nD Cert.Kernel9Ideal.τ).loc Cert.Kernel9Ideal.main_arg1))) (h2 : x2 = (m ((c : Thread Cert.Kernel9Ideal.nD Cert.Kernel9Ideal.τ).loc Cert.Kernel9Ideal.main_arg2))) (h3 : x3 = (m ((c : Thread Cert.Kernel9Ideal.nD Cert.Kernel9Ideal.τ).loc Cert.Kernel9Ideal.main_arg3))) (h4 : x4 = (m ((c : Thread Cert.Kernel9Ideal.nD Cert.Kernel9Ideal.τ).loc Cert.Kernel9Ideal.main_arg4))) :
    Cert.Reference9Ideal.Read.val_main_v26 (F := Ideal) x0 x1 x2 x3 x4 = (Cert.Kernel9Ideal.Gen.dats m 0 c).arrAt 6 (Cert.Kernel9Ideal.cfgs 0).N := by
  subst h0 h1 h2 h3 h4
  exact (Cert.Kernel9Ideal.Adam.final6 m c).symm

theorem val_m (m : (ℓ : Loc Cert.Kernel9Ideal.nD Cert.Kernel9Ideal.τ Cert.Kernel9Ideal.sig) → Buf (Elt Ideal) ℓ) (c : Dev Cert.Kernel9Ideal.nD)
    (x1 x2 x3 : _) (h1 : x1 = (m ((c : Thread Cert.Kernel9Ideal.nD Cert.Kernel9Ideal.τ).loc Cert.Kernel9Ideal.main_arg1))) (h2 : x2 = (m ((c : Thread Cert.Kernel9Ideal.nD Cert.Kernel9Ideal.τ).loc Cert.Kernel9Ideal.main_arg2))) (h3 : x3 = (m ((c : Thread Cert.Kernel9Ideal.nD Cert.Kernel9Ideal.τ).loc Cert.Kernel9Ideal.main_arg3))) :
    Cert.Reference9Ideal.Read.val_main_v7 (F := Ideal) x1 x2 x3 = (Cert.Kernel9Ideal.Gen.dats m 0 c).arrAt 7 (Cert.Kernel9Ideal.cfgs 0).N := by
  subst h1 h2 h3
  exact (Cert.Kernel9Ideal.Adam.final7 m c).symm

theorem val_v (m : (ℓ : Loc Cert.Kernel9Ideal.nD Cert.Kernel9Ideal.τ Cert.Kernel9Ideal.sig) → Buf (Elt Ideal) ℓ) (c : Dev Cert.Kernel9Ideal.nD)
    (x1 x2 x4 : _) (h1 : x1 = (m ((c : Thread Cert.Kernel9Ideal.nD Cert.Kernel9Ideal.τ).loc Cert.Kernel9Ideal.main_arg1))) (h2 : x2 = (m ((c : Thread Cert.Kernel9Ideal.nD Cert.Kernel9Ideal.τ).loc Cert.Kernel9Ideal.main_arg2))) (h4 : x4 = (m ((c : Thread Cert.Kernel9Ideal.nD Cert.Kernel9Ideal.τ).loc Cert.Kernel9Ideal.main_arg4))) :
    Cert.Reference9Ideal.Read.val_main_v13 (F := Ideal) x1 x2 x4 = (Cert.Kernel9Ideal.Gen.dats m 0 c).arrAt 8 (Cert.Kernel9Ideal.cfgs 0).N := by
  subst h1 h2 h4
  exact (Cert.Kernel9Ideal.Adam.final8 m c).symm

theorem algebraic : Cert.algebraic_Kernel9Ideal_Reference9Ideal := by
  intro m g m' g' _ h
  refine ⟨fun c => ((Cert.Kernel9Ideal.Gen.dats m 0 c).arrAt 5 (Cert.Kernel9Ideal.cfgs 0).N), fun c => ((Cert.Kernel9Ideal.Gen.dats m 0 c).arrAt 6 (Cert.Kernel9Ideal.cfgs 0).N), fun c => ((Cert.Kernel9Ideal.Gen.dats m 0 c).arrAt 7 (Cert.Kernel9Ideal.cfgs 0).N), fun c => ((Cert.Kernel9Ideal.Gen.dats m 0 c).arrAt 8 (Cert.Kernel9Ideal.cfgs 0).N), ?_, ?_⟩
  · refine (θ_run Cert.Kernel9Ideal.defs _ _).mono (fun r h => fun c => ?_) (θ_run_and (Cert.Kernel9Ideal.Gen.run_main m g) (Cert.Kernel9Ideal.Gen.unchanged m g))
    exact ⟨(h.1 c).1 5, (h.1 c).1 6, (h.1 c).1 7, (h.1 c).1 8, h.2 c⟩
  · refine (θ_run Cert.Reference9Ideal.defs _ _).mono (fun r k => fun c => ?_) (Cert.Reference9Ideal.Value.run (F := Ideal) m' g')
    refine ⟨(k c).1.trans ?_, (k c).2.1.trans ?_, (k c).2.2.1.trans ?_, (k c).2.2.2.1.trans ?_, (k c).2.2.2.2⟩
    · exact (Cert.Reference9Ideal.Read.val_main_v2_eq _ _).trans (val_g m c _ _ (h c).2.1 (h c).2.2.1)
    · exact (Cert.Reference9Ideal.Read.val_main_v26_eq _ _ _ _ _).trans (val_delta m c _ _ _ _ _ (h c).1 (h c).2.1 (h c).2.2.1 (h c).2.2.2.1 (h c).2.2.2.2)
    · exact (Cert.Reference9Ideal.Read.val_main_v7_eq _ _ _).trans (val_m m c _ _ _ (h c).2.1 (h c).2.2.1 (h c).2.2.2.1)
    · exact (Cert.Reference9Ideal.Read.val_main_v13_eq _ _ _).trans (val_v m c _ _ _ (h c).2.1 (h c).2.2.1 (h c).2.2.2.2)

end Cert.Proof9

end
-- ==== Proof.Adam10.lean ====
/- The optimiser step of one large weight, both layers in one call (program 10): each result is the reference's. -/
module

public import proofs.«01_k».proof.Proof.Gen.Kernel10Ideal.Frame
public import proofs.«01_k».proof.Proof.Gen.Reference10Ideal.Read
public import Idealize.ShloMosaic.Lib.Pipeline.ValueKit
public import Idealize.ShloMosaic.Lib.Claim

@[expose] public section

set_option maxRecDepth 16384

noncomputable section

namespace Cert.Kernel10Ideal.Adam

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

/-- The block of the stacked arrays at a grid point: the layer, and the rows within it. -/
theorem idx : ∀ t : Fin cfg0.N, win0_0.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] :=
  (by decide +kernel : ∀ t : Fin grid0.N, _)

/-- Which layer a grid point belongs to: its gradient is at its own block of rows, and the layer's test says so. -/
theorem layer : ∀ t : Fin cfg0.N,
    (t.val / 4 = 0 ∧ win0_1.index t = ![t.val % 4, 0] ∧ Scalar.cmpi .eq (BitVec.ofNat 32 (cfg0.grid.coords t 0).val) 0#32 = 1#1)
    ∨ (t.val / 4 = 1 ∧ win0_2.index t = ![t.val % 4, 0] ∧ Scalar.cmpi .eq (BitVec.ofNat 32 (cfg0.grid.coords t 0).val) 0#32 = 0#1) :=
  (by decide +kernel : ∀ t : Fin grid0.N, _)

theorem entry0 (c : Dev nD) : V m c main_arg0 = m ((c : Thread nD τ).loc main_arg0) := rfl

theorem entry1 (c : Dev nD) : V m c main_arg1 = m ((c : Thread nD τ).loc main_arg1) := rfl

theorem entry2 (c : Dev nD) : V m c main_arg2 = m ((c : Thread nD τ).loc main_arg2) := rfl

theorem entry3 (c : Dev nD) : V m c main_arg3 = m ((c : Thread nD τ).loc main_arg3) := rfl

theorem entry4 (c : Dev nD) : V m c main_arg4 = m ((c : Thread nD τ).loc main_arg4) := rfl

/-- The gradient that the body picks at a grid point is the stacked gradient's, at the place of the block. -/
theorem pick (c : Dev nD) (t : Fin cfg0.N) (y : S1x256x1024.Idx) (j : S2x1024x1024.Idx)
    (h0 : (j 0).val = t.val / 4) (h1 : (j 1).val = t.val % 4 * 256 + (y 1).val) (h2 : (j 2).val = (y 2).val) :
    k0_pay4 (F := Ideal) (cfg0.grid.coords t) (iblk m c 1 t) (iblk m c 2 t) (ix2 (y 1) (y 2))
      = Cert.Reference10Ideal.Read.val_main_v2 (F := Ideal) (m ((c : Thread nD τ).loc main_arg1)) (m ((c : Thread nD τ).loc main_arg2)) j := by
  rcases layer t with ⟨hl, hi, hs⟩ | ⟨hl, hi, hs⟩
  · unfold k0_pay4
    simp only [hs]
    pointwise [Cert.Reference10Ideal.Read.val_main_v2, Cert.Reference10Ideal.Read.val_main_v0, Cert.Reference10Ideal.Read.val_main_v1]
    blk_point [iblk, entry1 m c, hi]
    all_goals (exfalso; omega)
  · unfold k0_pay4
    simp only [hs]
    pointwise [Cert.Reference10Ideal.Read.val_main_v2, Cert.Reference10Ideal.Read.val_main_v0, Cert.Reference10Ideal.Read.val_main_v1]
    blk_point [iblk, entry2 m c, hi]
    all_goals (exfalso; omega)

/-- The gradient picked, at the place that an output's block has. -/
theorem pick' (c : Dev nD) (t : Fin cfg0.N) (y : S1x256x1024.Idx) :
    k0_pay4 (F := Ideal) (cfg0.grid.coords t) (iblk m c 1 t) (iblk m c 2 t) (ix2 (y 1) (y 2))
      = Cert.Reference10Ideal.Read.val_main_v2 (F := Ideal) (m ((c : Thread nD τ).loc main_arg1)) (m ((c : Thread nD τ).loc main_arg2)) (((cfg0.win 5).blk t).view.emb y) := by
  have hb := (y 0).isLt
  refine pick m c t y _ ?_ ?_ ?_
  · blk_simp [idx t] <;> omega
  · blk_simp [idx t] <;> omega
  · blk_simp [idx t] <;> omega

/-- The gradient at one place of the block. -/
theorem point5 (c : Dev nD) (t : Fin cfg0.N) (y) : k0_pay5 (F := Ideal) (cfg0.grid.coords t) (iblk m c 1 t) (iblk m c 2 t) y
    = Cert.Reference10Ideal.Read.val_main_v2 (F := Ideal) (m ((c : Thread nD τ).loc main_arg1)) (m ((c : Thread nD τ).loc main_arg2)) (((cfg0.win 5).blk t).view.emb y) := by
  pointwise [k0_pay1, k0_pay2, k0_pay3, k0_pay5, k0_pay6, k0_pay7, k0_pay8, k0_pay9, Cert.Reference10Ideal.Read.val_main_v3, Cert.Reference10Ideal.Read.val_main_v4, Cert.Reference10Ideal.Read.val_main_v5, Cert.Reference10Ideal.Read.val_main_v6, Cert.Reference10Ideal.Read.val_main_v7, Cert.Reference10Ideal.Read.val_main_v8, Cert.Reference10Ideal.Read.val_main_v9, Cert.Reference10Ideal.Read.val_main_v10, Cert.Reference10Ideal.Read.val_main_v11, Cert.Reference10Ideal.Read.val_main_v12, Cert.Reference10Ideal.Read.val_main_v13, Cert.Reference10Ideal.Read.val_main_v14, Cert.Reference10Ideal.Read.val_main_v15, Cert.Reference10Ideal.Read.val_main_v16, Cert.Reference10Ideal.Read.val_main_v17, Cert.Reference10Ideal.Read.val_main_v18, Cert.Reference10Ideal.Read.val_main_v19, Cert.Reference10Ideal.Read.val_main_v20, Cert.Reference10Ideal.Read.val_main_v21, Cert.Reference10Ideal.Read.val_main_v22, Cert.Reference10Ideal.Read.val_main_v23, Cert.Reference10Ideal.Read.val_main_v24, Cert.Reference10Ideal.Read.val_main_v25, Cert.Reference10Ideal.Read.val_main_v26, Cert.Reference10Ideal.Read.val_main_cst, Cert.Reference10Ideal.Read.val_main_cst_0, Cert.Reference10Ideal.Read.val_main_cst_1, Cert.Reference10Ideal.Read.val_main_cst_2, Cert.Reference10Ideal.Read.val_main_cst_3, Cert.Reference10Ideal.Read.val_main_cst_4, Cert.Reference10Ideal.Read.val_main_cst_5, Cert.Reference10Ideal.Read.val_main_cst_6, Cert.Reference10Ideal.Read.val_main_cst_7]
  rw [pick' m c t y]

/-- The gradient, after the run, is the reference's. -/
theorem final5 (c : Dev nD) : (dats m 0 c).arrAt 5 (cfgs 0).N
    = Cert.Reference10Ideal.Read.val_main_v2 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point5 m c t y

/-- The update at one place of the block. -/
theorem point6 (c : Dev nD) (t : Fin cfg0.N) (y) : k0_pay1 (F := Ideal) (k0_pay8 (cfg0.grid.coords t) (iblk m c 1 t) (iblk m c 2 t) (iblk m c 3 t) (iblk m c 4 t)) (k0_pay9 (iblk m c 0 t)) (Scalar.ofBits .f32 0x3C23D70A#32) y
    = Cert.Reference10Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, k0_pay2, k0_pay3, k0_pay5, k0_pay6, k0_pay7, k0_pay8, k0_pay9, Cert.Reference10Ideal.Read.val_main_v3, Cert.Reference10Ideal.Read.val_main_v4, Cert.Reference10Ideal.Read.val_main_v5, Cert.Reference10Ideal.Read.val_main_v6, Cert.Reference10Ideal.Read.val_main_v7, Cert.Reference10Ideal.Read.val_main_v8, Cert.Reference10Ideal.Read.val_main_v9, Cert.Reference10Ideal.Read.val_main_v10, Cert.Reference10Ideal.Read.val_main_v11, Cert.Reference10Ideal.Read.val_main_v12, Cert.Reference10Ideal.Read.val_main_v13, Cert.Reference10Ideal.Read.val_main_v14, Cert.Reference10Ideal.Read.val_main_v15, Cert.Reference10Ideal.Read.val_main_v16, Cert.Reference10Ideal.Read.val_main_v17, Cert.Reference10Ideal.Read.val_main_v18, Cert.Reference10Ideal.Read.val_main_v19, Cert.Reference10Ideal.Read.val_main_v20, Cert.Reference10Ideal.Read.val_main_v21, Cert.Reference10Ideal.Read.val_main_v22, Cert.Reference10Ideal.Read.val_main_v23, Cert.Reference10Ideal.Read.val_main_v24, Cert.Reference10Ideal.Read.val_main_v25, Cert.Reference10Ideal.Read.val_main_v26, Cert.Reference10Ideal.Read.val_main_cst, Cert.Reference10Ideal.Read.val_main_cst_0, Cert.Reference10Ideal.Read.val_main_cst_1, Cert.Reference10Ideal.Read.val_main_cst_2, Cert.Reference10Ideal.Read.val_main_cst_3, Cert.Reference10Ideal.Read.val_main_cst_4, Cert.Reference10Ideal.Read.val_main_cst_5, Cert.Reference10Ideal.Read.val_main_cst_6, Cert.Reference10Ideal.Read.val_main_cst_7]
  rw [pick' m c t y]
  blk_point [iblk, entry0 m c, entry3 m c, entry4 m c, idx t]

/-- The update, after the run, is the reference's. -/
theorem final6 (c : Dev nD) : (dats m 0 c).arrAt 6 (cfgs 0).N
    = Cert.Reference10Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  exact point6 m c t y

/-- The first moment at one place of the block. -/
theorem point7 (c : Dev nD) (t : Fin cfg0.N) (y) : k0_pay2 (F := Ideal) (k0_pay6 (cfg0.grid.coords t) (iblk m c 1 t) (iblk m c 2 t) (iblk m c 3 t)) y
    = Cert.Reference10Ideal.Read.val_main_v7 (F := Ideal) (m ((c : Thread nD τ).loc main_arg1)) (m ((c : Thread nD τ).loc main_arg2)) (m ((c : Thread nD τ).loc main_arg3)) (((cfg0.win 7).blk t).view.emb y) := by
  pointwise [k0_pay1, k0_pay2, k0_pay3, k0_pay5, k0_pay6, k0_pay7, k0_pay8, k0_pay9, Cert.Reference10Ideal.Read.val_main_v3, Cert.Reference10Ideal.Read.val_main_v4, Cert.Reference10Ideal.Read.val_main_v5, Cert.Reference10Ideal.Read.val_main_v6, Cert.Reference10Ideal.Read.val_main_v7, Cert.Reference10Ideal.Read.val_main_v8, Cert.Reference10Ideal.Read.val_main_v9, Cert.Reference10Ideal.Read.val_main_v10, Cert.Reference10Ideal.Read.val_main_v11, Cert.Reference10Ideal.Read.val_main_v12, Cert.Reference10Ideal.Read.val_main_v13, Cert.Reference10Ideal.Read.val_main_v14, Cert.Reference10Ideal.Read.val_main_v15, Cert.Reference10Ideal.Read.val_main_v16, Cert.Reference10Ideal.Read.val_main_v17, Cert.Reference10Ideal.Read.val_main_v18, Cert.Reference10Ideal.Read.val_main_v19, Cert.Reference10Ideal.Read.val_main_v20, Cert.Reference10Ideal.Read.val_main_v21, Cert.Reference10Ideal.Read.val_main_v22, Cert.Reference10Ideal.Read.val_main_v23, Cert.Reference10Ideal.Read.val_main_v24, Cert.Reference10Ideal.Read.val_main_v25, Cert.Reference10Ideal.Read.val_main_v26, Cert.Reference10Ideal.Read.val_main_cst, Cert.Reference10Ideal.Read.val_main_cst_0, Cert.Reference10Ideal.Read.val_main_cst_1, Cert.Reference10Ideal.Read.val_main_cst_2, Cert.Reference10Ideal.Read.val_main_cst_3, Cert.Reference10Ideal.Read.val_main_cst_4, Cert.Reference10Ideal.Read.val_main_cst_5, Cert.Reference10Ideal.Read.val_main_cst_6, Cert.Reference10Ideal.Read.val_main_cst_7]
  rw [pick' m c t y]
  blk_point [iblk, entry0 m c, entry3 m c, entry4 m c, idx t]

/-- The first moment, after the run, is the reference's. -/
theorem final7 (c : Dev nD) : (dats m 0 c).arrAt 7 (cfgs 0).N
    = Cert.Reference10Ideal.Read.val_main_v7 (F := Ideal) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  exact point7 m c t y

/-- The second moment at one place of the block. -/
theorem point8 (c : Dev nD) (t : Fin cfg0.N) (y) : k0_pay3 (F := Ideal) (k0_pay7 (cfg0.grid.coords t) (iblk m c 1 t) (iblk m c 2 t) (iblk m c 4 t)) y
    = Cert.Reference10Ideal.Read.val_main_v13 (F := Ideal) (m ((c : Thread nD τ).loc main_arg1)) (m ((c : Thread nD τ).loc main_arg2)) (m ((c : Thread nD τ).loc main_arg4)) (((cfg0.win 8).blk t).view.emb y) := by
  pointwise [k0_pay1, k0_pay2, k0_pay3, k0_pay5, k0_pay6, k0_pay7, k0_pay8, k0_pay9, Cert.Reference10Ideal.Read.val_main_v3, Cert.Reference10Ideal.Read.val_main_v4, Cert.Reference10Ideal.Read.val_main_v5, Cert.Reference10Ideal.Read.val_main_v6, Cert.Reference10Ideal.Read.val_main_v7, Cert.Reference10Ideal.Read.val_main_v8, Cert.Reference10Ideal.Read.val_main_v9, Cert.Reference10Ideal.Read.val_main_v10, Cert.Reference10Ideal.Read.val_main_v11, Cert.Reference10Ideal.Read.val_main_v12, Cert.Reference10Ideal.Read.val_main_v13, Cert.Reference10Ideal.Read.val_main_v14, Cert.Reference10Ideal.Read.val_main_v15, Cert.Reference10Ideal.Read.val_main_v16, Cert.Reference10Ideal.Read.val_main_v17, Cert.Reference10Ideal.Read.val_main_v18, Cert.Reference10Ideal.Read.val_main_v19, Cert.Reference10Ideal.Read.val_main_v20, Cert.Reference10Ideal.Read.val_main_v21, Cert.Reference10Ideal.Read.val_main_v22, Cert.Reference10Ideal.Read.val_main_v23, Cert.Reference10Ideal.Read.val_main_v24, Cert.Reference10Ideal.Read.val_main_v25, Cert.Reference10Ideal.Read.val_main_v26, Cert.Reference10Ideal.Read.val_main_cst, Cert.Reference10Ideal.Read.val_main_cst_0, Cert.Reference10Ideal.Read.val_main_cst_1, Cert.Reference10Ideal.Read.val_main_cst_2, Cert.Reference10Ideal.Read.val_main_cst_3, Cert.Reference10Ideal.Read.val_main_cst_4, Cert.Reference10Ideal.Read.val_main_cst_5, Cert.Reference10Ideal.Read.val_main_cst_6, Cert.Reference10Ideal.Read.val_main_cst_7]
  rw [pick' m c t y]
  blk_point [iblk, entry0 m c, entry3 m c, entry4 m c, idx t]

/-- The second moment, after the run, is the reference's. -/
theorem final8 (c : Dev nD) : (dats m 0 c).arrAt 8 (cfgs 0).N
    = Cert.Reference10Ideal.Read.val_main_v13 (F := Ideal) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]
  frame_out
  exact point8 m c t y

end Cert.Kernel10Ideal.Adam

end
-- ==== Proof.Claims10.lean ====
/- The claims about the optimiser step of w_ff1. -/
module

public import proofs.«01_k».proof.Defs
public import proofs.«01_k».proof.Proof.Gen.Kernel10.Frame
public import proofs.«01_k».proof.Proof.Adam10
public import proofs.«01_k».proof.Proof.Gen.Reference10Ideal.Run
public import Idealize.ShloMosaic.Lib.Claim
public import Idealize.ShloMosaic.Lib.Quiescent

@[expose] public section

set_option maxRecDepth 16384

noncomputable section

namespace Cert.Proof10

open Idealize.ShloMosaic Idealize.ShloMosaic.TcCoe Idealize.SL.Sem

theorem frameK : Cert.quiescent_Kernel10 := fun m ρ _ => Cert.Kernel10.Gen.frame m ρ

theorem frameKI : Cert.quiescent_Kernel10Ideal := fun m ρ _ => Cert.Kernel10Ideal.Gen.frame m ρ

theorem frameR : Cert.quiescent_Reference10Ideal := fun m ρ _ =>
  (θ_run Cert.Reference10Ideal.defs _ _).mono (fun r h => ⟨fun c => (h c).2.2.2.2,
    sem_eq_zero_of_no_sems (by decide) r.2⟩) (Cert.Reference10Ideal.Value.run (F := Ideal) m ρ)

theorem val_g (m : (ℓ : Loc Cert.Kernel10Ideal.nD Cert.Kernel10Ideal.τ Cert.Kernel10Ideal.sig) → Buf (Elt Ideal) ℓ) (c : Dev Cert.Kernel10Ideal.nD)
    (x1 x2 : _) (h1 : x1 = (m ((c : Thread Cert.Kernel10Ideal.nD Cert.Kernel10Ideal.τ).loc Cert.Kernel10Ideal.main_arg1))) (h2 : x2 = (m ((c : Thread Cert.Kernel10Ideal.nD Cert.Kernel10Ideal.τ).loc Cert.Kernel10Ideal.main_arg2))) :
    Cert.Reference10Ideal.Read.val_main_v2 (F := Ideal) x1 x2 = (Cert.Kernel10Ideal.Gen.dats m 0 c).arrAt 5 (Cert.Kernel10Ideal.cfgs 0).N := by
  subst h1 h2
  exact (Cert.Kernel10Ideal.Adam.final5 m c).symm

theorem val_delta (m : (ℓ : Loc Cert.Kernel10Ideal.nD Cert.Kernel10Ideal.τ Cert.Kernel10Ideal.sig) → Buf (Elt Ideal) ℓ) (c : Dev Cert.Kernel10Ideal.nD)
    (x0 x1 x2 x3 x4 : _) (h0 : x0 = (m ((c : Thread Cert.Kernel10Ideal.nD Cert.Kernel10Ideal.τ).loc Cert.Kernel10Ideal.main_arg0))) (h1 : x1 = (m ((c : Thread Cert.Kernel10Ideal.nD Cert.Kernel10Ideal.τ).loc Cert.Kernel10Ideal.main_arg1))) (h2 : x2 = (m ((c : Thread Cert.Kernel10Ideal.nD Cert.Kernel10Ideal.τ).loc Cert.Kernel10Ideal.main_arg2))) (h3 : x3 = (m ((c : Thread Cert.Kernel10Ideal.nD Cert.Kernel10Ideal.τ).loc Cert.Kernel10Ideal.main_arg3))) (h4 : x4 = (m ((c : Thread Cert.Kernel10Ideal.nD Cert.Kernel10Ideal.τ).loc Cert.Kernel10Ideal.main_arg4))) :
    Cert.Reference10Ideal.Read.val_main_v26 (F := Ideal) x0 x1 x2 x3 x4 = (Cert.Kernel10Ideal.Gen.dats m 0 c).arrAt 6 (Cert.Kernel10Ideal.cfgs 0).N := by
  subst h0 h1 h2 h3 h4
  exact (Cert.Kernel10Ideal.Adam.final6 m c).symm

theorem val_m (m : (ℓ : Loc Cert.Kernel10Ideal.nD Cert.Kernel10Ideal.τ Cert.Kernel10Ideal.sig) → Buf (Elt Ideal) ℓ) (c : Dev Cert.Kernel10Ideal.nD)
    (x1 x2 x3 : _) (h1 : x1 = (m ((c : Thread Cert.Kernel10Ideal.nD Cert.Kernel10Ideal.τ).loc Cert.Kernel10Ideal.main_arg1))) (h2 : x2 = (m ((c : Thread Cert.Kernel10Ideal.nD Cert.Kernel10Ideal.τ).loc Cert.Kernel10Ideal.main_arg2))) (h3 : x3 = (m ((c : Thread Cert.Kernel10Ideal.nD Cert.Kernel10Ideal.τ).loc Cert.Kernel10Ideal.main_arg3))) :
    Cert.Reference10Ideal.Read.val_main_v7 (F := Ideal) x1 x2 x3 = (Cert.Kernel10Ideal.Gen.dats m 0 c).arrAt 7 (Cert.Kernel10Ideal.cfgs 0).N := by
  subst h1 h2 h3
  exact (Cert.Kernel10Ideal.Adam.final7 m c).symm

theorem val_v (m : (ℓ : Loc Cert.Kernel10Ideal.nD Cert.Kernel10Ideal.τ Cert.Kernel10Ideal.sig) → Buf (Elt Ideal) ℓ) (c : Dev Cert.Kernel10Ideal.nD)
    (x1 x2 x4 : _) (h1 : x1 = (m ((c : Thread Cert.Kernel10Ideal.nD Cert.Kernel10Ideal.τ).loc Cert.Kernel10Ideal.main_arg1))) (h2 : x2 = (m ((c : Thread Cert.Kernel10Ideal.nD Cert.Kernel10Ideal.τ).loc Cert.Kernel10Ideal.main_arg2))) (h4 : x4 = (m ((c : Thread Cert.Kernel10Ideal.nD Cert.Kernel10Ideal.τ).loc Cert.Kernel10Ideal.main_arg4))) :
    Cert.Reference10Ideal.Read.val_main_v13 (F := Ideal) x1 x2 x4 = (Cert.Kernel10Ideal.Gen.dats m 0 c).arrAt 8 (Cert.Kernel10Ideal.cfgs 0).N := by
  subst h1 h2 h4
  exact (Cert.Kernel10Ideal.Adam.final8 m c).symm

theorem algebraic : Cert.algebraic_Kernel10Ideal_Reference10Ideal := by
  intro m g m' g' _ h
  refine ⟨fun c => ((Cert.Kernel10Ideal.Gen.dats m 0 c).arrAt 5 (Cert.Kernel10Ideal.cfgs 0).N), fun c => ((Cert.Kernel10Ideal.Gen.dats m 0 c).arrAt 6 (Cert.Kernel10Ideal.cfgs 0).N), fun c => ((Cert.Kernel10Ideal.Gen.dats m 0 c).arrAt 7 (Cert.Kernel10Ideal.cfgs 0).N), fun c => ((Cert.Kernel10Ideal.Gen.dats m 0 c).arrAt 8 (Cert.Kernel10Ideal.cfgs 0).N), ?_, ?_⟩
  · refine (θ_run Cert.Kernel10Ideal.defs _ _).mono (fun r h => fun c => ?_) (θ_run_and (Cert.Kernel10Ideal.Gen.run_main m g) (Cert.Kernel10Ideal.Gen.unchanged m g))
    exact ⟨(h.1 c).1 5, (h.1 c).1 6, (h.1 c).1 7, (h.1 c).1 8, h.2 c⟩
  · refine (θ_run Cert.Reference10Ideal.defs _ _).mono (fun r k => fun c => ?_) (Cert.Reference10Ideal.Value.run (F := Ideal) m' g')
    refine ⟨(k c).1.trans ?_, (k c).2.1.trans ?_, (k c).2.2.1.trans ?_, (k c).2.2.2.1.trans ?_, (k c).2.2.2.2⟩
    · exact (Cert.Reference10Ideal.Read.val_main_v2_eq _ _).trans (val_g m c _ _ (h c).2.1 (h c).2.2.1)
    · exact (Cert.Reference10Ideal.Read.val_main_v26_eq _ _ _ _ _).trans (val_delta m c _ _ _ _ _ (h c).1 (h c).2.1 (h c).2.2.1 (h c).2.2.2.1 (h c).2.2.2.2)
    · exact (Cert.Reference10Ideal.Read.val_main_v7_eq _ _ _).trans (val_m m c _ _ _ (h c).2.1 (h c).2.2.1 (h c).2.2.2.1)
    · exact (Cert.Reference10Ideal.Read.val_main_v13_eq _ _ _).trans (val_v m c _ _ _ (h c).2.1 (h c).2.2.1 (h c).2.2.2.2)

end Cert.Proof10

end
-- ==== Proof.Adam11.lean ====
/- The optimiser step of one large weight, both layers in one call (program 11): each result is the reference's. -/
module

public import proofs.«01_k».proof.Proof.Gen.Kernel11Ideal.Frame
public import proofs.«01_k».proof.Proof.Gen.Reference11Ideal.Read
public import Idealize.ShloMosaic.Lib.Pipeline.ValueKit
public import Idealize.ShloMosaic.Lib.Claim

@[expose] public section

set_option maxRecDepth 16384

noncomputable section

namespace Cert.Kernel11Ideal.Adam

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

/-- The block of the stacked arrays at a grid point: the layer, and the rows within it. -/
theorem idx : ∀ t : Fin cfg0.N, win0_0.index t = ![t.val / 4, t.val % 4, 0] ∧ win0_3.index t = ![t.val / 4, t.val % 4, 0] ∧ win0_4.index t = ![t.val / 4, t.val % 4, 0] ∧ win0_5.index t = ![t.val / 4, t.val % 4, 0] ∧ win0_6.index t = ![t.val / 4, t.val % 4, 0] ∧ win0_7.index t = ![t.val / 4, t.val % 4, 0] ∧ win0_8.index t = ![t.val / 4, t.val % 4, 0] :=
  (by decide +kernel : ∀ t : Fin grid0.N, _)

/-- Which layer a grid point belongs to: its gradient is at its own block of rows, and the layer's test says so. -/
theorem layer : ∀ t : Fin cfg0.N,
    (t.val / 4 = 0 ∧ win0_1.index t = ![t.val % 4, 0] ∧ Scalar.cmpi .eq (BitVec.ofNat 32 (cfg0.grid.coords t 0).val) 0#32 = 1#1)
    ∨ (t.val / 4 = 1 ∧ win0_2.index t = ![t.val % 4, 0] ∧ Scalar.cmpi .eq (BitVec.ofNat 32 (cfg0.grid.coords t 0).val) 0#32 = 0#1) :=
  (by decide +kernel : ∀ t : Fin grid0.N, _)

theorem entry0 (c : Dev nD) : V m c main_arg0 = m ((c : Thread nD τ).loc main_arg0) := rfl

theorem entry1 (c : Dev nD) : V m c main_arg1 = m ((c : Thread nD τ).loc main_arg1) := rfl

theorem entry2 (c : Dev nD) : V m c main_arg2 = m ((c : Thread nD τ).loc main_arg2) := rfl

theorem entry3 (c : Dev nD) : V m c main_arg3 = m ((c : Thread nD τ).loc main_arg3) := rfl

theorem entry4 (c : Dev nD) : V m c main_arg4 = m ((c : Thread nD τ).loc main_arg4) := rfl

/-- The gradient that the body picks at a grid point is the stacked gradient's, at the place of the block. -/
theorem pick (c : Dev nD) (t : Fin cfg0.N) (y : S1x256x1024.Idx) (j : S2x1024x1024.Idx)
    (h0 : (j 0).val = t.val / 4) (h1 : (j 1).val = t.val % 4 * 256 + (y 1).val) (h2 : (j 2).val = (y 2).val) :
    k0_pay4 (F := Ideal) (cfg0.grid.coords t) (iblk m c 1 t) (iblk m c 2 t) (ix2 (y 1) (y 2))
      = Cert.Reference11Ideal.Read.val_main_v2 (F := Ideal) (m ((c : Thread nD τ).loc main_arg1)) (m ((c : Thread nD τ).loc main_arg2)) j := by
  rcases layer t with ⟨hl, hi, hs⟩ | ⟨hl, hi, hs⟩
  · unfold k0_pay4
    simp only [hs]
    pointwise [Cert.Reference11Ideal.Read.val_main_v2, Cert.Reference11Ideal.Read.val_main_v0, Cert.Reference11Ideal.Read.val_main_v1]
    blk_point [iblk, entry1 m c, hi]
    all_goals (exfalso; omega)
  · unfold k0_pay4
    simp only [hs]
    pointwise [Cert.Reference11Ideal.Read.val_main_v2, Cert.Reference11Ideal.Read.val_main_v0, Cert.Reference11Ideal.Read.val_main_v1]
    blk_point [iblk, entry2 m c, hi]
    all_goals (exfalso; omega)

/-- The gradient picked, at the place that an output's block has. -/
theorem pick' (c : Dev nD) (t : Fin cfg0.N) (y : S1x256x1024.Idx) :
    k0_pay4 (F := Ideal) (cfg0.grid.coords t) (iblk m c 1 t) (iblk m c 2 t) (ix2 (y 1) (y 2))
      = Cert.Reference11Ideal.Read.val_main_v2 (F := Ideal) (m ((c : Thread nD τ).loc main_arg1)) (m ((c : Thread nD τ).loc main_arg2)) (((cfg0.win 5).blk t).view.emb y) := by
  have hb := (y 0).isLt
  refine pick m c t y _ ?_ ?_ ?_
  · blk_simp [idx t] <;> omega
  · blk_simp [idx t] <;> omega
  · blk_simp [idx t] <;> omega

/-- The gradient at one place of the block. -/
theorem point5 (c : Dev nD) (t : Fin cfg0.N) (y) : k0_pay5 (F := Ideal) (cfg0.grid.coords t) (iblk m c 1 t) (iblk m c 2 t) y
    = Cert.Reference11Ideal.Read.val_main_v2 (F := Ideal) (m ((c : Thread nD τ).loc main_arg1)) (m ((c : Thread nD τ).loc main_arg2)) (((cfg0.win 5).blk t).view.emb y) := by
  pointwise [k0_pay1, k0_pay2, k0_pay3, k0_pay5, k0_pay6, k0_pay7, k0_pay8, k0_pay9, Cert.Reference11Ideal.Read.val_main_v3, Cert.Reference11Ideal.Read.val_main_v4, Cert.Reference11Ideal.Read.val_main_v5, Cert.Reference11Ideal.Read.val_main_v6, Cert.Reference11Ideal.Read.val_main_v7, Cert.Reference11Ideal.Read.val_main_v8, Cert.Reference11Ideal.Read.val_main_v9, Cert.Reference11Ideal.Read.val_main_v10, Cert.Reference11Ideal.Read.val_main_v11, Cert.Reference11Ideal.Read.val_main_v12, Cert.Reference11Ideal.Read.val_main_v13, Cert.Reference11Ideal.Read.val_main_v14, Cert.Reference11Ideal.Read.val_main_v15, Cert.Reference11Ideal.Read.val_main_v16, Cert.Reference11Ideal.Read.val_main_v17, Cert.Reference11Ideal.Read.val_main_v18, Cert.Reference11Ideal.Read.val_main_v19, Cert.Reference11Ideal.Read.val_main_v20, Cert.Reference11Ideal.Read.val_main_v21, Cert.Reference11Ideal.Read.val_main_v22, Cert.Reference11Ideal.Read.val_main_v23, Cert.Reference11Ideal.Read.val_main_v24, Cert.Reference11Ideal.Read.val_main_v25, Cert.Reference11Ideal.Read.val_main_v26, Cert.Reference11Ideal.Read.val_main_cst, Cert.Reference11Ideal.Read.val_main_cst_0, Cert.Reference11Ideal.Read.val_main_cst_1, Cert.Reference11Ideal.Read.val_main_cst_2, Cert.Reference11Ideal.Read.val_main_cst_3, Cert.Reference11Ideal.Read.val_main_cst_4, Cert.Reference11Ideal.Read.val_main_cst_5, Cert.Reference11Ideal.Read.val_main_cst_6, Cert.Reference11Ideal.Read.val_main_cst_7]
  rw [pick' m c t y]

/-- The gradient, after the run, is the reference's. -/
theorem final5 (c : Dev nD) : (dats m 0 c).arrAt 5 (cfgs 0).N
    = Cert.Reference11Ideal.Read.val_main_v2 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point5 m c t y

/-- The update at one place of the block. -/
theorem point6 (c : Dev nD) (t : Fin cfg0.N) (y) : k0_pay1 (F := Ideal) (k0_pay8 (cfg0.grid.coords t) (iblk m c 1 t) (iblk m c 2 t) (iblk m c 3 t) (iblk m c 4 t)) (k0_pay9 (iblk m c 0 t)) (Scalar.ofBits .f32 0x3C23D70A#32) y
    = Cert.Reference11Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  pointwise [k0_pay1, k0_pay2, k0_pay3, k0_pay5, k0_pay6, k0_pay7, k0_pay8, k0_pay9, Cert.Reference11Ideal.Read.val_main_v3, Cert.Reference11Ideal.Read.val_main_v4, Cert.Reference11Ideal.Read.val_main_v5, Cert.Reference11Ideal.Read.val_main_v6, Cert.Reference11Ideal.Read.val_main_v7, Cert.Reference11Ideal.Read.val_main_v8, Cert.Reference11Ideal.Read.val_main_v9, Cert.Reference11Ideal.Read.val_main_v10, Cert.Reference11Ideal.Read.val_main_v11, Cert.Reference11Ideal.Read.val_main_v12, Cert.Reference11Ideal.Read.val_main_v13, Cert.Reference11Ideal.Read.val_main_v14, Cert.Reference11Ideal.Read.val_main_v15, Cert.Reference11Ideal.Read.val_main_v16, Cert.Reference11Ideal.Read.val_main_v17, Cert.Reference11Ideal.Read.val_main_v18, Cert.Reference11Ideal.Read.val_main_v19, Cert.Reference11Ideal.Read.val_main_v20, Cert.Reference11Ideal.Read.val_main_v21, Cert.Reference11Ideal.Read.val_main_v22, Cert.Reference11Ideal.Read.val_main_v23, Cert.Reference11Ideal.Read.val_main_v24, Cert.Reference11Ideal.Read.val_main_v25, Cert.Reference11Ideal.Read.val_main_v26, Cert.Reference11Ideal.Read.val_main_cst, Cert.Reference11Ideal.Read.val_main_cst_0, Cert.Reference11Ideal.Read.val_main_cst_1, Cert.Reference11Ideal.Read.val_main_cst_2, Cert.Reference11Ideal.Read.val_main_cst_3, Cert.Reference11Ideal.Read.val_main_cst_4, Cert.Reference11Ideal.Read.val_main_cst_5, Cert.Reference11Ideal.Read.val_main_cst_6, Cert.Reference11Ideal.Read.val_main_cst_7]
  rw [pick' m c t y]
  blk_point [iblk, entry0 m c, entry3 m c, entry4 m c, idx t]

/-- The update, after the run, is the reference's. -/
theorem final6 (c : Dev nD) : (dats m 0 c).arrAt 6 (cfgs 0).N
    = Cert.Reference11Ideal.Read.val_main_v26 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  exact point6 m c t y

/-- The first moment at one place of the block. -/
theorem point7 (c : Dev nD) (t : Fin cfg0.N) (y) : k0_pay2 (F := Ideal) (k0_pay6 (cfg0.grid.coords t) (iblk m c 1 t) (iblk m c 2 t) (iblk m c 3 t)) y
    = Cert.Reference11Ideal.Read.val_main_v7 (F := Ideal) (m ((c : Thread nD τ).loc main_arg1)) (m ((c : Thread nD τ).loc main_arg2)) (m ((c : Thread nD τ).loc main_arg3)) (((cfg0.win 7).blk t).view.emb y) := by
  pointwise [k0_pay1, k0_pay2, k0_pay3, k0_pay5, k0_pay6, k0_pay7, k0_pay8, k0_pay9, Cert.Reference11Ideal.Read.val_main_v3, Cert.Reference11Ideal.Read.val_main_v4, Cert.Reference11Ideal.Read.val_main_v5, Cert.Reference11Ideal.Read.val_main_v6, Cert.Reference11Ideal.Read.val_main_v7, Cert.Reference11Ideal.Read.val_main_v8, Cert.Reference11Ideal.Read.val_main_v9, Cert.Reference11Ideal.Read.val_main_v10, Cert.Reference11Ideal.Read.val_main_v11, Cert.Reference11Ideal.Read.val_main_v12, Cert.Reference11Ideal.Read.val_main_v13, Cert.Reference11Ideal.Read.val_main_v14, Cert.Reference11Ideal.Read.val_main_v15, Cert.Reference11Ideal.Read.val_main_v16, Cert.Reference11Ideal.Read.val_main_v17, Cert.Reference11Ideal.Read.val_main_v18, Cert.Reference11Ideal.Read.val_main_v19, Cert.Reference11Ideal.Read.val_main_v20, Cert.Reference11Ideal.Read.val_main_v21, Cert.Reference11Ideal.Read.val_main_v22, Cert.Reference11Ideal.Read.val_main_v23, Cert.Reference11Ideal.Read.val_main_v24, Cert.Reference11Ideal.Read.val_main_v25, Cert.Reference11Ideal.Read.val_main_v26, Cert.Reference11Ideal.Read.val_main_cst, Cert.Reference11Ideal.Read.val_main_cst_0, Cert.Reference11Ideal.Read.val_main_cst_1, Cert.Reference11Ideal.Read.val_main_cst_2, Cert.Reference11Ideal.Read.val_main_cst_3, Cert.Reference11Ideal.Read.val_main_cst_4, Cert.Reference11Ideal.Read.val_main_cst_5, Cert.Reference11Ideal.Read.val_main_cst_6, Cert.Reference11Ideal.Read.val_main_cst_7]
  rw [pick' m c t y]
  blk_point [iblk, entry0 m c, entry3 m c, entry4 m c, idx t]

/-- The first moment, after the run, is the reference's. -/
theorem final7 (c : Dev nD) : (dats m 0 c).arrAt 7 (cfgs 0).N
    = Cert.Reference11Ideal.Read.val_main_v7 (F := Ideal) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  frame_out
  exact point7 m c t y

/-- The second moment at one place of the block. -/
theorem point8 (c : Dev nD) (t : Fin cfg0.N) (y) : k0_pay3 (F := Ideal) (k0_pay7 (cfg0.grid.coords t) (iblk m c 1 t) (iblk m c 2 t) (iblk m c 4 t)) y
    = Cert.Reference11Ideal.Read.val_main_v13 (F := Ideal) (m ((c : Thread nD τ).loc main_arg1)) (m ((c : Thread nD τ).loc main_arg2)) (m ((c : Thread nD τ).loc main_arg4)) (((cfg0.win 8).blk t).view.emb y) := by
  pointwise [k0_pay1, k0_pay2, k0_pay3, k0_pay5, k0_pay6, k0_pay7, k0_pay8, k0_pay9, Cert.Reference11Ideal.Read.val_main_v3, Cert.Reference11Ideal.Read.val_main_v4, Cert.Reference11Ideal.Read.val_main_v5, Cert.Reference11Ideal.Read.val_main_v6, Cert.Reference11Ideal.Read.val_main_v7, Cert.Reference11Ideal.Read.val_main_v8, Cert.Reference11Ideal.Read.val_main_v9, Cert.Reference11Ideal.Read.val_main_v10, Cert.Reference11Ideal.Read.val_main_v11, Cert.Reference11Ideal.Read.val_main_v12, Cert.Reference11Ideal.Read.val_main_v13, Cert.Reference11Ideal.Read.val_main_v14, Cert.Reference11Ideal.Read.val_main_v15, Cert.Reference11Ideal.Read.val_main_v16, Cert.Reference11Ideal.Read.val_main_v17, Cert.Reference11Ideal.Read.val_main_v18, Cert.Reference11Ideal.Read.val_main_v19, Cert.Reference11Ideal.Read.val_main_v20, Cert.Reference11Ideal.Read.val_main_v21, Cert.Reference11Ideal.Read.val_main_v22, Cert.Reference11Ideal.Read.val_main_v23, Cert.Reference11Ideal.Read.val_main_v24, Cert.Reference11Ideal.Read.val_main_v25, Cert.Reference11Ideal.Read.val_main_v26, Cert.Reference11Ideal.Read.val_main_cst, Cert.Reference11Ideal.Read.val_main_cst_0, Cert.Reference11Ideal.Read.val_main_cst_1, Cert.Reference11Ideal.Read.val_main_cst_2, Cert.Reference11Ideal.Read.val_main_cst_3, Cert.Reference11Ideal.Read.val_main_cst_4, Cert.Reference11Ideal.Read.val_main_cst_5, Cert.Reference11Ideal.Read.val_main_cst_6, Cert.Reference11Ideal.Read.val_main_cst_7]
  rw [pick' m c t y]
  blk_point [iblk, entry0 m c, entry3 m c, entry4 m c, idx t]

/-- The second moment, after the run, is the reference's. -/
theorem final8 (c : Dev nD) : (dats m 0 c).arrAt 8 (cfgs 0).N
    = Cert.Reference11Ideal.Read.val_main_v13 (F := Ideal) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]
  frame_out
  exact point8 m c t y

end Cert.Kernel11Ideal.Adam

end
-- ==== Proof.Claims11.lean ====
/- The claims about the optimiser step of w_ff2. -/
module

public import proofs.«01_k».proof.Defs
public import proofs.«01_k».proof.Proof.Gen.Kernel11.Frame
public import proofs.«01_k».proof.Proof.Adam11
public import proofs.«01_k».proof.Proof.Gen.Reference11Ideal.Run
public import Idealize.ShloMosaic.Lib.Claim
public import Idealize.ShloMosaic.Lib.Quiescent

@[expose] public section

set_option maxRecDepth 16384

noncomputable section

namespace Cert.Proof11

open Idealize.ShloMosaic Idealize.ShloMosaic.TcCoe Idealize.SL.Sem

theorem frameK : Cert.quiescent_Kernel11 := fun m ρ _ => Cert.Kernel11.Gen.frame m ρ

theorem frameKI : Cert.quiescent_Kernel11Ideal := fun m ρ _ => Cert.Kernel11Ideal.Gen.frame m ρ

theorem frameR : Cert.quiescent_Reference11Ideal := fun m ρ _ =>
  (θ_run Cert.Reference11Ideal.defs _ _).mono (fun r h => ⟨fun c => (h c).2.2.2.2,
    sem_eq_zero_of_no_sems (by decide) r.2⟩) (Cert.Reference11Ideal.Value.run (F := Ideal) m ρ)

theorem val_g (m : (ℓ : Loc Cert.Kernel11Ideal.nD Cert.Kernel11Ideal.τ Cert.Kernel11Ideal.sig) → Buf (Elt Ideal) ℓ) (c : Dev Cert.Kernel11Ideal.nD)
    (x1 x2 : _) (h1 : x1 = (m ((c : Thread Cert.Kernel11Ideal.nD Cert.Kernel11Ideal.τ).loc Cert.Kernel11Ideal.main_arg1))) (h2 : x2 = (m ((c : Thread Cert.Kernel11Ideal.nD Cert.Kernel11Ideal.τ).loc Cert.Kernel11Ideal.main_arg2))) :
    Cert.Reference11Ideal.Read.val_main_v2 (F := Ideal) x1 x2 = (Cert.Kernel11Ideal.Gen.dats m 0 c).arrAt 5 (Cert.Kernel11Ideal.cfgs 0).N := by
  subst h1 h2
  exact (Cert.Kernel11Ideal.Adam.final5 m c).symm

theorem val_delta (m : (ℓ : Loc Cert.Kernel11Ideal.nD Cert.Kernel11Ideal.τ Cert.Kernel11Ideal.sig) → Buf (Elt Ideal) ℓ) (c : Dev Cert.Kernel11Ideal.nD)
    (x0 x1 x2 x3 x4 : _) (h0 : x0 = (m ((c : Thread Cert.Kernel11Ideal.nD Cert.Kernel11Ideal.τ).loc Cert.Kernel11Ideal.main_arg0))) (h1 : x1 = (m ((c : Thread Cert.Kernel11Ideal.nD Cert.Kernel11Ideal.τ).loc Cert.Kernel11Ideal.main_arg1))) (h2 : x2 = (m ((c : Thread Cert.Kernel11Ideal.nD Cert.Kernel11Ideal.τ).loc Cert.Kernel11Ideal.main_arg2))) (h3 : x3 = (m ((c : Thread Cert.Kernel11Ideal.nD Cert.Kernel11Ideal.τ).loc Cert.Kernel11Ideal.main_arg3))) (h4 : x4 = (m ((c : Thread Cert.Kernel11Ideal.nD Cert.Kernel11Ideal.τ).loc Cert.Kernel11Ideal.main_arg4))) :
    Cert.Reference11Ideal.Read.val_main_v26 (F := Ideal) x0 x1 x2 x3 x4 = (Cert.Kernel11Ideal.Gen.dats m 0 c).arrAt 6 (Cert.Kernel11Ideal.cfgs 0).N := by
  subst h0 h1 h2 h3 h4
  exact (Cert.Kernel11Ideal.Adam.final6 m c).symm

theorem val_m (m : (ℓ : Loc Cert.Kernel11Ideal.nD Cert.Kernel11Ideal.τ Cert.Kernel11Ideal.sig) → Buf (Elt Ideal) ℓ) (c : Dev Cert.Kernel11Ideal.nD)
    (x1 x2 x3 : _) (h1 : x1 = (m ((c : Thread Cert.Kernel11Ideal.nD Cert.Kernel11Ideal.τ).loc Cert.Kernel11Ideal.main_arg1))) (h2 : x2 = (m ((c : Thread Cert.Kernel11Ideal.nD Cert.Kernel11Ideal.τ).loc Cert.Kernel11Ideal.main_arg2))) (h3 : x3 = (m ((c : Thread Cert.Kernel11Ideal.nD Cert.Kernel11Ideal.τ).loc Cert.Kernel11Ideal.main_arg3))) :
    Cert.Reference11Ideal.Read.val_main_v7 (F := Ideal) x1 x2 x3 = (Cert.Kernel11Ideal.Gen.dats m 0 c).arrAt 7 (Cert.Kernel11Ideal.cfgs 0).N := by
  subst h1 h2 h3
  exact (Cert.Kernel11Ideal.Adam.final7 m c).symm

theorem val_v (m : (ℓ : Loc Cert.Kernel11Ideal.nD Cert.Kernel11Ideal.τ Cert.Kernel11Ideal.sig) → Buf (Elt Ideal) ℓ) (c : Dev Cert.Kernel11Ideal.nD)
    (x1 x2 x4 : _) (h1 : x1 = (m ((c : Thread Cert.Kernel11Ideal.nD Cert.Kernel11Ideal.τ).loc Cert.Kernel11Ideal.main_arg1))) (h2 : x2 = (m ((c : Thread Cert.Kernel11Ideal.nD Cert.Kernel11Ideal.τ).loc Cert.Kernel11Ideal.main_arg2))) (h4 : x4 = (m ((c : Thread Cert.Kernel11Ideal.nD Cert.Kernel11Ideal.τ).loc Cert.Kernel11Ideal.main_arg4))) :
    Cert.Reference11Ideal.Read.val_main_v13 (F := Ideal) x1 x2 x4 = (Cert.Kernel11Ideal.Gen.dats m 0 c).arrAt 8 (Cert.Kernel11Ideal.cfgs 0).N := by
  subst h1 h2 h4
  exact (Cert.Kernel11Ideal.Adam.final8 m c).symm

theorem algebraic : Cert.algebraic_Kernel11Ideal_Reference11Ideal := by
  intro m g m' g' _ h
  refine ⟨fun c => ((Cert.Kernel11Ideal.Gen.dats m 0 c).arrAt 5 (Cert.Kernel11Ideal.cfgs 0).N), fun c => ((Cert.Kernel11Ideal.Gen.dats m 0 c).arrAt 6 (Cert.Kernel11Ideal.cfgs 0).N), fun c => ((Cert.Kernel11Ideal.Gen.dats m 0 c).arrAt 7 (Cert.Kernel11Ideal.cfgs 0).N), fun c => ((Cert.Kernel11Ideal.Gen.dats m 0 c).arrAt 8 (Cert.Kernel11Ideal.cfgs 0).N), ?_, ?_⟩
  · refine (θ_run Cert.Kernel11Ideal.defs _ _).mono (fun r h => fun c => ?_) (θ_run_and (Cert.Kernel11Ideal.Gen.run_main m g) (Cert.Kernel11Ideal.Gen.unchanged m g))
    exact ⟨(h.1 c).1 5, (h.1 c).1 6, (h.1 c).1 7, (h.1 c).1 8, h.2 c⟩
  · refine (θ_run Cert.Reference11Ideal.defs _ _).mono (fun r k => fun c => ?_) (Cert.Reference11Ideal.Value.run (F := Ideal) m' g')
    refine ⟨(k c).1.trans ?_, (k c).2.1.trans ?_, (k c).2.2.1.trans ?_, (k c).2.2.2.1.trans ?_, (k c).2.2.2.2⟩
    · exact (Cert.Reference11Ideal.Read.val_main_v2_eq _ _).trans (val_g m c _ _ (h c).2.1 (h c).2.2.1)
    · exact (Cert.Reference11Ideal.Read.val_main_v26_eq _ _ _ _ _).trans (val_delta m c _ _ _ _ _ (h c).1 (h c).2.1 (h c).2.2.1 (h c).2.2.2.1 (h c).2.2.2.2)
    · exact (Cert.Reference11Ideal.Read.val_main_v7_eq _ _ _).trans (val_m m c _ _ _ (h c).2.1 (h c).2.2.1 (h c).2.2.2.1)
    · exact (Cert.Reference11Ideal.Read.val_main_v13_eq _ _ _).trans (val_v m c _ _ _ (h c).2.1 (h c).2.2.1 (h c).2.2.2.2)

end Cert.Proof11

end
-- ==== Proof.Adam12.lean ====
/- The optimiser step of the packed weights of program 12: each result of the call is the reference's. -/
module

public import proofs.«01_k».proof.Proof.Gen.Kernel12Ideal.Frame
public import proofs.«01_k».proof.Proof.Gen.Reference12Ideal.Read
public import Idealize.ShloMosaic.Lib.Pipeline.ValueKit
public import Idealize.ShloMosaic.Lib.Claim

@[expose] public section

set_option maxRecDepth 16384

noncomputable section

namespace Cert.Kernel12Ideal.Adam

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

/-- The one block that every window takes. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

theorem entry0 (c : Dev nD) : V m c main_arg0 = m ((c : Thread nD τ).loc main_arg0) := rfl

theorem entry1 (c : Dev nD) : V m c main_arg1 = m ((c : Thread nD τ).loc main_arg1) := rfl

theorem entry2 (c : Dev nD) : V m c main_arg2 = m ((c : Thread nD τ).loc main_arg2) := rfl

theorem entry3 (c : Dev nD) : V m c main_arg3 = m ((c : Thread nD τ).loc main_arg3) := rfl

/-- The update at one place of the block. -/
theorem point4 (c : Dev nD) (t : Fin cfg0.N) (y) : k0_pay3 (F := Ideal) (iblk m c 1 t) (iblk m c 2 t) (iblk m c 3 t) (iblk m c 0 t) y
    = Cert.Reference12Ideal.Read.val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, Cert.Reference12Ideal.Read.val_main_v0, Cert.Reference12Ideal.Read.val_main_v1, Cert.Reference12Ideal.Read.val_main_v2, Cert.Reference12Ideal.Read.val_main_v3, Cert.Reference12Ideal.Read.val_main_v4, Cert.Reference12Ideal.Read.val_main_v5, Cert.Reference12Ideal.Read.val_main_v6, Cert.Reference12Ideal.Read.val_main_v7, Cert.Reference12Ideal.Read.val_main_v8, Cert.Reference12Ideal.Read.val_main_v9, Cert.Reference12Ideal.Read.val_main_v10, Cert.Reference12Ideal.Read.val_main_v11, Cert.Reference12Ideal.Read.val_main_v12, Cert.Reference12Ideal.Read.val_main_v13, Cert.Reference12Ideal.Read.val_main_v14, Cert.Reference12Ideal.Read.val_main_v15, Cert.Reference12Ideal.Read.val_main_v16, Cert.Reference12Ideal.Read.val_main_v17, Cert.Reference12Ideal.Read.val_main_v18, Cert.Reference12Ideal.Read.val_main_v19, Cert.Reference12Ideal.Read.val_main_v20, Cert.Reference12Ideal.Read.val_main_v21, Cert.Reference12Ideal.Read.val_main_v22, Cert.Reference12Ideal.Read.val_main_v23, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7]
  blk_point [iblk, entry0 m c, entry1 m c, entry2 m c, entry3 m c, idx t]

/-- The update, after the run, is the reference's. -/
theorem final4 (c : Dev nD) : (dats m 0 c).arrAt 4 (cfgs 0).N
    = Cert.Reference12Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point4 m c t y

/-- The first moment at one place of the block. -/
theorem point5 (c : Dev nD) (t : Fin cfg0.N) (y) : k0_pay1 (F := Ideal) (iblk m c 1 t) (iblk m c 2 t) y
    = Cert.Reference12Ideal.Read.val_main_v4 (F := Ideal) (m ((c : Thread nD τ).loc main_arg1)) (m ((c : Thread nD τ).loc main_arg2)) (((cfg0.win 5).blk t).view.emb y) := by
  pointwise [k0_pay1, k0_pay2, k0_pay3, Cert.Reference12Ideal.Read.val_main_v0, Cert.Reference12Ideal.Read.val_main_v1, Cert.Reference12Ideal.Read.val_main_v2, Cert.Reference12Ideal.Read.val_main_v3, Cert.Reference12Ideal.Read.val_main_v4, Cert.Reference12Ideal.Read.val_main_v5, Cert.Reference12Ideal.Read.val_main_v6, Cert.Reference12Ideal.Read.val_main_v7, Cert.Reference12Ideal.Read.val_main_v8, Cert.Reference12Ideal.Read.val_main_v9, Cert.Reference12Ideal.Read.val_main_v10, Cert.Reference12Ideal.Read.val_main_v11, Cert.Reference12Ideal.Read.val_main_v12, Cert.Reference12Ideal.Read.val_main_v13, Cert.Reference12Ideal.Read.val_main_v14, Cert.Reference12Ideal.Read.val_main_v15, Cert.Reference12Ideal.Read.val_main_v16, Cert.Reference12Ideal.Read.val_main_v17, Cert.Reference12Ideal.Read.val_main_v18, Cert.Reference12Ideal.Read.val_main_v19, Cert.Reference12Ideal.Read.val_main_v20, Cert.Reference12Ideal.Read.val_main_v21, Cert.Reference12Ideal.Read.val_main_v22, Cert.Reference12Ideal.Read.val_main_v23, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7]
  blk_point [iblk, entry0 m c, entry1 m c, entry2 m c, entry3 m c, idx t]

/-- The first moment, after the run, is the reference's. -/
theorem final5 (c : Dev nD) : (dats m 0 c).arrAt 5 (cfgs 0).N
    = Cert.Reference12Ideal.Read.val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point5 m c t y

/-- The second moment at one place of the block. -/
theorem point6 (c : Dev nD) (t : Fin cfg0.N) (y) : k0_pay2 (F := Ideal) (iblk m c 1 t) (iblk m c 3 t) y
    = Cert.Reference12Ideal.Read.val_main_v10 (F := Ideal) (m ((c : Thread nD τ).loc main_arg1)) (m ((c : Thread nD τ).loc main_arg3)) (((cfg0.win 6).blk t).view.emb y) := by
  pointwise [k0_pay1, k0_pay2, k0_pay3, Cert.Reference12Ideal.Read.val_main_v0, Cert.Reference12Ideal.Read.val_main_v1, Cert.Reference12Ideal.Read.val_main_v2, Cert.Reference12Ideal.Read.val_main_v3, Cert.Reference12Ideal.Read.val_main_v4, Cert.Reference12Ideal.Read.val_main_v5, Cert.Reference12Ideal.Read.val_main_v6, Cert.Reference12Ideal.Read.val_main_v7, Cert.Reference12Ideal.Read.val_main_v8, Cert.Reference12Ideal.Read.val_main_v9, Cert.Reference12Ideal.Read.val_main_v10, Cert.Reference12Ideal.Read.val_main_v11, Cert.Reference12Ideal.Read.val_main_v12, Cert.Reference12Ideal.Read.val_main_v13, Cert.Reference12Ideal.Read.val_main_v14, Cert.Reference12Ideal.Read.val_main_v15, Cert.Reference12Ideal.Read.val_main_v16, Cert.Reference12Ideal.Read.val_main_v17, Cert.Reference12Ideal.Read.val_main_v18, Cert.Reference12Ideal.Read.val_main_v19, Cert.Reference12Ideal.Read.val_main_v20, Cert.Reference12Ideal.Read.val_main_v21, Cert.Reference12Ideal.Read.val_main_v22, Cert.Reference12Ideal.Read.val_main_v23, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7]
  blk_point [iblk, entry0 m c, entry1 m c, entry2 m c, entry3 m c, idx t]

/-- The second moment, after the run, is the reference's. -/
theorem final6 (c : Dev nD) : (dats m 0 c).arrAt 6 (cfgs 0).N
    = Cert.Reference12Ideal.Read.val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point6 m c t y

end Cert.Kernel12Ideal.Adam

end
-- ==== Proof.Claims12.lean ====
/- The claims about the optimiser step of the small weights. -/
module

public import proofs.«01_k».proof.Defs
public import proofs.«01_k».proof.Proof.Gen.Kernel12.Frame
public import proofs.«01_k».proof.Proof.Adam12
public import proofs.«01_k».proof.Proof.Gen.Reference12Ideal.Run
public import Idealize.ShloMosaic.Lib.Claim
public import Idealize.ShloMosaic.Lib.Quiescent

@[expose] public section

set_option maxRecDepth 16384

noncomputable section

namespace Cert.Proof12

open Idealize.ShloMosaic Idealize.ShloMosaic.TcCoe Idealize.SL.Sem

theorem frameK : Cert.quiescent_Kernel12 := fun m ρ _ => Cert.Kernel12.Gen.frame m ρ

theorem frameKI : Cert.quiescent_Kernel12Ideal := fun m ρ _ => Cert.Kernel12Ideal.Gen.frame m ρ

theorem frameR : Cert.quiescent_Reference12Ideal := fun m ρ _ =>
  (θ_run Cert.Reference12Ideal.defs _ _).mono (fun r h => ⟨fun c => (h c).2.2.2,
    sem_eq_zero_of_no_sems (by decide) r.2⟩) (Cert.Reference12Ideal.Value.run (F := Ideal) m ρ)

theorem val_delta (m : (ℓ : Loc Cert.Kernel12Ideal.nD Cert.Kernel12Ideal.τ Cert.Kernel12Ideal.sig) → Buf (Elt Ideal) ℓ) (c : Dev Cert.Kernel12Ideal.nD)
    (x0 x1 x2 x3 : _) (h0 : x0 = (m ((c : Thread Cert.Kernel12Ideal.nD Cert.Kernel12Ideal.τ).loc Cert.Kernel12Ideal.main_arg0))) (h1 : x1 = (m ((c : Thread Cert.Kernel12Ideal.nD Cert.Kernel12Ideal.τ).loc Cert.Kernel12Ideal.main_arg1))) (h2 : x2 = (m ((c : Thread Cert.Kernel12Ideal.nD Cert.Kernel12Ideal.τ).loc Cert.Kernel12Ideal.main_arg2))) (h3 : x3 = (m ((c : Thread Cert.Kernel12Ideal.nD Cert.Kernel12Ideal.τ).loc Cert.Kernel12Ideal.main_arg3))) :
    Cert.Reference12Ideal.Read.val_main_v23 (F := Ideal) x0 x1 x2 x3 = (Cert.Kernel12Ideal.Gen.dats m 0 c).arrAt 4 (Cert.Kernel12Ideal.cfgs 0).N := by
  subst h0 h1 h2 h3
  exact (Cert.Kernel12Ideal.Adam.final4 m c).symm

theorem val_m (m : (ℓ : Loc Cert.Kernel12Ideal.nD Cert.Kernel12Ideal.τ Cert.Kernel12Ideal.sig) → Buf (Elt Ideal) ℓ) (c : Dev Cert.Kernel12Ideal.nD)
    (x1 x2 : _) (h1 : x1 = (m ((c : Thread Cert.Kernel12Ideal.nD Cert.Kernel12Ideal.τ).loc Cert.Kernel12Ideal.main_arg1))) (h2 : x2 = (m ((c : Thread Cert.Kernel12Ideal.nD Cert.Kernel12Ideal.τ).loc Cert.Kernel12Ideal.main_arg2))) :
    Cert.Reference12Ideal.Read.val_main_v4 (F := Ideal) x1 x2 = (Cert.Kernel12Ideal.Gen.dats m 0 c).arrAt 5 (Cert.Kernel12Ideal.cfgs 0).N := by
  subst h1 h2
  exact (Cert.Kernel12Ideal.Adam.final5 m c).symm

theorem val_v (m : (ℓ : Loc Cert.Kernel12Ideal.nD Cert.Kernel12Ideal.τ Cert.Kernel12Ideal.sig) → Buf (Elt Ideal) ℓ) (c : Dev Cert.Kernel12Ideal.nD)
    (x1 x3 : _) (h1 : x1 = (m ((c : Thread Cert.Kernel12Ideal.nD Cert.Kernel12Ideal.τ).loc Cert.Kernel12Ideal.main_arg1))) (h3 : x3 = (m ((c : Thread Cert.Kernel12Ideal.nD Cert.Kernel12Ideal.τ).loc Cert.Kernel12Ideal.main_arg3))) :
    Cert.Reference12Ideal.Read.val_main_v10 (F := Ideal) x1 x3 = (Cert.Kernel12Ideal.Gen.dats m 0 c).arrAt 6 (Cert.Kernel12Ideal.cfgs 0).N := by
  subst h1 h3
  exact (Cert.Kernel12Ideal.Adam.final6 m c).symm

theorem algebraic : Cert.algebraic_Kernel12Ideal_Reference12Ideal := by
  intro m g m' g' _ h
  refine ⟨fun c => ((Cert.Kernel12Ideal.Gen.dats m 0 c).arrAt 4 (Cert.Kernel12Ideal.cfgs 0).N), fun c => ((Cert.Kernel12Ideal.Gen.dats m 0 c).arrAt 5 (Cert.Kernel12Ideal.cfgs 0).N), fun c => ((Cert.Kernel12Ideal.Gen.dats m 0 c).arrAt 6 (Cert.Kernel12Ideal.cfgs 0).N), ?_, ?_⟩
  · refine (θ_run Cert.Kernel12Ideal.defs _ _).mono (fun r h => fun c => ?_) (θ_run_and (Cert.Kernel12Ideal.Gen.run_main m g) (Cert.Kernel12Ideal.Gen.unchanged m g))
    exact ⟨(h.1 c).1 4, (h.1 c).1 5, (h.1 c).1 6, h.2 c⟩
  · refine (θ_run Cert.Reference12Ideal.defs _ _).mono (fun r k => fun c => ?_) (Cert.Reference12Ideal.Value.run (F := Ideal) m' g')
    refine ⟨(k c).1.trans ?_, (k c).2.1.trans ?_, (k c).2.2.1.trans ?_, (k c).2.2.2⟩
    · exact (Cert.Reference12Ideal.Read.val_main_v23_eq _ _ _ _).trans (val_delta m c _ _ _ _ (h c).1 (h c).2.1 (h c).2.2.1 (h c).2.2.2)
    · exact (Cert.Reference12Ideal.Read.val_main_v4_eq _ _).trans (val_m m c _ _ (h c).2.1 (h c).2.2.1)
    · exact (Cert.Reference12Ideal.Read.val_main_v10_eq _ _).trans (val_v m c _ _ (h c).2.1 (h c).2.2.2)

end Cert.Proof12

end
-- ==== Proof.Adam13.lean ====
/- The optimiser step of the packed weights of program 13: each result of the call is the reference's. -/
module

public import proofs.«01_k».proof.Proof.Gen.Kernel13Ideal.Frame
public import proofs.«01_k».proof.Proof.Gen.Reference13Ideal.Read
public import Idealize.ShloMosaic.Lib.Pipeline.ValueKit
public import Idealize.ShloMosaic.Lib.Claim

@[expose] public section

set_option maxRecDepth 16384

noncomputable section

namespace Cert.Kernel13Ideal.Adam

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

/-- The one block that every window takes. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

theorem entry0 (c : Dev nD) : V m c main_arg0 = m ((c : Thread nD τ).loc main_arg0) := rfl

theorem entry1 (c : Dev nD) : V m c main_arg1 = m ((c : Thread nD τ).loc main_arg1) := rfl

theorem entry2 (c : Dev nD) : V m c main_arg2 = m ((c : Thread nD τ).loc main_arg2) := rfl

theorem entry3 (c : Dev nD) : V m c main_arg3 = m ((c : Thread nD τ).loc main_arg3) := rfl

/-- The update at one place of the block. -/
theorem point4 (c : Dev nD) (t : Fin cfg0.N) (y) : k0_pay3 (F := Ideal) (iblk m c 1 t) (iblk m c 2 t) (iblk m c 3 t) (iblk m c 0 t) y
    = Cert.Reference13Ideal.Read.val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, Cert.Reference13Ideal.Read.val_main_v0, Cert.Reference13Ideal.Read.val_main_v1, Cert.Reference13Ideal.Read.val_main_v2, Cert.Reference13Ideal.Read.val_main_v3, Cert.Reference13Ideal.Read.val_main_v4, Cert.Reference13Ideal.Read.val_main_v5, Cert.Reference13Ideal.Read.val_main_v6, Cert.Reference13Ideal.Read.val_main_v7, Cert.Reference13Ideal.Read.val_main_v8, Cert.Reference13Ideal.Read.val_main_v9, Cert.Reference13Ideal.Read.val_main_v10, Cert.Reference13Ideal.Read.val_main_v11, Cert.Reference13Ideal.Read.val_main_v12, Cert.Reference13Ideal.Read.val_main_v13, Cert.Reference13Ideal.Read.val_main_v14, Cert.Reference13Ideal.Read.val_main_v15, Cert.Reference13Ideal.Read.val_main_v16, Cert.Reference13Ideal.Read.val_main_v17, Cert.Reference13Ideal.Read.val_main_v18, Cert.Reference13Ideal.Read.val_main_v19, Cert.Reference13Ideal.Read.val_main_v20, Cert.Reference13Ideal.Read.val_main_v21, Cert.Reference13Ideal.Read.val_main_v22, Cert.Reference13Ideal.Read.val_main_v23, Cert.Reference13Ideal.Read.val_main_cst, Cert.Reference13Ideal.Read.val_main_cst_0, Cert.Reference13Ideal.Read.val_main_cst_1, Cert.Reference13Ideal.Read.val_main_cst_2, Cert.Reference13Ideal.Read.val_main_cst_3, Cert.Reference13Ideal.Read.val_main_cst_4, Cert.Reference13Ideal.Read.val_main_cst_5, Cert.Reference13Ideal.Read.val_main_cst_6, Cert.Reference13Ideal.Read.val_main_cst_7]
  blk_point [iblk, entry0 m c, entry1 m c, entry2 m c, entry3 m c, idx t]

/-- The update, after the run, is the reference's. -/
theorem final4 (c : Dev nD) : (dats m 0 c).arrAt 4 (cfgs 0).N
    = Cert.Reference13Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]
  frame_out
  exact point4 m c t y

/-- The first moment at one place of the block. -/
theorem point5 (c : Dev nD) (t : Fin cfg0.N) (y) : k0_pay1 (F := Ideal) (iblk m c 1 t) (iblk m c 2 t) y
    = Cert.Reference13Ideal.Read.val_main_v4 (F := Ideal) (m ((c : Thread nD τ).loc main_arg1)) (m ((c : Thread nD τ).loc main_arg2)) (((cfg0.win 5).blk t).view.emb y) := by
  pointwise [k0_pay1, k0_pay2, k0_pay3, Cert.Reference13Ideal.Read.val_main_v0, Cert.Reference13Ideal.Read.val_main_v1, Cert.Reference13Ideal.Read.val_main_v2, Cert.Reference13Ideal.Read.val_main_v3, Cert.Reference13Ideal.Read.val_main_v4, Cert.Reference13Ideal.Read.val_main_v5, Cert.Reference13Ideal.Read.val_main_v6, Cert.Reference13Ideal.Read.val_main_v7, Cert.Reference13Ideal.Read.val_main_v8, Cert.Reference13Ideal.Read.val_main_v9, Cert.Reference13Ideal.Read.val_main_v10, Cert.Reference13Ideal.Read.val_main_v11, Cert.Reference13Ideal.Read.val_main_v12, Cert.Reference13Ideal.Read.val_main_v13, Cert.Reference13Ideal.Read.val_main_v14, Cert.Reference13Ideal.Read.val_main_v15, Cert.Reference13Ideal.Read.val_main_v16, Cert.Reference13Ideal.Read.val_main_v17, Cert.Reference13Ideal.Read.val_main_v18, Cert.Reference13Ideal.Read.val_main_v19, Cert.Reference13Ideal.Read.val_main_v20, Cert.Reference13Ideal.Read.val_main_v21, Cert.Reference13Ideal.Read.val_main_v22, Cert.Reference13Ideal.Read.val_main_v23, Cert.Reference13Ideal.Read.val_main_cst, Cert.Reference13Ideal.Read.val_main_cst_0, Cert.Reference13Ideal.Read.val_main_cst_1, Cert.Reference13Ideal.Read.val_main_cst_2, Cert.Reference13Ideal.Read.val_main_cst_3, Cert.Reference13Ideal.Read.val_main_cst_4, Cert.Reference13Ideal.Read.val_main_cst_5, Cert.Reference13Ideal.Read.val_main_cst_6, Cert.Reference13Ideal.Read.val_main_cst_7]
  blk_point [iblk, entry0 m c, entry1 m c, entry2 m c, entry3 m c, idx t]

/-- The first moment, after the run, is the reference's. -/
theorem final5 (c : Dev nD) : (dats m 0 c).arrAt 5 (cfgs 0).N
    = Cert.Reference13Ideal.Read.val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  frame_out
  exact point5 m c t y

/-- The second moment at one place of the block. -/
theorem point6 (c : Dev nD) (t : Fin cfg0.N) (y) : k0_pay2 (F := Ideal) (iblk m c 1 t) (iblk m c 3 t) y
    = Cert.Reference13Ideal.Read.val_main_v10 (F := Ideal) (m ((c : Thread nD τ).loc main_arg1)) (m ((c : Thread nD τ).loc main_arg3)) (((cfg0.win 6).blk t).view.emb y) := by
  pointwise [k0_pay1, k0_pay2, k0_pay3, Cert.Reference13Ideal.Read.val_main_v0, Cert.Reference13Ideal.Read.val_main_v1, Cert.Reference13Ideal.Read.val_main_v2, Cert.Reference13Ideal.Read.val_main_v3, Cert.Reference13Ideal.Read.val_main_v4, Cert.Reference13Ideal.Read.val_main_v5, Cert.Reference13Ideal.Read.val_main_v6, Cert.Reference13Ideal.Read.val_main_v7, Cert.Reference13Ideal.Read.val_main_v8, Cert.Reference13Ideal.Read.val_main_v9, Cert.Reference13Ideal.Read.val_main_v10, Cert.Reference13Ideal.Read.val_main_v11, Cert.Reference13Ideal.Read.val_main_v12, Cert.Reference13Ideal.Read.val_main_v13, Cert.Reference13Ideal.Read.val_main_v14, Cert.Reference13Ideal.Read.val_main_v15, Cert.Reference13Ideal.Read.val_main_v16, Cert.Reference13Ideal.Read.val_main_v17, Cert.Reference13Ideal.Read.val_main_v18, Cert.Reference13Ideal.Read.val_main_v19, Cert.Reference13Ideal.Read.val_main_v20, Cert.Reference13Ideal.Read.val_main_v21, Cert.Reference13Ideal.Read.val_main_v22, Cert.Reference13Ideal.Read.val_main_v23, Cert.Reference13Ideal.Read.val_main_cst, Cert.Reference13Ideal.Read.val_main_cst_0, Cert.Reference13Ideal.Read.val_main_cst_1, Cert.Reference13Ideal.Read.val_main_cst_2, Cert.Reference13Ideal.Read.val_main_cst_3, Cert.Reference13Ideal.Read.val_main_cst_4, Cert.Reference13Ideal.Read.val_main_cst_5, Cert.Reference13Ideal.Read.val_main_cst_6, Cert.Reference13Ideal.Read.val_main_cst_7]
  blk_point [iblk, entry0 m c, entry1 m c, entry2 m c, entry3 m c, idx t]

/-- The second moment, after the run, is the reference's. -/
theorem final6 (c : Dev nD) : (dats m 0 c).arrAt 6 (cfgs 0).N
    = Cert.Reference13Ideal.Read.val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  frame_out
  exact point6 m c t y

end Cert.Kernel13Ideal.Adam

end
-- ==== Proof.Claims13.lean ====
/- The claims about the optimiser step of conv_w. -/
module

public import proofs.«01_k».proof.Defs
public import proofs.«01_k».proof.Proof.Gen.Kernel13.Frame
public import proofs.«01_k».proof.Proof.Adam13
public import proofs.«01_k».proof.Proof.Gen.Reference13Ideal.Run
public import Idealize.ShloMosaic.Lib.Claim
public import Idealize.ShloMosaic.Lib.Quiescent

@[expose] public section

set_option maxRecDepth 16384

noncomputable section

namespace Cert.Proof13

open Idealize.ShloMosaic Idealize.ShloMosaic.TcCoe Idealize.SL.Sem

theorem frameK : Cert.quiescent_Kernel13 := fun m ρ _ => Cert.Kernel13.Gen.frame m ρ

theorem frameKI : Cert.quiescent_Kernel13Ideal := fun m ρ _ => Cert.Kernel13Ideal.Gen.frame m ρ

theorem frameR : Cert.quiescent_Reference13Ideal := fun m ρ _ =>
  (θ_run Cert.Reference13Ideal.defs _ _).mono (fun r h => ⟨fun c => (h c).2.2.2,
    sem_eq_zero_of_no_sems (by decide) r.2⟩) (Cert.Reference13Ideal.Value.run (F := Ideal) m ρ)

theorem val_delta (m : (ℓ : Loc Cert.Kernel13Ideal.nD Cert.Kernel13Ideal.τ Cert.Kernel13Ideal.sig) → Buf (Elt Ideal) ℓ) (c : Dev Cert.Kernel13Ideal.nD)
    (x0 x1 x2 x3 : _) (h0 : x0 = (m ((c : Thread Cert.Kernel13Ideal.nD Cert.Kernel13Ideal.τ).loc Cert.Kernel13Ideal.main_arg0))) (h1 : x1 = (m ((c : Thread Cert.Kernel13Ideal.nD Cert.Kernel13Ideal.τ).loc Cert.Kernel13Ideal.main_arg1))) (h2 : x2 = (m ((c : Thread Cert.Kernel13Ideal.nD Cert.Kernel13Ideal.τ).loc Cert.Kernel13Ideal.main_arg2))) (h3 : x3 = (m ((c : Thread Cert.Kernel13Ideal.nD Cert.Kernel13Ideal.τ).loc Cert.Kernel13Ideal.main_arg3))) :
    Cert.Reference13Ideal.Read.val_main_v23 (F := Ideal) x0 x1 x2 x3 = (Cert.Kernel13Ideal.Gen.dats m 0 c).arrAt 4 (Cert.Kernel13Ideal.cfgs 0).N := by
  subst h0 h1 h2 h3
  exact (Cert.Kernel13Ideal.Adam.final4 m c).symm

theorem val_m (m : (ℓ : Loc Cert.Kernel13Ideal.nD Cert.Kernel13Ideal.τ Cert.Kernel13Ideal.sig) → Buf (Elt Ideal) ℓ) (c : Dev Cert.Kernel13Ideal.nD)
    (x1 x2 : _) (h1 : x1 = (m ((c : Thread Cert.Kernel13Ideal.nD Cert.Kernel13Ideal.τ).loc Cert.Kernel13Ideal.main_arg1))) (h2 : x2 = (m ((c : Thread Cert.Kernel13Ideal.nD Cert.Kernel13Ideal.τ).loc Cert.Kernel13Ideal.main_arg2))) :
    Cert.Reference13Ideal.Read.val_main_v4 (F := Ideal) x1 x2 = (Cert.Kernel13Ideal.Gen.dats m 0 c).arrAt 5 (Cert.Kernel13Ideal.cfgs 0).N := by
  subst h1 h2
  exact (Cert.Kernel13Ideal.Adam.final5 m c).symm

theorem val_v (m : (ℓ : Loc Cert.Kernel13Ideal.nD Cert.Kernel13Ideal.τ Cert.Kernel13Ideal.sig) → Buf (Elt Ideal) ℓ) (c : Dev Cert.Kernel13Ideal.nD)
    (x1 x3 : _) (h1 : x1 = (m ((c : Thread Cert.Kernel13Ideal.nD Cert.Kernel13Ideal.τ).loc Cert.Kernel13Ideal.main_arg1))) (h3 : x3 = (m ((c : Thread Cert.Kernel13Ideal.nD Cert.Kernel13Ideal.τ).loc Cert.Kernel13Ideal.main_arg3))) :
    Cert.Reference13Ideal.Read.val_main_v10 (F := Ideal) x1 x3 = (Cert.Kernel13Ideal.Gen.dats m 0 c).arrAt 6 (Cert.Kernel13Ideal.cfgs 0).N := by
  subst h1 h3
  exact (Cert.Kernel13Ideal.Adam.final6 m c).symm

theorem algebraic : Cert.algebraic_Kernel13Ideal_Reference13Ideal := by
  intro m g m' g' _ h
  refine ⟨fun c => ((Cert.Kernel13Ideal.Gen.dats m 0 c).arrAt 4 (Cert.Kernel13Ideal.cfgs 0).N), fun c => ((Cert.Kernel13Ideal.Gen.dats m 0 c).arrAt 5 (Cert.Kernel13Ideal.cfgs 0).N), fun c => ((Cert.Kernel13Ideal.Gen.dats m 0 c).arrAt 6 (Cert.Kernel13Ideal.cfgs 0).N), ?_, ?_⟩
  · refine (θ_run Cert.Kernel13Ideal.defs _ _).mono (fun r h => fun c => ?_) (θ_run_and (Cert.Kernel13Ideal.Gen.run_main m g) (Cert.Kernel13Ideal.Gen.unchanged m g))
    exact ⟨(h.1 c).1 4, (h.1 c).1 5, (h.1 c).1 6, h.2 c⟩
  · refine (θ_run Cert.Reference13Ideal.defs _ _).mono (fun r k => fun c => ?_) (Cert.Reference13Ideal.Value.run (F := Ideal) m' g')
    refine ⟨(k c).1.trans ?_, (k c).2.1.trans ?_, (k c).2.2.1.trans ?_, (k c).2.2.2⟩
    · exact (Cert.Reference13Ideal.Read.val_main_v23_eq _ _ _ _).trans (val_delta m c _ _ _ _ (h c).1 (h c).2.1 (h c).2.2.1 (h c).2.2.2)
    · exact (Cert.Reference13Ideal.Read.val_main_v4_eq _ _).trans (val_m m c _ _ (h c).2.1 (h c).2.2.1)
    · exact (Cert.Reference13Ideal.Read.val_main_v10_eq _ _).trans (val_v m c _ _ (h c).2.1 (h c).2.2.2)

end Cert.Proof13

end
-- ==== Proof.Loss14.lean ====
/- The loss head: the loss, the gradient of the last activations and the gain's gradient are the reference's. -/
module

public import proofs.«01_k».proof.Proof.Gen.Kernel14Ideal.Frame
public import proofs.«01_k».proof.Proof.Gen.Reference14Ideal.Read
public import proofs.«01_k».proof.Proof.Alg
public import Idealize.ShloMosaic.Lib.Pipeline.ValueKit
public import Idealize.ShloMosaic.Lib.Claim

@[expose] public section

set_option maxRecDepth 16384

noncomputable section

namespace Cert.Kernel14Ideal.Loss

open Cert.Kernel14Ideal Cert.Kernel14Ideal.Gen Idealize.ShloMosaic Idealize.ShloMosaic.TcCoe Idealize.SL.Sem
open Idealize.ShloMosaic.Pipeline (Dat)
open Cert.Reference14Ideal.Read
open Cert.Alg

variable (m : (ℓ : Loc nD τ sig) → Buf (Elt Ideal) ℓ)

/-- The three arguments. -/
abbrev X (c : Dev nD) : FVec Ideal S4096x1024 .f32 := m ((c : Thread nD τ).loc main_arg0)
abbrev G (c : Dev nD) : FVec Ideal S1024 .f32 := m ((c : Thread nD τ).loc main_arg1)
abbrev T (c : Dev nD) : FVec Ideal S4096x1024 .f32 := m ((c : Thread nD τ).loc main_arg2)

/-! ## Constants and arithmetic -/

theorem c_inv : Ideal.ofBits .f32 0x3A800000#32 = ((1 / 1024 : ℝ) : EReal) := by
  simp [Ideal.ofBits, Ideal.ieee, -EReal.coe_mul] <;> norm_num

/-- The row `r` of row block `b`. -/
def row (b : Fin 8) (r : Fin 512) : Fin 4096 := ⟨b.val * 512 + r.val, by omega⟩

theorem sum_rows {M : Type*} [AddCommMonoid M] (F : Fin 4096 → M) : ∑ b : Fin 8, ∑ r : Fin 512, F (row b r) = ∑ r : Fin 4096, F r :=
  Fin.sum_mul_add_congr fun b r h => congrArg F (Fin.ext (by
    simp [row]))

/-- Half the sum of the rows' means, taken row block by row block. -/
theorem halves (S : Fin 4096 → EReal) (hS : ∀ i, IsR (S i)) :
    ∑ b : Fin 8, ((1 / 2 : ℝ) : EReal) * ∑ r : Fin 512, S (row b r) * ((1 / 1024 : ℝ) : EReal)
      = ((1 / 2 : ℝ) : EReal) * ∑ r : Fin 4096, Ideal.div (S r) ((1024 : ℝ) : EReal) := by
  choose s hs using hS
  obtain rfl : S = fun k => (s k : EReal) := funext hs
  simp only [Ideal.div_coe (show (1024 : ℝ) ≠ 0 by norm_num), ← EReal.coe_mul, ← coe_sum]
  rw [← Finset.mul_sum, sum_rows fun r => s r * (1 / 1024)]

/-- The weight of an error in the gradient. -/
theorem weight (e : EReal) : Ideal.div (((1 / 2 : ℝ) : EReal) * 1) ((1024 : ℝ) : EReal) * (((2 : ℝ) : EReal) * e) = e * ((1 / 1024 : ℝ) : EReal) := by
  rw [mul_one, Ideal.div_coe (by norm_num : (1024 : ℝ) ≠ 0), ← mul_assoc, ← EReal.coe_mul, mul_comm]
  refine congrArg (e * ·) ?_
  rw [← EReal.coe_mul]
  refine congrArg _ ?_
  norm_num

/-! ## What the windows read -/

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0] :=
  (by decide +kernel : ∀ t : Fin grid0.N, _)

theorem entryG (c : Dev nD) (i : S1x1024.Idx) : V m c main_v0 i = G m c (ix1 (i 1)) := by
  entry_read
  pointwise

/-- The row block of a grid point. -/
def bt (t : Fin cfg0.N) : Fin 8 := ⟨t.val, t.isLt⟩

section Block
variable (x : FVec Ideal S4096x1024 .f32) (g : FVec Ideal S1024 .f32) (u : FVec Ideal S4096x1024 .f32)

/-- The inverse root of a row's mean square. -/
theorem r_eq (c : Dev nD) (t : Fin cfg0.N) (r : Fin 512) : k0_pay7 (F := Ideal) (iblk m c 0 t) (ix2 r 0) = val_main_v7 (F := Ideal) (X m c) (ix2 (row (bt t) r) 0) := by
  pointwise [k0_pay7, val_main_v7, val_main_v6, val_main_v5, val_main_v4, val_main_v3, val_main_v2, val_main_v1, val_main_v0, val_main_cst, val_main_cst_0, val_main_cst_1]
  blk_point [iblk, idx t, row, bt]

/-- The normalised rows. -/
theorem xh_eq (c : Dev nD) (t : Fin cfg0.N) (r : Fin 512) (k : Fin 1024) : k0_pay8 (F := Ideal) (iblk m c 0 t) (ix2 r k) = val_main_v12 (F := Ideal) (X m c) (ix2 (row (bt t) r) k) := by
  pointwise [k0_pay8, val_main_v12, val_main_v11]
  rw [r_eq]
  blk_point [iblk, idx t, row, bt]

/-- The errors. -/
theorem e_eq (c : Dev nD) (t : Fin cfg0.N) (r : Fin 512) (k : Fin 1024) : k0_pay9 (F := Ideal) (iblk m c 1 t) (iblk m c 0 t) (iblk m c 2 t) (ix2 r k)
    = val_main_v16 (F := Ideal) (X m c) (G m c) (T m c) (ix2 (row (bt t) r) k) := by
  pointwise [k0_pay9, k0_pay6, val_main_v16, val_main_v15, val_main_v14, val_main_v13]
  rw [xh_eq]
  blk_point [iblk, entryG m c, idx t, row, bt]

/-- The gradient of the errors. -/
theorem ref_dy (i : S4096x1024.Idx) : val_main_v30 (F := Ideal) x g u i = val_main_v16 (F := Ideal) x g u i * ((1 / 1024 : ℝ) : EReal) := by
  rw [← weight, ← c_two, ← c_half, ← c_1024]
  pointwise [val_main_v30, val_main_v29, val_main_v28, val_main_v27, val_main_v26, val_main_v25, val_main_v19, val_main_v18, val_main_cst_3, val_main_cst_8, val_main_cst_9, val_main_cst_10]

theorem dy_eq (c : Dev nD) (t : Fin cfg0.N) (r : Fin 512) (k : Fin 1024) : k0_pay11 (F := Ideal) (iblk m c 1 t) (iblk m c 0 t) (iblk m c 2 t) (ix2 r k)
    = val_main_v30 (F := Ideal) (X m c) (G m c) (T m c) (ix2 (row (bt t) r) k) := by
  rw [ref_dy, ← c_inv, ← e_eq]
  pointwise [k0_pay11]

end Block

/-! ## The outputs after a point -/

theorem out_dx (c : Dev nD) (t : Fin cfg0.N) : (outsAt0 m c t.val t.isLt).1
    = k0_pay2 (F := Ideal) (k0_pay6 (F := Ideal) (iblk m c 1 t)) (k0_pay7 (F := Ideal) (iblk m c 0 t)) (k0_pay8 (F := Ideal) (iblk m c 0 t))
        (k0_pay11 (F := Ideal) (iblk m c 1 t) (iblk m c 0 t) (iblk m c 2 t)) := by
  by_cases h0 : t.val % 8 = 0
  · rw [outsAt0_A m c t h0]
    frame_out
  · rw [outsAt0_B m c t h0]
    frame_out

theorem out_dxb (c : Dev nD) (t : Fin cfg0.N) : (outsAt0 m c t.val t.isLt).2.1
    = k0_pay3 (F := Ideal) (k0_pay6 (F := Ideal) (iblk m c 1 t)) (k0_pay7 (F := Ideal) (iblk m c 0 t)) (k0_pay8 (F := Ideal) (iblk m c 0 t))
        (k0_pay11 (F := Ideal) (iblk m c 1 t) (iblk m c 0 t) (iblk m c 2 t)) := by
  by_cases h0 : t.val % 8 = 0
  · rw [outsAt0_A m c t h0]
    frame_out
  · rw [outsAt0_B m c t h0]
    frame_out

/-- One row block's addition to the loss. -/
theorem loss_add (c : Dev nD) (t : Fin cfg0.N) (v : Vec Ideal S1x1 .f32) : k0_pay10 (F := Ideal) (iblk m c 1 t) (iblk m c 0 t) (iblk m c 2 t) v (ix2 0 0)
    = v (ix2 0 0) + ((1 / 2 : ℝ) : EReal) * ∑ r : Fin 512, (∑ k : Fin 1024, val_main_v17 (F := Ideal) (X m c) (G m c) (T m c) (ix2 (row (bt t) r) k)) * ((1 / 1024 : ℝ) : EReal) := by
  rw [← c_half, ← c_inv]
  pointwise [k0_pay10, val_main_v17]
  simp only [e_eq]

theorem loss_A (c : Dev nD) (t : Fin cfg0.N) (h0 : t.val % 8 = 0) : (outsAt0 m c t.val t.isLt).2.2.1 (ix2 0 0)
    = 0 + ((1 / 2 : ℝ) : EReal) * ∑ r : Fin 512, (∑ k : Fin 1024, val_main_v17 (F := Ideal) (X m c) (G m c) (T m c) (ix2 (row (bt t) r) k)) * ((1 / 1024 : ℝ) : EReal) := by
  rw [outsAt0_A m c t h0]
  frame_out
  refine (loss_add m c t _).trans (congrArg (· + _) ?_)
  pointwise [k0_pay4]

theorem loss_B (c : Dev nD) (t : Fin cfg0.N) (h0 : ¬t.val % 8 = 0) : (outsAt0 m c t.val t.isLt).2.2.1 (ix2 0 0)
    = (outsAt0 m c (t.val - 1) (Nat.lt_of_le_of_lt (Nat.sub_le _ _) t.isLt)).2.2.1 (ix2 0 0)
      + ((1 / 2 : ℝ) : EReal) * ∑ r : Fin 512, (∑ k : Fin 1024, val_main_v17 (F := Ideal) (X m c) (G m c) (T m c) (ix2 (row (bt t) r) k)) * ((1 / 1024 : ℝ) : EReal) := by
  rw [outsAt0_B m c t h0]
  frame_out
  exact loss_add m c t _

/-- One row block's addition to the gain's gradient. -/
theorem dg_add (c : Dev nD) (t : Fin cfg0.N) (v : Vec Ideal S1x1024 .f32) (k : Fin 1024) :
    k0_pay1 (F := Ideal) (k0_pay8 (F := Ideal) (iblk m c 0 t)) (k0_pay11 (F := Ideal) (iblk m c 1 t) (iblk m c 0 t) (iblk m c 2 t)) v (ix2 0 k)
    = v (ix2 0 k) + ∑ r : Fin 512, val_main_v31 (F := Ideal) (X m c) (G m c) (T m c) (ix2 (row (bt t) r) k) := by
  pointwise [k0_pay1, val_main_v31]
  refine congrArg _ (Finset.sum_congr rfl fun r _ => (mul_comm _ _).trans ?_)
  exact congrArg₂ (· * ·) (xh_eq m c t r k) (dy_eq m c t r k)

theorem dg_A (c : Dev nD) (t : Fin cfg0.N) (h0 : t.val % 8 = 0) (k : Fin 1024) : (outsAt0 m c t.val t.isLt).2.2.2 (ix2 0 k)
    = 0 + ∑ r : Fin 512, val_main_v31 (F := Ideal) (X m c) (G m c) (T m c) (ix2 (row (bt t) r) k) := by
  rw [outsAt0_A m c t h0]
  frame_out
  refine (dg_add m c t _ k).trans (congrArg (· + _) ?_)
  pointwise [k0_pay5]

theorem dg_B (c : Dev nD) (t : Fin cfg0.N) (h0 : ¬t.val % 8 = 0) (k : Fin 1024) : (outsAt0 m c t.val t.isLt).2.2.2 (ix2 0 k)
    = (outsAt0 m c (t.val - 1) (Nat.lt_of_le_of_lt (Nat.sub_le _ _) t.isLt)).2.2.2 (ix2 0 k)
      + ∑ r : Fin 512, val_main_v31 (F := Ideal) (X m c) (G m c) (T m c) (ix2 (row (bt t) r) k) := by
  rw [outsAt0_B m c t h0]
  frame_out
  exact dg_add m c t _ k

/-- An accumulator that starts at the first grid point and takes a term at every point ends at the sum over the row blocks. -/
theorem total (f : (n : ℕ) → n < cfg0.N → EReal) (F : Fin 8 → EReal)
    (h0 : ∀ t : Fin cfg0.N, t.val % 8 = 0 → f t.val t.isLt = 0 + F (bt t))
    (hs : ∀ t : Fin cfg0.N, ¬ t.val % 8 = 0 → f t.val t.isLt = f (t.val - 1) (Nat.lt_of_le_of_lt (Nat.sub_le _ _) t.isLt) + F (bt t))
    (t : Fin cfg0.N) (ht : t.val + 1 = cfg0.N) : f t.val t.isLt = ∑ b : Fin 8, F b := by
  rw [Pipeline.eq_sum_fin_of_reset_step_last f 8 0 (fun t => F (bt t)) h0 hs (le_of_eq rfl) t ht, zero_add]
  rfl

theorem t7 : (7 : ℕ) < cfg0.N := by decide
abbrev last : Fin cfg0.N := ⟨7, t7⟩

/-! ## The reference -/

section Reals
variable (x : FVec Ideal S4096x1024 .f32) (g : FVec Ideal S1024 .f32) (u : FVec Ideal S4096x1024 .f32)

/-- A row's mean square plus the small constant is a positive real number, and its inverse root is real. -/
theorem row_real (hx : ∀ i, IsR (x i)) (i : Cert.Reference14Ideal.S4096x1.Idx) :
    ∃ a' r' : ℝ, val_main_v6 (F := Ideal) x i = a' ∧ val_main_v7 (F := Ideal) x i = r' ∧ r' * r' * a' = 1 := by
  obtain ⟨a, r, ha, hr, h⟩ := var_pos 1024 (by norm_num) (Ideal.ofBits .f32 0x358637BD#32) c_eps (fun k : Fin 1024 => x (ix2 (i 0) k)) (fun k => hx _)
  have e : val_main_v6 (F := Ideal) x i = Ideal.div (∑ k : Fin 1024, x (ix2 (i 0) k) * x (ix2 (i 0) k)) ((1024 : ℝ) : EReal) + Ideal.ofBits .f32 0x358637BD#32 := by
    rw [← c_1024]
    pointwise [val_main_v6, val_main_v5, val_main_v4, val_main_v3, val_main_v2, val_main_v1, val_main_v0, val_main_cst, val_main_cst_0, val_main_cst_1]
  refine ⟨a, r, e.trans ha, ?_, h⟩
  show Ideal.rsqrt (val_main_v6 (F := Ideal) x i) = r
  rw [e]; exact hr

theorem real_e (hx : ∀ i, IsR (x i)) (hg : ∀ i, IsR (g i)) (hu : ∀ i, IsR (u i)) (i : S4096x1024.Idx) : IsR (val_main_v16 (F := Ideal) x g u i) := by
  obtain ⟨a, r, _, hr, _⟩ := row_real x hx (ix2 (i 0) 0)
  have e : val_main_v16 (F := Ideal) x g u i = x i * val_main_v7 (F := Ideal) x (ix2 (i 0) 0) * g (ix1 (i 1)) - u i := by
    pointwise [val_main_v16, val_main_v15, val_main_v14, val_main_v13, val_main_v12, val_main_v11]
  rw [e, hr]
  exact (((hx i).mul ⟨r, rfl⟩).mul (hg _)).sub (hu i)

theorem real_dy (hx : ∀ i, IsR (x i)) (hg : ∀ i, IsR (g i)) (hu : ∀ i, IsR (u i)) (i : S4096x1024.Idx) : IsR (val_main_v30 (F := Ideal) x g u i) := by
  rw [ref_dy]
  exact (real_e x g u hx hg hu i).mul (IsR.coe _)

/-- The reference's loss. -/
theorem ref_loss : val_main_v52 (F := Ideal) x g u (ix2 0 0)
    = ((1 / 2 : ℝ) : EReal) * ∑ r : Fin 4096, Ideal.div (∑ k : Fin 1024, val_main_v17 (F := Ideal) x g u (ix2 r k)) ((1024 : ℝ) : EReal) := by
  rw [← c_half, ← c_1024]
  have e : ∀ i : Cert.Reference14Ideal.S_.Idx, val_main_v24 (F := Ideal) x g u i = Ideal.ofBits .f32 0x3F000000#32
      * ∑ r : Fin 4096, Ideal.div (∑ k : Fin 1024, val_main_v17 (F := Ideal) x g u (ix2 r k)) (Ideal.ofBits .f32 0x44800000#32) := by
    intro i
    have e23 : val_main_v23 (F := Ideal) x g u i = ∑ r : Fin 4096, val_main_v22 (F := Ideal) x g u (ix1 r) := by
      rw [val_main_v23_apply, sum_idx1]
      pointwise [val_main_cst_6]
    have e22 : ∀ r : Fin 4096, val_main_v22 (F := Ideal) x g u (ix1 r) = Ideal.div (∑ k : Fin 1024, val_main_v17 (F := Ideal) x g u (ix2 r k)) (Ideal.ofBits .f32 0x44800000#32) := by
      intro r
      pointwise [val_main_v22, val_main_v21, val_main_v20, val_main_cst_4, val_main_cst_5]
    show Ideal.ofBits .f32 0x3F000000#32 * val_main_v23 (F := Ideal) x g u i = _
    rw [e23]
    simp only [e22]
  exact e _

/-- The reference's gain gradient: the sum over all rows. -/
theorem ref_dg (k : Fin 1024) : val_main_v53 (F := Ideal) x g u (ix2 0 k) = ∑ r : Fin 4096, val_main_v31 (F := Ideal) x g u (ix2 r k) := by
  pointwise [val_main_v53, val_main_v36, val_main_cst_12, val_main_v33]
  rw [Fin.sum_univ_one, val_main_v32_apply]
  pointwise [val_main_cst_11]
  refine Finset.sum_congr rfl fun r _ => congrArg _ ?_
  funext a
  match a with
  | ⟨0, _⟩ => rfl
  | ⟨1, _⟩ => rfl

/-- The reference's input gradient in the closed form. -/
theorem ref_dx (hx : ∀ i, IsR (x i)) (hg : ∀ i, IsR (g i)) (hu : ∀ i, IsR (u i)) (p : Fin 4096) (q : Fin 1024) :
    val_main_v50 (F := Ideal) x g u (ix2 p q)
    = val_main_v7 (F := Ideal) x (ix2 p 0) * (val_main_v30 (F := Ideal) x g u (ix2 p q) * g (ix1 q)
        - (x (ix2 p q) * val_main_v7 (F := Ideal) x (ix2 p 0)) * Ideal.div (∑ k : Fin 1024, (val_main_v30 (F := Ideal) x g u (ix2 p k) * g (ix1 k))
            * (x (ix2 p k) * val_main_v7 (F := Ideal) x (ix2 p 0))) ((1024 : ℝ) : EReal)) := by
  have key := rms_bwd 1024 (by norm_num) (fun k : Fin 1024 => val_main_v30 (F := Ideal) x g u (ix2 p k) * g (ix1 k))
    (fun k : Fin 1024 => x (ix2 p k)) (fun k => (real_dy x g u hx hg hu _).mul (hg _)) (fun k => hx _)
    (val_main_v6 (F := Ideal) x (ix2 p 0)) (val_main_v7 (F := Ideal) x (ix2 p 0)) (row_real x hx _) q 0 IsR.zero
  rw [zero_add, zero_add] at key
  refine Eq.trans ?_ key
  rw [← c_1024, ← c_neg_half]
  have e35 : ∀ j, val_main_v35 (F := Ideal) x g u j = val_main_v30 (F := Ideal) x g u j * g (ix1 (j 1)) := by
    intro j
    pointwise [val_main_v35, val_main_v34, val_main_v13]
  have e46 : val_main_v46 (F := Ideal) x g u (ix2 p q) = Ideal.div ((∑ k : Fin 1024, x (ix2 p k) * (val_main_v30 (F := Ideal) x g u (ix2 p k) * g (ix1 k)))
      * (Ideal.ofBits .f32 0xBF000000#32 * Ideal.div (val_main_v7 (F := Ideal) x (ix2 p 0)) (val_main_v6 (F := Ideal) x (ix2 p 0)))) (Ideal.ofBits .f32 0x44800000#32) := by
    pointwise [val_main_v46, val_main_v45, val_main_v44, val_main_v43, val_main_v42, val_main_v39, val_main_v38, val_main_v37, val_main_v10, val_main_v9, val_main_v8, val_main_cst_2, val_main_cst_13, val_main_cst_14, val_main_cst_15]
    simp only [e35, Fin.sum_univ_one]
    rfl
  have e40 : val_main_v40 (F := Ideal) x (ix2 p q) = val_main_v7 (F := Ideal) x (ix2 p 0) := by
    pointwise [val_main_v40]
  show (val_main_v35 (F := Ideal) x g u (ix2 p q) * val_main_v40 (F := Ideal) x (ix2 p q) + x (ix2 p q) * val_main_v46 (F := Ideal) x g u (ix2 p q)) + val_main_v46 (F := Ideal) x g u (ix2 p q) * x (ix2 p q) = _
  rw [e46, e35, e40]
  rfl

end Reals

/-! ## The arrays the call leaves -/

theorem ix2_of (j : S1x1024.Idx) : j = ix2 0 (j 1) := by
  funext a
  match a with
  | 0 => exact Fin.ext (by have : (j 0).val < 1 := (j 0).isLt; show (j 0).val = 0; omega)
  | 1 => rfl

theorem ix2_one (j : S1x1.Idx) : j = ix2 0 0 := by
  funext a
  match a with
  | 0 => exact Fin.ext (by have : (j 0).val < 1 := (j 0).isLt; show (j 0).val = 0; omega)
  | 1 => exact Fin.ext (by have : (j 1).val < 1 := (j 1).isLt; show (j 1).val = 0; omega)

theorem ix2_blk (j : S512x1024.Idx) : j = ix2 (j 0) (j 1) := by
  funext a
  match a with
  | 0 => rfl
  | 1 => rfl

/-- The loss. -/
theorem final_loss (c : Dev nD) (hx : ∀ i, IsR (X m c i)) (hg : ∀ i, IsR (G m c i)) (hu : ∀ i, IsR (T m c i)) :
    (dats m 0 c).arrAt 5 (cfgs 0).N = val_main_v52 (F := Ideal) (X m c) (G m c) (T m c) := by
  refine (dats m 0 c).arrAt_eq_of_after_last 5 last (by decide +kernel) _ fun j => ?_
  blk_simp
  rw [after0_5]
  obtain rfl : j = ix2 0 0 := ix2_one j
  refine Eq.trans ?_ (ref_loss _ _ _).symm
  refine (total (fun n hn => (outsAt0 m c n hn).2.2.1 (ix2 0 0)) (fun b => ((1 / 2 : ℝ) : EReal) * ∑ r : Fin 512, (∑ k : Fin 1024, val_main_v17 (F := Ideal) (X m c) (G m c) (T m c) (ix2 (row b r) k)) * ((1 / 1024 : ℝ) : EReal))
    (loss_A m c) (loss_B m c) last rfl).trans (halves (fun r => ∑ k : Fin 1024, val_main_v17 (F := Ideal) (X m c) (G m c) (T m c) (ix2 r k)) fun r => IsR.sum fun k => ?_)
  exact (real_e _ _ _ hx hg hu _).mul (real_e _ _ _ hx hg hu _)

/-- The gain's gradient. -/
theorem final_dg (c : Dev nD) : (dats m 0 c).arrAt 6 (cfgs 0).N = val_main_v53 (F := Ideal) (X m c) (G m c) (T m c) := by
  refine (dats m 0 c).arrAt_eq_of_after_last 6 last (by decide +kernel) _ fun j => ?_
  blk_simp
  rw [after0_6]
  obtain ⟨k, rfl⟩ : ∃ k : Fin 1024, j = ix2 0 k := ⟨j 1, ix2_of j⟩
  refine Eq.trans ?_ (ref_dg _ _ _ k).symm
  exact (total (fun n hn => (outsAt0 m c n hn).2.2.2 (ix2 0 k)) (fun b => ∑ r : Fin 512, val_main_v31 (F := Ideal) (X m c) (G m c) (T m c) (ix2 (row b r) k))
    (fun t h => dg_A m c t h k) (fun t h => dg_B m c t h k) last rfl).trans (sum_rows fun r => val_main_v31 (F := Ideal) (X m c) (G m c) (T m c) (ix2 r k))

/-- A row block of the input's gradient. -/
theorem dx_eq (c : Dev nD) (hx : ∀ i, IsR (X m c i)) (hg : ∀ i, IsR (G m c i)) (hu : ∀ i, IsR (T m c i)) (t : Fin cfg0.N) (r : Fin 512) (q : Fin 1024) :
    k0_pay2 (F := Ideal) (k0_pay6 (F := Ideal) (iblk m c 1 t)) (k0_pay7 (F := Ideal) (iblk m c 0 t)) (k0_pay8 (F := Ideal) (iblk m c 0 t))
        (k0_pay11 (F := Ideal) (iblk m c 1 t) (iblk m c 0 t) (iblk m c 2 t)) (ix2 r q)
    = val_main_v50 (F := Ideal) (X m c) (G m c) (T m c) (ix2 (row (bt t) r) q) := by
  refine Eq.trans ?_ (ref_dx _ _ _ hx hg hu _ _).symm
  rw [← c_1024]
  have e12 : ∀ k : Fin 1024, val_main_v12 (F := Ideal) (X m c) (ix2 (row (bt t) r) k) = X m c (ix2 (row (bt t) r) k) * val_main_v7 (F := Ideal) (X m c) (ix2 (row (bt t) r) 0) := by
    intro k
    pointwise [val_main_v12, val_main_v11]
  have e6 : ∀ k : Fin 1024, k0_pay6 (F := Ideal) (iblk m c 1 t) (ix2 0 k) = G m c (ix1 k) := by
    intro k
    pointwise [k0_pay6]
    blk_point [iblk, entryG m c, idx t]
  generalize hb : k0_pay6 (F := Ideal) (iblk m c 1 t) = b at e6 ⊢
  have e7 := r_eq m c t r
  have e8 := xh_eq m c t r
  have e11 := dy_eq m c t r
  generalize k0_pay7 (F := Ideal) (iblk m c 0 t) = p7 at e7 ⊢
  generalize k0_pay8 (F := Ideal) (iblk m c 0 t) = p8 at e8 ⊢
  generalize k0_pay11 (F := Ideal) (iblk m c 1 t) (iblk m c 0 t) (iblk m c 2 t) = p11 at e11 ⊢
  pointwise [k0_pay2]
  simp only [e6, e7, e8, e11, e12]

/-- The input's gradient. -/
theorem final_dx (c : Dev nD) (hx : ∀ i, IsR (X m c i)) (hg : ∀ i, IsR (G m c i)) (hu : ∀ i, IsR (T m c i)) :
    (dats m 0 c).arrAt 3 (cfgs 0).N = val_main_v50 (F := Ideal) (X m c) (G m c) (T m c) := by
  refine (dats m 0 c).arrAt_eq_of_covers 3 _ (by decide +kernel) fun t _ y => ?_
  blk_simp
  rw [after0_3, out_dx]
  obtain ⟨r, q, rfl⟩ : ∃ (r : Fin 512) (q : Fin 1024), y = ix2 r q := ⟨y 0, y 1, ix2_blk y⟩
  rw [dx_eq m c hx hg hu]
  blk_point [idx t, row, bt]

/-- The input's gradient, rounded. -/
theorem final_dxb (c : Dev nD) (hx : ∀ i, IsR (X m c i)) (hg : ∀ i, IsR (G m c i)) (hu : ∀ i, IsR (T m c i)) :
    (dats m 0 c).arrAt 4 (cfgs 0).N = val_main_v51 (F := Ideal) (X m c) (G m c) (T m c) := by
  refine (dats m 0 c).arrAt_eq_of_covers 4 _ (by decide +kernel) fun t _ y => ?_
  blk_simp
  rw [after0_4, out_dxb]
  obtain ⟨r, q, rfl⟩ : ∃ (r : Fin 512) (q : Fin 1024), y = ix2 r q := ⟨y 0, y 1, ix2_blk y⟩
  refine Eq.trans (dx_eq m c hx hg hu t r q) ?_
  show val_main_v50 (F := Ideal) (X m c) (G m c) (T m c) _ = val_main_v50 (F := Ideal) (X m c) (G m c) (T m c) _
  blk_point [idx t, row, bt]

end Cert.Kernel14Ideal.Loss

end
-- ==== Proof.Claims14.lean ====
/- The claims about the loss head. -/
module

public import proofs.«01_k».proof.Defs
public import proofs.«01_k».proof.Proof.Gen.Kernel14.Frame
public import proofs.«01_k».proof.Proof.Gen.Pre_finite14
public import proofs.«01_k».proof.Proof.Gen.Reference14Ideal.Run
public import proofs.«01_k».proof.Proof.Loss14
public import Idealize.ShloMosaic.Lib.Claim
public import Idealize.ShloMosaic.Lib.Quiescent

@[expose] public section

set_option maxRecDepth 16384

noncomputable section

namespace Cert.Proof14

open Idealize.ShloMosaic Idealize.ShloMosaic.TcCoe Idealize.SL.Sem
open Cert.Alg Cert.Kernel14Ideal.Loss

theorem frameK : Cert.quiescent_Kernel14 := fun m ρ _ => Cert.Kernel14.Gen.frame m ρ

theorem frameKI : Cert.quiescent_Kernel14Ideal := fun m ρ _ => Cert.Kernel14Ideal.Gen.frame m ρ

theorem frameKI_pre : Cert.quiescent_Kernel14Ideal_pre_finite14 := fun m ρ _ => Cert.Kernel14Ideal.Gen.frame m ρ

theorem frameR : Cert.quiescent_Reference14Ideal := fun m ρ _ =>
  (θ_run Cert.Reference14Ideal.defs _ _).mono (fun r h => ⟨fun c => (h c).2.2.2.2,
    sem_eq_zero_of_no_sems (by decide) r.2⟩) (Cert.Reference14Ideal.Value.run (F := Ideal) m ρ)

theorem frameR_pre : Cert.quiescent_Reference14Ideal_pre_finite14 := fun m ρ _ => frameR m ρ trivial

/-- The precondition says that every argument holds real numbers. -/
theorem reals (m : (ℓ : Loc Cert.Kernel14Ideal.nD Cert.Kernel14Ideal.τ Cert.Kernel14Ideal.sig) → Buf (Elt Ideal) ℓ)
    (h : Cert.Pre_Kernel14Ideal_finite14 m) (c : Dev Cert.Kernel14Ideal.nD) :
    (∀ i, IsR (X m c i)) ∧ (∀ i, IsR (G m c i)) ∧ (∀ i, IsR (T m c i)) :=
  ⟨fun i => isR_of_lt (congrFun (h c).1 i), fun i => isR_of_lt (congrFun (h c).2.1 i), fun i => isR_of_lt (congrFun (h c).2.2 i)⟩

/-! The arrays the call leaves, for any arrays that are the arguments. -/

section
variable (m : (ℓ : Loc Cert.Kernel14Ideal.nD Cert.Kernel14Ideal.τ Cert.Kernel14Ideal.sig) → Buf (Elt Ideal) ℓ) (hp : Cert.Pre_Kernel14Ideal_finite14 m) (c : Dev Cert.Kernel14Ideal.nD)
  (x : FVec Ideal Cert.Kernel14Ideal.S4096x1024 .f32) (g : FVec Ideal Cert.Kernel14Ideal.S1024 .f32) (u : FVec Ideal Cert.Kernel14Ideal.S4096x1024 .f32)
  (e0 : x = X m c) (e1 : g = G m c) (e2 : u = T m c)
include e0 e1 e2

theorem val_dg : Cert.Reference14Ideal.Read.val_main_v53 (F := Ideal) x g u = (Cert.Kernel14Ideal.Gen.dats m 0 c).arrAt 6 (Cert.Kernel14Ideal.cfgs 0).N := by
  subst e0 e1 e2
  exact (final_dg m c).symm

include hp

theorem val_dx : Cert.Reference14Ideal.Read.val_main_v50 (F := Ideal) x g u = (Cert.Kernel14Ideal.Gen.dats m 0 c).arrAt 3 (Cert.Kernel14Ideal.cfgs 0).N := by
  subst e0 e1 e2
  obtain ⟨hx, hg, hu⟩ := reals m hp c
  exact (final_dx m c hx hg hu).symm

theorem val_dxb : Cert.Reference14Ideal.Read.val_main_v51 (F := Ideal) x g u = (Cert.Kernel14Ideal.Gen.dats m 0 c).arrAt 4 (Cert.Kernel14Ideal.cfgs 0).N := by
  subst e0 e1 e2
  obtain ⟨hx, hg, hu⟩ := reals m hp c
  exact (final_dxb m c hx hg hu).symm

theorem val_loss : Cert.Reference14Ideal.Read.val_main_v52 (F := Ideal) x g u = (Cert.Kernel14Ideal.Gen.dats m 0 c).arrAt 5 (Cert.Kernel14Ideal.cfgs 0).N := by
  subst e0 e1 e2
  obtain ⟨hx, hg, hu⟩ := reals m hp c
  exact (final_loss m c hx hg hu).symm

end

theorem algebraic : Cert.algebraic_Kernel14Ideal_Reference14Ideal_pre_finite14 := by
  intro m g m' g' hp h
  refine ⟨fun c => (Cert.Kernel14Ideal.Gen.dats m 0 c).arrAt 3 (Cert.Kernel14Ideal.cfgs 0).N, fun c => (Cert.Kernel14Ideal.Gen.dats m 0 c).arrAt 4 (Cert.Kernel14Ideal.cfgs 0).N,
    fun c => (Cert.Kernel14Ideal.Gen.dats m 0 c).arrAt 5 (Cert.Kernel14Ideal.cfgs 0).N, fun c => (Cert.Kernel14Ideal.Gen.dats m 0 c).arrAt 6 (Cert.Kernel14Ideal.cfgs 0).N, ?_, ?_⟩
  · refine (θ_run Cert.Kernel14Ideal.defs _ _).mono (fun r h => fun c => ?_) (θ_run_and (Cert.Kernel14Ideal.Gen.run_main m g) (Cert.Kernel14Ideal.Gen.unchanged m g))
    exact ⟨(h.1 c).1 3, (h.1 c).1 4, (h.1 c).1 5, (h.1 c).1 6, h.2 c⟩
  · refine (θ_run Cert.Reference14Ideal.defs _ _).mono (fun r k => fun c => ?_) (Cert.Reference14Ideal.Value.run (F := Ideal) m' g')
    refine ⟨(k c).1.trans ?_, (k c).2.1.trans ?_, (k c).2.2.1.trans ?_, (k c).2.2.2.1.trans ?_, (k c).2.2.2.2⟩
    · exact (Cert.Reference14Ideal.Read.val_main_v50_eq m' c).trans (val_dx m hp c _ _ _ (h c).1 (h c).2.1 (h c).2.2)
    · exact (Cert.Reference14Ideal.Read.val_main_v51_eq m' c).trans (val_dxb m hp c _ _ _ (h c).1 (h c).2.1 (h c).2.2)
    · exact (Cert.Reference14Ideal.Read.val_main_v52_eq _ _ _).trans (val_loss m hp c _ _ _ (h c).1 (h c).2.1 (h c).2.2)
    · exact (Cert.Reference14Ideal.Read.val_main_v53_eq _ _ _).trans (val_dg m c _ _ _ (h c).1 (h c).2.1 (h c).2.2)

end Cert.Proof14

end
-- ==== Proof.lean ====
/- The proof of every claim: each kernel call's frames, idealization and equality with its reference. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.MixClaims
public import proofs.«01_k».proof.Proof.Gen.Kernel2
public import proofs.«01_k».proof.Proof.Gen.Kernel2Ideal
public import proofs.«01_k».proof.Proof.Gen.Reference2Ideal
public import proofs.«01_k».proof.Proof.Claims2
public import proofs.«01_k».proof.Proof.Gen.Kernel3
public import proofs.«01_k».proof.Proof.Gen.Kernel3Ideal
public import proofs.«01_k».proof.Proof.Gen.Reference3Ideal
public import proofs.«01_k».proof.Proof.Claims3
public import proofs.«01_k».proof.Proof.Gen.Kernel4
public import proofs.«01_k».proof.Proof.Gen.Kernel4Ideal
public import proofs.«01_k».proof.Proof.Gen.Reference4Ideal
public import proofs.«01_k».proof.Proof.Claims4
public import proofs.«01_k».proof.Proof.Gen.Kernel5
public import proofs.«01_k».proof.Proof.Gen.Kernel5Ideal
public import proofs.«01_k».proof.Proof.Gen.Reference5Ideal
public import proofs.«01_k».proof.Proof.Claims5
public import proofs.«01_k».proof.Proof.Gen.Kernel6
public import proofs.«01_k».proof.Proof.Gen.Kernel6Ideal
public import proofs.«01_k».proof.Proof.Gen.Reference6Ideal
public import proofs.«01_k».proof.Proof.Claims6
public import proofs.«01_k».proof.Proof.Gen.Kernel7
public import proofs.«01_k».proof.Proof.Gen.Kernel7Ideal
public import proofs.«01_k».proof.Proof.Gen.Reference7Ideal
public import proofs.«01_k».proof.Proof.Claims7
public import proofs.«01_k».proof.Proof.Gen.Kernel8
public import proofs.«01_k».proof.Proof.Gen.Kernel8Ideal
public import proofs.«01_k».proof.Proof.Gen.Reference8Ideal
public import proofs.«01_k».proof.Proof.Claims8
public import proofs.«01_k».proof.Proof.Gen.Kernel9
public import proofs.«01_k».proof.Proof.Gen.Kernel9Ideal
public import proofs.«01_k».proof.Proof.Gen.Reference9Ideal
public import proofs.«01_k».proof.Proof.Claims9
public import proofs.«01_k».proof.Proof.Gen.Kernel10
public import proofs.«01_k».proof.Proof.Gen.Kernel10Ideal
public import proofs.«01_k».proof.Proof.Gen.Reference10Ideal
public import proofs.«01_k».proof.Proof.Claims10
public import proofs.«01_k».proof.Proof.Gen.Kernel11
public import proofs.«01_k».proof.Proof.Gen.Kernel11Ideal
public import proofs.«01_k».proof.Proof.Gen.Reference11Ideal
public import proofs.«01_k».proof.Proof.Claims11
public import proofs.«01_k».proof.Proof.Gen.Kernel12
public import proofs.«01_k».proof.Proof.Gen.Kernel12Ideal
public import proofs.«01_k».proof.Proof.Gen.Reference12Ideal
public import proofs.«01_k».proof.Proof.Claims12
public import proofs.«01_k».proof.Proof.Gen.Kernel13
public import proofs.«01_k».proof.Proof.Gen.Kernel13Ideal
public import proofs.«01_k».proof.Proof.Gen.Reference13Ideal
public import proofs.«01_k».proof.Proof.Claims13
public import proofs.«01_k».proof.Proof.Gen.Kernel14
public import proofs.«01_k».proof.Proof.Gen.Kernel14Ideal
public import proofs.«01_k».proof.Proof.Gen.Reference14Ideal
public import proofs.«01_k».proof.Proof.Claims14
public import proofs.«01_k».proof.Proof.Gen.Pre_finite2
public import proofs.«01_k».proof.Proof.Gen.Pre_finite14
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Pre_finite2.Gen.facts,
    Cert.Pre_finite14.Gen.facts,
    Cert.Proof1.frameK,
    Cert.Proof1.frameKI,
    Cert.Proof1.frameR,
    Cert.Proof2.frameK,
    Cert.Proof2.frameKI,
    Cert.Proof2.frameKI_pre,
    Cert.Proof2.frameR,
    Cert.Proof2.frameR_pre,
    Cert.Proof3.frameK,
    Cert.Proof3.frameKI,
    Cert.Proof3.frameR,
    Cert.Proof4.frameK,
    Cert.Proof4.frameKI,
    Cert.Proof4.frameR,
    Cert.Proof5.frameK,
    Cert.Proof5.frameKI,
    Cert.Proof5.frameR,
    Cert.Proof6.frameK,
    Cert.Proof6.frameKI,
    Cert.Proof6.frameR,
    Cert.Proof7.frameK,
    Cert.Proof7.frameKI,
    Cert.Proof7.frameR,
    Cert.Proof8.frameK,
    Cert.Proof8.frameKI,
    Cert.Proof8.frameR,
    Cert.Proof9.frameK,
    Cert.Proof9.frameKI,
    Cert.Proof9.frameR,
    Cert.Proof10.frameK,
    Cert.Proof10.frameKI,
    Cert.Proof10.frameR,
    Cert.Proof11.frameK,
    Cert.Proof11.frameKI,
    Cert.Proof11.frameR,
    Cert.Proof12.frameK,
    Cert.Proof12.frameKI,
    Cert.Proof12.frameR,
    Cert.Proof13.frameK,
    Cert.Proof13.frameKI,
    Cert.Proof13.frameR,
    Cert.Proof14.frameK,
    Cert.Proof14.frameKI,
    Cert.Proof14.frameKI_pre,
    Cert.Proof14.frameR,
    Cert.Proof14.frameR_pre,
    trivial,
    Cert.Proof1.algebraic,
    trivial,
    Cert.Proof2.algebraic,
    trivial,
    Cert.Proof3.algebraic,
    trivial,
    Cert.Proof4.algebraic,
    trivial,
    Cert.Proof5.algebraic,
    trivial,
    Cert.Proof6.algebraic,
    trivial,
    Cert.Proof7.algebraic,
    trivial,
    Cert.Proof8.algebraic,
    trivial,
    Cert.Proof9.algebraic,
    trivial,
    Cert.Proof10.algebraic,
    trivial,
    Cert.Proof11.algebraic,
    trivial,
    Cert.Proof12.algebraic,
    trivial,
    Cert.Proof13.algebraic,
    trivial,
    Cert.Proof14.algebraic⟩

end Cert.Proof

end
